-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x16384 .f32) (main_arg2 : FVec F S1x2048x8x128 .f32) (main_arg3 : FVec F S1x2048x8x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x16384 .f32) (main_arg2 : FVec F S1x2048x128x128 .f32) (main_arg3 : FVec F S1x2048x128x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩
abbrev S32x64x1024 : Shape := ⟨3, ![32, 64, 1024]⟩
abbrev S11x64x1024 : Shape := ⟨3, ![11, 64, 1024]⟩
abbrev S10x64x1024 : Shape := ⟨3, ![10, 64, 1024]⟩
abbrev S2048x1024 : Shape := ⟨2, ![2048, 1024]⟩
abbrev S2048x8x128 : Shape := ⟨3, ![2048, 8, 128]⟩
abbrev S8x2048x128 : Shape := ⟨3, ![8, 2048, 128]⟩
abbrev S8x32x64x128 : Shape := ⟨4, ![8, 32, 64, 128]⟩
abbrev S8x11x64x128 : Shape := ⟨4, ![8, 11, 64, 128]⟩
abbrev S8x10x64x128 : Shape := ⟨4, ![8, 10, 64, 128]⟩
abbrev S16x128x1024 : Shape := ⟨3, ![16, 128, 1024]⟩
abbrev S1024x1024 : Shape := ⟨2, ![1024, 1024]⟩
abbrev S3x4x128x512 : Shape := ⟨4, ![3, 4, 128, 512]⟩
abbrev S2x128x512 : Shape := ⟨3, ![2, 128, 512]⟩
abbrev S128x512 : Shape := ⟨2, ![128, 512]⟩
abbrev S3 : Shape := ⟨1, ![3]⟩
abbrev S704x1024 : Shape := ⟨2, ![704, 1024]⟩
abbrev S704x128 : Shape := ⟨2, ![704, 128]⟩
abbrev S1x704x128 : Shape := ⟨3, ![1, 704, 128]⟩
abbrev S704x704 : Shape := ⟨2, ![704, 704]⟩
abbrev S704 : Shape := ⟨1, ![704]⟩
abbrev S704x1 : Shape := ⟨2, ![704, 1]⟩
abbrev S128x1024 : Shape := ⟨2, ![128, 1024]⟩
abbrev S64x1024 : Shape := ⟨2, ![64, 1024]⟩
abbrev S1x64x1024 : Shape := ⟨3, ![1, 64, 1024]⟩
abbrev S1x640x128 : Shape := ⟨3, ![1, 640, 128]⟩
abbrev S640x128 : Shape := ⟨2, ![640, 128]⟩
abbrev S704x640 : Shape := ⟨2, ![704, 640]⟩
abbrev S1x64x128 : Shape := ⟨3, ![1, 64, 128]⟩
abbrev S64x128 : Shape := ⟨2, ![64, 128]⟩
abbrev S704x64 : Shape := ⟨2, ![704, 64]⟩
abbrev S11x64x128 : Shape := ⟨3, ![11, 64, 128]⟩
abbrev S11x64x64 : Shape := ⟨3, ![11, 64, 64]⟩
abbrev S704x768 : Shape := ⟨2, ![704, 768]⟩
abbrev S640x1024 : Shape := ⟨2, ![640, 1024]⟩
abbrev S640x704 : Shape := ⟨2, ![640, 704]⟩
abbrev S640x64 : Shape := ⟨2, ![640, 64]⟩
abbrev S10x64x128 : Shape := ⟨3, ![10, 64, 128]⟩
abbrev S10x64x64 : Shape := ⟨3, ![10, 64, 64]⟩
abbrev S640x832 : Shape := ⟨2, ![640, 832]⟩
abbrev S640 : Shape := ⟨1, ![640]⟩
abbrev S640x1 : Shape := ⟨2, ![640, 1]⟩
abbrev S1 : Shape := ⟨1, ![1]⟩
abbrev S1x4x128x512 : Shape := ⟨4, ![1, 4, 128, 512]⟩
abbrev S4x128x512 : Shape := ⟨3, ![4, 128, 512]⟩
abbrev S1x128x512 : Shape := ⟨3, ![1, 128, 512]⟩

abbrev nBuf : Space → Nat
  | .hbm => 35
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x8x128, .f32⟩
  | .hbm, ⟨3, _⟩ => ⟨S1x2048x8x128, .f32⟩
  | .hbm, ⟨4, _⟩ => ⟨S16384x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S32x64x1024, .f32⟩
  | .hbm, ⟨12, _⟩ => ⟨S11x64x1024, .f32⟩
  | .hbm, ⟨13, _⟩ => ⟨S11x64x1024, .f32⟩
  | .hbm, ⟨14, _⟩ => ⟨S10x64x1024, .f32⟩
  | .hbm, ⟨15, _⟩ => ⟨S32x64x1024, .f32⟩
  | .hbm, ⟨16, _⟩ => ⟨S2048x1024, .f32⟩
  | .hbm, ⟨17, _⟩ => ⟨S2048x8x128, .f32⟩
  | .hbm, ⟨18, _⟩ => ⟨S8x2048x128, .f32⟩
  | .hbm, ⟨19, _⟩ => ⟨S8x32x64x128, .f32⟩
  | .hbm, ⟨20, _⟩ => ⟨S8x11x64x128, .f32⟩
  | .hbm, ⟨21, _⟩ => ⟨S8x11x64x128, .f32⟩
  | .hbm, ⟨22, _⟩ => ⟨S8x10x64x128, .f32⟩
  | .hbm, ⟨23, _⟩ => ⟨S8x32x64x128, .f32⟩
  | .hbm, ⟨24, _⟩ => ⟨S8x2048x128, .f32⟩
  | .hbm, ⟨25, _⟩ => ⟨S2048x8x128, .f32⟩
  | .hbm, ⟨26, _⟩ => ⟨S8x2048x128, .f32⟩
  | .hbm, ⟨27, _⟩ => ⟨S8x32x64x128, .f32⟩
  | .hbm, ⟨28, _⟩ => ⟨S8x11x64x128, .f32⟩
  | .hbm, ⟨29, _⟩ => ⟨S8x11x64x128, .f32⟩
  | .hbm, ⟨30, _⟩ => ⟨S8x10x64x128, .f32⟩
  | .hbm, ⟨31, _⟩ => ⟨S8x32x64x128, .f32⟩
  | .hbm, ⟨32, _⟩ => ⟨S8x2048x128, .f32⟩
  | .hbm, ⟨33, _⟩ => ⟨S16x128x1024, .f32⟩
  | .hbm, ⟨34, _⟩ => ⟨S1x2048x1024, .f32⟩
  | .local _ .vmem, ⟨0, _⟩ => ⟨S2048x1024, .f32⟩
  | .local _ .vmem, ⟨1, _⟩ => ⟨S8x2048x128, .f32⟩
  | .local _ .vmem, ⟨2, _⟩ => ⟨S8x2048x128, .f32⟩
  | .local _ .vmem, ⟨3, _⟩ => ⟨S16x128x1024, .f32⟩
  | .local _ .vmem, ⟨4, _⟩ => ⟨S1024x1024, .f32⟩
  | .local _ .vmem, ⟨5, _⟩ => ⟨S1024x1024, .f32⟩
  | .local _ .vmem, ⟨6, _⟩ => ⟨S16x128x1024, .bf16⟩
  | .local _ .vmem, ⟨7, _⟩ => ⟨S3x4x128x512, .bf16⟩
  | .local _ .vmem, ⟨8, _⟩ => ⟨S3x4x128x512, .bf16⟩
  | .local _ .vmem, ⟨9, _⟩ => ⟨S2x128x512, .bf16⟩
  | .local _ .vmem, ⟨10, _⟩ => ⟨S2x128x512, .bf16⟩
  | .local _ .vmem, ⟨11, _⟩ => ⟨S128x512, .bf16⟩
  | .local _ .vmem, ⟨12, _⟩ => ⟨S128x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let c128_i32 : BitVec 32 := 128#32
  let v4 : BitVec 32 := Scalar.muli v3 c128_i32
  ![0, v4.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_0 : BitVec 32 := 8#32
  let v6 : BitVec 32 := Scalar.muli v2 c8_i32_0
  let c128_i32_1 : BitVec 32 := 128#32
  let v7 : BitVec 32 := Scalar.muli v6 c128_i32_1
  let c0_i32_2 : BitVec 32 := 0#32
  ![v7.toNat, 0]
def k0_dev1 (d0 : Dev nD) : Nat :=
  let c0_i32_760 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_759 : BitVec 32 := 1#32
  let v1233 : BitVec 32 := Scalar.muli v1184 c1_i32_759
  let v1234 : BitVec 32 := Scalar.addi c0_i32_760 v1233
  v1234.toNat
def k0_dev2 (d0 : Dev nD) : Nat :=
  let c0_i32_763 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_762 : BitVec 32 := 1#32
  let v1235 : BitVec 32 := Scalar.muli v1172 c1_i32_762
  let v1236 : BitVec 32 := Scalar.addi c0_i32_763 v1235
  v1236.toNat
def k0_dev3 (d0 : Dev nD) : Nat :=
  let c0_i32_766 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c1_i32_734 : BitVec 32 := 1#32
  let v1185 : BitVec 32 := Scalar.addi v1159 c1_i32_734
  let c2_i32_740 : BitVec 32 := 2#32
  let c2_i32 : BitVec 32 := 2#32
  let c0_i32_735 : BitVec 32 := 0#32
  let v1186 : BitVec 1 := Scalar.cmpi .eq c2_i32 c0_i32_735
  let c1_i32_736 : BitVec 32 := 1#32
  let v1187 : BitVec 32 := Scalar.select v1186 c1_i32_736 c2_i32
  let v1188 : BitVec 32 := Scalar.remsi v1159 v1187
  let c0_i32_738 : BitVec 32 := 0#32
  let v1190 : BitVec 1 := Scalar.cmpi .slt v1188 c0_i32_738
  let c0_i32_739 : BitVec 32 := 0#32
  let v1191 : BitVec 1 := Scalar.cmpi .slt v1187 c0_i32_739
  let v1192 : BitVec 1 := Scalar.xori v1190 v1191
  let c0_i32_737 : BitVec 32 := 0#32
  let v1189 : BitVec 1 := Scalar.cmpi .ne v1188 c0_i32_737
  let v1193 : BitVec 1 := Scalar.andi v1192 v1189
  let v1194 : BitVec 32 := Scalar.addi v1188 v1187
  let v1195 : BitVec 32 := Scalar.select v1193 v1194 v1188
  let v1196 : BitVec 32 := Scalar.muli c2_i32_740 v1195
  let v1197 : BitVec 32 := Scalar.subi v1185 v1196
  let c4_i32_741 : BitVec 32 := 4#32
  let v1198 : BitVec 32 := Scalar.muli v1197 c4_i32_741
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1199 : BitVec 32 := Scalar.addi v1198 v1142
  let c1_i32_765 : BitVec 32 := 1#32
  let v1237 : BitVec 32 := Scalar.muli v1199 c1_i32_765
  let v1238 : BitVec 32 := Scalar.addi c0_i32_766 v1237
  v1238.toNat
def k0_dev4 (d0 : Dev nD) : Nat :=
  let c0_i32_769 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c2_i32_742 : BitVec 32 := 2#32
  let v1200 : BitVec 32 := Scalar.addi v1159 c2_i32_742
  let c4_i32_756 : BitVec 32 := 4#32
  let c0_i32_744 : BitVec 32 := 0#32
  let v1202 : BitVec 1 := Scalar.cmpi .sgt v1159 c0_i32_744
  let v1203 : BitVec 32 := Scalar.extui v1202
  let c0_i32_745 : BitVec 32 := 0#32
  let v1204 : BitVec 1 := Scalar.cmpi .slt v1159 c0_i32_745
  let v1205 : BitVec 32 := Scalar.extui v1204
  let v1206 : BitVec 32 := Scalar.subi v1203 v1205
  let c2_i32_743 : BitVec 32 := 2#32
  let c0_i32_746 : BitVec 32 := 0#32
  let v1207 : BitVec 1 := Scalar.cmpi .sgt c2_i32_743 c0_i32_746
  let v1208 : BitVec 32 := Scalar.extui v1207
  let c0_i32_747 : BitVec 32 := 0#32
  let v1209 : BitVec 1 := Scalar.cmpi .slt c2_i32_743 c0_i32_747
  let v1210 : BitVec 32 := Scalar.extui v1209
  let v1211 : BitVec 32 := Scalar.subi v1208 v1210
  let v1212 : BitVec 1 := Scalar.cmpi .ne v1206 v1211
  let v1213 : BitVec 32 := Scalar.remsi v1159 c2_i32_743
  let c0_i32_748 : BitVec 32 := 0#32
  let v1214 : BitVec 1 := Scalar.cmpi .ne v1213 c0_i32_748
  let v1215 : BitVec 1 := Scalar.andi v1212 v1214
  let v1201 : BitVec 32 := Scalar.divsi v1159 c2_i32_743
  let c1_i32_749 : BitVec 32 := 1#32
  let v1216 : BitVec 32 := Scalar.subi v1201 c1_i32_749
  let v1217 : BitVec 32 := Scalar.select v1215 v1216 v1201
  let c2_i32_750 : BitVec 32 := 2#32
  let c0_i32_751 : BitVec 32 := 0#32
  let v1218 : BitVec 1 := Scalar.cmpi .eq c2_i32_750 c0_i32_751
  let c1_i32_752 : BitVec 32 := 1#32
  let v1219 : BitVec 32 := Scalar.select v1218 c1_i32_752 c2_i32_750
  let v1220 : BitVec 32 := Scalar.remsi v1217 v1219
  let c0_i32_754 : BitVec 32 := 0#32
  let v1222 : BitVec 1 := Scalar.cmpi .slt v1220 c0_i32_754
  let c0_i32_755 : BitVec 32 := 0#32
  let v1223 : BitVec 1 := Scalar.cmpi .slt v1219 c0_i32_755
  let v1224 : BitVec 1 := Scalar.xori v1222 v1223
  let c0_i32_753 : BitVec 32 := 0#32
  let v1221 : BitVec 1 := Scalar.cmpi .ne v1220 c0_i32_753
  let v1225 : BitVec 1 := Scalar.andi v1224 v1221
  let v1226 : BitVec 32 := Scalar.addi v1220 v1219
  let v1227 : BitVec 32 := Scalar.select v1225 v1226 v1220
  let v1228 : BitVec 32 := Scalar.muli c4_i32_756 v1227
  let v1229 : BitVec 32 := Scalar.subi v1200 v1228
  let c4_i32_757 : BitVec 32 := 4#32
  let v1230 : BitVec 32 := Scalar.muli v1229 c4_i32_757
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1231 : BitVec 32 := Scalar.addi v1230 v1142
  let c1_i32_768 : BitVec 32 := 1#32
  let v1239 : BitVec 32 := Scalar.muli v1231 c1_i32_768
  let v1240 : BitVec 32 := Scalar.addi c0_i32_769 v1239
  v1240.toNat
def k0_off3 (d0 : Dev nD) (c0_i32_771 : BitVec 32) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1241 : BitVec 32 := Scalar.subi v1142 c0_i32_771
  let c4_i32_772 : BitVec 32 := 4#32
  let c0_i32_773 : BitVec 32 := 0#32
  let v1242 : BitVec 1 := Scalar.cmpi .eq c4_i32_772 c0_i32_773
  let c1_i32_774 : BitVec 32 := 1#32
  let v1243 : BitVec 32 := Scalar.select v1242 c1_i32_774 c4_i32_772
  let v1244 : BitVec 32 := Scalar.remsi v1241 v1243
  let c0_i32_776 : BitVec 32 := 0#32
  let v1246 : BitVec 1 := Scalar.cmpi .slt v1244 c0_i32_776
  let c0_i32_777 : BitVec 32 := 0#32
  let v1247 : BitVec 1 := Scalar.cmpi .slt v1243 c0_i32_777
  let v1248 : BitVec 1 := Scalar.xori v1246 v1247
  let c0_i32_775 : BitVec 32 := 0#32
  let v1245 : BitVec 1 := Scalar.cmpi .ne v1244 c0_i32_775
  let v1249 : BitVec 1 := Scalar.andi v1248 v1245
  let v1250 : BitVec 32 := Scalar.addi v1244 v1243
  let v1251 : BitVec 32 := Scalar.select v1249 v1250 v1244
  let c4_i32_778 : BitVec 32 := 4#32
  let v1252 : BitVec 32 := Scalar.muli v1251 c4_i32_778
  let c0_i32_794 : BitVec 32 := 0#32
  let c0_i32_795 : BitVec 32 := 0#32
  ![v1252.toNat, 0, 0]
def k0_dev5 (d0 : Dev nD) : Nat :=
  let c0_i32_790 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_789 : BitVec 32 := 1#32
  let v1265 : BitVec 32 := Scalar.muli v1172 c1_i32_789
  let v1266 : BitVec 32 := Scalar.addi c0_i32_790 v1265
  v1266.toNat
def k0_off4 (d0 : Dev nD) (c0_i32_779 : BitVec 32) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1253 : BitVec 32 := Scalar.addi v1142 c0_i32_779
  let c4_i32_780 : BitVec 32 := 4#32
  let c0_i32_781 : BitVec 32 := 0#32
  let v1254 : BitVec 1 := Scalar.cmpi .eq c4_i32_780 c0_i32_781
  let c1_i32_782 : BitVec 32 := 1#32
  let v1255 : BitVec 32 := Scalar.select v1254 c1_i32_782 c4_i32_780
  let v1256 : BitVec 32 := Scalar.remsi v1253 v1255
  let c0_i32_784 : BitVec 32 := 0#32
  let v1258 : BitVec 1 := Scalar.cmpi .slt v1256 c0_i32_784
  let c0_i32_785 : BitVec 32 := 0#32
  let v1259 : BitVec 1 := Scalar.cmpi .slt v1255 c0_i32_785
  let v1260 : BitVec 1 := Scalar.xori v1258 v1259
  let c0_i32_783 : BitVec 32 := 0#32
  let v1257 : BitVec 1 := Scalar.cmpi .ne v1256 c0_i32_783
  let v1261 : BitVec 1 := Scalar.andi v1260 v1257
  let v1262 : BitVec 32 := Scalar.addi v1256 v1255
  let v1263 : BitVec 32 := Scalar.select v1261 v1262 v1256
  let c4_i32_786 : BitVec 32 := 4#32
  let v1264 : BitVec 32 := Scalar.muli v1263 c4_i32_786
  let c0_i32_803 : BitVec 32 := 0#32
  let c512_i32 : BitVec 32 := 512#32
  ![v1264.toNat, 0, 512]
def k0_dev6 (d0 : Dev nD) : Nat :=
  let c0_i32_799 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_798 : BitVec 32 := 1#32
  let v1272 : BitVec 32 := Scalar.muli v1184 c1_i32_798
  let v1273 : BitVec 32 := Scalar.addi c0_i32_799 v1272
  v1273.toNat
def k0_off5 (d0 : Dev nD) (c0_i32_839 : BitVec 32) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_838 : BitVec 32 := 1#32
  let v1299 : BitVec 32 := Scalar.subi v1142 c1_i32_838
  let v1300 : BitVec 32 := Scalar.subi v1299 c0_i32_839
  let c4_i32_840 : BitVec 32 := 4#32
  let c0_i32_841 : BitVec 32 := 0#32
  let v1301 : BitVec 1 := Scalar.cmpi .eq c4_i32_840 c0_i32_841
  let c1_i32_842 : BitVec 32 := 1#32
  let v1302 : BitVec 32 := Scalar.select v1301 c1_i32_842 c4_i32_840
  let v1303 : BitVec 32 := Scalar.remsi v1300 v1302
  let c0_i32_844 : BitVec 32 := 0#32
  let v1305 : BitVec 1 := Scalar.cmpi .slt v1303 c0_i32_844
  let c0_i32_845 : BitVec 32 := 0#32
  let v1306 : BitVec 1 := Scalar.cmpi .slt v1302 c0_i32_845
  let v1307 : BitVec 1 := Scalar.xori v1305 v1306
  let c0_i32_843 : BitVec 32 := 0#32
  let v1304 : BitVec 1 := Scalar.cmpi .ne v1303 c0_i32_843
  let v1308 : BitVec 1 := Scalar.andi v1307 v1304
  let v1309 : BitVec 32 := Scalar.addi v1303 v1302
  let v1310 : BitVec 32 := Scalar.select v1308 v1309 v1303
  let c4_i32_846 : BitVec 32 := 4#32
  let v1311 : BitVec 32 := Scalar.muli v1310 c4_i32_846
  let v1312 : Index := Scalar.indexCast v1311
  let c0_847 : Index := 0#32
  let c0_848 : Index := 0#32
  ![v1312.toNat, 0, 0]
def k0_off6 (d0 : Dev nD) (c0_i32_856 : BitVec 32) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_855 : BitVec 32 := 1#32
  let v1321 : BitVec 32 := Scalar.addi v1142 c1_i32_855
  let v1322 : BitVec 32 := Scalar.addi v1321 c0_i32_856
  let c4_i32_857 : BitVec 32 := 4#32
  let c0_i32_858 : BitVec 32 := 0#32
  let v1323 : BitVec 1 := Scalar.cmpi .eq c4_i32_857 c0_i32_858
  let c1_i32_859 : BitVec 32 := 1#32
  let v1324 : BitVec 32 := Scalar.select v1323 c1_i32_859 c4_i32_857
  let v1325 : BitVec 32 := Scalar.remsi v1322 v1324
  let c0_i32_861 : BitVec 32 := 0#32
  let v1327 : BitVec 1 := Scalar.cmpi .slt v1325 c0_i32_861
  let c0_i32_862 : BitVec 32 := 0#32
  let v1328 : BitVec 1 := Scalar.cmpi .slt v1324 c0_i32_862
  let v1329 : BitVec 1 := Scalar.xori v1327 v1328
  let c0_i32_860 : BitVec 32 := 0#32
  let v1326 : BitVec 1 := Scalar.cmpi .ne v1325 c0_i32_860
  let v1330 : BitVec 1 := Scalar.andi v1329 v1326
  let v1331 : BitVec 32 := Scalar.addi v1325 v1324
  let v1332 : BitVec 32 := Scalar.select v1330 v1331 v1325
  let c4_i32_863 : BitVec 32 := 4#32
  let v1333 : BitVec 32 := Scalar.muli v1332 c4_i32_863
  let v1334 : Index := Scalar.indexCast v1333
  let c0_864 : Index := 0#32
  let c512_865 : Index := 512#32
  ![v1334.toNat, 0, 512]
def k0_dev7 (d0 : Dev nD) : Nat :=
  let c0_i32_891 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_890 : BitVec 32 := 1#32
  let v1367 : BitVec 32 := Scalar.muli v1172 c1_i32_890
  let v1368 : BitVec 32 := Scalar.addi c0_i32_891 v1367
  v1368.toNat
def k0_dev8 (d0 : Dev nD) : Nat :=
  let c0_i32_900 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_899 : BitVec 32 := 1#32
  let v1374 : BitVec 32 := Scalar.muli v1184 c1_i32_899
  let v1375 : BitVec 32 := Scalar.addi c0_i32_900 v1374
  v1375.toNat
def k0_dev9 (d0 : Dev nD) : Nat :=
  let c0_i32_993 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_992 : BitVec 32 := 1#32
  let v1469 : BitVec 32 := Scalar.muli v1172 c1_i32_992
  let v1470 : BitVec 32 := Scalar.addi c0_i32_993 v1469
  v1470.toNat
def k0_dev10 (d0 : Dev nD) : Nat :=
  let c0_i32_1002 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_1001 : BitVec 32 := 1#32
  let v1476 : BitVec 32 := Scalar.muli v1184 c1_i32_1001
  let v1477 : BitVec 32 := Scalar.addi c0_i32_1002 v1476
  v1477.toNat
def k0_off7 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1076 : BitVec 32 := 1#32
  let v1547 : BitVec 32 := Scalar.addi v1142 c1_i32_1076
  let c4_i32_1077 : BitVec 32 := 4#32
  let c0_i32_1078 : BitVec 32 := 0#32
  let v1548 : BitVec 1 := Scalar.cmpi .eq c4_i32_1077 c0_i32_1078
  let c1_i32_1079 : BitVec 32 := 1#32
  let v1549 : BitVec 32 := Scalar.select v1548 c1_i32_1079 c4_i32_1077
  let v1550 : BitVec 32 := Scalar.remsi v1547 v1549
  let c0_i32_1081 : BitVec 32 := 0#32
  let v1552 : BitVec 1 := Scalar.cmpi .slt v1550 c0_i32_1081
  let c0_i32_1082 : BitVec 32 := 0#32
  let v1553 : BitVec 1 := Scalar.cmpi .slt v1549 c0_i32_1082
  let v1554 : BitVec 1 := Scalar.xori v1552 v1553
  let c0_i32_1080 : BitVec 32 := 0#32
  let v1551 : BitVec 1 := Scalar.cmpi .ne v1550 c0_i32_1080
  let v1555 : BitVec 1 := Scalar.andi v1554 v1551
  let v1556 : BitVec 32 := Scalar.addi v1550 v1549
  let v1557 : BitVec 32 := Scalar.select v1555 v1556 v1550
  let c4_i32_1083 : BitVec 32 := 4#32
  let v1558 : BitVec 32 := Scalar.muli v1557 c4_i32_1083
  let c2_i32_1100 : BitVec 32 := 2#32
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1589 : BitVec 32 := Scalar.subi c2_i32_1100 v1588
  let v1601 : BitVec 32 := Scalar.addi v1558 v1589
  let c0_i32_1110 : BitVec 32 := 0#32
  let c0_i32_1111 : BitVec 32 := 0#32
  ![v1601.toNat, 0, 0]
def k0_dev11 (d0 : Dev nD) : Nat :=
  let c0_i32_1109 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c2_i32_742 : BitVec 32 := 2#32
  let v1200 : BitVec 32 := Scalar.addi v1159 c2_i32_742
  let c4_i32_756 : BitVec 32 := 4#32
  let c0_i32_744 : BitVec 32 := 0#32
  let v1202 : BitVec 1 := Scalar.cmpi .sgt v1159 c0_i32_744
  let v1203 : BitVec 32 := Scalar.extui v1202
  let c0_i32_745 : BitVec 32 := 0#32
  let v1204 : BitVec 1 := Scalar.cmpi .slt v1159 c0_i32_745
  let v1205 : BitVec 32 := Scalar.extui v1204
  let v1206 : BitVec 32 := Scalar.subi v1203 v1205
  let c2_i32_743 : BitVec 32 := 2#32
  let c0_i32_746 : BitVec 32 := 0#32
  let v1207 : BitVec 1 := Scalar.cmpi .sgt c2_i32_743 c0_i32_746
  let v1208 : BitVec 32 := Scalar.extui v1207
  let c0_i32_747 : BitVec 32 := 0#32
  let v1209 : BitVec 1 := Scalar.cmpi .slt c2_i32_743 c0_i32_747
  let v1210 : BitVec 32 := Scalar.extui v1209
  let v1211 : BitVec 32 := Scalar.subi v1208 v1210
  let v1212 : BitVec 1 := Scalar.cmpi .ne v1206 v1211
  let v1213 : BitVec 32 := Scalar.remsi v1159 c2_i32_743
  let c0_i32_748 : BitVec 32 := 0#32
  let v1214 : BitVec 1 := Scalar.cmpi .ne v1213 c0_i32_748
  let v1215 : BitVec 1 := Scalar.andi v1212 v1214
  let v1201 : BitVec 32 := Scalar.divsi v1159 c2_i32_743
  let c1_i32_749 : BitVec 32 := 1#32
  let v1216 : BitVec 32 := Scalar.subi v1201 c1_i32_749
  let v1217 : BitVec 32 := Scalar.select v1215 v1216 v1201
  let c2_i32_750 : BitVec 32 := 2#32
  let c0_i32_751 : BitVec 32 := 0#32
  let v1218 : BitVec 1 := Scalar.cmpi .eq c2_i32_750 c0_i32_751
  let c1_i32_752 : BitVec 32 := 1#32
  let v1219 : BitVec 32 := Scalar.select v1218 c1_i32_752 c2_i32_750
  let v1220 : BitVec 32 := Scalar.remsi v1217 v1219
  let c0_i32_754 : BitVec 32 := 0#32
  let v1222 : BitVec 1 := Scalar.cmpi .slt v1220 c0_i32_754
  let c0_i32_755 : BitVec 32 := 0#32
  let v1223 : BitVec 1 := Scalar.cmpi .slt v1219 c0_i32_755
  let v1224 : BitVec 1 := Scalar.xori v1222 v1223
  let c0_i32_753 : BitVec 32 := 0#32
  let v1221 : BitVec 1 := Scalar.cmpi .ne v1220 c0_i32_753
  let v1225 : BitVec 1 := Scalar.andi v1224 v1221
  let v1226 : BitVec 32 := Scalar.addi v1220 v1219
  let v1227 : BitVec 32 := Scalar.select v1225 v1226 v1220
  let v1228 : BitVec 32 := Scalar.muli c4_i32_756 v1227
  let v1229 : BitVec 32 := Scalar.subi v1200 v1228
  let c4_i32_757 : BitVec 32 := 4#32
  let v1230 : BitVec 32 := Scalar.muli v1229 c4_i32_757
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1231 : BitVec 32 := Scalar.addi v1230 v1142
  let c1_i32_1108 : BitVec 32 := 1#32
  let v1603 : BitVec 32 := Scalar.muli v1231 c1_i32_1108
  let v1604 : BitVec 32 := Scalar.addi c0_i32_1109 v1603
  v1604.toNat
def k0_off8 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1084 : BitVec 32 := 1#32
  let v1559 : BitVec 32 := Scalar.subi v1142 c1_i32_1084
  let c4_i32_1085 : BitVec 32 := 4#32
  let c0_i32_1086 : BitVec 32 := 0#32
  let v1560 : BitVec 1 := Scalar.cmpi .eq c4_i32_1085 c0_i32_1086
  let c1_i32_1087 : BitVec 32 := 1#32
  let v1561 : BitVec 32 := Scalar.select v1560 c1_i32_1087 c4_i32_1085
  let v1562 : BitVec 32 := Scalar.remsi v1559 v1561
  let c0_i32_1089 : BitVec 32 := 0#32
  let v1564 : BitVec 1 := Scalar.cmpi .slt v1562 c0_i32_1089
  let c0_i32_1090 : BitVec 32 := 0#32
  let v1565 : BitVec 1 := Scalar.cmpi .slt v1561 c0_i32_1090
  let v1566 : BitVec 1 := Scalar.xori v1564 v1565
  let c0_i32_1088 : BitVec 32 := 0#32
  let v1563 : BitVec 1 := Scalar.cmpi .ne v1562 c0_i32_1088
  let v1567 : BitVec 1 := Scalar.andi v1566 v1563
  let v1568 : BitVec 32 := Scalar.addi v1562 v1561
  let v1569 : BitVec 32 := Scalar.select v1567 v1568 v1562
  let c4_i32_1091 : BitVec 32 := 4#32
  let v1570 : BitVec 32 := Scalar.muli v1569 c4_i32_1091
  let c2_i32_1100 : BitVec 32 := 2#32
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1589 : BitVec 32 := Scalar.subi c2_i32_1100 v1588
  let v1602 : BitVec 32 := Scalar.addi v1570 v1589
  let c0_i32_1114 : BitVec 32 := 0#32
  let c512_i32_1115 : BitVec 32 := 512#32
  ![v1602.toNat, 0, 512]
def k0_dev12 (d0 : Dev nD) : Nat :=
  let c0_i32_1113 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c2_i32_742 : BitVec 32 := 2#32
  let v1200 : BitVec 32 := Scalar.addi v1159 c2_i32_742
  let c4_i32_756 : BitVec 32 := 4#32
  let c0_i32_744 : BitVec 32 := 0#32
  let v1202 : BitVec 1 := Scalar.cmpi .sgt v1159 c0_i32_744
  let v1203 : BitVec 32 := Scalar.extui v1202
  let c0_i32_745 : BitVec 32 := 0#32
  let v1204 : BitVec 1 := Scalar.cmpi .slt v1159 c0_i32_745
  let v1205 : BitVec 32 := Scalar.extui v1204
  let v1206 : BitVec 32 := Scalar.subi v1203 v1205
  let c2_i32_743 : BitVec 32 := 2#32
  let c0_i32_746 : BitVec 32 := 0#32
  let v1207 : BitVec 1 := Scalar.cmpi .sgt c2_i32_743 c0_i32_746
  let v1208 : BitVec 32 := Scalar.extui v1207
  let c0_i32_747 : BitVec 32 := 0#32
  let v1209 : BitVec 1 := Scalar.cmpi .slt c2_i32_743 c0_i32_747
  let v1210 : BitVec 32 := Scalar.extui v1209
  let v1211 : BitVec 32 := Scalar.subi v1208 v1210
  let v1212 : BitVec 1 := Scalar.cmpi .ne v1206 v1211
  let v1213 : BitVec 32 := Scalar.remsi v1159 c2_i32_743
  let c0_i32_748 : BitVec 32 := 0#32
  let v1214 : BitVec 1 := Scalar.cmpi .ne v1213 c0_i32_748
  let v1215 : BitVec 1 := Scalar.andi v1212 v1214
  let v1201 : BitVec 32 := Scalar.divsi v1159 c2_i32_743
  let c1_i32_749 : BitVec 32 := 1#32
  let v1216 : BitVec 32 := Scalar.subi v1201 c1_i32_749
  let v1217 : BitVec 32 := Scalar.select v1215 v1216 v1201
  let c2_i32_750 : BitVec 32 := 2#32
  let c0_i32_751 : BitVec 32 := 0#32
  let v1218 : BitVec 1 := Scalar.cmpi .eq c2_i32_750 c0_i32_751
  let c1_i32_752 : BitVec 32 := 1#32
  let v1219 : BitVec 32 := Scalar.select v1218 c1_i32_752 c2_i32_750
  let v1220 : BitVec 32 := Scalar.remsi v1217 v1219
  let c0_i32_754 : BitVec 32 := 0#32
  let v1222 : BitVec 1 := Scalar.cmpi .slt v1220 c0_i32_754
  let c0_i32_755 : BitVec 32 := 0#32
  let v1223 : BitVec 1 := Scalar.cmpi .slt v1219 c0_i32_755
  let v1224 : BitVec 1 := Scalar.xori v1222 v1223
  let c0_i32_753 : BitVec 32 := 0#32
  let v1221 : BitVec 1 := Scalar.cmpi .ne v1220 c0_i32_753
  let v1225 : BitVec 1 := Scalar.andi v1224 v1221
  let v1226 : BitVec 32 := Scalar.addi v1220 v1219
  let v1227 : BitVec 32 := Scalar.select v1225 v1226 v1220
  let v1228 : BitVec 32 := Scalar.muli c4_i32_756 v1227
  let v1229 : BitVec 32 := Scalar.subi v1200 v1228
  let c4_i32_757 : BitVec 32 := 4#32
  let v1230 : BitVec 32 := Scalar.muli v1229 c4_i32_757
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1231 : BitVec 32 := Scalar.addi v1230 v1142
  let c1_i32_1112 : BitVec 32 := 1#32
  let v1606 : BitVec 32 := Scalar.muli v1231 c1_i32_1112
  let v1607 : BitVec 32 := Scalar.addi c0_i32_1113 v1606
  v1607.toNat
def k0_off9 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1076 : BitVec 32 := 1#32
  let v1547 : BitVec 32 := Scalar.addi v1142 c1_i32_1076
  let c4_i32_1077 : BitVec 32 := 4#32
  let c0_i32_1078 : BitVec 32 := 0#32
  let v1548 : BitVec 1 := Scalar.cmpi .eq c4_i32_1077 c0_i32_1078
  let c1_i32_1079 : BitVec 32 := 1#32
  let v1549 : BitVec 32 := Scalar.select v1548 c1_i32_1079 c4_i32_1077
  let v1550 : BitVec 32 := Scalar.remsi v1547 v1549
  let c0_i32_1081 : BitVec 32 := 0#32
  let v1552 : BitVec 1 := Scalar.cmpi .slt v1550 c0_i32_1081
  let c0_i32_1082 : BitVec 32 := 0#32
  let v1553 : BitVec 1 := Scalar.cmpi .slt v1549 c0_i32_1082
  let v1554 : BitVec 1 := Scalar.xori v1552 v1553
  let c0_i32_1080 : BitVec 32 := 0#32
  let v1551 : BitVec 1 := Scalar.cmpi .ne v1550 c0_i32_1080
  let v1555 : BitVec 1 := Scalar.andi v1554 v1551
  let v1556 : BitVec 32 := Scalar.addi v1550 v1549
  let v1557 : BitVec 32 := Scalar.select v1555 v1556 v1550
  let c4_i32_1083 : BitVec 32 := 4#32
  let v1558 : BitVec 32 := Scalar.muli v1557 c4_i32_1083
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1617 : BitVec 32 := Scalar.addi v1558 v1588
  let v1618 : Index := Scalar.indexCast v1617
  let c0_1130 : Index := 0#32
  let c0_1131 : Index := 0#32
  ![v1618.toNat, 0, 0]
def k0_off10 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1084 : BitVec 32 := 1#32
  let v1559 : BitVec 32 := Scalar.subi v1142 c1_i32_1084
  let c4_i32_1085 : BitVec 32 := 4#32
  let c0_i32_1086 : BitVec 32 := 0#32
  let v1560 : BitVec 1 := Scalar.cmpi .eq c4_i32_1085 c0_i32_1086
  let c1_i32_1087 : BitVec 32 := 1#32
  let v1561 : BitVec 32 := Scalar.select v1560 c1_i32_1087 c4_i32_1085
  let v1562 : BitVec 32 := Scalar.remsi v1559 v1561
  let c0_i32_1089 : BitVec 32 := 0#32
  let v1564 : BitVec 1 := Scalar.cmpi .slt v1562 c0_i32_1089
  let c0_i32_1090 : BitVec 32 := 0#32
  let v1565 : BitVec 1 := Scalar.cmpi .slt v1561 c0_i32_1090
  let v1566 : BitVec 1 := Scalar.xori v1564 v1565
  let c0_i32_1088 : BitVec 32 := 0#32
  let v1563 : BitVec 1 := Scalar.cmpi .ne v1562 c0_i32_1088
  let v1567 : BitVec 1 := Scalar.andi v1566 v1563
  let v1568 : BitVec 32 := Scalar.addi v1562 v1561
  let v1569 : BitVec 32 := Scalar.select v1567 v1568 v1562
  let c4_i32_1091 : BitVec 32 := 4#32
  let v1570 : BitVec 32 := Scalar.muli v1569 c4_i32_1091
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1627 : BitVec 32 := Scalar.addi v1570 v1588
  let v1628 : Index := Scalar.indexCast v1627
  let c0_1137 : Index := 0#32
  let c512_1138 : Index := 512#32
  ![v1628.toNat, 0, 512]
def k0_off11 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1076 : BitVec 32 := 1#32
  let v1547 : BitVec 32 := Scalar.addi v1142 c1_i32_1076
  let c4_i32_1077 : BitVec 32 := 4#32
  let c0_i32_1078 : BitVec 32 := 0#32
  let v1548 : BitVec 1 := Scalar.cmpi .eq c4_i32_1077 c0_i32_1078
  let c1_i32_1079 : BitVec 32 := 1#32
  let v1549 : BitVec 32 := Scalar.select v1548 c1_i32_1079 c4_i32_1077
  let v1550 : BitVec 32 := Scalar.remsi v1547 v1549
  let c0_i32_1081 : BitVec 32 := 0#32
  let v1552 : BitVec 1 := Scalar.cmpi .slt v1550 c0_i32_1081
  let c0_i32_1082 : BitVec 32 := 0#32
  let v1553 : BitVec 1 := Scalar.cmpi .slt v1549 c0_i32_1082
  let v1554 : BitVec 1 := Scalar.xori v1552 v1553
  let c0_i32_1080 : BitVec 32 := 0#32
  let v1551 : BitVec 1 := Scalar.cmpi .ne v1550 c0_i32_1080
  let v1555 : BitVec 1 := Scalar.andi v1554 v1551
  let v1556 : BitVec 32 := Scalar.addi v1550 v1549
  let v1557 : BitVec 32 := Scalar.select v1555 v1556 v1550
  let c4_i32_1083 : BitVec 32 := 4#32
  let v1558 : BitVec 32 := Scalar.muli v1557 c4_i32_1083
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1637 : BitVec 32 := Scalar.addi v1558 v1588
  let c1_i32_1107 : BitVec 32 := 1#32
  let c2_i32_1101 : BitVec 32 := 2#32
  let c0_i32_1102 : BitVec 32 := 0#32
  let v1590 : BitVec 1 := Scalar.cmpi .eq c2_i32_1101 c0_i32_1102
  let c1_i32_1103 : BitVec 32 := 1#32
  let v1591 : BitVec 32 := Scalar.select v1590 c1_i32_1103 c2_i32_1101
  let v1592 : BitVec 32 := Scalar.remsi v1159 v1591
  let c0_i32_1105 : BitVec 32 := 0#32
  let v1594 : BitVec 1 := Scalar.cmpi .slt v1592 c0_i32_1105
  let c0_i32_1106 : BitVec 32 := 0#32
  let v1595 : BitVec 1 := Scalar.cmpi .slt v1591 c0_i32_1106
  let v1596 : BitVec 1 := Scalar.xori v1594 v1595
  let c0_i32_1104 : BitVec 32 := 0#32
  let v1593 : BitVec 1 := Scalar.cmpi .ne v1592 c0_i32_1104
  let v1597 : BitVec 1 := Scalar.andi v1596 v1593
  let v1598 : BitVec 32 := Scalar.addi v1592 v1591
  let v1599 : BitVec 32 := Scalar.select v1597 v1598 v1592
  let v1600 : BitVec 32 := Scalar.subi c1_i32_1107 v1599
  let v1638 : BitVec 32 := Scalar.addi v1637 v1600
  let c0_i32_1146 : BitVec 32 := 0#32
  let c0_i32_1147 : BitVec 32 := 0#32
  ![v1638.toNat, 0, 0]
def k0_dev13 (d0 : Dev nD) : Nat :=
  let c0_i32_1145 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c1_i32_734 : BitVec 32 := 1#32
  let v1185 : BitVec 32 := Scalar.addi v1159 c1_i32_734
  let c2_i32_740 : BitVec 32 := 2#32
  let c2_i32 : BitVec 32 := 2#32
  let c0_i32_735 : BitVec 32 := 0#32
  let v1186 : BitVec 1 := Scalar.cmpi .eq c2_i32 c0_i32_735
  let c1_i32_736 : BitVec 32 := 1#32
  let v1187 : BitVec 32 := Scalar.select v1186 c1_i32_736 c2_i32
  let v1188 : BitVec 32 := Scalar.remsi v1159 v1187
  let c0_i32_738 : BitVec 32 := 0#32
  let v1190 : BitVec 1 := Scalar.cmpi .slt v1188 c0_i32_738
  let c0_i32_739 : BitVec 32 := 0#32
  let v1191 : BitVec 1 := Scalar.cmpi .slt v1187 c0_i32_739
  let v1192 : BitVec 1 := Scalar.xori v1190 v1191
  let c0_i32_737 : BitVec 32 := 0#32
  let v1189 : BitVec 1 := Scalar.cmpi .ne v1188 c0_i32_737
  let v1193 : BitVec 1 := Scalar.andi v1192 v1189
  let v1194 : BitVec 32 := Scalar.addi v1188 v1187
  let v1195 : BitVec 32 := Scalar.select v1193 v1194 v1188
  let v1196 : BitVec 32 := Scalar.muli c2_i32_740 v1195
  let v1197 : BitVec 32 := Scalar.subi v1185 v1196
  let c4_i32_741 : BitVec 32 := 4#32
  let v1198 : BitVec 32 := Scalar.muli v1197 c4_i32_741
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1199 : BitVec 32 := Scalar.addi v1198 v1142
  let c1_i32_1144 : BitVec 32 := 1#32
  let v1641 : BitVec 32 := Scalar.muli v1199 c1_i32_1144
  let v1642 : BitVec 32 := Scalar.addi c0_i32_1145 v1641
  v1642.toNat
def k0_off12 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1084 : BitVec 32 := 1#32
  let v1559 : BitVec 32 := Scalar.subi v1142 c1_i32_1084
  let c4_i32_1085 : BitVec 32 := 4#32
  let c0_i32_1086 : BitVec 32 := 0#32
  let v1560 : BitVec 1 := Scalar.cmpi .eq c4_i32_1085 c0_i32_1086
  let c1_i32_1087 : BitVec 32 := 1#32
  let v1561 : BitVec 32 := Scalar.select v1560 c1_i32_1087 c4_i32_1085
  let v1562 : BitVec 32 := Scalar.remsi v1559 v1561
  let c0_i32_1089 : BitVec 32 := 0#32
  let v1564 : BitVec 1 := Scalar.cmpi .slt v1562 c0_i32_1089
  let c0_i32_1090 : BitVec 32 := 0#32
  let v1565 : BitVec 1 := Scalar.cmpi .slt v1561 c0_i32_1090
  let v1566 : BitVec 1 := Scalar.xori v1564 v1565
  let c0_i32_1088 : BitVec 32 := 0#32
  let v1563 : BitVec 1 := Scalar.cmpi .ne v1562 c0_i32_1088
  let v1567 : BitVec 1 := Scalar.andi v1566 v1563
  let v1568 : BitVec 32 := Scalar.addi v1562 v1561
  let v1569 : BitVec 32 := Scalar.select v1567 v1568 v1562
  let c4_i32_1091 : BitVec 32 := 4#32
  let v1570 : BitVec 32 := Scalar.muli v1569 c4_i32_1091
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1639 : BitVec 32 := Scalar.addi v1570 v1588
  let c1_i32_1107 : BitVec 32 := 1#32
  let c2_i32_1101 : BitVec 32 := 2#32
  let c0_i32_1102 : BitVec 32 := 0#32
  let v1590 : BitVec 1 := Scalar.cmpi .eq c2_i32_1101 c0_i32_1102
  let c1_i32_1103 : BitVec 32 := 1#32
  let v1591 : BitVec 32 := Scalar.select v1590 c1_i32_1103 c2_i32_1101
  let v1592 : BitVec 32 := Scalar.remsi v1159 v1591
  let c0_i32_1105 : BitVec 32 := 0#32
  let v1594 : BitVec 1 := Scalar.cmpi .slt v1592 c0_i32_1105
  let c0_i32_1106 : BitVec 32 := 0#32
  let v1595 : BitVec 1 := Scalar.cmpi .slt v1591 c0_i32_1106
  let v1596 : BitVec 1 := Scalar.xori v1594 v1595
  let c0_i32_1104 : BitVec 32 := 0#32
  let v1593 : BitVec 1 := Scalar.cmpi .ne v1592 c0_i32_1104
  let v1597 : BitVec 1 := Scalar.andi v1596 v1593
  let v1598 : BitVec 32 := Scalar.addi v1592 v1591
  let v1599 : BitVec 32 := Scalar.select v1597 v1598 v1592
  let v1600 : BitVec 32 := Scalar.subi c1_i32_1107 v1599
  let v1640 : BitVec 32 := Scalar.addi v1639 v1600
  let c0_i32_1150 : BitVec 32 := 0#32
  let c512_i32_1151 : BitVec 32 := 512#32
  ![v1640.toNat, 0, 512]
def k0_dev14 (d0 : Dev nD) : Nat :=
  let c0_i32_1149 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c1_i32_734 : BitVec 32 := 1#32
  let v1185 : BitVec 32 := Scalar.addi v1159 c1_i32_734
  let c2_i32_740 : BitVec 32 := 2#32
  let c2_i32 : BitVec 32 := 2#32
  let c0_i32_735 : BitVec 32 := 0#32
  let v1186 : BitVec 1 := Scalar.cmpi .eq c2_i32 c0_i32_735
  let c1_i32_736 : BitVec 32 := 1#32
  let v1187 : BitVec 32 := Scalar.select v1186 c1_i32_736 c2_i32
  let v1188 : BitVec 32 := Scalar.remsi v1159 v1187
  let c0_i32_738 : BitVec 32 := 0#32
  let v1190 : BitVec 1 := Scalar.cmpi .slt v1188 c0_i32_738
  let c0_i32_739 : BitVec 32 := 0#32
  let v1191 : BitVec 1 := Scalar.cmpi .slt v1187 c0_i32_739
  let v1192 : BitVec 1 := Scalar.xori v1190 v1191
  let c0_i32_737 : BitVec 32 := 0#32
  let v1189 : BitVec 1 := Scalar.cmpi .ne v1188 c0_i32_737
  let v1193 : BitVec 1 := Scalar.andi v1192 v1189
  let v1194 : BitVec 32 := Scalar.addi v1188 v1187
  let v1195 : BitVec 32 := Scalar.select v1193 v1194 v1188
  let v1196 : BitVec 32 := Scalar.muli c2_i32_740 v1195
  let v1197 : BitVec 32 := Scalar.subi v1185 v1196
  let c4_i32_741 : BitVec 32 := 4#32
  let v1198 : BitVec 32 := Scalar.muli v1197 c4_i32_741
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1199 : BitVec 32 := Scalar.addi v1198 v1142
  let c1_i32_1148 : BitVec 32 := 1#32
  let v1645 : BitVec 32 := Scalar.muli v1199 c1_i32_1148
  let v1646 : BitVec 32 := Scalar.addi c0_i32_1149 v1645
  v1646.toNat
def k0_off13 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1076 : BitVec 32 := 1#32
  let v1547 : BitVec 32 := Scalar.addi v1142 c1_i32_1076
  let c4_i32_1077 : BitVec 32 := 4#32
  let c0_i32_1078 : BitVec 32 := 0#32
  let v1548 : BitVec 1 := Scalar.cmpi .eq c4_i32_1077 c0_i32_1078
  let c1_i32_1079 : BitVec 32 := 1#32
  let v1549 : BitVec 32 := Scalar.select v1548 c1_i32_1079 c4_i32_1077
  let v1550 : BitVec 32 := Scalar.remsi v1547 v1549
  let c0_i32_1081 : BitVec 32 := 0#32
  let v1552 : BitVec 1 := Scalar.cmpi .slt v1550 c0_i32_1081
  let c0_i32_1082 : BitVec 32 := 0#32
  let v1553 : BitVec 1 := Scalar.cmpi .slt v1549 c0_i32_1082
  let v1554 : BitVec 1 := Scalar.xori v1552 v1553
  let c0_i32_1080 : BitVec 32 := 0#32
  let v1551 : BitVec 1 := Scalar.cmpi .ne v1550 c0_i32_1080
  let v1555 : BitVec 1 := Scalar.andi v1554 v1551
  let v1556 : BitVec 32 := Scalar.addi v1550 v1549
  let v1557 : BitVec 32 := Scalar.select v1555 v1556 v1550
  let c4_i32_1083 : BitVec 32 := 4#32
  let v1558 : BitVec 32 := Scalar.muli v1557 c4_i32_1083
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1661 : BitVec 32 := Scalar.addi v1558 v1588
  let c2_i32_1101 : BitVec 32 := 2#32
  let c0_i32_1102 : BitVec 32 := 0#32
  let v1590 : BitVec 1 := Scalar.cmpi .eq c2_i32_1101 c0_i32_1102
  let c1_i32_1103 : BitVec 32 := 1#32
  let v1591 : BitVec 32 := Scalar.select v1590 c1_i32_1103 c2_i32_1101
  let v1592 : BitVec 32 := Scalar.remsi v1159 v1591
  let c0_i32_1105 : BitVec 32 := 0#32
  let v1594 : BitVec 1 := Scalar.cmpi .slt v1592 c0_i32_1105
  let c0_i32_1106 : BitVec 32 := 0#32
  let v1595 : BitVec 1 := Scalar.cmpi .slt v1591 c0_i32_1106
  let v1596 : BitVec 1 := Scalar.xori v1594 v1595
  let c0_i32_1104 : BitVec 32 := 0#32
  let v1593 : BitVec 1 := Scalar.cmpi .ne v1592 c0_i32_1104
  let v1597 : BitVec 1 := Scalar.andi v1596 v1593
  let v1598 : BitVec 32 := Scalar.addi v1592 v1591
  let v1599 : BitVec 32 := Scalar.select v1597 v1598 v1592
  let v1662 : BitVec 32 := Scalar.addi v1661 v1599
  let v1665 : Index := Scalar.indexCast v1662
  let c0_1166 : Index := 0#32
  let c0_1167 : Index := 0#32
  ![v1665.toNat, 0, 0]
def k0_off14 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1084 : BitVec 32 := 1#32
  let v1559 : BitVec 32 := Scalar.subi v1142 c1_i32_1084
  let c4_i32_1085 : BitVec 32 := 4#32
  let c0_i32_1086 : BitVec 32 := 0#32
  let v1560 : BitVec 1 := Scalar.cmpi .eq c4_i32_1085 c0_i32_1086
  let c1_i32_1087 : BitVec 32 := 1#32
  let v1561 : BitVec 32 := Scalar.select v1560 c1_i32_1087 c4_i32_1085
  let v1562 : BitVec 32 := Scalar.remsi v1559 v1561
  let c0_i32_1089 : BitVec 32 := 0#32
  let v1564 : BitVec 1 := Scalar.cmpi .slt v1562 c0_i32_1089
  let c0_i32_1090 : BitVec 32 := 0#32
  let v1565 : BitVec 1 := Scalar.cmpi .slt v1561 c0_i32_1090
  let v1566 : BitVec 1 := Scalar.xori v1564 v1565
  let c0_i32_1088 : BitVec 32 := 0#32
  let v1563 : BitVec 1 := Scalar.cmpi .ne v1562 c0_i32_1088
  let v1567 : BitVec 1 := Scalar.andi v1566 v1563
  let v1568 : BitVec 32 := Scalar.addi v1562 v1561
  let v1569 : BitVec 32 := Scalar.select v1567 v1568 v1562
  let c4_i32_1091 : BitVec 32 := 4#32
  let v1570 : BitVec 32 := Scalar.muli v1569 c4_i32_1091
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1663 : BitVec 32 := Scalar.addi v1570 v1588
  let c2_i32_1101 : BitVec 32 := 2#32
  let c0_i32_1102 : BitVec 32 := 0#32
  let v1590 : BitVec 1 := Scalar.cmpi .eq c2_i32_1101 c0_i32_1102
  let c1_i32_1103 : BitVec 32 := 1#32
  let v1591 : BitVec 32 := Scalar.select v1590 c1_i32_1103 c2_i32_1101
  let v1592 : BitVec 32 := Scalar.remsi v1159 v1591
  let c0_i32_1105 : BitVec 32 := 0#32
  let v1594 : BitVec 1 := Scalar.cmpi .slt v1592 c0_i32_1105
  let c0_i32_1106 : BitVec 32 := 0#32
  let v1595 : BitVec 1 := Scalar.cmpi .slt v1591 c0_i32_1106
  let v1596 : BitVec 1 := Scalar.xori v1594 v1595
  let c0_i32_1104 : BitVec 32 := 0#32
  let v1593 : BitVec 1 := Scalar.cmpi .ne v1592 c0_i32_1104
  let v1597 : BitVec 1 := Scalar.andi v1596 v1593
  let v1598 : BitVec 32 := Scalar.addi v1592 v1591
  let v1599 : BitVec 32 := Scalar.select v1597 v1598 v1592
  let v1664 : BitVec 32 := Scalar.addi v1663 v1599
  let v1674 : Index := Scalar.indexCast v1664
  let c0_1172 : Index := 0#32
  let c512_1173 : Index := 512#32
  ![v1674.toNat, 0, 512]
def k0_off15 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1076 : BitVec 32 := 1#32
  let v1547 : BitVec 32 := Scalar.addi v1142 c1_i32_1076
  let c4_i32_1077 : BitVec 32 := 4#32
  let c0_i32_1078 : BitVec 32 := 0#32
  let v1548 : BitVec 1 := Scalar.cmpi .eq c4_i32_1077 c0_i32_1078
  let c1_i32_1079 : BitVec 32 := 1#32
  let v1549 : BitVec 32 := Scalar.select v1548 c1_i32_1079 c4_i32_1077
  let v1550 : BitVec 32 := Scalar.remsi v1547 v1549
  let c0_i32_1081 : BitVec 32 := 0#32
  let v1552 : BitVec 1 := Scalar.cmpi .slt v1550 c0_i32_1081
  let c0_i32_1082 : BitVec 32 := 0#32
  let v1553 : BitVec 1 := Scalar.cmpi .slt v1549 c0_i32_1082
  let v1554 : BitVec 1 := Scalar.xori v1552 v1553
  let c0_i32_1080 : BitVec 32 := 0#32
  let v1551 : BitVec 1 := Scalar.cmpi .ne v1550 c0_i32_1080
  let v1555 : BitVec 1 := Scalar.andi v1554 v1551
  let v1556 : BitVec 32 := Scalar.addi v1550 v1549
  let v1557 : BitVec 32 := Scalar.select v1555 v1556 v1550
  let c4_i32_1083 : BitVec 32 := 4#32
  let v1558 : BitVec 32 := Scalar.muli v1557 c4_i32_1083
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1661 : BitVec 32 := Scalar.addi v1558 v1588
  let c2_i32_1101 : BitVec 32 := 2#32
  let c0_i32_1102 : BitVec 32 := 0#32
  let v1590 : BitVec 1 := Scalar.cmpi .eq c2_i32_1101 c0_i32_1102
  let c1_i32_1103 : BitVec 32 := 1#32
  let v1591 : BitVec 32 := Scalar.select v1590 c1_i32_1103 c2_i32_1101
  let v1592 : BitVec 32 := Scalar.remsi v1159 v1591
  let c0_i32_1105 : BitVec 32 := 0#32
  let v1594 : BitVec 1 := Scalar.cmpi .slt v1592 c0_i32_1105
  let c0_i32_1106 : BitVec 32 := 0#32
  let v1595 : BitVec 1 := Scalar.cmpi .slt v1591 c0_i32_1106
  let v1596 : BitVec 1 := Scalar.xori v1594 v1595
  let c0_i32_1104 : BitVec 32 := 0#32
  let v1593 : BitVec 1 := Scalar.cmpi .ne v1592 c0_i32_1104
  let v1597 : BitVec 1 := Scalar.andi v1596 v1593
  let v1598 : BitVec 32 := Scalar.addi v1592 v1591
  let v1599 : BitVec 32 := Scalar.select v1597 v1598 v1592
  let v1662 : BitVec 32 := Scalar.addi v1661 v1599
  let c0_i32_1180 : BitVec 32 := 0#32
  let c0_i32_1181 : BitVec 32 := 0#32
  ![v1662.toNat, 0, 0]
def k0_dev15 (d0 : Dev nD) : Nat :=
  let c0_i32_1179 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c1_i32_734 : BitVec 32 := 1#32
  let v1185 : BitVec 32 := Scalar.addi v1159 c1_i32_734
  let c2_i32_740 : BitVec 32 := 2#32
  let c2_i32 : BitVec 32 := 2#32
  let c0_i32_735 : BitVec 32 := 0#32
  let v1186 : BitVec 1 := Scalar.cmpi .eq c2_i32 c0_i32_735
  let c1_i32_736 : BitVec 32 := 1#32
  let v1187 : BitVec 32 := Scalar.select v1186 c1_i32_736 c2_i32
  let v1188 : BitVec 32 := Scalar.remsi v1159 v1187
  let c0_i32_738 : BitVec 32 := 0#32
  let v1190 : BitVec 1 := Scalar.cmpi .slt v1188 c0_i32_738
  let c0_i32_739 : BitVec 32 := 0#32
  let v1191 : BitVec 1 := Scalar.cmpi .slt v1187 c0_i32_739
  let v1192 : BitVec 1 := Scalar.xori v1190 v1191
  let c0_i32_737 : BitVec 32 := 0#32
  let v1189 : BitVec 1 := Scalar.cmpi .ne v1188 c0_i32_737
  let v1193 : BitVec 1 := Scalar.andi v1192 v1189
  let v1194 : BitVec 32 := Scalar.addi v1188 v1187
  let v1195 : BitVec 32 := Scalar.select v1193 v1194 v1188
  let v1196 : BitVec 32 := Scalar.muli c2_i32_740 v1195
  let v1197 : BitVec 32 := Scalar.subi v1185 v1196
  let c4_i32_741 : BitVec 32 := 4#32
  let v1198 : BitVec 32 := Scalar.muli v1197 c4_i32_741
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1199 : BitVec 32 := Scalar.addi v1198 v1142
  let c1_i32_1178 : BitVec 32 := 1#32
  let v1683 : BitVec 32 := Scalar.muli v1199 c1_i32_1178
  let v1684 : BitVec 32 := Scalar.addi c0_i32_1179 v1683
  v1684.toNat
def k0_off16 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1084 : BitVec 32 := 1#32
  let v1559 : BitVec 32 := Scalar.subi v1142 c1_i32_1084
  let c4_i32_1085 : BitVec 32 := 4#32
  let c0_i32_1086 : BitVec 32 := 0#32
  let v1560 : BitVec 1 := Scalar.cmpi .eq c4_i32_1085 c0_i32_1086
  let c1_i32_1087 : BitVec 32 := 1#32
  let v1561 : BitVec 32 := Scalar.select v1560 c1_i32_1087 c4_i32_1085
  let v1562 : BitVec 32 := Scalar.remsi v1559 v1561
  let c0_i32_1089 : BitVec 32 := 0#32
  let v1564 : BitVec 1 := Scalar.cmpi .slt v1562 c0_i32_1089
  let c0_i32_1090 : BitVec 32 := 0#32
  let v1565 : BitVec 1 := Scalar.cmpi .slt v1561 c0_i32_1090
  let v1566 : BitVec 1 := Scalar.xori v1564 v1565
  let c0_i32_1088 : BitVec 32 := 0#32
  let v1563 : BitVec 1 := Scalar.cmpi .ne v1562 c0_i32_1088
  let v1567 : BitVec 1 := Scalar.andi v1566 v1563
  let v1568 : BitVec 32 := Scalar.addi v1562 v1561
  let v1569 : BitVec 32 := Scalar.select v1567 v1568 v1562
  let c4_i32_1091 : BitVec 32 := 4#32
  let v1570 : BitVec 32 := Scalar.muli v1569 c4_i32_1091
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1663 : BitVec 32 := Scalar.addi v1570 v1588
  let c2_i32_1101 : BitVec 32 := 2#32
  let c0_i32_1102 : BitVec 32 := 0#32
  let v1590 : BitVec 1 := Scalar.cmpi .eq c2_i32_1101 c0_i32_1102
  let c1_i32_1103 : BitVec 32 := 1#32
  let v1591 : BitVec 32 := Scalar.select v1590 c1_i32_1103 c2_i32_1101
  let v1592 : BitVec 32 := Scalar.remsi v1159 v1591
  let c0_i32_1105 : BitVec 32 := 0#32
  let v1594 : BitVec 1 := Scalar.cmpi .slt v1592 c0_i32_1105
  let c0_i32_1106 : BitVec 32 := 0#32
  let v1595 : BitVec 1 := Scalar.cmpi .slt v1591 c0_i32_1106
  let v1596 : BitVec 1 := Scalar.xori v1594 v1595
  let c0_i32_1104 : BitVec 32 := 0#32
  let v1593 : BitVec 1 := Scalar.cmpi .ne v1592 c0_i32_1104
  let v1597 : BitVec 1 := Scalar.andi v1596 v1593
  let v1598 : BitVec 32 := Scalar.addi v1592 v1591
  let v1599 : BitVec 32 := Scalar.select v1597 v1598 v1592
  let v1664 : BitVec 32 := Scalar.addi v1663 v1599
  let c0_i32_1186 : BitVec 32 := 0#32
  let c512_i32_1187 : BitVec 32 := 512#32
  ![v1664.toNat, 0, 512]
def k0_dev16 (d0 : Dev nD) : Nat :=
  let c0_i32_1185 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c1_i32_734 : BitVec 32 := 1#32
  let v1185 : BitVec 32 := Scalar.addi v1159 c1_i32_734
  let c2_i32_740 : BitVec 32 := 2#32
  let c2_i32 : BitVec 32 := 2#32
  let c0_i32_735 : BitVec 32 := 0#32
  let v1186 : BitVec 1 := Scalar.cmpi .eq c2_i32 c0_i32_735
  let c1_i32_736 : BitVec 32 := 1#32
  let v1187 : BitVec 32 := Scalar.select v1186 c1_i32_736 c2_i32
  let v1188 : BitVec 32 := Scalar.remsi v1159 v1187
  let c0_i32_738 : BitVec 32 := 0#32
  let v1190 : BitVec 1 := Scalar.cmpi .slt v1188 c0_i32_738
  let c0_i32_739 : BitVec 32 := 0#32
  let v1191 : BitVec 1 := Scalar.cmpi .slt v1187 c0_i32_739
  let v1192 : BitVec 1 := Scalar.xori v1190 v1191
  let c0_i32_737 : BitVec 32 := 0#32
  let v1189 : BitVec 1 := Scalar.cmpi .ne v1188 c0_i32_737
  let v1193 : BitVec 1 := Scalar.andi v1192 v1189
  let v1194 : BitVec 32 := Scalar.addi v1188 v1187
  let v1195 : BitVec 32 := Scalar.select v1193 v1194 v1188
  let v1196 : BitVec 32 := Scalar.muli c2_i32_740 v1195
  let v1197 : BitVec 32 := Scalar.subi v1185 v1196
  let c4_i32_741 : BitVec 32 := 4#32
  let v1198 : BitVec 32 := Scalar.muli v1197 c4_i32_741
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1199 : BitVec 32 := Scalar.addi v1198 v1142
  let c1_i32_1184 : BitVec 32 := 1#32
  let v1689 : BitVec 32 := Scalar.muli v1199 c1_i32_1184
  let v1690 : BitVec 32 := Scalar.addi c0_i32_1185 v1689
  v1690.toNat
def k0_off17 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1076 : BitVec 32 := 1#32
  let v1547 : BitVec 32 := Scalar.addi v1142 c1_i32_1076
  let c4_i32_1077 : BitVec 32 := 4#32
  let c0_i32_1078 : BitVec 32 := 0#32
  let v1548 : BitVec 1 := Scalar.cmpi .eq c4_i32_1077 c0_i32_1078
  let c1_i32_1079 : BitVec 32 := 1#32
  let v1549 : BitVec 32 := Scalar.select v1548 c1_i32_1079 c4_i32_1077
  let v1550 : BitVec 32 := Scalar.remsi v1547 v1549
  let c0_i32_1081 : BitVec 32 := 0#32
  let v1552 : BitVec 1 := Scalar.cmpi .slt v1550 c0_i32_1081
  let c0_i32_1082 : BitVec 32 := 0#32
  let v1553 : BitVec 1 := Scalar.cmpi .slt v1549 c0_i32_1082
  let v1554 : BitVec 1 := Scalar.xori v1552 v1553
  let c0_i32_1080 : BitVec 32 := 0#32
  let v1551 : BitVec 1 := Scalar.cmpi .ne v1550 c0_i32_1080
  let v1555 : BitVec 1 := Scalar.andi v1554 v1551
  let v1556 : BitVec 32 := Scalar.addi v1550 v1549
  let v1557 : BitVec 32 := Scalar.select v1555 v1556 v1550
  let c4_i32_1083 : BitVec 32 := 4#32
  let v1558 : BitVec 32 := Scalar.muli v1557 c4_i32_1083
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1716 : BitVec 32 := Scalar.addi v1558 v1588
  let c0_i32_1214 : BitVec 32 := 0#32
  let c0_i32_1215 : BitVec 32 := 0#32
  ![v1716.toNat, 0, 0]
def k0_dev17 (d0 : Dev nD) : Nat :=
  let c0_i32_1213 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c2_i32_742 : BitVec 32 := 2#32
  let v1200 : BitVec 32 := Scalar.addi v1159 c2_i32_742
  let c4_i32_756 : BitVec 32 := 4#32
  let c0_i32_744 : BitVec 32 := 0#32
  let v1202 : BitVec 1 := Scalar.cmpi .sgt v1159 c0_i32_744
  let v1203 : BitVec 32 := Scalar.extui v1202
  let c0_i32_745 : BitVec 32 := 0#32
  let v1204 : BitVec 1 := Scalar.cmpi .slt v1159 c0_i32_745
  let v1205 : BitVec 32 := Scalar.extui v1204
  let v1206 : BitVec 32 := Scalar.subi v1203 v1205
  let c2_i32_743 : BitVec 32 := 2#32
  let c0_i32_746 : BitVec 32 := 0#32
  let v1207 : BitVec 1 := Scalar.cmpi .sgt c2_i32_743 c0_i32_746
  let v1208 : BitVec 32 := Scalar.extui v1207
  let c0_i32_747 : BitVec 32 := 0#32
  let v1209 : BitVec 1 := Scalar.cmpi .slt c2_i32_743 c0_i32_747
  let v1210 : BitVec 32 := Scalar.extui v1209
  let v1211 : BitVec 32 := Scalar.subi v1208 v1210
  let v1212 : BitVec 1 := Scalar.cmpi .ne v1206 v1211
  let v1213 : BitVec 32 := Scalar.remsi v1159 c2_i32_743
  let c0_i32_748 : BitVec 32 := 0#32
  let v1214 : BitVec 1 := Scalar.cmpi .ne v1213 c0_i32_748
  let v1215 : BitVec 1 := Scalar.andi v1212 v1214
  let v1201 : BitVec 32 := Scalar.divsi v1159 c2_i32_743
  let c1_i32_749 : BitVec 32 := 1#32
  let v1216 : BitVec 32 := Scalar.subi v1201 c1_i32_749
  let v1217 : BitVec 32 := Scalar.select v1215 v1216 v1201
  let c2_i32_750 : BitVec 32 := 2#32
  let c0_i32_751 : BitVec 32 := 0#32
  let v1218 : BitVec 1 := Scalar.cmpi .eq c2_i32_750 c0_i32_751
  let c1_i32_752 : BitVec 32 := 1#32
  let v1219 : BitVec 32 := Scalar.select v1218 c1_i32_752 c2_i32_750
  let v1220 : BitVec 32 := Scalar.remsi v1217 v1219
  let c0_i32_754 : BitVec 32 := 0#32
  let v1222 : BitVec 1 := Scalar.cmpi .slt v1220 c0_i32_754
  let c0_i32_755 : BitVec 32 := 0#32
  let v1223 : BitVec 1 := Scalar.cmpi .slt v1219 c0_i32_755
  let v1224 : BitVec 1 := Scalar.xori v1222 v1223
  let c0_i32_753 : BitVec 32 := 0#32
  let v1221 : BitVec 1 := Scalar.cmpi .ne v1220 c0_i32_753
  let v1225 : BitVec 1 := Scalar.andi v1224 v1221
  let v1226 : BitVec 32 := Scalar.addi v1220 v1219
  let v1227 : BitVec 32 := Scalar.select v1225 v1226 v1220
  let v1228 : BitVec 32 := Scalar.muli c4_i32_756 v1227
  let v1229 : BitVec 32 := Scalar.subi v1200 v1228
  let c4_i32_757 : BitVec 32 := 4#32
  let v1230 : BitVec 32 := Scalar.muli v1229 c4_i32_757
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1231 : BitVec 32 := Scalar.addi v1230 v1142
  let c1_i32_1212 : BitVec 32 := 1#32
  let v1719 : BitVec 32 := Scalar.muli v1231 c1_i32_1212
  let v1720 : BitVec 32 := Scalar.addi c0_i32_1213 v1719
  v1720.toNat
def k0_off18 (d0 : Dev nD) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1084 : BitVec 32 := 1#32
  let v1559 : BitVec 32 := Scalar.subi v1142 c1_i32_1084
  let c4_i32_1085 : BitVec 32 := 4#32
  let c0_i32_1086 : BitVec 32 := 0#32
  let v1560 : BitVec 1 := Scalar.cmpi .eq c4_i32_1085 c0_i32_1086
  let c1_i32_1087 : BitVec 32 := 1#32
  let v1561 : BitVec 32 := Scalar.select v1560 c1_i32_1087 c4_i32_1085
  let v1562 : BitVec 32 := Scalar.remsi v1559 v1561
  let c0_i32_1089 : BitVec 32 := 0#32
  let v1564 : BitVec 1 := Scalar.cmpi .slt v1562 c0_i32_1089
  let c0_i32_1090 : BitVec 32 := 0#32
  let v1565 : BitVec 1 := Scalar.cmpi .slt v1561 c0_i32_1090
  let v1566 : BitVec 1 := Scalar.xori v1564 v1565
  let c0_i32_1088 : BitVec 32 := 0#32
  let v1563 : BitVec 1 := Scalar.cmpi .ne v1562 c0_i32_1088
  let v1567 : BitVec 1 := Scalar.andi v1566 v1563
  let v1568 : BitVec 32 := Scalar.addi v1562 v1561
  let v1569 : BitVec 32 := Scalar.select v1567 v1568 v1562
  let c4_i32_1091 : BitVec 32 := 4#32
  let v1570 : BitVec 32 := Scalar.muli v1569 c4_i32_1091
  let c2_i32_1099 : BitVec 32 := 2#32
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c0_i32_1093 : BitVec 32 := 0#32
  let v1572 : BitVec 1 := Scalar.cmpi .sgt v1159 c0_i32_1093
  let v1573 : BitVec 32 := Scalar.extui v1572
  let c0_i32_1094 : BitVec 32 := 0#32
  let v1574 : BitVec 1 := Scalar.cmpi .slt v1159 c0_i32_1094
  let v1575 : BitVec 32 := Scalar.extui v1574
  let v1576 : BitVec 32 := Scalar.subi v1573 v1575
  let c2_i32_1092 : BitVec 32 := 2#32
  let c0_i32_1095 : BitVec 32 := 0#32
  let v1577 : BitVec 1 := Scalar.cmpi .sgt c2_i32_1092 c0_i32_1095
  let v1578 : BitVec 32 := Scalar.extui v1577
  let c0_i32_1096 : BitVec 32 := 0#32
  let v1579 : BitVec 1 := Scalar.cmpi .slt c2_i32_1092 c0_i32_1096
  let v1580 : BitVec 32 := Scalar.extui v1579
  let v1581 : BitVec 32 := Scalar.subi v1578 v1580
  let v1582 : BitVec 1 := Scalar.cmpi .ne v1576 v1581
  let v1583 : BitVec 32 := Scalar.remsi v1159 c2_i32_1092
  let c0_i32_1097 : BitVec 32 := 0#32
  let v1584 : BitVec 1 := Scalar.cmpi .ne v1583 c0_i32_1097
  let v1585 : BitVec 1 := Scalar.andi v1582 v1584
  let v1571 : BitVec 32 := Scalar.divsi v1159 c2_i32_1092
  let c1_i32_1098 : BitVec 32 := 1#32
  let v1586 : BitVec 32 := Scalar.subi v1571 c1_i32_1098
  let v1587 : BitVec 32 := Scalar.select v1585 v1586 v1571
  let v1588 : BitVec 32 := Scalar.muli c2_i32_1099 v1587
  let v1718 : BitVec 32 := Scalar.addi v1570 v1588
  let c0_i32_1220 : BitVec 32 := 0#32
  let c512_i32_1221 : BitVec 32 := 512#32
  ![v1718.toNat, 0, 512]
def k0_dev18 (d0 : Dev nD) : Nat :=
  let c0_i32_1219 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c0_i32_714 : BitVec 32 := 0#32
  let v1144 : BitVec 1 := Scalar.cmpi .sgt v1132 c0_i32_714
  let v1145 : BitVec 32 := Scalar.extui v1144
  let c0_i32_715 : BitVec 32 := 0#32
  let v1146 : BitVec 1 := Scalar.cmpi .slt v1132 c0_i32_715
  let v1147 : BitVec 32 := Scalar.extui v1146
  let v1148 : BitVec 32 := Scalar.subi v1145 v1147
  let c4_i32_713 : BitVec 32 := 4#32
  let c0_i32_716 : BitVec 32 := 0#32
  let v1149 : BitVec 1 := Scalar.cmpi .sgt c4_i32_713 c0_i32_716
  let v1150 : BitVec 32 := Scalar.extui v1149
  let c0_i32_717 : BitVec 32 := 0#32
  let v1151 : BitVec 1 := Scalar.cmpi .slt c4_i32_713 c0_i32_717
  let v1152 : BitVec 32 := Scalar.extui v1151
  let v1153 : BitVec 32 := Scalar.subi v1150 v1152
  let v1154 : BitVec 1 := Scalar.cmpi .ne v1148 v1153
  let v1155 : BitVec 32 := Scalar.remsi v1132 c4_i32_713
  let c0_i32_718 : BitVec 32 := 0#32
  let v1156 : BitVec 1 := Scalar.cmpi .ne v1155 c0_i32_718
  let v1157 : BitVec 1 := Scalar.andi v1154 v1156
  let v1143 : BitVec 32 := Scalar.divsi v1132 c4_i32_713
  let c1_i32_719 : BitVec 32 := 1#32
  let v1158 : BitVec 32 := Scalar.subi v1143 c1_i32_719
  let v1159 : BitVec 32 := Scalar.select v1157 v1158 v1143
  let c2_i32_742 : BitVec 32 := 2#32
  let v1200 : BitVec 32 := Scalar.addi v1159 c2_i32_742
  let c4_i32_756 : BitVec 32 := 4#32
  let c0_i32_744 : BitVec 32 := 0#32
  let v1202 : BitVec 1 := Scalar.cmpi .sgt v1159 c0_i32_744
  let v1203 : BitVec 32 := Scalar.extui v1202
  let c0_i32_745 : BitVec 32 := 0#32
  let v1204 : BitVec 1 := Scalar.cmpi .slt v1159 c0_i32_745
  let v1205 : BitVec 32 := Scalar.extui v1204
  let v1206 : BitVec 32 := Scalar.subi v1203 v1205
  let c2_i32_743 : BitVec 32 := 2#32
  let c0_i32_746 : BitVec 32 := 0#32
  let v1207 : BitVec 1 := Scalar.cmpi .sgt c2_i32_743 c0_i32_746
  let v1208 : BitVec 32 := Scalar.extui v1207
  let c0_i32_747 : BitVec 32 := 0#32
  let v1209 : BitVec 1 := Scalar.cmpi .slt c2_i32_743 c0_i32_747
  let v1210 : BitVec 32 := Scalar.extui v1209
  let v1211 : BitVec 32 := Scalar.subi v1208 v1210
  let v1212 : BitVec 1 := Scalar.cmpi .ne v1206 v1211
  let v1213 : BitVec 32 := Scalar.remsi v1159 c2_i32_743
  let c0_i32_748 : BitVec 32 := 0#32
  let v1214 : BitVec 1 := Scalar.cmpi .ne v1213 c0_i32_748
  let v1215 : BitVec 1 := Scalar.andi v1212 v1214
  let v1201 : BitVec 32 := Scalar.divsi v1159 c2_i32_743
  let c1_i32_749 : BitVec 32 := 1#32
  let v1216 : BitVec 32 := Scalar.subi v1201 c1_i32_749
  let v1217 : BitVec 32 := Scalar.select v1215 v1216 v1201
  let c2_i32_750 : BitVec 32 := 2#32
  let c0_i32_751 : BitVec 32 := 0#32
  let v1218 : BitVec 1 := Scalar.cmpi .eq c2_i32_750 c0_i32_751
  let c1_i32_752 : BitVec 32 := 1#32
  let v1219 : BitVec 32 := Scalar.select v1218 c1_i32_752 c2_i32_750
  let v1220 : BitVec 32 := Scalar.remsi v1217 v1219
  let c0_i32_754 : BitVec 32 := 0#32
  let v1222 : BitVec 1 := Scalar.cmpi .slt v1220 c0_i32_754
  let c0_i32_755 : BitVec 32 := 0#32
  let v1223 : BitVec 1 := Scalar.cmpi .slt v1219 c0_i32_755
  let v1224 : BitVec 1 := Scalar.xori v1222 v1223
  let c0_i32_753 : BitVec 32 := 0#32
  let v1221 : BitVec 1 := Scalar.cmpi .ne v1220 c0_i32_753
  let v1225 : BitVec 1 := Scalar.andi v1224 v1221
  let v1226 : BitVec 32 := Scalar.addi v1220 v1219
  let v1227 : BitVec 32 := Scalar.select v1225 v1226 v1220
  let v1228 : BitVec 32 := Scalar.muli c4_i32_756 v1227
  let v1229 : BitVec 32 := Scalar.subi v1200 v1228
  let c4_i32_757 : BitVec 32 := 4#32
  let v1230 : BitVec 32 := Scalar.muli v1229 c4_i32_757
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1231 : BitVec 32 := Scalar.addi v1230 v1142
  let c1_i32_1218 : BitVec 32 := 1#32
  let v1723 : BitVec 32 := Scalar.muli v1231 c1_i32_1218
  let v1724 : BitVec 32 := Scalar.addi c0_i32_1219 v1723
  v1724.toNat
def k0_off19 (d0 : Dev nD) (c0_i32_1247 : BitVec 32) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1246 : BitVec 32 := 1#32
  let v1739 : BitVec 32 := Scalar.addi v1142 c1_i32_1246
  let v1740 : BitVec 32 := Scalar.subi v1739 c0_i32_1247
  let c4_i32_1248 : BitVec 32 := 4#32
  let c0_i32_1249 : BitVec 32 := 0#32
  let v1741 : BitVec 1 := Scalar.cmpi .eq c4_i32_1248 c0_i32_1249
  let c1_i32_1250 : BitVec 32 := 1#32
  let v1742 : BitVec 32 := Scalar.select v1741 c1_i32_1250 c4_i32_1248
  let v1743 : BitVec 32 := Scalar.remsi v1740 v1742
  let c0_i32_1252 : BitVec 32 := 0#32
  let v1745 : BitVec 1 := Scalar.cmpi .slt v1743 c0_i32_1252
  let c0_i32_1253 : BitVec 32 := 0#32
  let v1746 : BitVec 1 := Scalar.cmpi .slt v1742 c0_i32_1253
  let v1747 : BitVec 1 := Scalar.xori v1745 v1746
  let c0_i32_1251 : BitVec 32 := 0#32
  let v1744 : BitVec 1 := Scalar.cmpi .ne v1743 c0_i32_1251
  let v1748 : BitVec 1 := Scalar.andi v1747 v1744
  let v1749 : BitVec 32 := Scalar.addi v1743 v1742
  let v1750 : BitVec 32 := Scalar.select v1748 v1749 v1743
  let c4_i32_1254 : BitVec 32 := 4#32
  let v1751 : BitVec 32 := Scalar.muli v1750 c4_i32_1254
  let c0_i32_1267 : BitVec 32 := 0#32
  let c0_i32_1268 : BitVec 32 := 0#32
  ![v1751.toNat, 0, 0]
def k0_dev19 (d0 : Dev nD) : Nat :=
  let c0_i32_1266 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_1265 : BitVec 32 := 1#32
  let v1765 : BitVec 32 := Scalar.muli v1172 c1_i32_1265
  let v1766 : BitVec 32 := Scalar.addi c0_i32_1266 v1765
  v1766.toNat
def k0_off20 (d0 : Dev nD) (c0_i32_1256 : BitVec 32) : Fin 3 → Nat :=
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let c1_i32_1255 : BitVec 32 := 1#32
  let v1752 : BitVec 32 := Scalar.subi v1142 c1_i32_1255
  let v1753 : BitVec 32 := Scalar.addi v1752 c0_i32_1256
  let c4_i32_1257 : BitVec 32 := 4#32
  let c0_i32_1258 : BitVec 32 := 0#32
  let v1754 : BitVec 1 := Scalar.cmpi .eq c4_i32_1257 c0_i32_1258
  let c1_i32_1259 : BitVec 32 := 1#32
  let v1755 : BitVec 32 := Scalar.select v1754 c1_i32_1259 c4_i32_1257
  let v1756 : BitVec 32 := Scalar.remsi v1753 v1755
  let c0_i32_1261 : BitVec 32 := 0#32
  let v1758 : BitVec 1 := Scalar.cmpi .slt v1756 c0_i32_1261
  let c0_i32_1262 : BitVec 32 := 0#32
  let v1759 : BitVec 1 := Scalar.cmpi .slt v1755 c0_i32_1262
  let v1760 : BitVec 1 := Scalar.xori v1758 v1759
  let c0_i32_1260 : BitVec 32 := 0#32
  let v1757 : BitVec 1 := Scalar.cmpi .ne v1756 c0_i32_1260
  let v1761 : BitVec 1 := Scalar.andi v1760 v1757
  let v1762 : BitVec 32 := Scalar.addi v1756 v1755
  let v1763 : BitVec 32 := Scalar.select v1761 v1762 v1756
  let c4_i32_1263 : BitVec 32 := 4#32
  let v1764 : BitVec 32 := Scalar.muli v1763 c4_i32_1263
  let c0_i32_1274 : BitVec 32 := 0#32
  let c512_i32_1275 : BitVec 32 := 512#32
  ![v1764.toNat, 0, 512]
def k0_dev20 (d0 : Dev nD) : Nat :=
  let c0_i32_1273 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_1272 : BitVec 32 := 1#32
  let v1771 : BitVec 32 := Scalar.muli v1184 c1_i32_1272
  let v1772 : BitVec 32 := Scalar.addi c0_i32_1273 v1771
  v1772.toNat
def k0_dev21 (d0 : Dev nD) : Nat :=
  let c0_i32_1324 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_1323 : BitVec 32 := 1#32
  let v1819 : BitVec 32 := Scalar.muli v1172 c1_i32_1323
  let v1820 : BitVec 32 := Scalar.addi c0_i32_1324 v1819
  v1820.toNat
def k0_dev22 (d0 : Dev nD) : Nat :=
  let c0_i32_1331 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_1330 : BitVec 32 := 1#32
  let v1825 : BitVec 32 := Scalar.muli v1184 c1_i32_1330
  let v1826 : BitVec 32 := Scalar.addi c0_i32_1331 v1825
  v1826.toNat
def k0_dev23 (d0 : Dev nD) : Nat :=
  let c0_i32_1382 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_720 : BitVec 32 := 1#32
  let v1161 : BitVec 32 := Scalar.addi v1142 c1_i32_720
  let c4_i32_721 : BitVec 32 := 4#32
  let c0_i32_722 : BitVec 32 := 0#32
  let v1162 : BitVec 1 := Scalar.cmpi .eq c4_i32_721 c0_i32_722
  let c1_i32_723 : BitVec 32 := 1#32
  let v1163 : BitVec 32 := Scalar.select v1162 c1_i32_723 c4_i32_721
  let v1164 : BitVec 32 := Scalar.remsi v1161 v1163
  let c0_i32_725 : BitVec 32 := 0#32
  let v1166 : BitVec 1 := Scalar.cmpi .slt v1164 c0_i32_725
  let c0_i32_726 : BitVec 32 := 0#32
  let v1167 : BitVec 1 := Scalar.cmpi .slt v1163 c0_i32_726
  let v1168 : BitVec 1 := Scalar.xori v1166 v1167
  let c0_i32_724 : BitVec 32 := 0#32
  let v1165 : BitVec 1 := Scalar.cmpi .ne v1164 c0_i32_724
  let v1169 : BitVec 1 := Scalar.andi v1168 v1165
  let v1170 : BitVec 32 := Scalar.addi v1164 v1163
  let v1171 : BitVec 32 := Scalar.select v1169 v1170 v1164
  let v1172 : BitVec 32 := Scalar.addi v1160 v1171
  let c1_i32_1381 : BitVec 32 := 1#32
  let v1873 : BitVec 32 := Scalar.muli v1172 c1_i32_1381
  let v1874 : BitVec 32 := Scalar.addi c0_i32_1382 v1873
  v1874.toNat
def k0_dev24 (d0 : Dev nD) : Nat :=
  let c0_i32_1389 : BitVec 32 := 0#32
  let v1130 : BitVec 32 := Dev.word d0
  let c1_i32_707 : BitVec 32 := 1#32
  let v1131 : BitVec 32 := Scalar.divsi v1130 c1_i32_707
  let c16_i32_706 : BitVec 32 := 16#32
  let v1132 : BitVec 32 := Scalar.remsi v1131 c16_i32_706
  let c4_i32 : BitVec 32 := 4#32
  let c0_i32_708 : BitVec 32 := 0#32
  let v1133 : BitVec 1 := Scalar.cmpi .eq c4_i32 c0_i32_708
  let c1_i32_709 : BitVec 32 := 1#32
  let v1134 : BitVec 32 := Scalar.select v1133 c1_i32_709 c4_i32
  let v1135 : BitVec 32 := Scalar.remsi v1132 v1134
  let c0_i32_711 : BitVec 32 := 0#32
  let v1137 : BitVec 1 := Scalar.cmpi .slt v1135 c0_i32_711
  let c0_i32_712 : BitVec 32 := 0#32
  let v1138 : BitVec 1 := Scalar.cmpi .slt v1134 c0_i32_712
  let v1139 : BitVec 1 := Scalar.xori v1137 v1138
  let c0_i32_710 : BitVec 32 := 0#32
  let v1136 : BitVec 1 := Scalar.cmpi .ne v1135 c0_i32_710
  let v1140 : BitVec 1 := Scalar.andi v1139 v1136
  let v1141 : BitVec 32 := Scalar.addi v1135 v1134
  let v1142 : BitVec 32 := Scalar.select v1140 v1141 v1135
  let v1160 : BitVec 32 := Scalar.subi v1132 v1142
  let c1_i32_727 : BitVec 32 := 1#32
  let v1173 : BitVec 32 := Scalar.subi v1142 c1_i32_727
  let c4_i32_728 : BitVec 32 := 4#32
  let c0_i32_729 : BitVec 32 := 0#32
  let v1174 : BitVec 1 := Scalar.cmpi .eq c4_i32_728 c0_i32_729
  let c1_i32_730 : BitVec 32 := 1#32
  let v1175 : BitVec 32 := Scalar.select v1174 c1_i32_730 c4_i32_728
  let v1176 : BitVec 32 := Scalar.remsi v1173 v1175
  let c0_i32_732 : BitVec 32 := 0#32
  let v1178 : BitVec 1 := Scalar.cmpi .slt v1176 c0_i32_732
  let c0_i32_733 : BitVec 32 := 0#32
  let v1179 : BitVec 1 := Scalar.cmpi .slt v1175 c0_i32_733
  let v1180 : BitVec 1 := Scalar.xori v1178 v1179
  let c0_i32_731 : BitVec 32 := 0#32
  let v1177 : BitVec 1 := Scalar.cmpi .ne v1176 c0_i32_731
  let v1181 : BitVec 1 := Scalar.andi v1180 v1177
  let v1182 : BitVec 32 := Scalar.addi v1176 v1175
  let v1183 : BitVec 32 := Scalar.select v1181 v1182 v1176
  let v1184 : BitVec 32 := Scalar.addi v1160 v1183
  let c1_i32_1388 : BitVec 32 := 1#32
  let v1879 : BitVec 32 := Scalar.muli v1184 c1_i32_1388
  let v1880 : BitVec 32 := Scalar.addi c0_i32_1389 v1879
  v1880.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x2048x16384, .f32⟩
  | .hbm, ⟨6, _⟩ => ⟨S1x2048x128x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S2048x2048, .i1⟩
  | .hbm, ⟨54, _⟩ => ⟨S2048x2048, .i1⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S_, .i32⟩
  | .hbm, ⟨73, _⟩ => ⟨S_, .i1⟩
  | .hbm, ⟨74, _⟩ => ⟨S2048x2048, .i1⟩
  | .hbm, ⟨75, _⟩ => ⟨S2048x2048, .i1⟩
  | .hbm, ⟨76, _⟩ => ⟨S2048x2048, .i1⟩
  | .hbm, ⟨77, _⟩ => ⟨S2048x2048, .i32⟩
  | .hbm, ⟨78, _⟩ => ⟨S2048x2048, .i32⟩
  | .hbm, ⟨79, _⟩ => ⟨S2048x2048, .i32⟩
  | .hbm, ⟨80, _⟩ => ⟨S_, .i32⟩
  | .hbm, ⟨81, _⟩ => ⟨S2048x2048, .i32⟩
  | .hbm, ⟨82, _⟩ => ⟨S2048x2048, .i1⟩
  | .hbm, ⟨83, _⟩ => ⟨S2048x2048, .i1⟩
  | .hbm, ⟨84, _⟩ => ⟨S1x128x2048x2048, .f32⟩
  | .hbm, ⟨85, _⟩ => ⟨S_, .f32⟩
  | .hbm, ⟨86, _⟩ => ⟨S1x128x2048x2048, .f32⟩
  | .hbm, ⟨87, _⟩ => ⟨S1x128x2048x2048, .f32⟩
  | .hbm, ⟨88, _⟩ => ⟨S1x1x2048x2048, .i1⟩
  | .hbm, ⟨89, _⟩ => ⟨S_, .f32⟩
  | .hbm, ⟨90, _⟩ => ⟨S_, .f32⟩
  | .hbm, ⟨91, _⟩ => ⟨S1x128x2048x2048, .i1⟩
  | .hbm, ⟨92, _⟩ => ⟨S1x128x2048x2048, .f32⟩
  | .hbm, ⟨93, _⟩ => ⟨S1x128x2048x2048, .f32⟩
  | .hbm, ⟨94, _⟩ => ⟨S_, .f32⟩
  | .hbm, ⟨95, _⟩ => ⟨S1x128x2048, .f32⟩
  | .hbm, ⟨96, _⟩ => ⟨S1x128x2048x1, .f32⟩
  | .hbm, ⟨97, _⟩ => ⟨S1x128x2048x2048, .f32⟩
  | .hbm, ⟨98, _⟩ => ⟨S1x128x2048x2048, .f32⟩
  | .hbm, ⟨99, _⟩ => ⟨S1x128x2048x2048, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S1x128x2048, .f32⟩
  | .hbm, ⟨105, _⟩ => ⟨S1x128x2048x1, .f32⟩
  | .hbm, ⟨106, _⟩ => ⟨S_, .f32⟩
  | .hbm, ⟨107, _⟩ => ⟨S_, .f32⟩
  | .hbm, ⟨108, _⟩ => ⟨S1x128x2048x1, .i1⟩
  | .hbm, ⟨109, _⟩ => ⟨S1x128x2048x1, .f32⟩
  | .hbm, ⟨110, _⟩ => ⟨S1x128x2048x1, .f32⟩
  | .hbm, ⟨111, _⟩ => ⟨S1x128x2048x2048, .f32⟩
  | .hbm, ⟨112, _⟩ => ⟨S1x128x2048x2048, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S1x128x2048x2048, .i1⟩
  | .hbm, ⟨117, _⟩ => ⟨S1x128x2048x2048, .f32⟩
  | .hbm, ⟨118, _⟩ => ⟨S1x128x2048x2048, .f32⟩
  | .hbm, ⟨119, _⟩ => ⟨S1x128x128x2048, .f32⟩
  | .hbm, ⟨120, _⟩ => ⟨S1x2048x128x128, .f32⟩
  | .hbm, ⟨121, _⟩ => ⟨S1x2048x16384, .f32⟩
  | .hbm, ⟨122, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Steps.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The all-reduce as a sequence of ten two-lane steps

The kernel exchanges its partial result in ten steps. In each step a device sends one block of the low 512 columns
(lane `lo`) and one of the high 512 columns (lane `hi`), waits for both sends and both arrivals, and, in the first
five steps, adds what arrived. The steps are: three around the ring of four (`a0`–`a2`), one across the second bit of
the plane (`b1`), one across the first (`b2`), the same two backwards with the finished sums (`c1`, `c2`), three
around the ring (`d0`–`d2`).
-/

/-- The two column halves. -/
inductive Lane | lo | hi
  deriving DecidableEq

/-- The ten steps. -/
inductive Stp | a0 | a1 | a2 | b1 | b2 | c1 | c2 | d0 | d1 | d2
  deriving DecidableEq

abbrev accM : Memref sig .tc .vmem S16x128x1024 .bf16 := Memref.whole cc0_scratch4

/-- The shape a step's block has. -/
@[reducible] def shp : Stp → Shape
  | .a0 | .a1 | .a2 | .d0 | .d1 | .d2 => S4x128x512
  | .b1 | .c2 => S2x128x512
  | .b2 | .c1 => S128x512

/-- The block a device sends in a step: a slice of its own accumulator. -/
@[reducible] def src (c : Dev nD) : (ln : Lane) → (s : Stp) → Memref sig .tc .vmem (shp s) .bf16
  | .lo, .a0 => accM.slice (Rect.unit (s := S16x128x1024) (k0_off3 c 0#32) S4x128x512.size (k0_off3_inb c 0)) (fun _ => rfl)
  | .lo, .a1 => accM.slice (Rect.unit (s := S16x128x1024) (k0_off3 c 1#32) S4x128x512.size (k0_off3_inb c 1)) (fun _ => rfl)
  | .lo, .a2 => accM.slice (Rect.unit (s := S16x128x1024) (k0_off3 c 2#32) S4x128x512.size (k0_off3_inb c 2)) (fun _ => rfl)
  | .lo, .b1 => accM.slice (Rect.unit (s := S16x128x1024) (k0_off7 c) S2x128x512.size (k0_off7_inb c)) (fun _ => rfl)
  | .lo, .b2 => (accM.slice (Rect.unit (s := S16x128x1024) (k0_off11 c) S1x128x512.size (k0_off11_inb c)) (fun _ => rfl)).squeeze S128x512 squeezes_S1x128x512_S128x512
  | .lo, .c1 => (accM.slice (Rect.unit (s := S16x128x1024) (k0_off15 c) S1x128x512.size (k0_off15_inb c)) (fun _ => rfl)).squeeze S128x512 squeezes_S1x128x512_S128x512
  | .lo, .c2 => accM.slice (Rect.unit (s := S16x128x1024) (k0_off17 c) S2x128x512.size (k0_off17_inb c)) (fun _ => rfl)
  | .lo, .d0 => accM.slice (Rect.unit (s := S16x128x1024) (k0_off19 c 0#32) S4x128x512.size (k0_off19_inb c 0)) (fun _ => rfl)
  | .lo, .d1 => accM.slice (Rect.unit (s := S16x128x1024) (k0_off19 c 1#32) S4x128x512.size (k0_off19_inb c 1)) (fun _ => rfl)
  | .lo, .d2 => accM.slice (Rect.unit (s := S16x128x1024) (k0_off19 c 2#32) S4x128x512.size (k0_off19_inb c 2)) (fun _ => rfl)
  | .hi, .a0 => accM.slice (Rect.unit (s := S16x128x1024) (k0_off4 c 0#32) S4x128x512.size (k0_off4_inb c 0)) (fun _ => rfl)
  | .hi, .a1 => accM.slice (Rect.unit (s := S16x128x1024) (k0_off4 c 1#32) S4x128x512.size (k0_off4_inb c 1)) (fun _ => rfl)
  | .hi, .a2 => accM.slice (Rect.unit (s := S16x128x1024) (k0_off4 c 2#32) S4x128x512.size (k0_off4_inb c 2)) (fun _ => rfl)
  | .hi, .b1 => accM.slice (Rect.unit (s := S16x128x1024) (k0_off8 c) S2x128x512.size (k0_off8_inb c)) (fun _ => rfl)
  | .hi, .b2 => (accM.slice (Rect.unit (s := S16x128x1024) (k0_off12 c) S1x128x512.size (k0_off12_inb c)) (fun _ => rfl)).squeeze S128x512 squeezes_S1x128x512_S128x512
  | .hi, .c1 => (accM.slice (Rect.unit (s := S16x128x1024) (k0_off16 c) S1x128x512.size (k0_off16_inb c)) (fun _ => rfl)).squeeze S128x512 squeezes_S1x128x512_S128x512
  | .hi, .c2 => accM.slice (Rect.unit (s := S16x128x1024) (k0_off18 c) S2x128x512.size (k0_off18_inb c)) (fun _ => rfl)
  | .hi, .d0 => accM.slice (Rect.unit (s := S16x128x1024) (k0_off20 c 0#32) S4x128x512.size (k0_off20_inb c 0)) (fun _ => rfl)
  | .hi, .d1 => accM.slice (Rect.unit (s := S16x128x1024) (k0_off20 c 1#32) S4x128x512.size (k0_off20_inb c 1)) (fun _ => rfl)
  | .hi, .d2 => accM.slice (Rect.unit (s := S16x128x1024) (k0_off20 c 2#32) S4x128x512.size (k0_off20_inb c 2)) (fun _ => rfl)

/-- Where the block lands on the device it is sent to: a receive buffer in the first five steps, the same slice of
    the accumulator in the last five. -/
@[reducible] def dst (c : Dev nD) : (ln : Lane) → (s : Stp) → Memref sig .tc .vmem (shp s) .bf16
  | .lo, .a0 => ((Memref.whole cc0_scratch5).slice (Rect.unit (s := S3x4x128x512) ![0, 0, 0, 0] S1x4x128x512.size inb_S3x4x128x512_S1x4x128x512_0_0_0_0) (fun _ => rfl)).squeeze S4x128x512 squeezes_S1x4x128x512_S4x128x512
  | .lo, .a1 => ((Memref.whole cc0_scratch5).slice (Rect.unit (s := S3x4x128x512) ![1, 0, 0, 0] S1x4x128x512.size inb_S3x4x128x512_S1x4x128x512_1_0_0_0) (fun _ => rfl)).squeeze S4x128x512 squeezes_S1x4x128x512_S4x128x512
  | .lo, .a2 => ((Memref.whole cc0_scratch5).slice (Rect.unit (s := S3x4x128x512) ![2, 0, 0, 0] S1x4x128x512.size inb_S3x4x128x512_S1x4x128x512_2_0_0_0) (fun _ => rfl)).squeeze S4x128x512 squeezes_S1x4x128x512_S4x128x512
  | .lo, .b1 => Memref.whole cc0_scratch7
  | .lo, .b2 => Memref.whole cc0_scratch9
  | .lo, .c1 => (accM.slice (Rect.unit (s := S16x128x1024) (k0_off15 c) S1x128x512.size (k0_off15_inb c)) (fun _ => rfl)).squeeze S128x512 squeezes_S1x128x512_S128x512
  | .lo, .c2 => accM.slice (Rect.unit (s := S16x128x1024) (k0_off17 c) S2x128x512.size (k0_off17_inb c)) (fun _ => rfl)
  | .lo, .d0 => accM.slice (Rect.unit (s := S16x128x1024) (k0_off19 c 0#32) S4x128x512.size (k0_off19_inb c 0)) (fun _ => rfl)
  | .lo, .d1 => accM.slice (Rect.unit (s := S16x128x1024) (k0_off19 c 1#32) S4x128x512.size (k0_off19_inb c 1)) (fun _ => rfl)
  | .lo, .d2 => accM.slice (Rect.unit (s := S16x128x1024) (k0_off19 c 2#32) S4x128x512.size (k0_off19_inb c 2)) (fun _ => rfl)
  | .hi, .a0 => ((Memref.whole cc0_scratch6).slice (Rect.unit (s := S3x4x128x512) ![0, 0, 0, 0] S1x4x128x512.size inb_S3x4x128x512_S1x4x128x512_0_0_0_0) (fun _ => rfl)).squeeze S4x128x512 squeezes_S1x4x128x512_S4x128x512
  | .hi, .a1 => ((Memref.whole cc0_scratch6).slice (Rect.unit (s := S3x4x128x512) ![1, 0, 0, 0] S1x4x128x512.size inb_S3x4x128x512_S1x4x128x512_1_0_0_0) (fun _ => rfl)).squeeze S4x128x512 squeezes_S1x4x128x512_S4x128x512
  | .hi, .a2 => ((Memref.whole cc0_scratch6).slice (Rect.unit (s := S3x4x128x512) ![2, 0, 0, 0] S1x4x128x512.size inb_S3x4x128x512_S1x4x128x512_2_0_0_0) (fun _ => rfl)).squeeze S4x128x512 squeezes_S1x4x128x512_S4x128x512
  | .hi, .b1 => Memref.whole cc0_scratch8
  | .hi, .b2 => Memref.whole cc0_scratch10
  | .hi, .c1 => (accM.slice (Rect.unit (s := S16x128x1024) (k0_off16 c) S1x128x512.size (k0_off16_inb c)) (fun _ => rfl)).squeeze S128x512 squeezes_S1x128x512_S128x512
  | .hi, .c2 => accM.slice (Rect.unit (s := S16x128x1024) (k0_off18 c) S2x128x512.size (k0_off18_inb c)) (fun _ => rfl)
  | .hi, .d0 => accM.slice (Rect.unit (s := S16x128x1024) (k0_off20 c 0#32) S4x128x512.size (k0_off20_inb c 0)) (fun _ => rfl)
  | .hi, .d1 => accM.slice (Rect.unit (s := S16x128x1024) (k0_off20 c 1#32) S4x128x512.size (k0_off20_inb c 1)) (fun _ => rfl)
  | .hi, .d2 => accM.slice (Rect.unit (s := S16x128x1024) (k0_off20 c 2#32) S4x128x512.size (k0_off20_inb c 2)) (fun _ => rfl)

theorem src_we (c : Dev nD) : (ln : Lane) → (s : Stp) → (src c ln s).view.WordExact
  | .lo, .a0 => (Memref.isWhole_whole _).wordExact_slice rfl _ (k0_off3_wordsbf16 c 0)
  | .lo, .a1 => (Memref.isWhole_whole _).wordExact_slice rfl _ (k0_off3_wordsbf16 c 1)
  | .lo, .a2 => (Memref.isWhole_whole _).wordExact_slice rfl _ (k0_off3_wordsbf16 c 2)
  | .lo, .b1 => (Memref.isWhole_whole _).wordExact_slice rfl _ (k0_off7_wordsbf16 c)
  | .lo, .b2 => ((Memref.isWhole_whole _).wordExact_slice rfl _ (k0_off11_wordsbf16 c)).reshape _ _
  | .lo, .c1 => ((Memref.isWhole_whole _).wordExact_slice rfl _ (k0_off15_wordsbf16 c)).reshape _ _
  | .lo, .c2 => (Memref.isWhole_whole _).wordExact_slice rfl _ (k0_off17_wordsbf16 c)
  | .lo, .d0 => (Memref.isWhole_whole _).wordExact_slice rfl _ (k0_off19_wordsbf16 c 0)
  | .lo, .d1 => (Memref.isWhole_whole _).wordExact_slice rfl _ (k0_off19_wordsbf16 c 1)
  | .lo, .d2 => (Memref.isWhole_whole _).wordExact_slice rfl _ (k0_off19_wordsbf16 c 2)
  | .hi, .a0 => (Memref.isWhole_whole _).wordExact_slice rfl _ (k0_off4_wordsbf16 c 0)
  | .hi, .a1 => (Memref.isWhole_whole _).wordExact_slice rfl _ (k0_off4_wordsbf16 c 1)
  | .hi, .a2 => (Memref.isWhole_whole _).wordExact_slice rfl _ (k0_off4_wordsbf16 c 2)
  | .hi, .b1 => (Memref.isWhole_whole _).wordExact_slice rfl _ (k0_off8_wordsbf16 c)
  | .hi, .b2 => ((Memref.isWhole_whole _).wordExact_slice rfl _ (k0_off12_wordsbf16 c)).reshape _ _
  | .hi, .c1 => ((Memref.isWhole_whole _).wordExact_slice rfl _ (k0_off16_wordsbf16 c)).reshape _ _
  | .hi, .c2 => (Memref.isWhole_whole _).wordExact_slice rfl _ (k0_off18_wordsbf16 c)
  | .hi, .d0 => (Memref.isWhole_whole _).wordExact_slice rfl _ (k0_off20_wordsbf16 c 0)
  | .hi, .d1 => (Memref.isWhole_whole _).wordExact_slice rfl _ (k0_off20_wordsbf16 c 1)
  | .hi, .d2 => (Memref.isWhole_whole _).wordExact_slice rfl _ (k0_off20_wordsbf16 c 2)

theorem dst_we (c : Dev nD) : (ln : Lane) → (s : Stp) → (dst c ln s).view.WordExact
  | .lo, .a0 => ((Memref.isWhole_whole _).wordExact_slice rfl _ wordsbf16_S3x4x128x512_S1x4x128x512_0_0_0_0).reshape _ _
  | .lo, .a1 => ((Memref.isWhole_whole _).wordExact_slice rfl _ wordsbf16_S3x4x128x512_S1x4x128x512_1_0_0_0).reshape _ _
  | .lo, .a2 => ((Memref.isWhole_whole _).wordExact_slice rfl _ wordsbf16_S3x4x128x512_S1x4x128x512_2_0_0_0).reshape _ _
  | .lo, .b1 => (Memref.isWhole_whole _).wordExact
  | .lo, .b2 => (Memref.isWhole_whole _).wordExact
  | .lo, .c1 => ((Memref.isWhole_whole _).wordExact_slice rfl _ (k0_off15_wordsbf16 c)).reshape _ _
  | .lo, .c2 => (Memref.isWhole_whole _).wordExact_slice rfl _ (k0_off17_wordsbf16 c)
  | .lo, .d0 => (Memref.isWhole_whole _).wordExact_slice rfl _ (k0_off19_wordsbf16 c 0)
  | .lo, .d1 => (Memref.isWhole_whole _).wordExact_slice rfl _ (k0_off19_wordsbf16 c 1)
  | .lo, .d2 => (Memref.isWhole_whole _).wordExact_slice rfl _ (k0_off19_wordsbf16 c 2)
  | .hi, .a0 => ((Memref.isWhole_whole _).wordExact_slice rfl _ wordsbf16_S3x4x128x512_S1x4x128x512_0_0_0_0).reshape _ _
  | .hi, .a1 => ((Memref.isWhole_whole _).wordExact_slice rfl _ wordsbf16_S3x4x128x512_S1x4x128x512_1_0_0_0).reshape _ _
  | .hi, .a2 => ((Memref.isWhole_whole _).wordExact_slice rfl _ wordsbf16_S3x4x128x512_S1x4x128x512_2_0_0_0).reshape _ _
  | .hi, .b1 => (Memref.isWhole_whole _).wordExact
  | .hi, .b2 => (Memref.isWhole_whole _).wordExact
  | .hi, .c1 => ((Memref.isWhole_whole _).wordExact_slice rfl _ (k0_off16_wordsbf16 c)).reshape _ _
  | .hi, .c2 => (Memref.isWhole_whole _).wordExact_slice rfl _ (k0_off18_wordsbf16 c)
  | .hi, .d0 => (Memref.isWhole_whole _).wordExact_slice rfl _ (k0_off20_wordsbf16 c 0)
  | .hi, .d1 => (Memref.isWhole_whole _).wordExact_slice rfl _ (k0_off20_wordsbf16 c 1)
  | .hi, .d2 => (Memref.isWhole_whole _).wordExact_slice rfl _ (k0_off20_wordsbf16 c 2)

theorem dst_sc (c : Dev nD) (ln : Lane) (s : Stp) : (dst c ln s).view.ref.isScScratch = false := by
  cases ln <;> cases s <;> rfl

/-- The device a block is sent to, as the kernel computes it. -/
@[reducible] def dev (c : Dev nD) : Lane → Stp → Dev nD
  | .lo, .a0 => ⟨k0_dev5 c, k0_dev5_lt c⟩
  | .lo, .a1 => ⟨k0_dev7 c, k0_dev7_lt c⟩
  | .lo, .a2 => ⟨k0_dev9 c, k0_dev9_lt c⟩
  | .lo, .b1 => ⟨k0_dev11 c, k0_dev11_lt c⟩
  | .lo, .b2 => ⟨k0_dev13 c, k0_dev13_lt c⟩
  | .lo, .c1 => ⟨k0_dev15 c, k0_dev15_lt c⟩
  | .lo, .c2 => ⟨k0_dev17 c, k0_dev17_lt c⟩
  | .lo, .d0 => ⟨k0_dev19 c, k0_dev19_lt c⟩
  | .lo, .d1 => ⟨k0_dev21 c, k0_dev21_lt c⟩
  | .lo, .d2 => ⟨k0_dev23 c, k0_dev23_lt c⟩
  | .hi, .a0 => ⟨k0_dev6 c, k0_dev6_lt c⟩
  | .hi, .a1 => ⟨k0_dev8 c, k0_dev8_lt c⟩
  | .hi, .a2 => ⟨k0_dev10 c, k0_dev10_lt c⟩
  | .hi, .b1 => ⟨k0_dev12 c, k0_dev12_lt c⟩
  | .hi, .b2 => ⟨k0_dev14 c, k0_dev14_lt c⟩
  | .hi, .c1 => ⟨k0_dev16 c, k0_dev16_lt c⟩
  | .hi, .c2 => ⟨k0_dev18 c, k0_dev18_lt c⟩
  | .hi, .d0 => ⟨k0_dev20 c, k0_dev20_lt c⟩
  | .hi, .d1 => ⟨k0_dev22 c, k0_dev22_lt c⟩
  | .hi, .d2 => ⟨k0_dev24 c, k0_dev24_lt c⟩

/-- The semaphore a lane's sends complete on. -/
@[reducible] def ssem : Lane → DmaSem sig
  | .lo => cc0_scratch23.sem
  | .hi => cc0_scratch24.sem

/-- The semaphore a step's arrival completes on. -/
@[reducible] def rsem : Lane → Stp → DmaSem sig
  | .lo, .a0 => ((cc0_scratch11.slice (Rect.unit (s := S3) ![0] S1.size inb_S3_S1_0)).squeeze S_ squeezes_S1_S_).sem
  | .lo, .a1 => ((cc0_scratch11.slice (Rect.unit (s := S3) ![1] S1.size inb_S3_S1_1)).squeeze S_ squeezes_S1_S_).sem
  | .lo, .a2 => ((cc0_scratch11.slice (Rect.unit (s := S3) ![2] S1.size inb_S3_S1_2)).squeeze S_ squeezes_S1_S_).sem
  | .lo, .b1 => cc0_scratch13.sem
  | .lo, .b2 => cc0_scratch15.sem
  | .lo, .c1 => cc0_scratch17.sem
  | .lo, .c2 => cc0_scratch19.sem
  | .lo, .d0 => ((cc0_scratch21.slice (Rect.unit (s := S3) ![0] S1.size inb_S3_S1_0)).squeeze S_ squeezes_S1_S_).sem
  | .lo, .d1 => ((cc0_scratch21.slice (Rect.unit (s := S3) ![1] S1.size inb_S3_S1_1)).squeeze S_ squeezes_S1_S_).sem
  | .lo, .d2 => ((cc0_scratch21.slice (Rect.unit (s := S3) ![2] S1.size inb_S3_S1_2)).squeeze S_ squeezes_S1_S_).sem
  | .hi, .a0 => ((cc0_scratch12.slice (Rect.unit (s := S3) ![0] S1.size inb_S3_S1_0)).squeeze S_ squeezes_S1_S_).sem
  | .hi, .a1 => ((cc0_scratch12.slice (Rect.unit (s := S3) ![1] S1.size inb_S3_S1_1)).squeeze S_ squeezes_S1_S_).sem
  | .hi, .a2 => ((cc0_scratch12.slice (Rect.unit (s := S3) ![2] S1.size inb_S3_S1_2)).squeeze S_ squeezes_S1_S_).sem
  | .hi, .b1 => cc0_scratch14.sem
  | .hi, .b2 => cc0_scratch16.sem
  | .hi, .c1 => cc0_scratch18.sem
  | .hi, .c2 => cc0_scratch20.sem
  | .hi, .d0 => ((cc0_scratch22.slice (Rect.unit (s := S3) ![0] S1.size inb_S3_S1_0)).squeeze S_ squeezes_S1_S_).sem
  | .hi, .d1 => ((cc0_scratch22.slice (Rect.unit (s := S3) ![1] S1.size inb_S3_S1_1)).squeeze S_ squeezes_S1_S_).sem
  | .hi, .d2 => ((cc0_scratch22.slice (Rect.unit (s := S3) ![2] S1.size inb_S3_S1_2)).squeeze S_ squeezes_S1_S_).sem

/-- One send. -/
@[reducible] def sendOp (c : Dev nD) (ln : Lane) (s : Stp) : TpuEff nD τ sig (Elt F) Λ₀ .tc PUnit :=
  .enqueueDma (src c ln s) (.remote (Dev.tc (dev c ln s)) (dst c ln s) (.dma (ssem ln)) (dst_sc c ln s)) (.dma (rsem ln s))
    (src_we c ln s) (dst_we c ln s) ⟨⟨rfl, Or.inl rfl⟩, trivial⟩
/-- The wait for a lane's send. -/
@[reducible] def waitS (c : Dev nD) (ln : Lane) (s : Stp) : TpuEff nD τ sig (Elt F) Λ₀ .tc PUnit :=
  .waitDma2 (ssem ln) (dst c ln s) (src c ln s) (dst_we c ln s) (src_we c ln s)
/-- The wait for a lane's arrival. -/
@[reducible] def waitR (c : Dev nD) (ln : Lane) (s : Stp) : TpuEff nD τ sig (Elt F) Λ₀ .tc PUnit :=
  .waitDma2 (rsem ln s) (src c ln s) (dst c ln s) (src_we c ln s) (dst_we c ln s)

/-- The two sends and four waits of a step. -/
@[reducible] def talkStep (c : Dev nD) (s : Stp) (k : Prog (TpuEff nD τ sig (Elt F) Λ₀ .tc) PUnit) : Prog (TpuEff nD τ sig (Elt F) Λ₀ .tc) PUnit :=
  .op (sendOp c .lo s) fun _ => .op (sendOp c .hi s) fun _ => .op (waitS c .lo s) fun _ => .op (waitR c .lo s) fun _ =>
  .op (waitS c .hi s) fun _ => .op (waitR c .hi s) fun _ => k

/-- The two additions after step `a0`. -/
@[reducible] def add_a0 (c : Dev nD) (k : Prog (TpuEff nD τ sig (Elt F) Λ₀ .tc) PUnit) : Prog (TpuEff nD τ sig (Elt F) Λ₀ .tc) PUnit :=
  .op (.load accM (Rect.unit (s := S16x128x1024) (k0_off5 c 0#32) S4x128x512.size (k0_off5_inb c 0)).toLoadRect (View.loadsAt_vmem h_S4x128x512)) fun (v : Vec F S4x128x512 .bf16) =>
  .op (.load (Memref.whole cc0_scratch5 : Memref sig .tc .vmem _ .bf16) (Rect.unit (s := S3x4x128x512) ![0, 0, 0, 0] S1x4x128x512.size inb_S3x4x128x512_S1x4x128x512_0_0_0_0).toLoadRect (View.loadsAt_vmem h_S1x4x128x512)) fun (w : Vec F S1x4x128x512 .bf16) =>
  .op (.load accM (Rect.unit (s := S16x128x1024) (k0_off5 c 0#32) S4x128x512.size (k0_off5_inb c 0)).toLoadRect (View.loadsAt_vmem h_S4x128x512)) fun (_ : Vec F S4x128x512 .bf16) =>
  .op (.store accM (Rect.unit (s := S16x128x1024) (k0_off5 c 0#32) S4x128x512.size (k0_off5_inb c 0)) (k0_pay125 v w) Finset.univ (View.stores_vmem h_S4x128x512 ((Memref.isWhole_whole _).storeExact_slice rfl _ (k0_off5_packedbf16 c 0)) (fun _ => rfl)) (.inl rfl)) fun _ =>
  .op (.load accM (Rect.unit (s := S16x128x1024) (k0_off6 c 0#32) S4x128x512.size (k0_off6_inb c 0)).toLoadRect (View.loadsAt_vmem h_S4x128x512)) fun (v : Vec F S4x128x512 .bf16) =>
  .op (.load (Memref.whole cc0_scratch6 : Memref sig .tc .vmem _ .bf16) (Rect.unit (s := S3x4x128x512) ![0, 0, 0, 0] S1x4x128x512.size inb_S3x4x128x512_S1x4x128x512_0_0_0_0).toLoadRect (View.loadsAt_vmem h_S1x4x128x512)) fun (w : Vec F S1x4x128x512 .bf16) =>
  .op (.load accM (Rect.unit (s := S16x128x1024) (k0_off6 c 0#32) S4x128x512.size (k0_off6_inb c 0)).toLoadRect (View.loadsAt_vmem h_S4x128x512)) fun (_ : Vec F S4x128x512 .bf16) =>
  .op (.store accM (Rect.unit (s := S16x128x1024) (k0_off6 c 0#32) S4x128x512.size (k0_off6_inb c 0)) (k0_pay126 v w) Finset.univ (View.stores_vmem h_S4x128x512 ((Memref.isWhole_whole _).storeExact_slice rfl _ (k0_off6_packedbf16 c 0)) (fun _ => rfl)) (.inl rfl)) fun _ =>
  k

/-- The two additions after step `a1`. -/
@[reducible] def add_a1 (c : Dev nD) (k : Prog (TpuEff nD τ sig (Elt F) Λ₀ .tc) PUnit) : Prog (TpuEff nD τ sig (Elt F) Λ₀ .tc) PUnit :=
  .op (.load accM (Rect.unit (s := S16x128x1024) (k0_off5 c 1#32) S4x128x512.size (k0_off5_inb c 1)).toLoadRect (View.loadsAt_vmem h_S4x128x512)) fun (v : Vec F S4x128x512 .bf16) =>
  .op (.load (Memref.whole cc0_scratch5 : Memref sig .tc .vmem _ .bf16) (Rect.unit (s := S3x4x128x512) ![1, 0, 0, 0] S1x4x128x512.size inb_S3x4x128x512_S1x4x128x512_1_0_0_0).toLoadRect (View.loadsAt_vmem h_S1x4x128x512)) fun (w : Vec F S1x4x128x512 .bf16) =>
  .op (.load accM (Rect.unit (s := S16x128x1024) (k0_off5 c 1#32) S4x128x512.size (k0_off5_inb c 1)).toLoadRect (View.loadsAt_vmem h_S4x128x512)) fun (_ : Vec F S4x128x512 .bf16) =>
  .op (.store accM (Rect.unit (s := S16x128x1024) (k0_off5 c 1#32) S4x128x512.size (k0_off5_inb c 1)) (k0_pay127 v w) Finset.univ (View.stores_vmem h_S4x128x512 ((Memref.isWhole_whole _).storeExact_slice rfl _ (k0_off5_packedbf16 c 1)) (fun _ => rfl)) (.inl rfl)) fun _ =>
  .op (.load accM (Rect.unit (s := S16x128x1024) (k0_off6 c 1#32) S4x128x512.size (k0_off6_inb c 1)).toLoadRect (View.loadsAt_vmem h_S4x128x512)) fun (v : Vec F S4x128x512 .bf16) =>
  .op (.load (Memref.whole cc0_scratch6 : Memref sig .tc .vmem _ .bf16) (Rect.unit (s := S3x4x128x512) ![1, 0, 0, 0] S1x4x128x512.size inb_S3x4x128x512_S1x4x128x512_1_0_0_0).toLoadRect (View.loadsAt_vmem h_S1x4x128x512)) fun (w : Vec F S1x4x128x512 .bf16) =>
  .op (.load accM (Rect.unit (s := S16x128x1024) (k0_off6 c 1#32) S4x128x512.size (k0_off6_inb c 1)).toLoadRect (View.loadsAt_vmem h_S4x128x512)) fun (_ : Vec F S4x128x512 .bf16) =>
  .op (.store accM (Rect.unit (s := S16x128x1024) (k0_off6 c 1#32) S4x128x512.size (k0_off6_inb c 1)) (k0_pay128 v w) Finset.univ (View.stores_vmem h_S4x128x512 ((Memref.isWhole_whole _).storeExact_slice rfl _ (k0_off6_packedbf16 c 1)) (fun _ => rfl)) (.inl rfl)) fun _ =>
  k

/-- The two additions after step `a2`. -/
@[reducible] def add_a2 (c : Dev nD) (k : Prog (TpuEff nD τ sig (Elt F) Λ₀ .tc) PUnit) : Prog (TpuEff nD τ sig (Elt F) Λ₀ .tc) PUnit :=
  .op (.load accM (Rect.unit (s := S16x128x1024) (k0_off5 c 2#32) S4x128x512.size (k0_off5_inb c 2)).toLoadRect (View.loadsAt_vmem h_S4x128x512)) fun (v : Vec F S4x128x512 .bf16) =>
  .op (.load (Memref.whole cc0_scratch5 : Memref sig .tc .vmem _ .bf16) (Rect.unit (s := S3x4x128x512) ![2, 0, 0, 0] S1x4x128x512.size inb_S3x4x128x512_S1x4x128x512_2_0_0_0).toLoadRect (View.loadsAt_vmem h_S1x4x128x512)) fun (w : Vec F S1x4x128x512 .bf16) =>
  .op (.load accM (Rect.unit (s := S16x128x1024) (k0_off5 c 2#32) S4x128x512.size (k0_off5_inb c 2)).toLoadRect (View.loadsAt_vmem h_S4x128x512)) fun (_ : Vec F S4x128x512 .bf16) =>
  .op (.store accM (Rect.unit (s := S16x128x1024) (k0_off5 c 2#32) S4x128x512.size (k0_off5_inb c 2)) (k0_pay129 v w) Finset.univ (View.stores_vmem h_S4x128x512 ((Memref.isWhole_whole _).storeExact_slice rfl _ (k0_off5_packedbf16 c 2)) (fun _ => rfl)) (.inl rfl)) fun _ =>
  .op (.load accM (Rect.unit (s := S16x128x1024) (k0_off6 c 2#32) S4x128x512.size (k0_off6_inb c 2)).toLoadRect (View.loadsAt_vmem h_S4x128x512)) fun (v : Vec F S4x128x512 .bf16) =>
  .op (.load (Memref.whole cc0_scratch6 : Memref sig .tc .vmem _ .bf16) (Rect.unit (s := S3x4x128x512) ![2, 0, 0, 0] S1x4x128x512.size inb_S3x4x128x512_S1x4x128x512_2_0_0_0).toLoadRect (View.loadsAt_vmem h_S1x4x128x512)) fun (w : Vec F S1x4x128x512 .bf16) =>
  .op (.load accM (Rect.unit (s := S16x128x1024) (k0_off6 c 2#32) S4x128x512.size (k0_off6_inb c 2)).toLoadRect (View.loadsAt_vmem h_S4x128x512)) fun (_ : Vec F S4x128x512 .bf16) =>
  .op (.store accM (Rect.unit (s := S16x128x1024) (k0_off6 c 2#32) S4x128x512.size (k0_off6_inb c 2)) (k0_pay130 v w) Finset.univ (View.stores_vmem h_S4x128x512 ((Memref.isWhole_whole _).storeExact_slice rfl _ (k0_off6_packedbf16 c 2)) (fun _ => rfl)) (.inl rfl)) fun _ =>
  k

/-- The two additions after step `b1`. -/
@[reducible] def add_b1 (c : Dev nD) (k : Prog (TpuEff nD τ sig (Elt F) Λ₀ .tc) PUnit) : Prog (TpuEff nD τ sig (Elt F) Λ₀ .tc) PUnit :=
  .op (.load accM (Rect.unit (s := S16x128x1024) (k0_off9 c) S2x128x512.size (k0_off9_inb c)).toLoadRect (View.loadsAt_vmem h_S2x128x512)) fun (v : Vec F S2x128x512 .bf16) =>
  .op (.load (Memref.whole cc0_scratch7 : Memref sig .tc .vmem _ .bf16) (Rect.unit (s := S2x128x512) ![0, 0, 0] S2x128x512.size inb_S2x128x512_S2x128x512_0_0_0).toLoadRect (View.loadsAt_vmem h_S2x128x512)) fun (w : Vec F S2x128x512 .bf16) =>
  .op (.load accM (Rect.unit (s := S16x128x1024) (k0_off9 c) S2x128x512.size (k0_off9_inb c)).toLoadRect (View.loadsAt_vmem h_S2x128x512)) fun (_ : Vec F S2x128x512 .bf16) =>
  .op (.store accM (Rect.unit (s := S16x128x1024) (k0_off9 c) S2x128x512.size (k0_off9_inb c)) (k0_pay131 v w) Finset.univ (View.stores_vmem h_S2x128x512 ((Memref.isWhole_whole _).storeExact_slice rfl _ (k0_off9_packedbf16 c)) (fun _ => rfl)) (.inl rfl)) fun _ =>
  .op (.load accM (Rect.unit (s := S16x128x1024) (k0_off10 c) S2x128x512.size (k0_off10_inb c)).toLoadRect (View.loadsAt_vmem h_S2x128x512)) fun (v : Vec F S2x128x512 .bf16) =>
  .op (.load (Memref.whole cc0_scratch8 : Memref sig .tc .vmem _ .bf16) (Rect.unit (s := S2x128x512) ![0, 0, 0] S2x128x512.size inb_S2x128x512_S2x128x512_0_0_0).toLoadRect (View.loadsAt_vmem h_S2x128x512)) fun (w : Vec F S2x128x512 .bf16) =>
  .op (.load accM (Rect.unit (s := S16x128x1024) (k0_off10 c) S2x128x512.size (k0_off10_inb c)).toLoadRect (View.loadsAt_vmem h_S2x128x512)) fun (_ : Vec F S2x128x512 .bf16) =>
  .op (.store accM (Rect.unit (s := S16x128x1024) (k0_off10 c) S2x128x512.size (k0_off10_inb c)) (k0_pay132 v w) Finset.univ (View.stores_vmem h_S2x128x512 ((Memref.isWhole_whole _).storeExact_slice rfl _ (k0_off10_packedbf16 c)) (fun _ => rfl)) (.inl rfl)) fun _ =>
  k

/-- The two additions after step `b2`. -/
@[reducible] def add_b2 (c : Dev nD) (k : Prog (TpuEff nD τ sig (Elt F) Λ₀ .tc) PUnit) : Prog (TpuEff nD τ sig (Elt F) Λ₀ .tc) PUnit :=
  .op (.load accM (Rect.unit (s := S16x128x1024) (k0_off13 c) S1x128x512.size (k0_off13_inb c)).toLoadRect (View.loadsAt_vmem h_S1x128x512)) fun (v : Vec F S1x128x512 .bf16) =>
  .op (.load (Memref.whole cc0_scratch9 : Memref sig .tc .vmem _ .bf16) (Rect.unit (s := S128x512) ![0, 0] S128x512.size inb_S128x512_S128x512_0_0).toLoadRect (View.loadsAt_vmem h_S128x512)) fun (w : Vec F S128x512 .bf16) =>
  .op (.load accM (Rect.unit (s := S16x128x1024) (k0_off13 c) S1x128x512.size (k0_off13_inb c)).toLoadRect (View.loadsAt_vmem h_S1x128x512)) fun (_ : Vec F S1x128x512 .bf16) =>
  .op (.store accM (Rect.unit (s := S16x128x1024) (k0_off13 c) S1x128x512.size (k0_off13_inb c)) (k0_pay133 v w) Finset.univ (View.stores_vmem h_S1x128x512 ((Memref.isWhole_whole _).storeExact_slice rfl _ (k0_off13_packedbf16 c)) (fun _ => rfl)) (.inl rfl)) fun _ =>
  .op (.load accM (Rect.unit (s := S16x128x1024) (k0_off14 c) S1x128x512.size (k0_off14_inb c)).toLoadRect (View.loadsAt_vmem h_S1x128x512)) fun (v : Vec F S1x128x512 .bf16) =>
  .op (.load (Memref.whole cc0_scratch10 : Memref sig .tc .vmem _ .bf16) (Rect.unit (s := S128x512) ![0, 0] S128x512.size inb_S128x512_S128x512_0_0).toLoadRect (View.loadsAt_vmem h_S128x512)) fun (w : Vec F S128x512 .bf16) =>
  .op (.load accM (Rect.unit (s := S16x128x1024) (k0_off14 c) S1x128x512.size (k0_off14_inb c)).toLoadRect (View.loadsAt_vmem h_S1x128x512)) fun (_ : Vec F S1x128x512 .bf16) =>
  .op (.store accM (Rect.unit (s := S16x128x1024) (k0_off14 c) S1x128x512.size (k0_off14_inb c)) (k0_pay134 v w) Finset.univ (View.stores_vmem h_S1x128x512 ((Memref.isWhole_whole _).storeExact_slice rfl _ (k0_off14_packedbf16 c)) (fun _ => rfl)) (.inl rfl)) fun _ =>
  k

/-! ## The attention before the exchange -/

abbrev xM : Memref sig .tc .vmem S2048x1024 .f32 := Memref.whole cc0_stg0_0
abbrev kM : Memref sig .tc .vmem S8x2048x128 .f32 := Memref.whole cc0_stg1_0
abbrev vM : Memref sig .tc .vmem S8x2048x128 .f32 := Memref.whole cc0_stg2_0
abbrev oM : Memref sig .tc .vmem S16x128x1024 .f32 := Memref.whole cc0_stg3_0
abbrev wqM : Memref sig .tc .vmem S1024x1024 .f32 := Memref.whole cc0_scratch0
abbrev woM : Memref sig .tc .vmem S1024x1024 .f32 := Memref.whole cc0_scratch1

/-- A block of the finished sum and its place in the accumulator. -/
structure Tile (F : FTy → Type) where
  o : Fin 3 → Nat
  inb : ∀ a, o a + S1x64x1024.size a ≤ S16x128x1024.size a
  pk : (Rect.unit (s := S16x128x1024) o S1x64x1024.size inb).PackedRows (EltTy.packing .bf16)
  v : Vec F S1x64x1024 .bf16

/-- 704 keys of a head. -/
@[reducible] def rk704 (h : Fin 8) (o : Nat) (hi : ∀ a, (![h.val, o, 0] : Fin 3 → Nat) a + S1x704x128.size a ≤ S8x2048x128.size a) : Rect S8x2048x128 :=
  Rect.unit (s := S8x2048x128) ![h.val, o, 0] S1x704x128.size hi
/-- 640 keys of a head. -/
@[reducible] def rk640 (h : Fin 8) (o : Nat) (hi : ∀ a, (![h.val, o, 0] : Fin 3 → Nat) a + S1x640x128.size a ≤ S8x2048x128.size a) : Rect S8x2048x128 :=
  Rect.unit (s := S8x2048x128) ![h.val, o, 0] S1x640x128.size hi
/-- 64 keys of a head. -/
@[reducible] def rk64 (h : Fin 8) (o : Nat) (hi : ∀ a, (![h.val, o, 0] : Fin 3 → Nat) a + S1x64x128.size a ≤ S8x2048x128.size a) : Rect S8x2048x128 :=
  Rect.unit (s := S8x2048x128) ![h.val, o, 0] S1x64x128.size hi
/-- The rows of the output weights a head meets. -/
@[reducible] def rw (h : Fin 8) : Rect S1024x1024 :=
  Rect.unit (s := S1024x1024) ![128 * h.val, 0] S128x1024.size (by revert h; decide)

/-- The rows of group 0 of one head's queries. -/
def qs0 (q : FVec F S2048x1024 .f32) (h : Fin 8) : FVec F S704x128 .f32 :=
  extractStridedSlice S704x128 ![0, 128 * h.val] q (by revert h; decide)

/-- The softmax over the columns. -/
def sm0 (s : FVec F S704x704 .f32) : FVec F S704x704 .f32 :=
  have mx : FVec F S704 .f32 := multiReduction .maximumf [1] S704 s 0xFF800000#32 reduces_S704x704_S704 (.inl rfl) rfl
  have e : FVec F S704x704 .f32 := exp (subf s (broadcastTo S704x704 (shapeCast S704x1 mx shapeCasts_S704_S704x1) broadcasts_S704x1_S704x704))
  have z : FVec F S704 .f32 := multiReduction .add [1] S704 e 0x00000000#32 reduces_S704x704_S704 (.inl rfl) rfl
  divf e (broadcastTo S704x704 (shapeCast S704x1 z shapeCasts_S704_S704x1) broadcasts_S704x1_S704x704)

/-- The scaled scores of group 0: its keys are its own blocks. -/
def sc0 (qh : FVec F S704x128 .f32) (kk : Vec F S1x704x128 .f32) : FVec F S704x704 .f32 :=
  mulf (matmul dot_S704x128_S704x128_S704x704_1_1_0_0_n_n none qh (shapeCast S704x128 kk shapeCasts_S1x704x128_S704x128) (constant S704x704 .f32 0x00000000#32)) (broadcast S704x704 (Scalar.ofBits .f32 0x3DB504F3#32))

/-- The context of one head, group 0. -/
def ctx0 (qh : FVec F S704x128 .f32) (kk vv : Vec F S1x704x128 .f32) : FVec F S704x128 .f32 :=
  matmul dot_S704x704_S704x128_S704x128_1_0_0_1_n_n none (sm0 (sc0 qh kk)) (shapeCast S704x128 vv shapeCasts_S1x704x128_S704x128) (constant S704x128 .f32 0x00000000#32)

/-- One head added to the sum, group 0. -/
def upd0 (q : FVec F S2048x1024 .f32) (h : Fin 8) (acc : FVec F S704x1024 .f32) (kk vv : Vec F S1x704x128 .f32) (ww : Vec F S128x1024 .f32) : FVec F S704x1024 .f32 :=
  addf acc (matmul dot_S704x128_S128x1024_S704x1024_1_0_0_1_n_n none (ctx0 (qs0 q h) kk vv) ww (constant S704x1024 .f32 0x00000000#32))

/-- The empty sum, group 0. -/
def zero0 : FVec F S704x1024 .f32 := broadcast S704x1024 (Scalar.ofBits .f32 0x00000000#32)

/-- Block `j` of the sum of group 0, as it is stored. -/
def tile0 (acc : FVec F S704x1024 .f32) (j : Fin 11) : Vec F S1x64x1024 .bf16 :=
  shapeCast S1x64x1024 (truncf .bf16 (extractStridedSlice S64x1024 ![64 * j.val, 0] acc (by revert j; decide)) bitsLt_bf16_f32) shapeCasts_S64x1024_S1x64x1024

/-- The blocks of group 0 with their places in the accumulator. -/
def tiles0 (acc : FVec F S704x1024 .f32) : List (Tile F) :=
  [⟨![0, 0, 0], inb_S16x128x1024_S1x64x1024_0_0_0, packedbf16_S16x128x1024_S1x64x1024_0_0_0, tile0 acc 0⟩,
    ⟨![1, 64, 0], inb_S16x128x1024_S1x64x1024_1_64_0, packedbf16_S16x128x1024_S1x64x1024_1_64_0, tile0 acc 1⟩,
    ⟨![3, 0, 0], inb_S16x128x1024_S1x64x1024_3_0_0, packedbf16_S16x128x1024_S1x64x1024_3_0_0, tile0 acc 2⟩,
    ⟨![4, 64, 0], inb_S16x128x1024_S1x64x1024_4_64_0, packedbf16_S16x128x1024_S1x64x1024_4_64_0, tile0 acc 3⟩,
    ⟨![6, 0, 0], inb_S16x128x1024_S1x64x1024_6_0_0, packedbf16_S16x128x1024_S1x64x1024_6_0_0, tile0 acc 4⟩,
    ⟨![7, 64, 0], inb_S16x128x1024_S1x64x1024_7_64_0, packedbf16_S16x128x1024_S1x64x1024_7_64_0, tile0 acc 5⟩,
    ⟨![9, 0, 0], inb_S16x128x1024_S1x64x1024_9_0_0, packedbf16_S16x128x1024_S1x64x1024_9_0_0, tile0 acc 6⟩,
    ⟨![10, 64, 0], inb_S16x128x1024_S1x64x1024_10_64_0, packedbf16_S16x128x1024_S1x64x1024_10_64_0, tile0 acc 7⟩,
    ⟨![12, 0, 0], inb_S16x128x1024_S1x64x1024_12_0_0, packedbf16_S16x128x1024_S1x64x1024_12_0_0, tile0 acc 8⟩,
    ⟨![13, 64, 0], inb_S16x128x1024_S1x64x1024_13_64_0, packedbf16_S16x128x1024_S1x64x1024_13_64_0, tile0 acc 9⟩,
    ⟨![15, 0, 0], inb_S16x128x1024_S1x64x1024_15_0_0, packedbf16_S16x128x1024_S1x64x1024_15_0_0, tile0 acc 10⟩]

/-- The loads of the heads of group 0, each followed by its addition. -/
def heads0 (q : FVec F S2048x1024 .f32) : List (Fin 8) → FVec F S704x1024 .f32 → (FVec F S704x1024 .f32 → Prog (TpuEff nD τ sig (Elt F) Λ₀ .tc) PUnit) → Prog (TpuEff nD τ sig (Elt F) Λ₀ .tc) PUnit
  | [], acc, k => k acc
  | h :: hs, acc, k =>
    .op (.load kM (rk704 h 0 (by revert h; decide)).toLoadRect (View.loadsAt_vmem h_S1x704x128)) fun (kk : Vec F S1x704x128 .f32) =>
    .op (.load vM (rk704 h 0 (by revert h; decide)).toLoadRect (View.loadsAt_vmem h_S1x704x128)) fun (vv : Vec F S1x704x128 .f32) =>
    .op (.load woM (rw h).toLoadRect (View.loadsAt_vmem h_S128x1024)) fun (ww : Vec F S128x1024 .f32) =>
    heads0 q hs (upd0 q h acc kk vv ww) k

/-- The rows of group 1 of one head's queries. -/
def qs1 (q : FVec F S2048x1024 .f32) (h : Fin 8) : FVec F S704x128 .f32 :=
  extractStridedSlice S704x128 ![704, 128 * h.val] q (by revert h; decide)

/-- The softmax over the columns. -/
def sm1 (s : FVec F S704x768 .f32) : FVec F S704x768 .f32 :=
  have mx : FVec F S704 .f32 := multiReduction .maximumf [1] S704 s 0xFF800000#32 reduces_S704x768_S704 (.inl rfl) rfl
  have e : FVec F S704x768 .f32 := exp (subf s (broadcastTo S704x768 (shapeCast S704x1 mx shapeCasts_S704_S704x1) broadcasts_S704x1_S704x768))
  have z : FVec F S704 .f32 := multiReduction .add [1] S704 e 0x00000000#32 reduces_S704x768_S704 (.inl rfl) rfl
  divf e (broadcastTo S704x768 (shapeCast S704x1 z shapeCasts_S704_S704x1) broadcasts_S704x1_S704x768)

/-- The scaled scores of group 1: its own keys, then block 0, then the block on the diagonal. -/
def sc1 (qh : FVec F S704x128 .f32) (kk : Vec F S1x640x128 .f32) (k0 : Vec F S1x64x128 .f32) (kd : Vec F S1x704x128 .f32) : FVec F S704x768 .f32 :=
  concatenate S704x768 1 [⟨S704x640, mulf (matmul dot_S704x128_S640x128_S704x640_1_1_0_0_n_n none qh (shapeCast S640x128 kk shapeCasts_S1x640x128_S640x128) (constant S704x640 .f32 0x00000000#32)) (broadcast S704x640 (Scalar.ofBits .f32 0x3DB504F3#32))⟩,
    ⟨S704x64, mulf (matmul dot_S704x128_S64x128_S704x64_1_1_0_0_n_n none qh (shapeCast S64x128 k0 shapeCasts_S1x64x128_S64x128) (constant S704x64 .f32 0x00000000#32)) (broadcast S704x64 (Scalar.ofBits .f32 0x3DB504F3#32))⟩,
    ⟨S704x64, shapeCast S704x64 (mulf (matmul dot_S11x64x128_S11x64x128_S11x64x64_2_2_1_1_0_0 none (shapeCast S11x64x128 qh shapeCasts_S704x128_S11x64x128) (shapeCast S11x64x128 (shapeCast S704x128 kd shapeCasts_S1x704x128_S704x128) shapeCasts_S704x128_S11x64x128) (constant S11x64x64 .f32 0x00000000#32)) (broadcast S11x64x64 (Scalar.ofBits .f32 0x3DB504F3#32))) shapeCasts_S11x64x64_S704x64⟩] concatenates_S704x640_S704x64_S704x64_S704x768_d1

/-- The weighted sum of values, group 1. -/
def wv1 (w : FVec F S704x768 .f32) (vv : Vec F S1x640x128 .f32) (v0 : Vec F S1x64x128 .f32) (vd : Vec F S1x704x128 .f32) : FVec F S704x128 .f32 :=
  addf (addf (matmul dot_S704x640_S640x128_S704x128_1_0_0_1_n_n none (extractStridedSlice S704x640 ![0, 0] w slices_S704x768_o0_0_S704x640) (shapeCast S640x128 vv shapeCasts_S1x640x128_S640x128) (constant S704x128 .f32 0x00000000#32))
      (matmul dot_S704x64_S64x128_S704x128_1_0_0_1_n_n none (extractStridedSlice S704x64 ![0, 640] w slices_S704x768_o0_640_S704x64) (shapeCast S64x128 v0 shapeCasts_S1x64x128_S64x128) (constant S704x128 .f32 0x00000000#32)))
    (shapeCast S704x128 (matmul dot_S11x64x64_S11x64x128_S11x64x128_2_1_1_2_0_0 none (shapeCast S11x64x64 (extractStridedSlice S704x64 ![0, 704] w slices_S704x768_o0_704_S704x64) shapeCasts_S704x64_S11x64x64)
      (shapeCast S11x64x128 (shapeCast S704x128 vd shapeCasts_S1x704x128_S704x128) shapeCasts_S704x128_S11x64x128) (constant S11x64x128 .f32 0x00000000#32)) shapeCasts_S11x64x128_S704x128)

/-- The context of one head, group 1. -/
def ctx1 (qh : FVec F S704x128 .f32) (kk : Vec F S1x640x128 .f32) (k0 : Vec F S1x64x128 .f32) (kd : Vec F S1x704x128 .f32) (vv : Vec F S1x640x128 .f32) (v0 : Vec F S1x64x128 .f32) (vd : Vec F S1x704x128 .f32) : FVec F S704x128 .f32 :=
  wv1 (sm1 (sc1 qh kk k0 kd)) vv v0 vd

/-- One head added to the sum, group 1. -/
def upd1 (q : FVec F S2048x1024 .f32) (h : Fin 8) (acc : FVec F S704x1024 .f32) (kk : Vec F S1x640x128 .f32) (k0 : Vec F S1x64x128 .f32) (kd : Vec F S1x704x128 .f32) (vv : Vec F S1x640x128 .f32) (v0 : Vec F S1x64x128 .f32) (vd : Vec F S1x704x128 .f32) (ww : Vec F S128x1024 .f32) : FVec F S704x1024 .f32 :=
  addf acc (matmul dot_S704x128_S128x1024_S704x1024_1_0_0_1_n_n none (ctx1 (qs1 q h) kk k0 kd vv v0 vd) ww (constant S704x1024 .f32 0x00000000#32))

/-- The empty sum, group 1. -/
def zero1 : FVec F S704x1024 .f32 := broadcast S704x1024 (Scalar.ofBits .f32 0x00000000#32)

/-- Block `j` of the sum of group 1, as it is stored. -/
def tile1 (acc : FVec F S704x1024 .f32) (j : Fin 11) : Vec F S1x64x1024 .bf16 :=
  shapeCast S1x64x1024 (truncf .bf16 (extractStridedSlice S64x1024 ![64 * j.val, 0] acc (by revert j; decide)) bitsLt_bf16_f32) shapeCasts_S64x1024_S1x64x1024

/-- The blocks of group 1 with their places in the accumulator. -/
def tiles1 (acc : FVec F S704x1024 .f32) : List (Tile F) :=
  [⟨![0, 64, 0], inb_S16x128x1024_S1x64x1024_0_64_0, packedbf16_S16x128x1024_S1x64x1024_0_64_0, tile1 acc 0⟩,
    ⟨![2, 0, 0], inb_S16x128x1024_S1x64x1024_2_0_0, packedbf16_S16x128x1024_S1x64x1024_2_0_0, tile1 acc 1⟩,
    ⟨![3, 64, 0], inb_S16x128x1024_S1x64x1024_3_64_0, packedbf16_S16x128x1024_S1x64x1024_3_64_0, tile1 acc 2⟩,
    ⟨![5, 0, 0], inb_S16x128x1024_S1x64x1024_5_0_0, packedbf16_S16x128x1024_S1x64x1024_5_0_0, tile1 acc 3⟩,
    ⟨![6, 64, 0], inb_S16x128x1024_S1x64x1024_6_64_0, packedbf16_S16x128x1024_S1x64x1024_6_64_0, tile1 acc 4⟩,
    ⟨![8, 0, 0], inb_S16x128x1024_S1x64x1024_8_0_0, packedbf16_S16x128x1024_S1x64x1024_8_0_0, tile1 acc 5⟩,
    ⟨![9, 64, 0], inb_S16x128x1024_S1x64x1024_9_64_0, packedbf16_S16x128x1024_S1x64x1024_9_64_0, tile1 acc 6⟩,
    ⟨![11, 0, 0], inb_S16x128x1024_S1x64x1024_11_0_0, packedbf16_S16x128x1024_S1x64x1024_11_0_0, tile1 acc 7⟩,
    ⟨![12, 64, 0], inb_S16x128x1024_S1x64x1024_12_64_0, packedbf16_S16x128x1024_S1x64x1024_12_64_0, tile1 acc 8⟩,
    ⟨![14, 0, 0], inb_S16x128x1024_S1x64x1024_14_0_0, packedbf16_S16x128x1024_S1x64x1024_14_0_0, tile1 acc 9⟩,
    ⟨![15, 64, 0], inb_S16x128x1024_S1x64x1024_15_64_0, packedbf16_S16x128x1024_S1x64x1024_15_64_0, tile1 acc 10⟩]

/-- The loads of the heads of group 1, each followed by its addition. -/
def heads1 (q : FVec F S2048x1024 .f32) : List (Fin 8) → FVec F S704x1024 .f32 → (FVec F S704x1024 .f32 → Prog (TpuEff nD τ sig (Elt F) Λ₀ .tc) PUnit) → Prog (TpuEff nD τ sig (Elt F) Λ₀ .tc) PUnit
  | [], acc, k => k acc
  | h :: hs, acc, k =>
    .op (.load kM (rk640 h 1408 (by revert h; decide)).toLoadRect (View.loadsAt_vmem h_S1x640x128)) fun (kk : Vec F S1x640x128 .f32) =>
    .op (.load kM (rk64 h 0 (by revert h; decide)).toLoadRect (View.loadsAt_vmem h_S1x64x128)) fun (k0 : Vec F S1x64x128 .f32) =>
    .op (.load kM (rk704 h 704 (by revert h; decide)).toLoadRect (View.loadsAt_vmem h_S1x704x128)) fun (kd : Vec F S1x704x128 .f32) =>
    .op (.load vM (rk640 h 1408 (by revert h; decide)).toLoadRect (View.loadsAt_vmem h_S1x640x128)) fun (vv : Vec F S1x640x128 .f32) =>
    .op (.load vM (rk64 h 0 (by revert h; decide)).toLoadRect (View.loadsAt_vmem h_S1x64x128)) fun (v0 : Vec F S1x64x128 .f32) =>
    .op (.load vM (rk704 h 704 (by revert h; decide)).toLoadRect (View.loadsAt_vmem h_S1x704x128)) fun (vd : Vec F S1x704x128 .f32) =>
    .op (.load woM (rw h).toLoadRect (View.loadsAt_vmem h_S128x1024)) fun (ww : Vec F S128x1024 .f32) =>
    heads1 q hs (upd1 q h acc kk k0 kd vv v0 vd ww) k

/-- The rows of group 2 of one head's queries. -/
def qs2 (q : FVec F S2048x1024 .f32) (h : Fin 8) : FVec F S640x128 .f32 :=
  extractStridedSlice S640x128 ![1408, 128 * h.val] q (by revert h; decide)

/-- The softmax over the columns. -/
def sm2 (s : FVec F S640x832 .f32) : FVec F S640x832 .f32 :=
  have mx : FVec F S640 .f32 := multiReduction .maximumf [1] S640 s 0xFF800000#32 reduces_S640x832_S640 (.inl rfl) rfl
  have e : FVec F S640x832 .f32 := exp (subf s (broadcastTo S640x832 (shapeCast S640x1 mx shapeCasts_S640_S640x1) broadcasts_S640x1_S640x832))
  have z : FVec F S640 .f32 := multiReduction .add [1] S640 e 0x00000000#32 reduces_S640x832_S640 (.inl rfl) rfl
  divf e (broadcastTo S640x832 (shapeCast S640x1 z shapeCasts_S640_S640x1) broadcasts_S640x1_S640x832)

/-- The scaled scores of group 2: its own keys, then block 0, then the block on the diagonal. -/
def sc2 (qh : FVec F S640x128 .f32) (kk : Vec F S1x704x128 .f32) (k0 : Vec F S1x64x128 .f32) (kd : Vec F S1x640x128 .f32) : FVec F S640x832 .f32 :=
  concatenate S640x832 1 [⟨S640x704, mulf (matmul dot_S640x128_S704x128_S640x704_1_1_0_0_n_n none qh (shapeCast S704x128 kk shapeCasts_S1x704x128_S704x128) (constant S640x704 .f32 0x00000000#32)) (broadcast S640x704 (Scalar.ofBits .f32 0x3DB504F3#32))⟩,
    ⟨S640x64, mulf (matmul dot_S640x128_S64x128_S640x64_1_1_0_0_n_n none qh (shapeCast S64x128 k0 shapeCasts_S1x64x128_S64x128) (constant S640x64 .f32 0x00000000#32)) (broadcast S640x64 (Scalar.ofBits .f32 0x3DB504F3#32))⟩,
    ⟨S640x64, shapeCast S640x64 (mulf (matmul dot_S10x64x128_S10x64x128_S10x64x64_2_2_1_1_0_0 none (shapeCast S10x64x128 qh shapeCasts_S640x128_S10x64x128) (shapeCast S10x64x128 (shapeCast S640x128 kd shapeCasts_S1x640x128_S640x128) shapeCasts_S640x128_S10x64x128) (constant S10x64x64 .f32 0x00000000#32)) (broadcast S10x64x64 (Scalar.ofBits .f32 0x3DB504F3#32))) shapeCasts_S10x64x64_S640x64⟩] concatenates_S640x704_S640x64_S640x64_S640x832_d1

/-- The weighted sum of values, group 2. -/
def wv2 (w : FVec F S640x832 .f32) (vv : Vec F S1x704x128 .f32) (v0 : Vec F S1x64x128 .f32) (vd : Vec F S1x640x128 .f32) : FVec F S640x128 .f32 :=
  addf (addf (matmul dot_S640x704_S704x128_S640x128_1_0_0_1_n_n none (extractStridedSlice S640x704 ![0, 0] w slices_S640x832_o0_0_S640x704) (shapeCast S704x128 vv shapeCasts_S1x704x128_S704x128) (constant S640x128 .f32 0x00000000#32))
      (matmul dot_S640x64_S64x128_S640x128_1_0_0_1_n_n none (extractStridedSlice S640x64 ![0, 704] w slices_S640x832_o0_704_S640x64) (shapeCast S64x128 v0 shapeCasts_S1x64x128_S64x128) (constant S640x128 .f32 0x00000000#32)))
    (shapeCast S640x128 (matmul dot_S10x64x64_S10x64x128_S10x64x128_2_1_1_2_0_0 none (shapeCast S10x64x64 (extractStridedSlice S640x64 ![0, 768] w slices_S640x832_o0_768_S640x64) shapeCasts_S640x64_S10x64x64)
      (shapeCast S10x64x128 (shapeCast S640x128 vd shapeCasts_S1x640x128_S640x128) shapeCasts_S640x128_S10x64x128) (constant S10x64x128 .f32 0x00000000#32)) shapeCasts_S10x64x128_S640x128)

/-- The context of one head, group 2. -/
def ctx2 (qh : FVec F S640x128 .f32) (kk : Vec F S1x704x128 .f32) (k0 : Vec F S1x64x128 .f32) (kd : Vec F S1x640x128 .f32) (vv : Vec F S1x704x128 .f32) (v0 : Vec F S1x64x128 .f32) (vd : Vec F S1x640x128 .f32) : FVec F S640x128 .f32 :=
  wv2 (sm2 (sc2 qh kk k0 kd)) vv v0 vd

/-- One head added to the sum, group 2. -/
def upd2 (q : FVec F S2048x1024 .f32) (h : Fin 8) (acc : FVec F S640x1024 .f32) (kk : Vec F S1x704x128 .f32) (k0 : Vec F S1x64x128 .f32) (kd : Vec F S1x640x128 .f32) (vv : Vec F S1x704x128 .f32) (v0 : Vec F S1x64x128 .f32) (vd : Vec F S1x640x128 .f32) (ww : Vec F S128x1024 .f32) : FVec F S640x1024 .f32 :=
  addf acc (matmul dot_S640x128_S128x1024_S640x1024_1_0_0_1_n_n none (ctx2 (qs2 q h) kk k0 kd vv v0 vd) ww (constant S640x1024 .f32 0x00000000#32))

/-- The empty sum, group 2. -/
def zero2 : FVec F S640x1024 .f32 := broadcast S640x1024 (Scalar.ofBits .f32 0x00000000#32)

/-- Block `j` of the sum of group 2, as it is stored. -/
def tile2 (acc : FVec F S640x1024 .f32) (j : Fin 10) : Vec F S1x64x1024 .bf16 :=
  shapeCast S1x64x1024 (truncf .bf16 (extractStridedSlice S64x1024 ![64 * j.val, 0] acc (by revert j; decide)) bitsLt_bf16_f32) shapeCasts_S64x1024_S1x64x1024

/-- The blocks of group 2 with their places in the accumulator. -/
def tiles2 (acc : FVec F S640x1024 .f32) : List (Tile F) :=
  [⟨![1, 0, 0], inb_S16x128x1024_S1x64x1024_1_0_0, packedbf16_S16x128x1024_S1x64x1024_1_0_0, tile2 acc 0⟩,
    ⟨![2, 64, 0], inb_S16x128x1024_S1x64x1024_2_64_0, packedbf16_S16x128x1024_S1x64x1024_2_64_0, tile2 acc 1⟩,
    ⟨![4, 0, 0], inb_S16x128x1024_S1x64x1024_4_0_0, packedbf16_S16x128x1024_S1x64x1024_4_0_0, tile2 acc 2⟩,
    ⟨![5, 64, 0], inb_S16x128x1024_S1x64x1024_5_64_0, packedbf16_S16x128x1024_S1x64x1024_5_64_0, tile2 acc 3⟩,
    ⟨![7, 0, 0], inb_S16x128x1024_S1x64x1024_7_0_0, packedbf16_S16x128x1024_S1x64x1024_7_0_0, tile2 acc 4⟩,
    ⟨![8, 64, 0], inb_S16x128x1024_S1x64x1024_8_64_0, packedbf16_S16x128x1024_S1x64x1024_8_64_0, tile2 acc 5⟩,
    ⟨![10, 0, 0], inb_S16x128x1024_S1x64x1024_10_0_0, packedbf16_S16x128x1024_S1x64x1024_10_0_0, tile2 acc 6⟩,
    ⟨![11, 64, 0], inb_S16x128x1024_S1x64x1024_11_64_0, packedbf16_S16x128x1024_S1x64x1024_11_64_0, tile2 acc 7⟩,
    ⟨![13, 0, 0], inb_S16x128x1024_S1x64x1024_13_0_0, packedbf16_S16x128x1024_S1x64x1024_13_0_0, tile2 acc 8⟩,
    ⟨![14, 64, 0], inb_S16x128x1024_S1x64x1024_14_64_0, packedbf16_S16x128x1024_S1x64x1024_14_64_0, tile2 acc 9⟩]

/-- The loads of the heads of group 2, each followed by its addition. -/
def heads2 (q : FVec F S2048x1024 .f32) : List (Fin 8) → FVec F S640x1024 .f32 → (FVec F S640x1024 .f32 → Prog (TpuEff nD τ sig (Elt F) Λ₀ .tc) PUnit) → Prog (TpuEff nD τ sig (Elt F) Λ₀ .tc) PUnit
  | [], acc, k => k acc
  | h :: hs, acc, k =>
    .op (.load kM (rk704 h 704 (by revert h; decide)).toLoadRect (View.loadsAt_vmem h_S1x704x128)) fun (kk : Vec F S1x704x128 .f32) =>
    .op (.load kM (rk64 h 0 (by revert h; decide)).toLoadRect (View.loadsAt_vmem h_S1x64x128)) fun (k0 : Vec F S1x64x128 .f32) =>
    .op (.load kM (rk640 h 1408 (by revert h; decide)).toLoadRect (View.loadsAt_vmem h_S1x640x128)) fun (kd : Vec F S1x640x128 .f32) =>
    .op (.load vM (rk704 h 704 (by revert h; decide)).toLoadRect (View.loadsAt_vmem h_S1x704x128)) fun (vv : Vec F S1x704x128 .f32) =>
    .op (.load vM (rk64 h 0 (by revert h; decide)).toLoadRect (View.loadsAt_vmem h_S1x64x128)) fun (v0 : Vec F S1x64x128 .f32) =>
    .op (.load vM (rk640 h 1408 (by revert h; decide)).toLoadRect (View.loadsAt_vmem h_S1x640x128)) fun (vd : Vec F S1x640x128 .f32) =>
    .op (.load woM (rw h).toLoadRect (View.loadsAt_vmem h_S128x1024)) fun (ww : Vec F S128x1024 .f32) =>
    heads2 q hs (upd2 q h acc kk k0 kd vv v0 vd ww) k

/-- The blocks stored one after another; each store is preceded by a load of the same place. -/
def storeTiles : List (Tile F) → Prog (TpuEff nD τ sig (Elt F) Λ₀ .tc) PUnit → Prog (TpuEff nD τ sig (Elt F) Λ₀ .tc) PUnit
  | [], k => k
  | t :: ts, k =>
    .op (.load accM (Rect.unit (s := S16x128x1024) t.o S1x64x1024.size t.inb).toLoadRect (View.loadsAt_vmem h_S1x64x1024)) fun (_ : Vec F S1x64x1024 .bf16) =>
    .op (.store accM (Rect.unit (s := S16x128x1024) t.o S1x64x1024.size t.inb) t.v Finset.univ (View.stores_vmem h_S1x64x1024 ((Memref.isWhole_whole _).storeExact_slice rfl _ t.pk) (fun _ => rfl)) (.inl rfl)) fun _ =>
    storeTiles ts k

/-- The eight heads. -/
def hs8 : List (Fin 8) := [0, 1, 2, 3, 4, 5, 6, 7]

/-- A device's columns of the query weights. -/
@[reducible] def wqS (c : Dev nD) : Memref sig .tc .hbm S1024x1024 .f32 :=
  (Memref.whole main_arg1 : Memref sig .tc .hbm S1024x16384 .f32).slice (Rect.unit (s := S1024x16384) (k0_off1 c) S1024x1024.size (k0_off1_inb c)) (fun _ => rfl)
/-- A device's rows of the output weights. -/
@[reducible] def woS (c : Dev nD) : Memref sig .tc .hbm S1024x1024 .f32 :=
  (Memref.whole main_arg4 : Memref sig .tc .hbm S16384x1024 .f32).slice (Rect.unit (s := S16384x1024) (k0_off2 c) S1024x1024.size (k0_off2_inb c)) (fun _ => rfl)

/-- The queries. -/
def proj (x : Vec F S2048x1024 .f32) (w : Vec F S1024x1024 .f32) : FVec F S2048x1024 .f32 :=
  matmul dot_S2048x1024_S1024x1024_S2048x1024_1_0_0_1_n_n none (shapeCast S2048x1024 x shapeCasts_S2048x1024_S2048x1024) w (constant S2048x1024 .f32 0x00000000#32)

/-- The attention, once the weights are in place: three groups of rows. -/
def groups (q : FVec F S2048x1024 .f32) (k : Prog (TpuEff nD τ sig (Elt F) Λ₀ .tc) PUnit) : Prog (TpuEff nD τ sig (Elt F) Λ₀ .tc) PUnit :=
  heads0 q hs8 zero0 fun a0 => storeTiles (tiles0 a0) <|
  heads1 q hs8 zero1 fun a1 => storeTiles (tiles1 a1) <|
  heads2 q hs8 zero2 fun a2 => storeTiles (tiles2 a2) k

/-- The fetch of the weights and the attention. -/
def attn (c : Dev nD) (k : Prog (TpuEff nD τ sig (Elt F) Λ₀ .tc) PUnit) : Prog (TpuEff nD τ sig (Elt F) Λ₀ .tc) PUnit :=
  .op (.enqueueDma (wqS c) (.here wqM) (.dma cc0_scratch2.sem) (View.wordExact_bits rfl) (Memref.isWhole_whole _).wordExact ⟨Or.inl rfl, trivial⟩) fun _ =>
  .op (.enqueueDma (woS c) (.here woM) (.dma cc0_scratch3.sem) (View.wordExact_bits rfl) (Memref.isWhole_whole _).wordExact ⟨Or.inl rfl, trivial⟩) fun _ =>
  .op (.waitDma2 cc0_scratch2.sem (wqS c) wqM (View.wordExact_bits rfl) (Memref.isWhole_whole _).wordExact) fun _ =>
  .op (.load xM (Rect.unit (s := S2048x1024) ![0, 0] S2048x1024.size inb_S2048x1024_S2048x1024_0_0).toLoadRect (View.loadsAt_vmem h_S2048x1024)) fun (x : Vec F S2048x1024 .f32) =>
  .op (.load wqM (Rect.unit (s := S1024x1024) ![0, 0] S1024x1024.size inb_S1024x1024_S1024x1024_0_0).toLoadRect (View.loadsAt_vmem h_S1024x1024)) fun (w : Vec F S1024x1024 .f32) =>
  .op (.waitDma2 cc0_scratch3.sem (woS c) woM (View.wordExact_bits rfl) (Memref.isWhole_whole _).wordExact) fun _ =>
  groups (proj x w) k

/-! ## The whole body -/

/-- The barrier's semaphore. -/
@[reducible] def barSem : Sem sig := (SemArray.scalar (sig.barrier 0 rfl) : Sems sig S_).sem

/-- The barrier: one signal to each of four partners, then four received. -/
def bar (c : Dev nD) (k : Prog (TpuEff nD τ sig (Elt F) Λ₀ .tc) PUnit) : Prog (TpuEff nD τ sig (Elt F) Λ₀ .tc) PUnit :=
  .op (.semSignal (Dev.tc ⟨k0_dev1 c, k0_dev1_lt c⟩) barSem 1) fun _ =>
  .op (.semSignal (Dev.tc ⟨k0_dev2 c, k0_dev2_lt c⟩) barSem 1) fun _ =>
  .op (.semSignal (Dev.tc ⟨k0_dev3 c, k0_dev3_lt c⟩) barSem 1) fun _ =>
  .op (.semSignal (Dev.tc ⟨k0_dev4 c, k0_dev4_lt c⟩) barSem 1) fun _ =>
  .op (.semWait barSem 4) fun _ => k

/-- The last part: the accumulator, widened, is the result. -/
def fin (k : Prog (TpuEff nD τ sig (Elt F) Λ₀ .tc) PUnit) : Prog (TpuEff nD τ sig (Elt F) Λ₀ .tc) PUnit :=
  .op (.load accM (Rect.unit (s := S16x128x1024) ![0, 0, 0] S16x128x1024.size inb_S16x128x1024_S16x128x1024_0_0_0).toLoadRect (View.loadsAt_vmem h_S16x128x1024)) fun (v : Vec F S16x128x1024 .bf16) =>
  .op (.load oM (Rect.unit (s := S16x128x1024) ![0, 0, 0] S16x128x1024.size inb_S16x128x1024_S16x128x1024_0_0_0).toLoadRect (View.loadsAt_vmem h_S16x128x1024)) fun (_ : Vec F S16x128x1024 .f32) =>
  .op (.store oM (Rect.unit (s := S16x128x1024) ![0, 0, 0] S16x128x1024.size inb_S16x128x1024_S16x128x1024_0_0_0) (extf .f32 v bitsLt_bf16_f32) Finset.univ (View.stores_vmem_bits_univ h_S16x128x1024 rfl) (.inl rfl)) fun _ => k

/-- The ten steps. -/
def exchange (c : Dev nD) (k : Prog (TpuEff nD τ sig (Elt F) Λ₀ .tc) PUnit) : Prog (TpuEff nD τ sig (Elt F) Λ₀ .tc) PUnit :=
  talkStep c .a0 <| add_a0 c <| talkStep c .a1 <| add_a1 c <| talkStep c .a2 <| add_a2 c <|
  talkStep c .b1 <| add_b1 c <| talkStep c .b2 <| add_b2 c <| talkStep c .c1 <| talkStep c .c2 <|
  talkStep c .d0 <| talkStep c .d1 <| talkStep c .d2 k

/-- The body at a device. -/
def bodyP : Prog (TpuEff nD τ sig (Elt F) Λ₀ .tc) PUnit :=
  .op .deviceId fun c => attn c <| bar c <| exchange c <| fin <| .ret ⟨⟩

set_option maxHeartbeats 4000000 in
/-- The printed body is these pieces in sequence. -/
theorem body_eq : bodyAt0 (F := F) t0_0 = bodyP (F := F) := by
  rfl

end Cert.KernelIdeal.Talk
-- ==== Proof.Geom.lean ====
module

public import proofs.«01_k».proof.Proof.Steps
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Which slots travel where, and what they hold

The accumulator has 16 slots of 128 rows. In each step a lane moves one run of slots to one other device. Here are the
runs and the devices in closed form, the part of the accumulator a device still has before each step, and the contents
of that part.
-/

/-- The first column of a lane. -/
def lane : Lane → ℕ | .lo => 0 | .hi => 512
/-- How many slots a step moves. -/
def cnt : Stp → ℕ
  | .a0 | .a1 | .a2 | .d0 | .d1 | .d2 => 4
  | .b1 | .c2 => 2
  | .b2 | .c1 => 1

/-- The right neighbour on the ring of a plane. -/
def rt (c : Dev nD) : Dev nD := ⟨c.val / 4 * 4 + (c.val % 4 + 1) % 4, by have := c.isLt; have h : nD = 16 := rfl; omega⟩
/-- The left neighbour on the ring of a plane. -/
def lf (c : Dev nD) : Dev nD := ⟨c.val / 4 * 4 + (c.val % 4 + 3) % 4, by have := c.isLt; have h : nD = 16 := rfl; omega⟩
/-- The partner across the low bit of the plane. -/
def z1 (c : Dev nD) : Dev nD := ⟨(c.val / 4 + 1 - 2 * (c.val / 4 % 2)) * 4 + c.val % 4, by have := c.isLt; have h : nD = 16 := rfl; omega⟩
/-- The partner across the high bit of the plane. -/
def z2 (c : Dev nD) : Dev nD := ⟨(c.val / 4 + 2 - 4 * (c.val / 4 / 2 % 2)) * 4 + c.val % 4, by have := c.isLt; have h : nD = 16 := rfl; omega⟩

/-- The device a lane's step sends to. -/
def tg (ln : Lane) (s : Stp) (c : Dev nD) : Dev nD :=
  match s with
  | .b1 | .c2 => z2 c
  | .b2 | .c1 => z1 c
  | _ => match ln with | .lo => rt c | .hi => lf c
/-- The device a lane's step receives from. -/
def fr (ln : Lane) (s : Stp) (c : Dev nD) : Dev nD :=
  match s with
  | .b1 | .c2 => z2 c
  | .b2 | .c1 => z1 c
  | _ => match ln with | .lo => lf c | .hi => rt c

theorem tg_fr (ln : Lane) (s : Stp) (c : Dev nD) : tg ln s (fr ln s c) = c := by
  cases ln <;> cases s <;> revert c <;> decide
theorem fr_tg (ln : Lane) (s : Stp) (c : Dev nD) : fr ln s (tg ln s c) = c := by
  cases ln <;> cases s <;> revert c <;> decide

theorem dev_eq (c : Dev nD) (ln : Lane) (s : Stp) : dev c ln s = tg ln s c := by
  cases ln <;> cases s <;> revert c <;> decide

/-- The first slot a step sends. -/
def so (ln : Lane) (s : Stp) (c : Dev nD) : ℕ :=
  let q := c.val % 4
  let k2 := 2 * (c.val / 4 / 2)
  let k1 := c.val / 4 % 2
  let u := match ln with | .lo => 4 * ((q + 1) % 4) | .hi => 4 * ((q + 3) % 4)
  match s with
  | .a0 => 4 * q
  | .a1 => match ln with | .lo => 4 * ((q + 3) % 4) | .hi => 4 * ((q + 1) % 4)
  | .a2 => 4 * ((q + 2) % 4)
  | .b1 => u + (2 - k2)
  | .b2 => u + k2 + (1 - k1)
  | .c1 => u + k2 + k1
  | .c2 => u + k2
  | .d0 => u
  | .d1 => 4 * q
  | .d2 => match ln with | .lo => 4 * ((q + 3) % 4) | .hi => 4 * ((q + 1) % 4)

/-- Where a step's block starts in the accumulator. -/
@[reducible] def off (c : Dev nD) : Lane → Stp → Fin 3 → ℕ
  | .lo, .a0 => k0_off3 c 0#32
  | .lo, .a1 => k0_off3 c 1#32
  | .lo, .a2 => k0_off3 c 2#32
  | .lo, .b1 => k0_off7 c
  | .lo, .b2 => k0_off11 c
  | .lo, .c1 => k0_off15 c
  | .lo, .c2 => k0_off17 c
  | .lo, .d0 => k0_off19 c 0#32
  | .lo, .d1 => k0_off19 c 1#32
  | .lo, .d2 => k0_off19 c 2#32
  | .hi, .a0 => k0_off4 c 0#32
  | .hi, .a1 => k0_off4 c 1#32
  | .hi, .a2 => k0_off4 c 2#32
  | .hi, .b1 => k0_off8 c
  | .hi, .b2 => k0_off12 c
  | .hi, .c1 => k0_off16 c
  | .hi, .c2 => k0_off18 c
  | .hi, .d0 => k0_off20 c 0#32
  | .hi, .d1 => k0_off20 c 1#32
  | .hi, .d2 => k0_off20 c 2#32

theorem off_eq (c : Dev nD) (ln : Lane) (s : Stp) : off c ln s = ![so ln s c, 0, lane ln] := by
  cases ln <;> cases s <;> revert c <;> decide

theorem addOff_lo_a0 (c : Dev nD) : k0_off5 c 0#32 = off (fr .lo .a0 c) .lo .a0 := by
  revert c; decide
theorem addOff_lo_a1 (c : Dev nD) : k0_off5 c 1#32 = off (fr .lo .a1 c) .lo .a1 := by
  revert c; decide
theorem addOff_lo_a2 (c : Dev nD) : k0_off5 c 2#32 = off (fr .lo .a2 c) .lo .a2 := by
  revert c; decide
theorem addOff_lo_b1 (c : Dev nD) : k0_off9 c = off (fr .lo .b1 c) .lo .b1 := by
  revert c; decide
theorem addOff_lo_b2 (c : Dev nD) : k0_off13 c = off (fr .lo .b2 c) .lo .b2 := by
  revert c; decide
theorem addOff_hi_a0 (c : Dev nD) : k0_off6 c 0#32 = off (fr .hi .a0 c) .hi .a0 := by
  revert c; decide
theorem addOff_hi_a1 (c : Dev nD) : k0_off6 c 1#32 = off (fr .hi .a1 c) .hi .a1 := by
  revert c; decide
theorem addOff_hi_a2 (c : Dev nD) : k0_off6 c 2#32 = off (fr .hi .a2 c) .hi .a2 := by
  revert c; decide
theorem addOff_hi_b1 (c : Dev nD) : k0_off10 c = off (fr .hi .b1 c) .hi .b1 := by
  revert c; decide
theorem addOff_hi_b2 (c : Dev nD) : k0_off14 c = off (fr .hi .b2 c) .hi .b2 := by
  revert c; decide

/-- A position of the accumulator. -/
abbrev AccIdx : Type := S16x128x1024.Idx
/-- Contents of the accumulator. -/
abbrev AccC (F : FTy → Type) : Type := S16x128x1024.Idx → Elt F .bf16

/-- The slot of a position. -/
@[reducible] def slot (i : AccIdx) : Fin 16 := i 0
/-- A position is in a lane. -/
@[reducible] def inLane (ln : Lane) (i : AccIdx) : Prop := lane ln ≤ (i 2).val ∧ (i 2).val < lane ln + 512

/-- The slots a step sends. -/
def sl (ln : Lane) (s : Stp) (c : Dev nD) : Finset (Fin 16) :=
  Finset.univ.filter fun j => so ln s c ≤ j.val ∧ j.val < so ln s c + cnt s
/-- The slots a step receives. -/
def rl (ln : Lane) (s : Stp) (c : Dev nD) : Finset (Fin 16) := sl ln s (fr ln s c)

/-- The positions of some slots in a lane. -/
def pc (S : Finset (Fin 16)) (ln : Lane) : Finset AccIdx := Finset.univ.filter fun i => slot i ∈ S ∧ inLane ln i

theorem mem_pc {S : Finset (Fin 16)} {ln : Lane} {i : AccIdx} : i ∈ pc S ln ↔ slot i ∈ S ∧ inLane ln i := by
  unfold pc; rw [Finset.mem_filter]; exact ⟨fun h => h.2, fun h => ⟨Finset.mem_univ _, h⟩⟩
theorem mem_sl {ln : Lane} {s : Stp} {c : Dev nD} {j : Fin 16} :
    j ∈ sl ln s c ↔ so ln s c ≤ j.val ∧ j.val < so ln s c + cnt s := by
  unfold sl; rw [Finset.mem_filter]; exact ⟨fun h => h.2, fun h => ⟨Finset.mem_univ _, h⟩⟩

theorem pc_mono {S T : Finset (Fin 16)} (h : S ⊆ T) (ln : Lane) : pc S ln ⊆ pc T ln := fun i hi =>
  mem_pc.mpr ⟨h (mem_pc.mp hi).1, (mem_pc.mp hi).2⟩
theorem pc_sdiff (S T : Finset (Fin 16)) (ln : Lane) : pc S ln \ pc T ln = pc (S \ T) ln := by
  ext i; rw [Finset.mem_sdiff, mem_pc, mem_pc, mem_pc, Finset.mem_sdiff]; tauto
theorem pc_union (S T : Finset (Fin 16)) (ln : Lane) : pc S ln ∪ pc T ln = pc (S ∪ T) ln := by
  ext i; rw [Finset.mem_union, mem_pc, mem_pc, mem_pc, Finset.mem_union]; tauto
theorem pc_disjoint {S T : Finset (Fin 16)} (h : Disjoint S T) (ln : Lane) : Disjoint (pc S ln) (pc T ln) :=
  Finset.disjoint_left.mpr fun i hi hj => Finset.disjoint_left.mp h (mem_pc.mp hi).1 (mem_pc.mp hj).1
theorem pc_lanes_disjoint (S T : Finset (Fin 16)) : Disjoint (pc S .lo) (pc T .hi) :=
  Finset.disjoint_left.mpr fun i hi hj => by
    have h1 := (mem_pc.mp hi).2.2; have h2 := (mem_pc.mp hj).2.1
    simp only [lane] at h1 h2; omega
theorem pc_lanes_union : pc Finset.univ .lo ∪ pc Finset.univ .hi = Finset.univ := by
  ext i
  have h : (i 2).val < 1024 := (i 2).isLt
  rw [Finset.mem_union, mem_pc, mem_pc]
  simp only [Finset.mem_univ, true_and, iff_true, inLane, lane]
  omega

/-- Where an element of a step's block is in the accumulator. -/
@[reducible] def emb (c : Dev nD) : (ln : Lane) → (s : Stp) → (shp s).Idx ↪ AccIdx
  | .lo, .a0 => (src c .lo .a0).view.emb
  | .lo, .a1 => (src c .lo .a1).view.emb
  | .lo, .a2 => (src c .lo .a2).view.emb
  | .lo, .b1 => (src c .lo .b1).view.emb
  | .lo, .b2 => (src c .lo .b2).view.emb
  | .lo, .c1 => (src c .lo .c1).view.emb
  | .lo, .c2 => (src c .lo .c2).view.emb
  | .lo, .d0 => (src c .lo .d0).view.emb
  | .lo, .d1 => (src c .lo .d1).view.emb
  | .lo, .d2 => (src c .lo .d2).view.emb
  | .hi, .a0 => (src c .hi .a0).view.emb
  | .hi, .a1 => (src c .hi .a1).view.emb
  | .hi, .a2 => (src c .hi .a2).view.emb
  | .hi, .b1 => (src c .hi .b1).view.emb
  | .hi, .b2 => (src c .hi .b2).view.emb
  | .hi, .c1 => (src c .hi .c1).view.emb
  | .hi, .c2 => (src c .hi .c2).view.emb
  | .hi, .d0 => (src c .hi .d0).view.emb
  | .hi, .d1 => (src c .hi .d1).view.emb
  | .hi, .d2 => (src c .hi .d2).view.emb

/-- A box of whole slots in one lane. -/
theorem box_pc {o : Fin 3 → ℕ} {sz : Fin 3 → ℕ} {hin} {a n : ℕ} {ln : Lane} (ho : o = ![a, 0, lane ln]) (hz : sz = ![n, 128, 512])
    {S : Finset (Fin 16)} (hS : ∀ j : Fin 16, j ∈ S ↔ a ≤ j.val ∧ j.val < a + n) :
    (Rect.unit (s := S16x128x1024) o sz hin).set = pc S ln := by
  subst ho; subst hz
  ext i
  have h1 : (i 1).val < 128 := (i 1).isLt
  rw [Rect.mem_set_unit, mem_pc, hS]
  simp only [Fin.forall_fin_succ, inLane, slot]
  simp
  intro _ _ _ _
  exact h1

theorem emb_set (c : Dev nD) (ln : Lane) (s : Stp) : Finset.univ.map (emb c ln s) = pc (sl ln s c) ln := by
  cases ln <;> cases s

  · exact (View.set_slice_whole _ _).trans (box_pc (off_eq c .lo .a0) rfl fun j => mem_sl)
  · exact (View.set_slice_whole _ _).trans (box_pc (off_eq c .lo .a1) rfl fun j => mem_sl)
  · exact (View.set_slice_whole _ _).trans (box_pc (off_eq c .lo .a2) rfl fun j => mem_sl)
  · exact (View.set_slice_whole _ _).trans (box_pc (off_eq c .lo .b1) rfl fun j => mem_sl)
  · exact (View.set_reshape _ _).trans ((View.set_slice_whole _ _).trans (box_pc (off_eq c .lo .b2) rfl fun j => mem_sl))
  · exact (View.set_reshape _ _).trans ((View.set_slice_whole _ _).trans (box_pc (off_eq c .lo .c1) rfl fun j => mem_sl))
  · exact (View.set_slice_whole _ _).trans (box_pc (off_eq c .lo .c2) rfl fun j => mem_sl)
  · exact (View.set_slice_whole _ _).trans (box_pc (off_eq c .lo .d0) rfl fun j => mem_sl)
  · exact (View.set_slice_whole _ _).trans (box_pc (off_eq c .lo .d1) rfl fun j => mem_sl)
  · exact (View.set_slice_whole _ _).trans (box_pc (off_eq c .lo .d2) rfl fun j => mem_sl)
  · exact (View.set_slice_whole _ _).trans (box_pc (off_eq c .hi .a0) rfl fun j => mem_sl)
  · exact (View.set_slice_whole _ _).trans (box_pc (off_eq c .hi .a1) rfl fun j => mem_sl)
  · exact (View.set_slice_whole _ _).trans (box_pc (off_eq c .hi .a2) rfl fun j => mem_sl)
  · exact (View.set_slice_whole _ _).trans (box_pc (off_eq c .hi .b1) rfl fun j => mem_sl)
  · exact (View.set_reshape _ _).trans ((View.set_slice_whole _ _).trans (box_pc (off_eq c .hi .b2) rfl fun j => mem_sl))
  · exact (View.set_reshape _ _).trans ((View.set_slice_whole _ _).trans (box_pc (off_eq c .hi .c1) rfl fun j => mem_sl))
  · exact (View.set_slice_whole _ _).trans (box_pc (off_eq c .hi .c2) rfl fun j => mem_sl)
  · exact (View.set_slice_whole _ _).trans (box_pc (off_eq c .hi .d0) rfl fun j => mem_sl)
  · exact (View.set_slice_whole _ _).trans (box_pc (off_eq c .hi .d1) rfl fun j => mem_sl)
  · exact (View.set_slice_whole _ _).trans (box_pc (off_eq c .hi .d2) rfl fun j => mem_sl)

theorem emb_mem (c : Dev nD) (ln : Lane) (s : Stp) (j : (shp s).Idx) : emb c ln s j ∈ pc (sl ln s c) ln :=
  emb_set c ln s ▸ Finset.mem_map_of_mem _ (Finset.mem_univ j)
theorem emb_surj (c : Dev nD) (ln : Lane) (s : Stp) {i : AccIdx} (h : i ∈ pc (sl ln s c) ln) : ∃ j, emb c ln s j = i := by
  rw [← emb_set, Finset.mem_map] at h
  exact ⟨h.choose, h.choose_spec.2⟩

/-- What a step's block reads from contents of the accumulator. -/
def rd (c : Dev nD) (ln : Lane) (s : Stp) (f : AccC F) : (shp s).Idx → Elt F .bf16 := fun j => f (emb c ln s j)

theorem rd_congr (c : Dev nD) (ln : Lane) (s : Stp) {f g : AccC F} (h : ∀ i ∈ pc (sl ln s c) ln, f i = g i) :
    rd c ln s f = rd c ln s g := funext fun j => h _ (emb_mem c ln s j)
theorem rd_inj (c : Dev nD) (ln : Lane) (s : Stp) {f g : AccC F} (h : rd c ln s f = rd c ln s g) :
    ∀ i ∈ pc (sl ln s c) ln, f i = g i := fun i hi => by
  obtain ⟨j, rfl⟩ := emb_surj c ln s hi
  exact congrFun h j

/-! ## The steps in order, what a device has, and what it holds -/

/-- A step's number. -/
def idx : Stp → ℕ
  | .a0 => 0 | .a1 => 1 | .a2 => 2 | .b1 => 3 | .b2 => 4 | .c1 => 5 | .c2 => 6 | .d0 => 7 | .d1 => 8 | .d2 => 9
/-- The step of a number. -/
def stp : ℕ → Stp
  | 0 => .a0 | 1 => .a1 | 2 => .a2 | 3 => .b1 | 4 => .b2 | 5 => .c1 | 6 => .c2 | 7 => .d0 | 8 => .d1 | _ => .d2
theorem stp_idx (s : Stp) : stp (idx s) = s := by cases s <;> rfl
theorem idx_lt (s : Stp) : idx s < 10 := by cases s <;> decide

/-- A step adds what arrives; the others copy it. -/
def adds : Stp → Bool
  | .a0 | .a1 | .a2 | .b1 | .b2 => true
  | _ => false

/-- The slots of its accumulator a device has after so many steps, in one lane. -/
def own (ln : Lane) : ℕ → Dev nD → Finset (Fin 16)
  | 0, _ => Finset.univ
  | k + 1, c => if adds (stp k) then own ln k c \ sl ln (stp k) c else own ln k c ∪ rl ln (stp k) c

theorem own_adds (ln : Lane) (s : Stp) (c : Dev nD) (h : adds s = true) : own ln (idx s + 1) c = own ln (idx s) c \ sl ln s c := by
  rw [own, stp_idx, if_pos h]
theorem own_copies (ln : Lane) (s : Stp) (c : Dev nD) (h : adds s = false) : own ln (idx s + 1) c = own ln (idx s) c ∪ rl ln s c := by
  rw [own, stp_idx, if_neg (by rw [h]; exact Bool.false_ne_true)]
theorem sl_sub (ln : Lane) (s : Stp) (c : Dev nD) : sl ln s c ⊆ own ln (idx s) c := by
  cases ln <;> cases s <;> revert c <;> decide +kernel
theorem rl_sub (ln : Lane) (s : Stp) (c : Dev nD) : rl ln s c ⊆ own ln (idx s + 1) c := by
  cases ln <;> cases s <;> revert c <;> decide +kernel
theorem rl_disj (ln : Lane) (s : Stp) (c : Dev nD) (h : adds s = false) : Disjoint (own ln (idx s) c) (rl ln s c) := by
  cases ln <;> cases s <;> first | (exact absurd h (by decide)) | (clear h; revert c; decide +kernel)
theorem own_last (ln : Lane) (c : Dev nD) : own ln 10 c = Finset.univ := by
  cases ln <;> revert c <;> decide +kernel

/-- The sum of two elements. -/
@[reducible] def plus (a b : Elt F .bf16) : Elt F .bf16 := FloatOps.addf (F := F) (φ := .bf16) a b

/-- What the devices hold in one lane after so many steps, from what they held at first. -/
def cont (p0 : Dev nD → AccC F) (ln : Lane) : ℕ → Dev nD → AccC F
  | 0, c => p0 c
  | k + 1, c => fun i => if slot i ∈ rl ln (stp k) c then
      (if adds (stp k) then plus (cont p0 ln k c i) (cont p0 ln k (fr ln (stp k) c) i) else cont p0 ln k (fr ln (stp k) c) i)
      else cont p0 ln k c i

theorem cont_adds (p0 : Dev nD → AccC F) (ln : Lane) (s : Stp) (c : Dev nD) (h : adds s = true) (i : AccIdx) :
    cont p0 ln (idx s + 1) c i = if slot i ∈ rl ln s c then plus (cont p0 ln (idx s) c i) (cont p0 ln (idx s) (fr ln s c) i)
      else cont p0 ln (idx s) c i := by
  rw [cont, stp_idx]; simp only [h, if_true]
theorem cont_copies (p0 : Dev nD → AccC F) (ln : Lane) (s : Stp) (c : Dev nD) (h : adds s = false) (i : AccIdx) :
    cont p0 ln (idx s + 1) c i = if slot i ∈ rl ln s c then cont p0 ln (idx s) (fr ln s c) i
      else cont p0 ln (idx s) c i := by
  rw [cont, stp_idx]; simp only [h, Bool.false_eq_true, if_false]

/-- The accumulator at the end: each lane's own contents. -/
def final (p0 : Dev nD → AccC F) (c : Dev nD) : AccC F := fun i => if (i 2).val < 512 then cont p0 .lo 10 c i else cont p0 .hi 10 c i

end Cert.KernelIdeal.Talk
-- ==== Proof.Sched.lean ====
module

public import proofs.«01_k».proof.Proof.Geom
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The schedule of the exchange

Every semaphore is a cell whose rounds have duties. The barrier cell has four duties, one for each partner that signals
it: what a partner hands over is its receive buffers for the steps in which the owner sends to it, and the knowledge that
its receive cells are open. A lane's send cell has one duty a round, one round a step. A receive cell has one duty: the
block that lands, and in the adding steps the place it was sent from, which comes back to its sender later as a place to
receive the finished sum.
-/

/-- The record of the exchange's cells: four duties at most in a round. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barSem)
abbrev sCell (c : Dev nD) (ln : Lane) : GSem nD τ sig := ((c : Thread nD τ), .dma (ssem ln))
abbrev rCell (c : Dev nD) (ln : Lane) (s : Stp) : GSem nD τ sig := ((c : Thread nD τ), .dma (rsem ln s))
abbrev qCell (c : Dev nD) : GSem nD τ sig := ((c : Thread nD τ), .dma cc0_scratch2.sem)
abbrev oCell (c : Dev nD) : GSem nD τ sig := ((c : Thread nD τ), .dma cc0_scratch3.sem)

/-- What a semaphore is for. -/
inductive Knd | bar | snd (ln : Lane) | rcv (ln : Lane) (s : Stp) | lq | lw | oth
  deriving DecidableEq

/-- What a semaphore is for, from its number. -/
def knd : SemLoc sig → Knd
  | .reg r => if r = barSem then .bar else .oth
  | .dma d => match d.val with
    | 4 => .lq | 5 => .lw
    | 6 => .rcv .lo .a0 | 7 => .rcv .lo .a1 | 8 => .rcv .lo .a2 | 9 => .rcv .hi .a0 | 10 => .rcv .hi .a1 | 11 => .rcv .hi .a2
    | 12 => .rcv .lo .b1 | 13 => .rcv .hi .b1 | 14 => .rcv .lo .b2 | 15 => .rcv .hi .b2
    | 16 => .rcv .lo .c1 | 17 => .rcv .hi .c1 | 18 => .rcv .lo .c2 | 19 => .rcv .hi .c2
    | 20 => .rcv .lo .d0 | 21 => .rcv .lo .d1 | 22 => .rcv .lo .d2 | 23 => .rcv .hi .d0 | 24 => .rcv .hi .d1 | 25 => .rcv .hi .d2
    | 26 => .snd .lo | 27 => .snd .hi
    | _ => .oth

theorem knd_bar : knd (.reg barSem) = .bar := by rw [knd, if_pos rfl]
theorem knd_s (ln : Lane) : knd (.dma (ssem ln)) = .snd ln := by cases ln <;> rfl
theorem knd_r (ln : Lane) (s : Stp) : knd (.dma (rsem ln s)) = .rcv ln s := by cases ln <;> cases s <;> rfl
theorem knd_q : knd (.dma (cc0_scratch2.sem : DmaSem sig)) = .lq := rfl
theorem knd_w : knd (.dma (cc0_scratch3.sem : DmaSem sig)) = .lw := rfl

/-! ## Amounts -/

/-- Every block of a step has the same credit, and it is not zero. -/
theorem N_ex : ∃ f : Stp → ℕ, (∀ s, 0 < f s) ∧ (∀ c ln s (sm : DmaSem sig), (src c ln s).view.amount (.dma sm) = f s)
    ∧ ∀ c ln s (sm : DmaSem sig), (dst c ln s).view.amount (.dma sm) = f s :=
  ⟨fun s => (src (0 : Dev nD) .lo s).view.dmaCredit, fun s => by cases s <;> exact View.dmaCredit_pos _ (by decide),
    fun c ln s sm => by cases ln <;> cases s <;> rfl, fun c ln s sm => by cases ln <;> cases s <;> rfl⟩
/-- The credit of a step's block. -/
def N : Stp → ℕ := N_ex.choose
theorem N_src (c : Dev nD) (ln : Lane) (s : Stp) (sm : DmaSem sig) : (src c ln s).view.amount (.dma sm) = N s :=
  N_ex.choose_spec.2.1 c ln s sm
theorem N_dst (c : Dev nD) (ln : Lane) (s : Stp) (sm : DmaSem sig) : (dst c ln s).view.amount (.dma sm) = N s :=
  N_ex.choose_spec.2.2 c ln s sm
theorem N_pos (s : Stp) : 0 < N s := N_ex.choose_spec.1 s
theorem NW_ex : ∃ n, 0 < n ∧ (∀ sm : DmaSem sig, (wqM : Memref sig .tc .vmem S1024x1024 .f32).view.amount (.dma sm) = n)
    ∧ ∀ sm : DmaSem sig, (woM : Memref sig .tc .vmem S1024x1024 .f32).view.amount (.dma sm) = n :=
  ⟨(wqM : Memref sig .tc .vmem S1024x1024 .f32).view.dmaCredit, View.dmaCredit_pos _ (by decide), fun _ => rfl, fun _ => rfl⟩
/-- The credit of a block of weights. -/
def NW : ℕ := NW_ex.choose
theorem NW_pos : 0 < NW := NW_ex.choose_spec.1
theorem NW_q (sm : DmaSem sig) : (wqM : Memref sig .tc .vmem S1024x1024 .f32).view.amount (.dma sm) = NW := NW_ex.choose_spec.2.1 sm
theorem NW_o (sm : DmaSem sig) : (woM : Memref sig .tc .vmem S1024x1024 .f32).view.amount (.dma sm) = NW := NW_ex.choose_spec.2.2 sm

attribute [irreducible] N NW

/-! ## What the duties carry -/

/-- Part of a device's accumulator at some contents. -/
def A (d : Dev nD) (S : Finset AccIdx) (f : AccC F) : sProp 𝕄 :=
  iprop((accM.view.loc (d : Thread nD τ)) ↦[S]{fullShare} f)
/-- The place a step's block was sent from, on its sender, at contents not chosen. -/
def gone (ln : Lane) (s : Stp) (d : Dev nD) : sProp 𝕄 := iprop(∃ f, A d (pc (sl ln s d) ln) f)
/-- A step's landing place on a device, at contents not chosen. -/
def room (d : Dev nD) (c : Dev nD) (ln : Lane) (s : Stp) : sProp 𝕄 :=
  iprop(∃ X, owns (d : Thread nD τ) (dst c ln s) fullShare X)

instance A_storable (d : Dev nD) (S : Finset AccIdx) (f : AccC F) : BI.Storable (upEmb : UEmb _ 𝕄) (A d S f) := by
  unfold A; infer_instance
instance gone_storable (ln : Lane) (s : Stp) (d : Dev nD) : BI.Storable (upEmb : UEmb _ 𝕄) (gone (F := F) ln s d) := by
  unfold gone; infer_instance
instance room_storable (d c : Dev nD) (ln : Lane) (s : Stp) : BI.Storable (upEmb : UEmb _ 𝕄) (room (F := F) d c ln s) := by
  unfold room; infer_instance

/-- What a partner hands to device `c` for the step in which `c` sends to it. -/
def give (ln : Lane) (s : Stp) (c : Dev nD) : sProp 𝕄 :=
  if adds s then iprop(room (tg ln s c) c ln s ∗ reached ER (rCell (tg ln s c) ln s) 0)
  else iprop(reached ER (rCell (tg ln s c) ln s) 0)
instance give_storable (ln : Lane) (s : Stp) (c : Dev nD) : BI.Storable (upEmb : UEmb _ 𝕄) (give (F := F) ln s c) := by
  unfold give; split <;> infer_instance

/-- What each of the four signals carries. -/
def barPay (c : Dev nD) (i : Fin 4) : sProp 𝕄 :=
  match i with
  | 0 => iprop(give .lo .a0 c ∗ give .lo .a1 c ∗ give .lo .a2 c ∗ give .lo .d0 c ∗ give .lo .d1 c ∗ give .lo .d2 c)
  | 1 => iprop(give .hi .a0 c ∗ give .hi .a1 c ∗ give .hi .a2 c ∗ give .hi .d0 c ∗ give .hi .d1 c ∗ give .hi .d2 c)
  | 2 => iprop(give .lo .b2 c ∗ give .hi .b2 c ∗ give .lo .c1 c ∗ give .hi .c1 c)
  | 3 => iprop(give .lo .b1 c ∗ give .hi .b1 c ∗ give .lo .c2 c ∗ give .hi .c2 c)
instance barPay_storable (c : Dev nD) (i : Fin 4) : BI.Storable (upEmb : UEmb _ 𝕄) (barPay (F := F) c i) := by
  unfold barPay; split <;> infer_instance

/-- The places sent from earlier that travel on with a step's block. -/
def fwd (ln : Lane) (s : Stp) (b : Dev nD) : sProp 𝕄 :=
  match s with
  | .a1 => gone ln .a0 (fr ln .a1 b)
  | .a2 => iprop(gone ln .a1 (fr ln .a1 b) ∗ gone ln .a0 (fr ln .a1 (fr ln .a1 b)))
  | .d0 => iprop(gone ln .a2 (fr ln .a1 b) ∗ gone ln .a1 (fr ln .a1 (fr ln .a1 b)))
  | .d1 => gone ln .a2 (fr ln .a1 (fr ln .a1 b))
  | _ => iprop(emp)
instance fwd_storable (ln : Lane) (s : Stp) (b : Dev nD) : BI.Storable (upEmb : UEmb _ 𝕄) (fwd (F := F) ln s b) := by
  unfold fwd; split <;> infer_instance

/-- With an adding step's block goes the place it was sent from. -/
def back (ln : Lane) (s : Stp) (b : Dev nD) : sProp 𝕄 := if adds s then gone ln s b else iprop(emp)
instance back_storable (ln : Lane) (s : Stp) (b : Dev nD) : BI.Storable (upEmb : UEmb _ 𝕄) (back (F := F) ln s b) := by
  unfold back; split <;> infer_instance

variable (p0 : Dev nD → AccC F)

/-- A step's block as its sender `b` holds it. -/
def blk (ln : Lane) (s : Stp) (b : Dev nD) : (shp s).Idx → Elt F .bf16 := rd b ln s (cont p0 ln (idx s) b)

/-- What an arrival brings to device `c`. -/
def rcvPay (c : Dev nD) (ln : Lane) (s : Stp) : sProp 𝕄 :=
  iprop(owns (c : Thread nD τ) (dst (fr ln s c) ln s) fullShare (blk p0 ln s (fr ln s c)) ∗ back ln s (fr ln s c) ∗ fwd ln s (fr ln s c))
/-- What the completion of a send brings back to its sender. -/
def sndPay (c : Dev nD) (ln : Lane) (s : Stp) : sProp 𝕄 :=
  if adds s then iprop(emp) else owns (c : Thread nD τ) (src c ln s) fullShare (blk p0 ln s c)
instance rcvPay_storable (c : Dev nD) (ln : Lane) (s : Stp) : BI.Storable (upEmb : UEmb _ 𝕄) (rcvPay p0 c ln s) := by
  unfold rcvPay; infer_instance
instance sndPay_storable (c : Dev nD) (ln : Lane) (s : Stp) : BI.Storable (upEmb : UEmb _ 𝕄) (sndPay p0 c ln s) := by
  unfold sndPay; split <;> infer_instance

variable (vQ : Dev nD → S1024x16384.Idx → Elt F .f32) (vO : Dev nD → S16384x1024.Idx → Elt F .f32)

/-- The weights fetched, and the share of the argument given back. -/
def qPay (c : Dev nD) : sProp 𝕄 :=
  iprop(owns (c : Thread nD τ) wqM fullShare ((wqS c).view.read (Elt F) (vQ c))
    ∗ ((wqS c).view.loc (c : Thread nD τ) ↦[(wqS c).view.set]{fullShare} vQ c))
def oPay (c : Dev nD) : sProp 𝕄 :=
  iprop(owns (c : Thread nD τ) woM fullShare ((woS c).view.read (Elt F) (vO c))
    ∗ ((woS c).view.loc (c : Thread nD τ) ↦[(woS c).view.set]{fullShare} vO c))
instance qPay_storable (c : Dev nD) : BI.Storable (upEmb : UEmb _ 𝕄) (qPay vQ c) := by unfold qPay; infer_instance
instance oPay_storable (c : Dev nD) : BI.Storable (upEmb : UEmb _ 𝕄) (oPay vO c) := by unfold oPay; infer_instance

/-! ## The schedule -/

/-- The duties of a round of a kind of cell. -/
def kduties : Knd → ℕ → Finset (Fin 4)
  | .bar, 0 => Finset.univ
  | .snd _, r => if r < 10 then {0} else ∅
  | .rcv _ _, 0 => {0}
  | .lq, 0 => {0}
  | .lw, 0 => {0}
  | _, _ => ∅
def kamount : Knd → ℕ → ℕ
  | .bar, _ => 1
  | .snd _, r => N (stp r)
  | .rcv _ s, _ => N s
  | .lq, _ => NW
  | .lw, _ => NW
  | .oth, _ => 1
def kpay (c : Dev nD) : Knd → ℕ → Fin 4 → sProp 𝕄
  | .bar, _, i => barPay c i
  | .snd ln, r, _ => sndPay p0 c ln (stp r)
  | .rcv ln s, _, _ => rcvPay p0 c ln s
  | .lq, _, _ => qPay vQ c
  | .lw, _, _ => oPay vO c
  | .oth, _, _ => iprop(emp)

theorem kamount_pos (k : Knd) (r : ℕ) : 0 < kamount k r := by
  cases k
  · exact Nat.one_pos
  · exact N_pos _
  · exact N_pos _
  · exact NW_pos
  · exact NW_pos
  · exact Nat.one_pos

instance kpay_storable (c : Dev nD) (k : Knd) (r : ℕ) (i : Fin 4) : BI.Storable (upEmb : UEmb _ 𝕄) (kpay p0 vQ vO c k r i) := by
  cases k <;> unfold kpay <;> infer_instance

/-- The schedule of every cell. -/
def Sd : Rounds.Schedule (GSem nD τ sig) (Fin 4) 𝕄 where
  duties g r := if g.1.2 = .tc then kduties (knd g.2) r else ∅
  unitless _ := False
  amount g r _ := kamount (knd g.2) r
  payload g r i := kpay p0 vQ vO g.1.1 (knd g.2) r i
  amount_pos g r _ _ := kamount_pos _ _

instance Sd_storable (g : GSem nD τ sig) (r : ℕ) (d : Fin 4) :
    BI.Storable (upEmb : UEmb _ 𝕄) ((Sd p0 vQ vO).payload g r d) := by
  show BI.Storable upEmb (kpay p0 vQ vO g.1.1 (knd g.2) r d); infer_instance

section Facts
variable (c : Dev nD)

theorem duties_tc (sm : SemLoc sig) (r : ℕ) : (Sd p0 vQ vO).duties ((c : Thread nD τ), sm) r = kduties (knd sm) r := by
  dsimp only [Sd]; exact if_pos rfl
theorem amount_tc (sm : SemLoc sig) (r : ℕ) (d : Fin 4) : (Sd p0 vQ vO).amount ((c : Thread nD τ), sm) r d = kamount (knd sm) r := rfl
theorem payload_tc (sm : SemLoc sig) (r : ℕ) (d : Fin 4) :
    (Sd p0 vQ vO).payload ((c : Thread nD τ), sm) r d = kpay p0 vQ vO c (knd sm) r d := rfl

theorem duties_later (g : GSem nD τ sig) : ∀ r, 10 ≤ r → (Sd p0 vQ vO).duties g r = ∅ := fun r hr => by
  dsimp only [Sd]; split
  · obtain ⟨r, rfl⟩ : ∃ q, r = q + 1 := ⟨r - 1, by omega⟩
    cases knd g.2 <;> unfold kduties <;> first | rfl | exact if_neg (by omega)
  · rfl
theorem duties_later1 (g : GSem nD τ sig) (hg : ∀ ln, knd g.2 ≠ .snd ln) : ∀ r, 0 + 1 ≤ r → (Sd p0 vQ vO).duties g r = ∅ := fun r hr => by
  dsimp only [Sd]; split
  · obtain ⟨r, rfl⟩ : ∃ q, r = q + 1 := ⟨r - 1, by omega⟩
    cases h : knd g.2 with
    | snd ln => exact absurd h (hg ln)
    | _ => rfl
  · rfl

theorem duties_bar : (Sd p0 vQ vO).duties (barCell c) 0 = Finset.univ := by rw [duties_tc, knd_bar]; rfl
theorem duties_s (ln : Lane) (s : Stp) : (Sd p0 vQ vO).duties (sCell c ln) (idx s) = {0} := by
  rw [duties_tc, knd_s]; exact if_pos (idx_lt s)
theorem duties_r (ln : Lane) (s : Stp) : (Sd p0 vQ vO).duties (rCell c ln s) 0 = {0} := by rw [duties_tc, knd_r]; rfl
theorem duties_q : (Sd p0 vQ vO).duties (qCell c) 0 = {0} := by rw [duties_tc, knd_q]; rfl
theorem duties_o : (Sd p0 vQ vO).duties (oCell c) 0 = {0} := by rw [duties_tc, knd_w]; rfl

theorem amount_bar (d : Fin 4) : (Sd p0 vQ vO).amount (barCell c) 0 d = 1 := by rw [amount_tc, knd_bar]; rfl
theorem amount_s (ln : Lane) (s : Stp) (d : Fin 4) : (Sd p0 vQ vO).amount (sCell c ln) (idx s) d = N s := by
  rw [amount_tc, knd_s, kamount, stp_idx]
theorem amount_r (ln : Lane) (s : Stp) (d : Fin 4) : (Sd p0 vQ vO).amount (rCell c ln s) 0 d = N s := by rw [amount_tc, knd_r]; rfl
theorem amount_q (d : Fin 4) : (Sd p0 vQ vO).amount (qCell c) 0 d = NW := by rw [amount_tc, knd_q]; rfl
theorem amount_o (d : Fin 4) : (Sd p0 vQ vO).amount (oCell c) 0 d = NW := by rw [amount_tc, knd_w]; rfl

theorem payload_bar (d : Fin 4) : (Sd p0 vQ vO).payload (barCell c) 0 d = barPay c d := by rw [payload_tc, knd_bar]; rfl
theorem payload_s (ln : Lane) (s : Stp) (d : Fin 4) : (Sd p0 vQ vO).payload (sCell c ln) (idx s) d = sndPay p0 c ln s := by
  rw [payload_tc, knd_s, kpay, stp_idx]
theorem payload_r (ln : Lane) (s : Stp) (d : Fin 4) : (Sd p0 vQ vO).payload (rCell c ln s) 0 d = rcvPay p0 c ln s := by
  rw [payload_tc, knd_r]; rfl
theorem payload_q (d : Fin 4) : (Sd p0 vQ vO).payload (qCell c) 0 d = qPay vQ c := by rw [payload_tc, knd_q]; rfl
theorem payload_o (d : Fin 4) : (Sd p0 vQ vO).payload (oCell c) 0 d = oPay vO c := by rw [payload_tc, knd_w]; rfl

theorem expect_bar : (Sd p0 vQ vO).expect (barCell c) 0 = 4 := by
  unfold Schedule.expect Schedule.amountOf; rw [duties_bar]
  rw [Finset.sum_congr rfl (fun d _ => amount_bar p0 vQ vO c d)]; rfl
theorem expect_s (ln : Lane) (s : Stp) : (Sd p0 vQ vO).expect (sCell c ln) (idx s) = N s := by
  unfold Schedule.expect Schedule.amountOf; rw [duties_s, Finset.sum_singleton, amount_s]
theorem expect_r (ln : Lane) (s : Stp) : (Sd p0 vQ vO).expect (rCell c ln s) 0 = N s := by
  unfold Schedule.expect Schedule.amountOf; rw [duties_r, Finset.sum_singleton, amount_r]
theorem expect_q : (Sd p0 vQ vO).expect (qCell c) 0 = NW := by
  unfold Schedule.expect Schedule.amountOf; rw [duties_q, Finset.sum_singleton, amount_q]
theorem expect_o : (Sd p0 vQ vO).expect (oCell c) 0 = NW := by
  unfold Schedule.expect Schedule.amountOf; rw [duties_o, Finset.sum_singleton, amount_o]

theorem rest_bar : bigSep ((Sd p0 vQ vO).duties (barCell c) 0 \ ∅) (fun u => (Sd p0 vQ vO).payload (barCell c) 0 u)
    = iprop(bigSep Finset.univ (fun i : Fin 4 => barPay c i)) := by
  rw [Finset.sdiff_empty, duties_bar]
  exact congrArg (bigSep Finset.univ) (funext fun u => payload_bar p0 vQ vO c u)
theorem rest_s (ln : Lane) (s : Stp) : bigSep ((Sd p0 vQ vO).duties (sCell c ln) (idx s) \ ∅) (fun u => (Sd p0 vQ vO).payload (sCell c ln) (idx s) u)
    = sndPay p0 c ln s := by
  rw [Finset.sdiff_empty, duties_s, bigSep_singleton, payload_s]
theorem rest_r (ln : Lane) (s : Stp) : bigSep ((Sd p0 vQ vO).duties (rCell c ln s) 0 \ ∅) (fun u => (Sd p0 vQ vO).payload (rCell c ln s) 0 u)
    = rcvPay p0 c ln s := by
  rw [Finset.sdiff_empty, duties_r, bigSep_singleton, payload_r]
theorem rest_q : bigSep ((Sd p0 vQ vO).duties (qCell c) 0 \ ∅) (fun u => (Sd p0 vQ vO).payload (qCell c) 0 u) = qPay vQ c := by
  rw [Finset.sdiff_empty, duties_q, bigSep_singleton, payload_q]
theorem rest_o : bigSep ((Sd p0 vQ vO).duties (oCell c) 0 \ ∅) (fun u => (Sd p0 vQ vO).payload (oCell c) 0 u) = oPay vO c := by
  rw [Finset.sdiff_empty, duties_o, bigSep_singleton, payload_o]

end Facts

/-! ## What a device still owes, and the levels -/

/-- The arrivals a device still has to send, as a tally. -/
def owed (c : Dev nD) : List (Lane × Stp) → CellTallies nD τ sig Unit
  | [] => 0
  | p :: l => owed c l + tallyAt (rCell (tg p.1 p.2 c) p.1 p.2) () (N p.2)
/-- The partner a barrier duty of this number is paid to. -/
def bp (i : Fin 4) (c : Dev nD) : Dev nD := match i with | 0 => lf c | 1 => rt c | 2 => z1 c | 3 => z2 c
/-- All sends in order. -/
def allSends : List (Lane × Stp) :=
  [(.lo, .a0), (.hi, .a0), (.lo, .a1), (.hi, .a1), (.lo, .a2), (.hi, .a2), (.lo, .b1), (.hi, .b1), (.lo, .b2), (.hi, .b2),
   (.lo, .c1), (.hi, .c1), (.lo, .c2), (.hi, .c2), (.lo, .d0), (.hi, .d0), (.lo, .d1), (.hi, .d1), (.lo, .d2), (.hi, .d2)]
/-- What a device owes at first: its arrivals and its four signals. -/
def O₀ (c : Dev nD) : CellTallies nD τ sig Unit :=
  owed c allSends + tallyAt (barCell (bp 3 c)) () 1 + tallyAt (barCell (bp 2 c)) () 1 + tallyAt (barCell (bp 1 c)) () 1 + tallyAt (barCell (bp 0 c)) () 1

def L (g : GSem nD τ sig) : Finset Unit := if g.1.2 = .tc then {()} else ∅
/-- Waits on the barrier come before arrivals, and arrivals in the order of the steps. -/
def lv (g : GSem nD τ sig) (_ : Unit) : ℕ := match knd g.2 with | .bar => 1 | .rcv _ s => 2 + idx s | _ => 0

theorem L_of_ne (g : GSem nD τ sig) (h : g.1.2 ≠ .tc) : L g = ∅ := if_neg h
theorem L_tc (c : Dev nD) (sm : SemLoc sig) : L ((c : Thread nD τ), sm) = {()} := if_pos rfl

theorem owed_pos (c : Dev nD) (l : List (Lane × Stp)) (g : GSem nD τ sig) (u : Unit) (h : 0 < owed c l g u) :
    ∃ p ∈ l, g = rCell (tg p.1 p.2 c) p.1 p.2 := by
  induction l with
  | nil => exact absurd h (Nat.lt_irrefl 0)
  | cons p l ih =>
    have h' : 0 < owed c l g u + tallyAt (rCell (tg p.1 p.2 c) p.1 p.2) () (N p.2) g u := h
    rw [tallyAt_apply] at h'
    by_cases hg : g = rCell (tg p.1 p.2 c) p.1 p.2 ∧ u = ()
    · exact ⟨p, List.mem_cons_self, hg.1⟩
    · rw [if_neg hg] at h'
      obtain ⟨q, hq, e⟩ := ih h'
      exact ⟨q, List.mem_cons_of_mem _ hq, e⟩

/-- A wait at a level below every arrival still owed. -/
theorem mayWait_owed (c : Dev nD) (sm : SemLoc sig) (l : List (Lane × Stp))
    (h : ∀ p ∈ l, lv ((c : Thread nD τ), sm) () < 2 + idx p.2) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by obtain ⟨p, -, rfl⟩ := owed_pos c l g u hg; rw [L_tc]; exact Finset.mem_singleton_self _)
    (fun p hp => by rw [Finset.mem_singleton.mp hp])
    (fun g u hg => by
      obtain ⟨p, hp, rfl⟩ := owed_pos c l g u hg
      have e : lv (rCell (tg p.1 p.2 c) p.1 p.2) u = 2 + idx p.2 := by dsimp only [lv]; rw [knd_r]
      rw [e]; exact h p hp)

theorem lv_bar (c : Dev nD) : lv (barCell c) () = 1 := by dsimp only [lv]; rw [knd_bar]
theorem lv_s (c : Dev nD) (ln : Lane) : lv (sCell c ln) () = 0 := by dsimp only [lv]; rw [knd_s]
theorem lv_r (c : Dev nD) (ln : Lane) (s : Stp) : lv (rCell c ln s) () = 2 + idx s := by dsimp only [lv]; rw [knd_r]

/-- A wait at level 0 is allowed while everything is still owed. -/
theorem mayWait_first (c : Dev nD) (sm : SemLoc sig) (h : lv ((c : Thread nD τ), sm) () = 0) :
    (levAts L lv : sProp 𝕄) ⊢ MayWait (c : Thread nD τ) sm () (O₀ c) :=
  have key : ∀ g u, 0 < O₀ c g u → L g = {()} ∧ 0 < lv g u := fun g u hg => by
    have hg' : 0 < owed c allSends g u + tallyAt (barCell (bp 3 c)) () 1 g u + tallyAt (barCell (bp 2 c)) () 1 g u
        + tallyAt (barCell (bp 1 c)) () 1 g u + tallyAt (barCell (bp 0 c)) () 1 g u := hg
    have hb : ∀ i, 0 < tallyAt (barCell (bp i c)) () 1 g u → L g = {()} ∧ 0 < lv g u := fun i hi => by
      rw [tallyAt_apply] at hi
      by_cases hh : g = barCell (bp i c) ∧ u = ()
      · rw [hh.1, hh.2]; exact ⟨L_tc _ _, by rw [lv_bar]; decide⟩
      · rw [if_neg hh] at hi; exact absurd hi (Nat.lt_irrefl 0)
    by_cases h0 : 0 < owed c allSends g u
    · obtain ⟨p, -, rfl⟩ := owed_pos c _ g u h0
      exact ⟨L_tc _ _, by cases u; rw [lv_r]; omega⟩
    by_cases h1 : 0 < tallyAt (barCell (bp 3 c)) () 1 g u
    · exact hb 3 h1
    by_cases h2 : 0 < tallyAt (barCell (bp 2 c)) () 1 g u
    · exact hb 2 h2
    by_cases h3 : 0 < tallyAt (barCell (bp 1 c)) () 1 g u
    · exact hb 1 h3
    exact hb 0 (by omega)
  MayOwe.of_cut (L := L) (lev := lv) 0
    (fun p hp => by rw [Finset.mem_singleton.mp hp, L_tc]; exact Finset.mem_singleton_self _)
    (fun g u hg => by rw [(key g u hg).1]; exact Finset.mem_singleton_self _)
    (fun p hp => by rw [Finset.mem_singleton.mp hp, h])
    (fun g u hg => (key g u hg).2)

abbrev 𝒱₀ : Variants := Variants.none

end Cert.KernelIdeal.Talk
-- ==== Proof.Move.lean ====
module

public import proofs.«01_k».proof.Proof.Sched
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # One step of the exchange -/

local notation "𝕄" => MT nD τ sig Unit (Elt F) ℕ UU ℕ

instance : Fintype Lane := ⟨{.lo, .hi}, fun x => by cases x <;> decide⟩
instance : Fintype Stp := ⟨{.a0, .a1, .a2, .b1, .b2, .c1, .c2, .d0, .d1, .d2}, fun x => by cases x <;> decide⟩

/-- The cells of a device. -/
inductive Ck | bar | snd (ln : Lane) | rcv (ln : Lane) (s : Stp) | lq | lw
  deriving DecidableEq
instance : Fintype Ck := ⟨({.bar, .lq, .lw} : Finset Ck) ∪ (Finset.univ.image Ck.snd ∪ Finset.univ.image fun p : Lane × Stp => Ck.rcv p.1 p.2),
  fun x => by cases x <;> simp⟩
/-- The semaphore of a cell. -/
def cksem : Ck → SemLoc sig
  | .bar => .reg barSem
  | .snd ln => .dma (ssem ln)
  | .rcv ln s => .dma (rsem ln s)
  | .lq => .dma cc0_scratch2.sem
  | .lw => .dma cc0_scratch3.sem
def ckknd : Ck → Knd
  | .bar => .bar | .snd ln => .snd ln | .rcv ln s => .rcv ln s | .lq => .lq | .lw => .lw
theorem knd_ck (k : Ck) : knd (cksem k) = ckknd k := by
  cases k
  · exact knd_bar
  · exact knd_s _
  · exact knd_r _ _
  · exact knd_q
  · exact knd_w
theorem ckknd_inj {a b : Ck} (h : ckknd a = ckknd b) : a = b := by
  cases a <;> cases b <;> simp_all [ckknd]
/-- A cell of a device. -/
def cellAt (p : Dev nD × Ck) : GSem nD τ sig := ((p.1 : Thread nD τ), cksem p.2)
theorem cellAt_inj {p p' : Dev nD × Ck} (h : cellAt p = cellAt p') : p = p' := by
  have h1 : p.1 = p'.1 := congrArg (fun g : GSem nD τ sig => g.1.1) h
  have h2 : cksem p.2 = cksem p'.2 := congrArg (fun g : GSem nD τ sig => g.2) h
  exact Prod.ext h1 (ckknd_inj (by rw [← knd_ck, ← knd_ck, h2]))

section Owns

/-- A step's block of the accumulator, as the block's own view. -/
theorem owns_of_A (d c : Dev nD) (ln : Lane) (s : Stp) (f : AccC F) :
    (A d (pc (sl ln s c) ln) f : sProp 𝕄) ⊢ owns (d : Thread nD τ) (src c ln s) fullShare (rd c ln s f) := by
  rw [← emb_set]
  cases ln <;> cases s <;>
    (unfold A owns; iintro H; iexists f; isplitr
     · ipureintro; rfl
     · iexact H)
theorem A_of_owns (d c : Dev nD) (ln : Lane) (s : Stp) (X : (shp s).Idx → Elt F .bf16) :
    (owns (d : Thread nD τ) (src c ln s) fullShare X : sProp 𝕄) ⊢ iprop(∃ f, ⌜rd c ln s f = X⌝ ∗ A d (pc (sl ln s c) ln) f) := by
  rw [← emb_set]
  cases ln <;> cases s <;>
    (unfold A owns; iintro ⟨%f, %h, H⟩; iexists f; isplitr
     · ipureintro; exact h
     · iexact H)
theorem dst_src (c : Dev nD) (ln : Lane) (s : Stp) (h : adds s = false) : dst c ln s = src c ln s := by
  cases ln <;> cases s <;> first | exact absurd h (by decide) | rfl
theorem dst_dst (c c' : Dev nD) (ln : Lane) (s : Stp) (h : adds s = true) : dst c ln s = dst c' ln s := by
  cases ln <;> cases s <;> first | exact absurd h (by decide) | rfl

theorem gone_of_A (ln : Lane) (s : Stp) (d : Dev nD) (f : AccC F) : (A d (pc (sl ln s d) ln) f : sProp 𝕄) ⊢ gone ln s d := by
  unfold gone; iintro H; iexists f; iexact H
theorem owns_written (d c : Dev nD) (ln : Lane) (s : Stp) (fd : (dst c ln s).view.ty.Contents (Elt F)) (X : (shp s).Idx → Elt F .bf16) :
    (((dst c ln s).view.loc (d : Thread nD τ) ↦[(dst c ln s).view.set]{fullShare} ((dst c ln s).view.write (Elt F) fd X Finset.univ)) : sProp 𝕄)
      ⊢ owns (d : Thread nD τ) (dst c ln s) fullShare X := by
  unfold owns
  iintro H
  iexists ((dst c ln s).view.write (Elt F) fd X Finset.univ)
  isplitr
  · ipureintro; exact View.read_write_univ _ _
  · iexact H
theorem owns_intro (d c : Dev nD) (ln : Lane) (s : Stp) (fs : (src c ln s).view.ty.Contents (Elt F)) (X : (shp s).Idx → Elt F .bf16)
    (h : (src c ln s).view.read (Elt F) fs = X) :
    (((src c ln s).view.loc (d : Thread nD τ) ↦[(src c ln s).view.set]{fullShare} fs) : sProp 𝕄)
      ⊢ owns (d : Thread nD τ) (src c ln s) fullShare X := by
  unfold owns
  iintro H
  iexists fs
  isplitr
  · ipureintro; exact h
  · iexact H
/-- A place sent from is a place to receive another block of the same slots. -/
theorem room_of_gone (ln : Lane) (s s' : Stp) (d c : Dev nD) (h : sl ln s d = sl ln s' c) (hs : adds s' = false) :
    (gone ln s d : sProp 𝕄) ⊢ room d c ln s' := by
  unfold gone room
  rw [h, dst_src c ln s' hs]
  iintro ⟨%f, H⟩
  iexists (rd c ln s' f)
  iapply (owns_of_A d c ln s' f)
  iexact H

end Owns

variable (p0 : Dev nD → AccC F)
variable (vQ : Dev nD → S1024x16384.Idx → Elt F .f32) (vO : Dev nD → S16384x1024.Idx → Elt F .f32)

/-- Every cell's invariant. -/
def invs (K : GSem nD τ sig → ℕ) : sProp 𝕄 :=
  bigSep Finset.univ fun p : Dev nD × Ck => cellInv ER (Sd p0 vQ vO) (K (cellAt p)) (cellAt p)
instance invs_persistent (K : GSem nD τ sig → ℕ) : BI.Persistent (invs p0 vQ vO K) := by unfold invs; infer_instance
theorem invs_at (K : GSem nD τ sig → ℕ) (p : Dev nD × Ck) :
    invs p0 vQ vO K ⊢ cellInv ER (Sd p0 vQ vO) (K (cellAt p)) (cellAt p) := by
  unfold invs; exact BI.bigSep_elim (Φ := fun p : Dev nD × Ck => cellInv ER (Sd p0 vQ vO) (K (cellAt p)) (cellAt p)) (Finset.mem_univ p)

/-- One send to a named device. -/
@[reducible] def sendTo (c d : Dev nD) (ln : Lane) (s : Stp) : TpuEff nD τ sig (Elt F) Λ₀ .tc PUnit :=
  .enqueueDma (src c ln s) (.remote (Dev.tc d) (dst c ln s) (.dma (ssem ln)) (dst_sc c ln s)) (.dma (rsem ln s))
    (src_we c ln s) (dst_we c ln s) ⟨⟨rfl, Or.inl rfl⟩, trivial⟩
theorem sendOp_eq (c : Dev nD) (ln : Lane) (s : Stp) : sendOp (F := F) c ln s = sendTo c (tg ln s c) ln s := by
  rw [← dev_eq]

/-- What a lane's send takes, besides the tokens. -/
def res (c : Dev nD) (ln : Lane) (s : Stp) : sProp 𝕄 :=
  iprop(owns (c : Thread nD τ) (src c ln s) fullShare (blk p0 ln s c) ∗ room (tg ln s c) c ln s ∗ fwd ln s c)

/-- A lane's send. -/
theorem wp_send (K : GSem nD τ sig → ℕ) (c : Dev nD) (ln : Lane) (s : Stp) (l : List (Lane × Stp)) (W : Waits sig Unit)
    (k : PUnit → Prog (TpuEff nD τ sig (Elt F) Λ₀ .tc) PUnit) (Q : PUnit → sProp 𝕄) :
    iprop(invs p0 vQ vO K ∗ res p0 c ln s ∗ owes (c : Thread nD τ) (owed c ((ln, s) :: l)) W
        ∗ dutyTok ER (sCell c ln) (idx s) 0 ∗ reached ER (sCell c ln) (idx s)
        ∗ dutyTok ER (rCell (tg ln s c) ln s) 0 0 ∗ reached ER (rCell (tg ln s c) ln s) 0)
      ⊢ iprop(((cred (tallyAt (sCell c ln) () (N s)) ∗ owes (c : Thread nD τ) (owed c l) W) -∗ wp frame (wpE (defs₀ (F := F)) 𝒱₀ c none) Set.univ (k ⟨⟩) Q)
          -∗ wp frame (wpE (defs₀ (F := F)) 𝒱₀ c none) Set.univ (.op (sendOp c ln s) k) Q) := by
  rw [sendOp_eq]
  unfold res room owns
  iintro ⟨#HI, ⟨⟨%fs, %hfs, Hs⟩, ⟨%X, %fd, -, Hd⟩, HF⟩, HO, HtS, #HrS, HtR, #HrR⟩ Hk
  ihave #HIs := (invs_at p0 vQ vO K (c, .snd ln)) $$ HI
  ihave #HIr := (invs_at p0 vQ vO K (tg ln s c, .rcv ln s)) $$ HI
  by_cases h : adds s = true
  · iapply (Rounds.wp_send_landing_pointsTo_with 𝒱₀ ER (Sd p0 vQ vO) (c : Thread nD τ) none (c' := (tg ln s c : Thread nD τ)) (src := src c ln s) (dst := dst c ln s)
      (sS := .dma (ssem ln)) (sem := .dma (rsem ln s)) (q := fullShare) (fs := fs) (κ₁ := K (sCell c ln)) (κ₂ := K (rCell (tg ln s c) ln s))
      (r₁ := idx s) (r₂ := 0) (d₁ := 0) (d₂ := 0) (fd := fd) (F := fwd ln s c)
      (by rw [duties_s]; exact Finset.mem_singleton_self _) (by rw [duties_r]; exact Finset.mem_singleton_self _)
      () () (N s) (N_dst c ln s _) (amount_s p0 vQ vO c ln s 0) (amount_r p0 vQ vO _ ln s 0) (owed c l) rfl (W := W)
      (by rw [payload_s, sndPay, if_pos h])
      (by
        rw [payload_r]; unfold rcvPay back; rw [fr_tg, if_pos h, hfs]
        iintro ⟨⟨H1, HF⟩, H2⟩
        isplitl [H1]
        · iapply (owns_written (tg ln s c) c ln s fd (blk p0 ln s c)); iexact H1
        isplitl [H2]
        · ihave H3 := (owns_intro c c ln s fs _ hfs) $$ H2
          ihave H4 := (A_of_owns c c ln s (blk p0 ln s c)) $$ H3
          icases H4 with ⟨%f, -, H4⟩
          iapply (gone_of_A ln s c f); iexact H4
        · iexact HF)) $$ [Hs Hd HF HO HtS HtR]
    · isplitr; · iexact HIs
      isplitr; · iexact HIr
      isplitl [Hs]; · iexact Hs
      isplitl [Hd HF]
      · isplitl [Hd]; · iexact Hd
        iexact HF
      isplitl [HO]; · iexact HO
      isplitl [HtS]; · iexact HtS
      isplitr; · iexact HrS
      isplitl [HtR]; · iexact HtR
      iexact HrR
    iexact Hk
  · have h' : adds s = false := by simpa using h
    iapply (Rounds.wp_send_pointsTo_with 𝒱₀ ER (Sd p0 vQ vO) (c : Thread nD τ) none (c' := (tg ln s c : Thread nD τ)) (src := src c ln s) (dst := dst c ln s)
      (sS := .dma (ssem ln)) (sem := .dma (rsem ln s)) (q := fullShare) (fs := fs) (κ₁ := K (sCell c ln)) (κ₂ := K (rCell (tg ln s c) ln s))
      (r₁ := idx s) (r₂ := 0) (d₁ := 0) (d₂ := 0) (fd := fd) (F := fwd ln s c)
      (by rw [duties_s]; exact Finset.mem_singleton_self _) (by rw [duties_r]; exact Finset.mem_singleton_self _)
      () () (N s) (N_dst c ln s _) (amount_s p0 vQ vO c ln s 0) (amount_r p0 vQ vO _ ln s 0) (owed c l) rfl (W := W)
      (by
        rw [payload_s, sndPay, if_neg h]
        exact owns_intro c c ln s fs _ hfs)
      (by
        rw [payload_r]; unfold rcvPay back; rw [fr_tg, if_neg h, hfs]
        iintro ⟨H1, HF⟩
        isplitl [H1]
        · iapply (owns_written (tg ln s c) c ln s fd (blk p0 ln s c)); iexact H1
        isplitr
        · iempintro
        · iexact HF)) $$ [Hs Hd HF HO HtS HtR]
    · isplitr; · iexact HIs
      isplitr; · iexact HIr
      isplitl [Hs]; · iexact Hs
      isplitl [Hd HF]
      · isplitl [Hd]; · iexact Hd
        iexact HF
      isplitl [HO]; · iexact HO
      isplitl [HtS]; · iexact HtS
      isplitr; · iexact HrS
      isplitl [HtR]; · iexact HtR
      iexact HrR
    iexact Hk

/-- The wait for a lane's send. -/
theorem wp_waitS (K : GSem nD τ sig → ℕ) (c : Dev nD) (ln : Lane) (s : Stp) (l : List (Lane × Stp)) (W : Waits sig Unit)
    (k : PUnit → Prog (TpuEff nD τ sig (Elt F) Λ₀ .tc) PUnit) (Q : PUnit → sProp 𝕄) :
    iprop(invs p0 vQ vO K ∗ levAts L lv ∗ cred (tallyAt (sCell c ln) () (N s)) ∗ owes (c : Thread nD τ) (owed c l) W ∗ atPos ER (sCell c ln) (idx s) ∅ 0)
      ⊢ iprop((((∃ W', owes (c : Thread nD τ) (owed c l) W') ∗ atPos ER (sCell c ln) (idx s + 1) ∅ 0 ∗ reached ER (sCell c ln) (idx s + 1) ∗ sndPay p0 c ln s)
            -∗ wp frame (wpE (defs₀ (F := F)) 𝒱₀ c none) Set.univ (k ⟨⟩) Q)
          -∗ wp frame (wpE (defs₀ (F := F)) 𝒱₀ c none) Set.univ (.op (waitS c ln s) k) Q) := by
  iintro ⟨#HI, #Hlev, Hc, HO, Hat⟩ Hk
  ihave #HIs := (invs_at p0 vQ vO K (c, .snd ln)) $$ HI
  have hN : (src c ln s).view.dmaCredit = N s := N_src c ln s (ssem ln)
  iapply (Rounds.wp_wait_rest_token 𝒱₀ ER (Sd p0 vQ vO) (c : Thread nD τ) none (κ := K (sCell c ln))
      (wpE_waitDma2_eq (src := dst c ln s) (dst := src c ln s) 𝒱₀ (c : Thread nD τ) none Set.univ) (Set.mem_univ _) () (O := owed c l) (W := W) (R := idx s) (m := 0) (T := ∅)
      ((Nat.zero_add _).trans (hN.trans (expect_s p0 vQ vO c ln s).symm))) $$ [Hc HO Hat]
  · isplitr; · iexact HIs
    isplitl [Hc]; · rw [hN]; iexact Hc
    isplitl [HO]; · iexact HO
    isplitr
    · iapply (mayWait_owed (F := F) c (.dma (ssem ln)) l (fun p hp => by rw [lv_s]; omega)); iexact Hlev
    iexact Hat
  iintro ⟨HO, Hat, #Hr, Hpay⟩
  ihave Hp := (Entails.of_eq (rest_s p0 vQ vO c ln s)) $$ Hpay
  iapply Hk
  isplitl [HO]; · iexists _; iexact HO
  isplitl [Hat]; · iexact Hat
  isplitr; · iexact Hr
  iexact Hp

/-- The wait for a lane's arrival. -/
theorem wp_waitR (K : GSem nD τ sig → ℕ) (c : Dev nD) (ln : Lane) (s : Stp) (l : List (Lane × Stp)) (W : Waits sig Unit)
    (hl : ∀ p ∈ l, idx s < idx p.2)
    (k : PUnit → Prog (TpuEff nD τ sig (Elt F) Λ₀ .tc) PUnit) (Q : PUnit → sProp 𝕄) :
    iprop(invs p0 vQ vO K ∗ levAts L lv ∗ cred (tallyAt (rCell c ln s) () (N s)) ∗ owes (c : Thread nD τ) (owed c l) W ∗ atPos ER (rCell c ln s) 0 ∅ 0)
      ⊢ iprop((((∃ W', owes (c : Thread nD τ) (owed c l) W') ∗ atPos ER (rCell c ln s) (0 + 1) ∅ 0 ∗ rcvPay p0 c ln s)
            -∗ wp frame (wpE (defs₀ (F := F)) 𝒱₀ c none) Set.univ (k ⟨⟩) Q)
          -∗ wp frame (wpE (defs₀ (F := F)) 𝒱₀ c none) Set.univ (.op (waitR c ln s) k) Q) := by
  iintro ⟨#HI, #Hlev, Hc, HO, Hat⟩ Hk
  ihave #HIs := (invs_at p0 vQ vO K (c, .rcv ln s)) $$ HI
  have hN : (dst c ln s).view.dmaCredit = N s := N_dst c ln s (ssem ln)
  iapply (Rounds.wp_wait_rest_token 𝒱₀ ER (Sd p0 vQ vO) (c : Thread nD τ) none (κ := K (rCell c ln s))
      (wpE_waitDma2_eq (src := src c ln s) (dst := dst c ln s) 𝒱₀ (c : Thread nD τ) none Set.univ) (Set.mem_univ _) () (O := owed c l) (W := W) (R := 0) (m := 0) (T := ∅)
      ((Nat.zero_add _).trans (hN.trans (expect_r p0 vQ vO c ln s).symm))) $$ [Hc HO Hat]
  · isplitr; · iexact HIs
    isplitl [Hc]; · rw [hN]; iexact Hc
    isplitl [HO]; · iexact HO
    isplitr
    · iapply (mayWait_owed (F := F) c (.dma (rsem ln s)) l (fun p hp => by rw [lv_r]; have := hl p hp; omega)); iexact Hlev
    iexact Hat
  iintro ⟨HO, Hat, -, Hpay⟩
  ihave Hp := (Entails.of_eq (rest_r p0 vQ vO c ln s)) $$ Hpay
  iapply Hk
  isplitl [HO]; · iexists _; iexact HO
  isplitl [Hat]; · iexact Hat
  iexact Hp

/-- The tokens, the credit and the place a lane's step starts with. -/
def pk (c : Dev nD) (ln : Lane) (s : Stp) : sProp 𝕄 :=
  iprop(dutyTok ER (sCell c ln) (idx s) 0 ∗ dutyTok ER (rCell (tg ln s c) ln s) 0 0 ∗ cred (tallyAt (rCell c ln s) () (N s))
    ∗ atPos ER (rCell c ln s) 0 ∅ 0 ∗ reached ER (rCell (tg ln s c) ln s) 0)
/-- Where a lane's send cell stands. -/
def at_ (c : Dev nD) (ln : Lane) (r : ℕ) : sProp 𝕄 := iprop(atPos ER (sCell c ln) r ∅ 0 ∗ reached ER (sCell c ln) r)
/-- What a lane's step leaves. -/
def done (c : Dev nD) (ln : Lane) (s : Stp) : sProp 𝕄 :=
  iprop(at_ c ln (idx s + 1) ∗ atPos ER (rCell c ln s) (0 + 1) ∅ 0 ∗ sndPay p0 c ln s ∗ rcvPay p0 c ln s)

/-- A step: both lanes sent, both awaited. -/
theorem wp_talkStep (K : GSem nD τ sig → ℕ) (c : Dev nD) (s : Stp) (l : List (Lane × Stp))
    (hl : ∀ p ∈ l, idx s < idx p.2)
    (k : Prog (TpuEff nD τ sig (Elt F) Λ₀ .tc) PUnit) (Q : PUnit → sProp 𝕄) :
    iprop(invs p0 vQ vO K ∗ levAts L lv ∗ (∃ W, owes (c : Thread nD τ) (owed c ((.lo, s) :: (.hi, s) :: l)) W)
        ∗ (pk c .lo s ∗ at_ c .lo (idx s) ∗ res p0 c .lo s) ∗ (pk c .hi s ∗ at_ c .hi (idx s) ∗ res p0 c .hi s))
      ⊢ iprop((((∃ W, owes (c : Thread nD τ) (owed c l) W) ∗ done p0 c .lo s ∗ done p0 c .hi s)
            -∗ wp frame (wpE (defs₀ (F := F)) 𝒱₀ c none) Set.univ k Q)
          -∗ wp frame (wpE (defs₀ (F := F)) 𝒱₀ c none) Set.univ (talkStep c s k) Q) := by
  unfold talkStep done pk at_
  iintro ⟨#HI, #Hlev, ⟨%W, HO⟩, ⟨⟨HtS, HtR, HcR, HaR, #HrR⟩, ⟨HaS, #HrS⟩, Hres⟩, ⟨⟨HtS', HtR', HcR', HaR', #HrR'⟩, ⟨HaS', #HrS'⟩, Hres'⟩⟩ Hk
  iapply (wp_send p0 vQ vO K c .lo s ((.hi, s) :: l) W) $$ [HO HtS HtR Hres]
  · isplitr; · iexact HI
    isplitl [Hres]; · iexact Hres
    isplitl [HO]; · iexact HO
    isplitl [HtS]; · iexact HtS
    isplitr; · iexact HrS
    isplitl [HtR]; · iexact HtR
    iexact HrR
  iintro ⟨HcS, HO⟩
  iapply (wp_send p0 vQ vO K c .hi s l W) $$ [HO HtS' HtR' Hres']
  · isplitr; · iexact HI
    isplitl [Hres']; · iexact Hres'
    isplitl [HO]; · iexact HO
    isplitl [HtS']; · iexact HtS'
    isplitr; · iexact HrS'
    isplitl [HtR']; · iexact HtR'
    iexact HrR'
  iintro ⟨HcS', HO⟩
  iapply (wp_waitS p0 vQ vO K c .lo s l W) $$ [HcS HO HaS]
  · isplitr; · iexact HI
    isplitr; · iexact Hlev
    isplitl [HcS]; · iexact HcS
    isplitl [HO]; · iexact HO
    iexact HaS
  iintro ⟨⟨%W1, HO⟩, HaS, #HrS1, HpS⟩
  iapply (wp_waitR p0 vQ vO K c .lo s l W1 hl) $$ [HcR HO HaR]
  · isplitr; · iexact HI
    isplitr; · iexact Hlev
    isplitl [HcR]; · iexact HcR
    isplitl [HO]; · iexact HO
    iexact HaR
  iintro ⟨⟨%W2, HO⟩, HaR, HpR⟩
  iapply (wp_waitS p0 vQ vO K c .hi s l W2) $$ [HcS' HO HaS']
  · isplitr; · iexact HI
    isplitr; · iexact Hlev
    isplitl [HcS']; · iexact HcS'
    isplitl [HO]; · iexact HO
    iexact HaS'
  iintro ⟨⟨%W3, HO⟩, HaS', #HrS1', HpS'⟩
  iapply (wp_waitR p0 vQ vO K c .hi s l W3 hl) $$ [HcR' HO HaR']
  · isplitr; · iexact HI
    isplitr; · iexact Hlev
    isplitl [HcR']; · iexact HcR'
    isplitl [HO]; · iexact HO
    iexact HaR'
  iintro ⟨HO, HaR', HpR'⟩
  iapply Hk
  isplitl [HO]; · iexact HO
  isplitl [HaS HaR HpS HpR]
  · isplitl [HaS]
    · isplitl [HaS]; · iexact HaS
      iexact HrS1
    isplitl [HaR]; · iexact HaR
    isplitl [HpS]; · iexact HpS
    iexact HpR
  · isplitl [HaS']
    · isplitl [HaS']; · iexact HaS'
      iexact HrS1'
    isplitl [HaR']; · iexact HaR'
    isplitl [HpS']; · iexact HpS'
    iexact HpR'

end Cert.KernelIdeal.Talk
-- ==== Proof.Add.lean ====
module

public import proofs.«01_k».proof.Proof.Move
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Adding what arrived -/

attribute [local irreducible] Shape.reshapeEquiv

local notation "𝕄" => MT nD τ sig Unit (Elt F) ℕ UU ℕ

theorem A_congr {d : Dev nD} {S : Finset AccIdx} {f g : AccC F} (h : ∀ i ∈ S, f i = g i) : (A d S f : sProp 𝕄) ⊢ A d S g := by
  unfold A; exact Entails.of_eq (pointsTo_congr h)
/-- Two loads, the sum of what they read, and its store. -/
theorem wp_seg (c : Dev nD) {Sb : Shape} {R : Rect S16x128x1024} {B : Memref sig .tc .vmem Sb .bf16} {r : Rect Sb}
    {pay : (R.shape.Idx → Elt F .bf16) → (r.shape.Idx → Elt F .bf16) → R.shape.Idx → Elt F .bf16}
    {h1 h3 : accM.view.LoadsAt R.toLoadRect} {h2 : B.view.LoadsAt r.toLoadRect} {hx : (accM.access R).Stores Finset.univ} {hm}
    {S : Finset AccIdx} {f : AccC F} {T : Finset (Idx ((B.access r).loc (c : Thread nD τ)))} {g : Buf (Elt F) ((B.access r).loc (c : Thread nD τ))}
    (hS : (accM.access R).set ⊆ S) (hT : (B.access r).set ⊆ T)
    (k : Prog (TpuEff nD τ sig (Elt F) Λ₀ .tc) PUnit) (Q : PUnit → sProp 𝕄) :
    iprop(A c S f ∗ (((B.access r).loc (c : Thread nD τ)) ↦[T]{fullShare} g))
      ⊢ iprop(((A c S ((accM.access R).write (Elt F) f (pay ((accM.access R).read (Elt F) f) ((B.access r).read (Elt F) g)) Finset.univ)
              ∗ (((B.access r).loc (c : Thread nD τ)) ↦[T]{fullShare} g)) -∗ wp frame (wpE (defs₀ (F := F)) 𝒱₀ c none) Set.univ k Q)
          -∗ wp frame (wpE (defs₀ (F := F)) 𝒱₀ c none) Set.univ (.op (.load accM R.toLoadRect h1) fun v => .op (.load B r.toLoadRect h2) fun w =>
              .op (.load accM R.toLoadRect h3) fun _ => .op (.store accM R (pay v w) Finset.univ hx hm) fun _ => k) Q) := by
  unfold A
  iintro ⟨HA, HB⟩ Hk
  iapply (wp_load_rect (defs := defs₀ (F := F)) 𝒱₀ (c : Thread nD τ) none Set.univ (m := accM) (r := R) (S := S) (f := f) hS) $$ HA
  iintro HA
  iapply (wp_load_rect (defs := defs₀ (F := F)) 𝒱₀ (c : Thread nD τ) none Set.univ (m := B) (r := r) (S := T) (f := g) hT) $$ HB
  iintro HB
  iapply (wp_load_rect (defs := defs₀ (F := F)) 𝒱₀ (c : Thread nD τ) none Set.univ (m := accM) (r := R) (S := S) (f := f) hS) $$ HA
  iintro HA
  iapply (wp_store (defs := defs₀ (F := F)) 𝒱₀ (c : Thread nD τ) none Set.univ (m := accM) (r := R) (S := S) (f := f) hS) $$ HA
  iintro HA
  iapply Hk
  isplitl [HA]
  · iexact HA
  · iexact HB

theorem sum_write (c : Dev nD) (ln : Lane) (s : Stp) {R : Rect S16x128x1024} (φ : R.shape.Idx → (shp s).Idx)
    (hset : (accM.access R).set = pc (rl ln s c) ln)
    (hφ : ∀ j, (accM.access R).emb j = emb (fr ln s c) ln s (φ j)) (f g : AccC F) (w : R.shape.Idx → Elt F .bf16)
    (hw : ∀ j, w j = plus (f ((accM.access R).emb j)) (rd (fr ln s c) ln s g (φ j))) (i : AccIdx) (hi : inLane ln i) :
    (accM.access R).write (Elt F) f w Finset.univ i = if slot i ∈ rl ln s c then plus (f i) (g i) else f i := by
  by_cases h : slot i ∈ rl ln s c
  · rw [if_pos h]
    have hi' : i ∈ (accM.access R).set := hset ▸ mem_pc.mpr ⟨h, hi⟩
    obtain ⟨j, -, rfl⟩ := Finset.mem_map.mp hi'
    rw [View.write_emb_of_mem _ _ (Finset.mem_univ j)]
    refine (hw j).trans ?_
    rw [rd, ← hφ]
  · rw [if_neg h]
    exact View.write_of_not_mem _ _ _ (fun hh => h (mem_pc.mp (hset ▸ (show i ∈ (accM.access R).set from hh))).1)

theorem cast_same {s : Shape} {α : Type} (v : s.Idx → α) (h : s.ShapeCasts s) : shapeCast s v h = v :=
  funext fun i => congrArg v (Shape.reshapeEquiv_self _ i)
theorem there_back (j : S1x128x512.Idx) {h : S1x128x512.numel = S128x512.numel} {h' : S128x512.numel = S1x128x512.numel} :
    Shape.reshapeEquiv h' (Shape.reshapeEquiv h j) = j := by
  rw [Shape.reshapeEquiv_reshapeEquiv, Shape.reshapeEquiv_self]
theorem numel_1 : S1x128x512.numel = S128x512.numel := shapeCasts_S128x512_S1x128x512
theorem pay133_apply (v : S1x128x512.Idx → Elt F .bf16) (w : S128x512.Idx → Elt F .bf16) (j : S1x128x512.Idx) :
    k0_pay133 v w j = plus (v j) (w (Shape.reshapeEquiv numel_1 j)) := by
  have h : v (Shape.reshapeEquiv shapeCasts_S1x128x512_S128x512 (Shape.reshapeEquiv numel_1 j)) = v j := congrArg v (there_back j)
  rw [← h]; rfl
theorem pay134_apply (v : S1x128x512.Idx → Elt F .bf16) (w : S128x512.Idx → Elt F .bf16) (j : S1x128x512.Idx) :
    k0_pay134 v w j = plus (v j) (w (Shape.reshapeEquiv numel_1 j)) := by
  have h : v (Shape.reshapeEquiv shapeCasts_S1x128x512_S128x512 (Shape.reshapeEquiv numel_1 j)) = v j := congrArg v (there_back j)
  rw [← h]; rfl
theorem emb_b2 (c : Dev nD) (ln : Lane) {o : Fin 3 → ℕ} (h : o = off c ln .b2) {hin} (j : S1x128x512.Idx) :
    (accM.access (Rect.unit (s := S16x128x1024) o S1x128x512.size hin)).emb j = emb c ln .b2 (Shape.reshapeEquiv (s := S128x512) (s' := S1x128x512) numel_1 j) := by
  subst h
  have h2 := there_back j (h := numel_1) (h' := numel_1.symm)
  have h3 : (accM.access (Rect.unit (s := S16x128x1024) (off c ln .b2) S1x128x512.size hin)).emb j
      = (accM.access (Rect.unit (s := S16x128x1024) (off c ln .b2) S1x128x512.size hin)).emb (Shape.reshapeEquiv numel_1.symm (Shape.reshapeEquiv (s := S128x512) (s' := S1x128x512) numel_1 j)) := by
    rw [h2]
  refine h3.trans ?_
  cases ln
  · rfl
  · rfl
theorem emb_unit {o o' sz : Fin 3 → ℕ} (h : o = o') {hin hin'} (j : (Rect.unit (s := S16x128x1024) o sz hin).shape.Idx) :
    (accM.access (Rect.unit (s := S16x128x1024) o sz hin)).emb j = (accM.access (Rect.unit (s := S16x128x1024) o' sz hin')).emb j := by
  subst h; rfl

variable (p0 : Dev nD → AccC F)

/-- The accumulator's slots of a lane held before and after a step's addition. -/
def half (c : Dev nD) (ln : Lane) (s : Stp) (k : ℕ) : sProp 𝕄 := A c (pc (own ln (idx s + 1) c) ln) (cont p0 ln k c)
/-- What lies at a step's landing place. -/
def landed (c : Dev nD) (ln : Lane) (s : Stp) : sProp 𝕄 := owns (c : Thread nD τ) (dst (fr ln s c) ln s) fullShare (blk p0 ln s (fr ln s c))

theorem wp_half_lo_a0 (c : Dev nD) (k : Prog (TpuEff nD τ sig (Elt F) Λ₀ .tc) PUnit) (Q : PUnit → sProp 𝕄) :
    iprop(half p0 c .lo .a0 (idx .a0) ∗ landed p0 c .lo .a0)
      ⊢ iprop(((half p0 c .lo .a0 (idx .a0 + 1) ∗ landed p0 c .lo .a0) -∗ wp frame (wpE (defs₀ (F := F)) 𝒱₀ c none) Set.univ k Q)
          -∗ wp frame (wpE (defs₀ (F := F)) 𝒱₀ c none) Set.univ (
  .op (.load accM (Rect.unit (s := S16x128x1024) (k0_off5 c 0#32) S4x128x512.size (k0_off5_inb c 0)).toLoadRect (View.loadsAt_vmem h_S4x128x512)) fun (v : Vec F S4x128x512 .bf16) =>
  .op (.load (Memref.whole cc0_scratch5 : Memref sig .tc .vmem _ .bf16) (Rect.unit (s := S3x4x128x512) ![0, 0, 0, 0] S1x4x128x512.size inb_S3x4x128x512_S1x4x128x512_0_0_0_0).toLoadRect (View.loadsAt_vmem h_S1x4x128x512)) fun (w : Vec F S1x4x128x512 .bf16) =>
  .op (.load accM (Rect.unit (s := S16x128x1024) (k0_off5 c 0#32) S4x128x512.size (k0_off5_inb c 0)).toLoadRect (View.loadsAt_vmem h_S4x128x512)) fun (_ : Vec F S4x128x512 .bf16) =>
  .op (.store accM (Rect.unit (s := S16x128x1024) (k0_off5 c 0#32) S4x128x512.size (k0_off5_inb c 0)) (k0_pay125 v w) Finset.univ (View.stores_vmem h_S4x128x512 ((Memref.isWhole_whole _).storeExact_slice rfl _ (k0_off5_packedbf16 c 0)) (fun _ => rfl)) (.inl rfl)) fun _ =>
  k) Q) := by
  unfold half landed owns
  iintro ⟨HA, %g, %hg, HB⟩ Hk
  have hset : (accM.access (Rect.unit (s := S16x128x1024) (k0_off5 c 0#32) S4x128x512.size (k0_off5_inb c 0))).set = pc (rl .lo .a0 c) .lo :=
    (View.set_slice_whole _ _).trans (box_pc (addOff_lo_a0 c ▸ off_eq (fr .lo .a0 c) .lo .a0) rfl fun j => mem_sl)
  have hφ : ∀ j, (accM.access (Rect.unit (s := S16x128x1024) (k0_off5 c 0#32) S4x128x512.size (k0_off5_inb c 0))).emb j = emb (fr .lo .a0 c) .lo .a0 ((fun j => j) j) := fun j => emb_unit (addOff_lo_a0 c) j
  have hw : ∀ j, k0_pay125 ((accM.access (Rect.unit (s := S16x128x1024) (k0_off5 c 0#32) S4x128x512.size (k0_off5_inb c 0))).read (Elt F) (cont p0 .lo (idx .a0) c)) (((Memref.whole cc0_scratch5 : Memref sig .tc .vmem _ .bf16).access (Rect.unit (s := S3x4x128x512) ![0, 0, 0, 0] S1x4x128x512.size inb_S3x4x128x512_S1x4x128x512_0_0_0_0)).read (Elt F) g) j
      = plus (cont p0 .lo (idx .a0) c ((accM.access (Rect.unit (s := S16x128x1024) (k0_off5 c 0#32) S4x128x512.size (k0_off5_inb c 0))).emb j)) (rd (fr .lo .a0 c) .lo .a0 (cont p0 .lo (idx .a0) (fr .lo .a0 c)) ((fun j => j) j)) := by
    intro j
    show shapeCast S4x128x512 (addf ((accM.access (Rect.unit (s := S16x128x1024) (k0_off5 c 0#32) S4x128x512.size (k0_off5_inb c 0))).read (Elt F) (cont p0 .lo (idx .a0) c)) (shapeCast S4x128x512 (((Memref.whole cc0_scratch5 : Memref sig .tc .vmem _ .bf16).access (Rect.unit (s := S3x4x128x512) ![0, 0, 0, 0] S1x4x128x512.size inb_S3x4x128x512_S1x4x128x512_0_0_0_0)).read (Elt F) g) shapeCasts_S1x4x128x512_S4x128x512)) _ j = _; refine (congrFun (cast_same _ _) j).trans ?_; exact congrArg (plus _) (congrFun hg j)
  have hsum : ∀ i ∈ pc (own .lo (idx .a0 + 1) c) .lo, (accM.access (Rect.unit (s := S16x128x1024) (k0_off5 c 0#32) S4x128x512.size (k0_off5_inb c 0))).write (Elt F) (cont p0 .lo (idx .a0) c)
      (k0_pay125 ((accM.access (Rect.unit (s := S16x128x1024) (k0_off5 c 0#32) S4x128x512.size (k0_off5_inb c 0))).read (Elt F) (cont p0 .lo (idx .a0) c)) (((Memref.whole cc0_scratch5 : Memref sig .tc .vmem _ .bf16).access (Rect.unit (s := S3x4x128x512) ![0, 0, 0, 0] S1x4x128x512.size inb_S3x4x128x512_S1x4x128x512_0_0_0_0)).read (Elt F) g)) Finset.univ i
      = cont p0 .lo (idx .a0 + 1) c i := fun i hi =>
    (sum_write c .lo .a0 (R := (Rect.unit (s := S16x128x1024) (k0_off5 c 0#32) S4x128x512.size (k0_off5_inb c 0))) (φ := (fun j => j)) hset hφ (cont p0 .lo (idx .a0) c) (cont p0 .lo (idx .a0) (fr .lo .a0 c))
      (k0_pay125 ((accM.access (Rect.unit (s := S16x128x1024) (k0_off5 c 0#32) S4x128x512.size (k0_off5_inb c 0))).read (Elt F) (cont p0 .lo (idx .a0) c)) (((Memref.whole cc0_scratch5 : Memref sig .tc .vmem _ .bf16).access (Rect.unit (s := S3x4x128x512) ![0, 0, 0, 0] S1x4x128x512.size inb_S3x4x128x512_S1x4x128x512_0_0_0_0)).read (Elt F) g)) hw i (mem_pc.mp hi).2).trans
      (cont_adds p0 .lo .a0 c rfl i).symm
  iapply (wp_seg c (R := (Rect.unit (s := S16x128x1024) (k0_off5 c 0#32) S4x128x512.size (k0_off5_inb c 0))) (B := (Memref.whole cc0_scratch5 : Memref sig .tc .vmem _ .bf16)) (r := (Rect.unit (s := S3x4x128x512) ![0, 0, 0, 0] S1x4x128x512.size inb_S3x4x128x512_S1x4x128x512_0_0_0_0)) (pay := k0_pay125) (f := cont p0 .lo (idx .a0) c) (g := g)
      (S := pc (own .lo (idx .a0 + 1) c) .lo) (T := (dst (fr .lo .a0 c) .lo .a0).view.set)
      (hset ▸ pc_mono (rl_sub .lo .a0 c) .lo) (Finset.Subset.trans (Finset.Subset.refl _) (View.set_reshape _ _).superset) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_hi_a0 (c : Dev nD) (k : Prog (TpuEff nD τ sig (Elt F) Λ₀ .tc) PUnit) (Q : PUnit → sProp 𝕄) :
    iprop(half p0 c .hi .a0 (idx .a0) ∗ landed p0 c .hi .a0)
      ⊢ iprop(((half p0 c .hi .a0 (idx .a0 + 1) ∗ landed p0 c .hi .a0) -∗ wp frame (wpE (defs₀ (F := F)) 𝒱₀ c none) Set.univ k Q)
          -∗ wp frame (wpE (defs₀ (F := F)) 𝒱₀ c none) Set.univ (
  .op (.load accM (Rect.unit (s := S16x128x1024) (k0_off6 c 0#32) S4x128x512.size (k0_off6_inb c 0)).toLoadRect (View.loadsAt_vmem h_S4x128x512)) fun (v : Vec F S4x128x512 .bf16) =>
  .op (.load (Memref.whole cc0_scratch6 : Memref sig .tc .vmem _ .bf16) (Rect.unit (s := S3x4x128x512) ![0, 0, 0, 0] S1x4x128x512.size inb_S3x4x128x512_S1x4x128x512_0_0_0_0).toLoadRect (View.loadsAt_vmem h_S1x4x128x512)) fun (w : Vec F S1x4x128x512 .bf16) =>
  .op (.load accM (Rect.unit (s := S16x128x1024) (k0_off6 c 0#32) S4x128x512.size (k0_off6_inb c 0)).toLoadRect (View.loadsAt_vmem h_S4x128x512)) fun (_ : Vec F S4x128x512 .bf16) =>
  .op (.store accM (Rect.unit (s := S16x128x1024) (k0_off6 c 0#32) S4x128x512.size (k0_off6_inb c 0)) (k0_pay126 v w) Finset.univ (View.stores_vmem h_S4x128x512 ((Memref.isWhole_whole _).storeExact_slice rfl _ (k0_off6_packedbf16 c 0)) (fun _ => rfl)) (.inl rfl)) fun _ =>
  k) Q) := by
  unfold half landed owns
  iintro ⟨HA, %g, %hg, HB⟩ Hk
  have hset : (accM.access (Rect.unit (s := S16x128x1024) (k0_off6 c 0#32) S4x128x512.size (k0_off6_inb c 0))).set = pc (rl .hi .a0 c) .hi :=
    (View.set_slice_whole _ _).trans (box_pc (addOff_hi_a0 c ▸ off_eq (fr .hi .a0 c) .hi .a0) rfl fun j => mem_sl)
  have hφ : ∀ j, (accM.access (Rect.unit (s := S16x128x1024) (k0_off6 c 0#32) S4x128x512.size (k0_off6_inb c 0))).emb j = emb (fr .hi .a0 c) .hi .a0 ((fun j => j) j) := fun j => emb_unit (addOff_hi_a0 c) j
  have hw : ∀ j, k0_pay126 ((accM.access (Rect.unit (s := S16x128x1024) (k0_off6 c 0#32) S4x128x512.size (k0_off6_inb c 0))).read (Elt F) (cont p0 .hi (idx .a0) c)) (((Memref.whole cc0_scratch6 : Memref sig .tc .vmem _ .bf16).access (Rect.unit (s := S3x4x128x512) ![0, 0, 0, 0] S1x4x128x512.size inb_S3x4x128x512_S1x4x128x512_0_0_0_0)).read (Elt F) g) j
      = plus (cont p0 .hi (idx .a0) c ((accM.access (Rect.unit (s := S16x128x1024) (k0_off6 c 0#32) S4x128x512.size (k0_off6_inb c 0))).emb j)) (rd (fr .hi .a0 c) .hi .a0 (cont p0 .hi (idx .a0) (fr .hi .a0 c)) ((fun j => j) j)) := by
    intro j
    show shapeCast S4x128x512 (addf ((accM.access (Rect.unit (s := S16x128x1024) (k0_off6 c 0#32) S4x128x512.size (k0_off6_inb c 0))).read (Elt F) (cont p0 .hi (idx .a0) c)) (shapeCast S4x128x512 (((Memref.whole cc0_scratch6 : Memref sig .tc .vmem _ .bf16).access (Rect.unit (s := S3x4x128x512) ![0, 0, 0, 0] S1x4x128x512.size inb_S3x4x128x512_S1x4x128x512_0_0_0_0)).read (Elt F) g) shapeCasts_S1x4x128x512_S4x128x512)) _ j = _; refine (congrFun (cast_same _ _) j).trans ?_; exact congrArg (plus _) (congrFun hg j)
  have hsum : ∀ i ∈ pc (own .hi (idx .a0 + 1) c) .hi, (accM.access (Rect.unit (s := S16x128x1024) (k0_off6 c 0#32) S4x128x512.size (k0_off6_inb c 0))).write (Elt F) (cont p0 .hi (idx .a0) c)
      (k0_pay126 ((accM.access (Rect.unit (s := S16x128x1024) (k0_off6 c 0#32) S4x128x512.size (k0_off6_inb c 0))).read (Elt F) (cont p0 .hi (idx .a0) c)) (((Memref.whole cc0_scratch6 : Memref sig .tc .vmem _ .bf16).access (Rect.unit (s := S3x4x128x512) ![0, 0, 0, 0] S1x4x128x512.size inb_S3x4x128x512_S1x4x128x512_0_0_0_0)).read (Elt F) g)) Finset.univ i
      = cont p0 .hi (idx .a0 + 1) c i := fun i hi =>
    (sum_write c .hi .a0 (R := (Rect.unit (s := S16x128x1024) (k0_off6 c 0#32) S4x128x512.size (k0_off6_inb c 0))) (φ := (fun j => j)) hset hφ (cont p0 .hi (idx .a0) c) (cont p0 .hi (idx .a0) (fr .hi .a0 c))
      (k0_pay126 ((accM.access (Rect.unit (s := S16x128x1024) (k0_off6 c 0#32) S4x128x512.size (k0_off6_inb c 0))).read (Elt F) (cont p0 .hi (idx .a0) c)) (((Memref.whole cc0_scratch6 : Memref sig .tc .vmem _ .bf16).access (Rect.unit (s := S3x4x128x512) ![0, 0, 0, 0] S1x4x128x512.size inb_S3x4x128x512_S1x4x128x512_0_0_0_0)).read (Elt F) g)) hw i (mem_pc.mp hi).2).trans
      (cont_adds p0 .hi .a0 c rfl i).symm
  iapply (wp_seg c (R := (Rect.unit (s := S16x128x1024) (k0_off6 c 0#32) S4x128x512.size (k0_off6_inb c 0))) (B := (Memref.whole cc0_scratch6 : Memref sig .tc .vmem _ .bf16)) (r := (Rect.unit (s := S3x4x128x512) ![0, 0, 0, 0] S1x4x128x512.size inb_S3x4x128x512_S1x4x128x512_0_0_0_0)) (pay := k0_pay126) (f := cont p0 .hi (idx .a0) c) (g := g)
      (S := pc (own .hi (idx .a0 + 1) c) .hi) (T := (dst (fr .hi .a0 c) .hi .a0).view.set)
      (hset ▸ pc_mono (rl_sub .hi .a0 c) .hi) (Finset.Subset.trans (Finset.Subset.refl _) (View.set_reshape _ _).superset) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_lo_a1 (c : Dev nD) (k : Prog (TpuEff nD τ sig (Elt F) Λ₀ .tc) PUnit) (Q : PUnit → sProp 𝕄) :
    iprop(half p0 c .lo .a1 (idx .a1) ∗ landed p0 c .lo .a1)
      ⊢ iprop(((half p0 c .lo .a1 (idx .a1 + 1) ∗ landed p0 c .lo .a1) -∗ wp frame (wpE (defs₀ (F := F)) 𝒱₀ c none) Set.univ k Q)
          -∗ wp frame (wpE (defs₀ (F := F)) 𝒱₀ c none) Set.univ (
  .op (.load accM (Rect.unit (s := S16x128x1024) (k0_off5 c 1#32) S4x128x512.size (k0_off5_inb c 1)).toLoadRect (View.loadsAt_vmem h_S4x128x512)) fun (v : Vec F S4x128x512 .bf16) =>
  .op (.load (Memref.whole cc0_scratch5 : Memref sig .tc .vmem _ .bf16) (Rect.unit (s := S3x4x128x512) ![1, 0, 0, 0] S1x4x128x512.size inb_S3x4x128x512_S1x4x128x512_1_0_0_0).toLoadRect (View.loadsAt_vmem h_S1x4x128x512)) fun (w : Vec F S1x4x128x512 .bf16) =>
  .op (.load accM (Rect.unit (s := S16x128x1024) (k0_off5 c 1#32) S4x128x512.size (k0_off5_inb c 1)).toLoadRect (View.loadsAt_vmem h_S4x128x512)) fun (_ : Vec F S4x128x512 .bf16) =>
  .op (.store accM (Rect.unit (s := S16x128x1024) (k0_off5 c 1#32) S4x128x512.size (k0_off5_inb c 1)) (k0_pay127 v w) Finset.univ (View.stores_vmem h_S4x128x512 ((Memref.isWhole_whole _).storeExact_slice rfl _ (k0_off5_packedbf16 c 1)) (fun _ => rfl)) (.inl rfl)) fun _ =>
  k) Q) := by
  unfold half landed owns
  iintro ⟨HA, %g, %hg, HB⟩ Hk
  have hset : (accM.access (Rect.unit (s := S16x128x1024) (k0_off5 c 1#32) S4x128x512.size (k0_off5_inb c 1))).set = pc (rl .lo .a1 c) .lo :=
    (View.set_slice_whole _ _).trans (box_pc (addOff_lo_a1 c ▸ off_eq (fr .lo .a1 c) .lo .a1) rfl fun j => mem_sl)
  have hφ : ∀ j, (accM.access (Rect.unit (s := S16x128x1024) (k0_off5 c 1#32) S4x128x512.size (k0_off5_inb c 1))).emb j = emb (fr .lo .a1 c) .lo .a1 ((fun j => j) j) := fun j => emb_unit (addOff_lo_a1 c) j
  have hw : ∀ j, k0_pay127 ((accM.access (Rect.unit (s := S16x128x1024) (k0_off5 c 1#32) S4x128x512.size (k0_off5_inb c 1))).read (Elt F) (cont p0 .lo (idx .a1) c)) (((Memref.whole cc0_scratch5 : Memref sig .tc .vmem _ .bf16).access (Rect.unit (s := S3x4x128x512) ![1, 0, 0, 0] S1x4x128x512.size inb_S3x4x128x512_S1x4x128x512_1_0_0_0)).read (Elt F) g) j
      = plus (cont p0 .lo (idx .a1) c ((accM.access (Rect.unit (s := S16x128x1024) (k0_off5 c 1#32) S4x128x512.size (k0_off5_inb c 1))).emb j)) (rd (fr .lo .a1 c) .lo .a1 (cont p0 .lo (idx .a1) (fr .lo .a1 c)) ((fun j => j) j)) := by
    intro j
    show shapeCast S4x128x512 (addf ((accM.access (Rect.unit (s := S16x128x1024) (k0_off5 c 1#32) S4x128x512.size (k0_off5_inb c 1))).read (Elt F) (cont p0 .lo (idx .a1) c)) (shapeCast S4x128x512 (((Memref.whole cc0_scratch5 : Memref sig .tc .vmem _ .bf16).access (Rect.unit (s := S3x4x128x512) ![1, 0, 0, 0] S1x4x128x512.size inb_S3x4x128x512_S1x4x128x512_1_0_0_0)).read (Elt F) g) shapeCasts_S1x4x128x512_S4x128x512)) _ j = _; refine (congrFun (cast_same _ _) j).trans ?_; exact congrArg (plus _) (congrFun hg j)
  have hsum : ∀ i ∈ pc (own .lo (idx .a1 + 1) c) .lo, (accM.access (Rect.unit (s := S16x128x1024) (k0_off5 c 1#32) S4x128x512.size (k0_off5_inb c 1))).write (Elt F) (cont p0 .lo (idx .a1) c)
      (k0_pay127 ((accM.access (Rect.unit (s := S16x128x1024) (k0_off5 c 1#32) S4x128x512.size (k0_off5_inb c 1))).read (Elt F) (cont p0 .lo (idx .a1) c)) (((Memref.whole cc0_scratch5 : Memref sig .tc .vmem _ .bf16).access (Rect.unit (s := S3x4x128x512) ![1, 0, 0, 0] S1x4x128x512.size inb_S3x4x128x512_S1x4x128x512_1_0_0_0)).read (Elt F) g)) Finset.univ i
      = cont p0 .lo (idx .a1 + 1) c i := fun i hi =>
    (sum_write c .lo .a1 (R := (Rect.unit (s := S16x128x1024) (k0_off5 c 1#32) S4x128x512.size (k0_off5_inb c 1))) (φ := (fun j => j)) hset hφ (cont p0 .lo (idx .a1) c) (cont p0 .lo (idx .a1) (fr .lo .a1 c))
      (k0_pay127 ((accM.access (Rect.unit (s := S16x128x1024) (k0_off5 c 1#32) S4x128x512.size (k0_off5_inb c 1))).read (Elt F) (cont p0 .lo (idx .a1) c)) (((Memref.whole cc0_scratch5 : Memref sig .tc .vmem _ .bf16).access (Rect.unit (s := S3x4x128x512) ![1, 0, 0, 0] S1x4x128x512.size inb_S3x4x128x512_S1x4x128x512_1_0_0_0)).read (Elt F) g)) hw i (mem_pc.mp hi).2).trans
      (cont_adds p0 .lo .a1 c rfl i).symm
  iapply (wp_seg c (R := (Rect.unit (s := S16x128x1024) (k0_off5 c 1#32) S4x128x512.size (k0_off5_inb c 1))) (B := (Memref.whole cc0_scratch5 : Memref sig .tc .vmem _ .bf16)) (r := (Rect.unit (s := S3x4x128x512) ![1, 0, 0, 0] S1x4x128x512.size inb_S3x4x128x512_S1x4x128x512_1_0_0_0)) (pay := k0_pay127) (f := cont p0 .lo (idx .a1) c) (g := g)
      (S := pc (own .lo (idx .a1 + 1) c) .lo) (T := (dst (fr .lo .a1 c) .lo .a1).view.set)
      (hset ▸ pc_mono (rl_sub .lo .a1 c) .lo) (Finset.Subset.trans (Finset.Subset.refl _) (View.set_reshape _ _).superset) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_hi_a1 (c : Dev nD) (k : Prog (TpuEff nD τ sig (Elt F) Λ₀ .tc) PUnit) (Q : PUnit → sProp 𝕄) :
    iprop(half p0 c .hi .a1 (idx .a1) ∗ landed p0 c .hi .a1)
      ⊢ iprop(((half p0 c .hi .a1 (idx .a1 + 1) ∗ landed p0 c .hi .a1) -∗ wp frame (wpE (defs₀ (F := F)) 𝒱₀ c none) Set.univ k Q)
          -∗ wp frame (wpE (defs₀ (F := F)) 𝒱₀ c none) Set.univ (
  .op (.load accM (Rect.unit (s := S16x128x1024) (k0_off6 c 1#32) S4x128x512.size (k0_off6_inb c 1)).toLoadRect (View.loadsAt_vmem h_S4x128x512)) fun (v : Vec F S4x128x512 .bf16) =>
  .op (.load (Memref.whole cc0_scratch6 : Memref sig .tc .vmem _ .bf16) (Rect.unit (s := S3x4x128x512) ![1, 0, 0, 0] S1x4x128x512.size inb_S3x4x128x512_S1x4x128x512_1_0_0_0).toLoadRect (View.loadsAt_vmem h_S1x4x128x512)) fun (w : Vec F S1x4x128x512 .bf16) =>
  .op (.load accM (Rect.unit (s := S16x128x1024) (k0_off6 c 1#32) S4x128x512.size (k0_off6_inb c 1)).toLoadRect (View.loadsAt_vmem h_S4x128x512)) fun (_ : Vec F S4x128x512 .bf16) =>
  .op (.store accM (Rect.unit (s := S16x128x1024) (k0_off6 c 1#32) S4x128x512.size (k0_off6_inb c 1)) (k0_pay128 v w) Finset.univ (View.stores_vmem h_S4x128x512 ((Memref.isWhole_whole _).storeExact_slice rfl _ (k0_off6_packedbf16 c 1)) (fun _ => rfl)) (.inl rfl)) fun _ =>
  k) Q) := by
  unfold half landed owns
  iintro ⟨HA, %g, %hg, HB⟩ Hk
  have hset : (accM.access (Rect.unit (s := S16x128x1024) (k0_off6 c 1#32) S4x128x512.size (k0_off6_inb c 1))).set = pc (rl .hi .a1 c) .hi :=
    (View.set_slice_whole _ _).trans (box_pc (addOff_hi_a1 c ▸ off_eq (fr .hi .a1 c) .hi .a1) rfl fun j => mem_sl)
  have hφ : ∀ j, (accM.access (Rect.unit (s := S16x128x1024) (k0_off6 c 1#32) S4x128x512.size (k0_off6_inb c 1))).emb j = emb (fr .hi .a1 c) .hi .a1 ((fun j => j) j) := fun j => emb_unit (addOff_hi_a1 c) j
  have hw : ∀ j, k0_pay128 ((accM.access (Rect.unit (s := S16x128x1024) (k0_off6 c 1#32) S4x128x512.size (k0_off6_inb c 1))).read (Elt F) (cont p0 .hi (idx .a1) c)) (((Memref.whole cc0_scratch6 : Memref sig .tc .vmem _ .bf16).access (Rect.unit (s := S3x4x128x512) ![1, 0, 0, 0] S1x4x128x512.size inb_S3x4x128x512_S1x4x128x512_1_0_0_0)).read (Elt F) g) j
      = plus (cont p0 .hi (idx .a1) c ((accM.access (Rect.unit (s := S16x128x1024) (k0_off6 c 1#32) S4x128x512.size (k0_off6_inb c 1))).emb j)) (rd (fr .hi .a1 c) .hi .a1 (cont p0 .hi (idx .a1) (fr .hi .a1 c)) ((fun j => j) j)) := by
    intro j
    show shapeCast S4x128x512 (addf ((accM.access (Rect.unit (s := S16x128x1024) (k0_off6 c 1#32) S4x128x512.size (k0_off6_inb c 1))).read (Elt F) (cont p0 .hi (idx .a1) c)) (shapeCast S4x128x512 (((Memref.whole cc0_scratch6 : Memref sig .tc .vmem _ .bf16).access (Rect.unit (s := S3x4x128x512) ![1, 0, 0, 0] S1x4x128x512.size inb_S3x4x128x512_S1x4x128x512_1_0_0_0)).read (Elt F) g) shapeCasts_S1x4x128x512_S4x128x512)) _ j = _; refine (congrFun (cast_same _ _) j).trans ?_; exact congrArg (plus _) (congrFun hg j)
  have hsum : ∀ i ∈ pc (own .hi (idx .a1 + 1) c) .hi, (accM.access (Rect.unit (s := S16x128x1024) (k0_off6 c 1#32) S4x128x512.size (k0_off6_inb c 1))).write (Elt F) (cont p0 .hi (idx .a1) c)
      (k0_pay128 ((accM.access (Rect.unit (s := S16x128x1024) (k0_off6 c 1#32) S4x128x512.size (k0_off6_inb c 1))).read (Elt F) (cont p0 .hi (idx .a1) c)) (((Memref.whole cc0_scratch6 : Memref sig .tc .vmem _ .bf16).access (Rect.unit (s := S3x4x128x512) ![1, 0, 0, 0] S1x4x128x512.size inb_S3x4x128x512_S1x4x128x512_1_0_0_0)).read (Elt F) g)) Finset.univ i
      = cont p0 .hi (idx .a1 + 1) c i := fun i hi =>
    (sum_write c .hi .a1 (R := (Rect.unit (s := S16x128x1024) (k0_off6 c 1#32) S4x128x512.size (k0_off6_inb c 1))) (φ := (fun j => j)) hset hφ (cont p0 .hi (idx .a1) c) (cont p0 .hi (idx .a1) (fr .hi .a1 c))
      (k0_pay128 ((accM.access (Rect.unit (s := S16x128x1024) (k0_off6 c 1#32) S4x128x512.size (k0_off6_inb c 1))).read (Elt F) (cont p0 .hi (idx .a1) c)) (((Memref.whole cc0_scratch6 : Memref sig .tc .vmem _ .bf16).access (Rect.unit (s := S3x4x128x512) ![1, 0, 0, 0] S1x4x128x512.size inb_S3x4x128x512_S1x4x128x512_1_0_0_0)).read (Elt F) g)) hw i (mem_pc.mp hi).2).trans
      (cont_adds p0 .hi .a1 c rfl i).symm
  iapply (wp_seg c (R := (Rect.unit (s := S16x128x1024) (k0_off6 c 1#32) S4x128x512.size (k0_off6_inb c 1))) (B := (Memref.whole cc0_scratch6 : Memref sig .tc .vmem _ .bf16)) (r := (Rect.unit (s := S3x4x128x512) ![1, 0, 0, 0] S1x4x128x512.size inb_S3x4x128x512_S1x4x128x512_1_0_0_0)) (pay := k0_pay128) (f := cont p0 .hi (idx .a1) c) (g := g)
      (S := pc (own .hi (idx .a1 + 1) c) .hi) (T := (dst (fr .hi .a1 c) .hi .a1).view.set)
      (hset ▸ pc_mono (rl_sub .hi .a1 c) .hi) (Finset.Subset.trans (Finset.Subset.refl _) (View.set_reshape _ _).superset) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_lo_a2 (c : Dev nD) (k : Prog (TpuEff nD τ sig (Elt F) Λ₀ .tc) PUnit) (Q : PUnit → sProp 𝕄) :
    iprop(half p0 c .lo .a2 (idx .a2) ∗ landed p0 c .lo .a2)
      ⊢ iprop(((half p0 c .lo .a2 (idx .a2 + 1) ∗ landed p0 c .lo .a2) -∗ wp frame (wpE (defs₀ (F := F)) 𝒱₀ c none) Set.univ k Q)
          -∗ wp frame (wpE (defs₀ (F := F)) 𝒱₀ c none) Set.univ (
  .op (.load accM (Rect.unit (s := S16x128x1024) (k0_off5 c 2#32) S4x128x512.size (k0_off5_inb c 2)).toLoadRect (View.loadsAt_vmem h_S4x128x512)) fun (v : Vec F S4x128x512 .bf16) =>
  .op (.load (Memref.whole cc0_scratch5 : Memref sig .tc .vmem _ .bf16) (Rect.unit (s := S3x4x128x512) ![2, 0, 0, 0] S1x4x128x512.size inb_S3x4x128x512_S1x4x128x512_2_0_0_0).toLoadRect (View.loadsAt_vmem h_S1x4x128x512)) fun (w : Vec F S1x4x128x512 .bf16) =>
  .op (.load accM (Rect.unit (s := S16x128x1024) (k0_off5 c 2#32) S4x128x512.size (k0_off5_inb c 2)).toLoadRect (View.loadsAt_vmem h_S4x128x512)) fun (_ : Vec F S4x128x512 .bf16) =>
  .op (.store accM (Rect.unit (s := S16x128x1024) (k0_off5 c 2#32) S4x128x512.size (k0_off5_inb c 2)) (k0_pay129 v w) Finset.univ (View.stores_vmem h_S4x128x512 ((Memref.isWhole_whole _).storeExact_slice rfl _ (k0_off5_packedbf16 c 2)) (fun _ => rfl)) (.inl rfl)) fun _ =>
  k) Q) := by
  unfold half landed owns
  iintro ⟨HA, %g, %hg, HB⟩ Hk
  have hset : (accM.access (Rect.unit (s := S16x128x1024) (k0_off5 c 2#32) S4x128x512.size (k0_off5_inb c 2))).set = pc (rl .lo .a2 c) .lo :=
    (View.set_slice_whole _ _).trans (box_pc (addOff_lo_a2 c ▸ off_eq (fr .lo .a2 c) .lo .a2) rfl fun j => mem_sl)
  have hφ : ∀ j, (accM.access (Rect.unit (s := S16x128x1024) (k0_off5 c 2#32) S4x128x512.size (k0_off5_inb c 2))).emb j = emb (fr .lo .a2 c) .lo .a2 ((fun j => j) j) := fun j => emb_unit (addOff_lo_a2 c) j
  have hw : ∀ j, k0_pay129 ((accM.access (Rect.unit (s := S16x128x1024) (k0_off5 c 2#32) S4x128x512.size (k0_off5_inb c 2))).read (Elt F) (cont p0 .lo (idx .a2) c)) (((Memref.whole cc0_scratch5 : Memref sig .tc .vmem _ .bf16).access (Rect.unit (s := S3x4x128x512) ![2, 0, 0, 0] S1x4x128x512.size inb_S3x4x128x512_S1x4x128x512_2_0_0_0)).read (Elt F) g) j
      = plus (cont p0 .lo (idx .a2) c ((accM.access (Rect.unit (s := S16x128x1024) (k0_off5 c 2#32) S4x128x512.size (k0_off5_inb c 2))).emb j)) (rd (fr .lo .a2 c) .lo .a2 (cont p0 .lo (idx .a2) (fr .lo .a2 c)) ((fun j => j) j)) := by
    intro j
    show shapeCast S4x128x512 (addf ((accM.access (Rect.unit (s := S16x128x1024) (k0_off5 c 2#32) S4x128x512.size (k0_off5_inb c 2))).read (Elt F) (cont p0 .lo (idx .a2) c)) (shapeCast S4x128x512 (((Memref.whole cc0_scratch5 : Memref sig .tc .vmem _ .bf16).access (Rect.unit (s := S3x4x128x512) ![2, 0, 0, 0] S1x4x128x512.size inb_S3x4x128x512_S1x4x128x512_2_0_0_0)).read (Elt F) g) shapeCasts_S1x4x128x512_S4x128x512)) _ j = _; refine (congrFun (cast_same _ _) j).trans ?_; exact congrArg (plus _) (congrFun hg j)
  have hsum : ∀ i ∈ pc (own .lo (idx .a2 + 1) c) .lo, (accM.access (Rect.unit (s := S16x128x1024) (k0_off5 c 2#32) S4x128x512.size (k0_off5_inb c 2))).write (Elt F) (cont p0 .lo (idx .a2) c)
      (k0_pay129 ((accM.access (Rect.unit (s := S16x128x1024) (k0_off5 c 2#32) S4x128x512.size (k0_off5_inb c 2))).read (Elt F) (cont p0 .lo (idx .a2) c)) (((Memref.whole cc0_scratch5 : Memref sig .tc .vmem _ .bf16).access (Rect.unit (s := S3x4x128x512) ![2, 0, 0, 0] S1x4x128x512.size inb_S3x4x128x512_S1x4x128x512_2_0_0_0)).read (Elt F) g)) Finset.univ i
      = cont p0 .lo (idx .a2 + 1) c i := fun i hi =>
    (sum_write c .lo .a2 (R := (Rect.unit (s := S16x128x1024) (k0_off5 c 2#32) S4x128x512.size (k0_off5_inb c 2))) (φ := (fun j => j)) hset hφ (cont p0 .lo (idx .a2) c) (cont p0 .lo (idx .a2) (fr .lo .a2 c))
      (k0_pay129 ((accM.access (Rect.unit (s := S16x128x1024) (k0_off5 c 2#32) S4x128x512.size (k0_off5_inb c 2))).read (Elt F) (cont p0 .lo (idx .a2) c)) (((Memref.whole cc0_scratch5 : Memref sig .tc .vmem _ .bf16).access (Rect.unit (s := S3x4x128x512) ![2, 0, 0, 0] S1x4x128x512.size inb_S3x4x128x512_S1x4x128x512_2_0_0_0)).read (Elt F) g)) hw i (mem_pc.mp hi).2).trans
      (cont_adds p0 .lo .a2 c rfl i).symm
  iapply (wp_seg c (R := (Rect.unit (s := S16x128x1024) (k0_off5 c 2#32) S4x128x512.size (k0_off5_inb c 2))) (B := (Memref.whole cc0_scratch5 : Memref sig .tc .vmem _ .bf16)) (r := (Rect.unit (s := S3x4x128x512) ![2, 0, 0, 0] S1x4x128x512.size inb_S3x4x128x512_S1x4x128x512_2_0_0_0)) (pay := k0_pay129) (f := cont p0 .lo (idx .a2) c) (g := g)
      (S := pc (own .lo (idx .a2 + 1) c) .lo) (T := (dst (fr .lo .a2 c) .lo .a2).view.set)
      (hset ▸ pc_mono (rl_sub .lo .a2 c) .lo) (Finset.Subset.trans (Finset.Subset.refl _) (View.set_reshape _ _).superset) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_hi_a2 (c : Dev nD) (k : Prog (TpuEff nD τ sig (Elt F) Λ₀ .tc) PUnit) (Q : PUnit → sProp 𝕄) :
    iprop(half p0 c .hi .a2 (idx .a2) ∗ landed p0 c .hi .a2)
      ⊢ iprop(((half p0 c .hi .a2 (idx .a2 + 1) ∗ landed p0 c .hi .a2) -∗ wp frame (wpE (defs₀ (F := F)) 𝒱₀ c none) Set.univ k Q)
          -∗ wp frame (wpE (defs₀ (F := F)) 𝒱₀ c none) Set.univ (
  .op (.load accM (Rect.unit (s := S16x128x1024) (k0_off6 c 2#32) S4x128x512.size (k0_off6_inb c 2)).toLoadRect (View.loadsAt_vmem h_S4x128x512)) fun (v : Vec F S4x128x512 .bf16) =>
  .op (.load (Memref.whole cc0_scratch6 : Memref sig .tc .vmem _ .bf16) (Rect.unit (s := S3x4x128x512) ![2, 0, 0, 0] S1x4x128x512.size inb_S3x4x128x512_S1x4x128x512_2_0_0_0).toLoadRect (View.loadsAt_vmem h_S1x4x128x512)) fun (w : Vec F S1x4x128x512 .bf16) =>
  .op (.load accM (Rect.unit (s := S16x128x1024) (k0_off6 c 2#32) S4x128x512.size (k0_off6_inb c 2)).toLoadRect (View.loadsAt_vmem h_S4x128x512)) fun (_ : Vec F S4x128x512 .bf16) =>
  .op (.store accM (Rect.unit (s := S16x128x1024) (k0_off6 c 2#32) S4x128x512.size (k0_off6_inb c 2)) (k0_pay130 v w) Finset.univ (View.stores_vmem h_S4x128x512 ((Memref.isWhole_whole _).storeExact_slice rfl _ (k0_off6_packedbf16 c 2)) (fun _ => rfl)) (.inl rfl)) fun _ =>
  k) Q) := by
  unfold half landed owns
  iintro ⟨HA, %g, %hg, HB⟩ Hk
  have hset : (accM.access (Rect.unit (s := S16x128x1024) (k0_off6 c 2#32) S4x128x512.size (k0_off6_inb c 2))).set = pc (rl .hi .a2 c) .hi :=
    (View.set_slice_whole _ _).trans (box_pc (addOff_hi_a2 c ▸ off_eq (fr .hi .a2 c) .hi .a2) rfl fun j => mem_sl)
  have hφ : ∀ j, (accM.access (Rect.unit (s := S16x128x1024) (k0_off6 c 2#32) S4x128x512.size (k0_off6_inb c 2))).emb j = emb (fr .hi .a2 c) .hi .a2 ((fun j => j) j) := fun j => emb_unit (addOff_hi_a2 c) j
  have hw : ∀ j, k0_pay130 ((accM.access (Rect.unit (s := S16x128x1024) (k0_off6 c 2#32) S4x128x512.size (k0_off6_inb c 2))).read (Elt F) (cont p0 .hi (idx .a2) c)) (((Memref.whole cc0_scratch6 : Memref sig .tc .vmem _ .bf16).access (Rect.unit (s := S3x4x128x512) ![2, 0, 0, 0] S1x4x128x512.size inb_S3x4x128x512_S1x4x128x512_2_0_0_0)).read (Elt F) g) j
      = plus (cont p0 .hi (idx .a2) c ((accM.access (Rect.unit (s := S16x128x1024) (k0_off6 c 2#32) S4x128x512.size (k0_off6_inb c 2))).emb j)) (rd (fr .hi .a2 c) .hi .a2 (cont p0 .hi (idx .a2) (fr .hi .a2 c)) ((fun j => j) j)) := by
    intro j
    show shapeCast S4x128x512 (addf ((accM.access (Rect.unit (s := S16x128x1024) (k0_off6 c 2#32) S4x128x512.size (k0_off6_inb c 2))).read (Elt F) (cont p0 .hi (idx .a2) c)) (shapeCast S4x128x512 (((Memref.whole cc0_scratch6 : Memref sig .tc .vmem _ .bf16).access (Rect.unit (s := S3x4x128x512) ![2, 0, 0, 0] S1x4x128x512.size inb_S3x4x128x512_S1x4x128x512_2_0_0_0)).read (Elt F) g) shapeCasts_S1x4x128x512_S4x128x512)) _ j = _; refine (congrFun (cast_same _ _) j).trans ?_; exact congrArg (plus _) (congrFun hg j)
  have hsum : ∀ i ∈ pc (own .hi (idx .a2 + 1) c) .hi, (accM.access (Rect.unit (s := S16x128x1024) (k0_off6 c 2#32) S4x128x512.size (k0_off6_inb c 2))).write (Elt F) (cont p0 .hi (idx .a2) c)
      (k0_pay130 ((accM.access (Rect.unit (s := S16x128x1024) (k0_off6 c 2#32) S4x128x512.size (k0_off6_inb c 2))).read (Elt F) (cont p0 .hi (idx .a2) c)) (((Memref.whole cc0_scratch6 : Memref sig .tc .vmem _ .bf16).access (Rect.unit (s := S3x4x128x512) ![2, 0, 0, 0] S1x4x128x512.size inb_S3x4x128x512_S1x4x128x512_2_0_0_0)).read (Elt F) g)) Finset.univ i
      = cont p0 .hi (idx .a2 + 1) c i := fun i hi =>
    (sum_write c .hi .a2 (R := (Rect.unit (s := S16x128x1024) (k0_off6 c 2#32) S4x128x512.size (k0_off6_inb c 2))) (φ := (fun j => j)) hset hφ (cont p0 .hi (idx .a2) c) (cont p0 .hi (idx .a2) (fr .hi .a2 c))
      (k0_pay130 ((accM.access (Rect.unit (s := S16x128x1024) (k0_off6 c 2#32) S4x128x512.size (k0_off6_inb c 2))).read (Elt F) (cont p0 .hi (idx .a2) c)) (((Memref.whole cc0_scratch6 : Memref sig .tc .vmem _ .bf16).access (Rect.unit (s := S3x4x128x512) ![2, 0, 0, 0] S1x4x128x512.size inb_S3x4x128x512_S1x4x128x512_2_0_0_0)).read (Elt F) g)) hw i (mem_pc.mp hi).2).trans
      (cont_adds p0 .hi .a2 c rfl i).symm
  iapply (wp_seg c (R := (Rect.unit (s := S16x128x1024) (k0_off6 c 2#32) S4x128x512.size (k0_off6_inb c 2))) (B := (Memref.whole cc0_scratch6 : Memref sig .tc .vmem _ .bf16)) (r := (Rect.unit (s := S3x4x128x512) ![2, 0, 0, 0] S1x4x128x512.size inb_S3x4x128x512_S1x4x128x512_2_0_0_0)) (pay := k0_pay130) (f := cont p0 .hi (idx .a2) c) (g := g)
      (S := pc (own .hi (idx .a2 + 1) c) .hi) (T := (dst (fr .hi .a2 c) .hi .a2).view.set)
      (hset ▸ pc_mono (rl_sub .hi .a2 c) .hi) (Finset.Subset.trans (Finset.Subset.refl _) (View.set_reshape _ _).superset) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_lo_b1 (c : Dev nD) (k : Prog (TpuEff nD τ sig (Elt F) Λ₀ .tc) PUnit) (Q : PUnit → sProp 𝕄) :
    iprop(half p0 c .lo .b1 (idx .b1) ∗ landed p0 c .lo .b1)
      ⊢ iprop(((half p0 c .lo .b1 (idx .b1 + 1) ∗ landed p0 c .lo .b1) -∗ wp frame (wpE (defs₀ (F := F)) 𝒱₀ c none) Set.univ k Q)
          -∗ wp frame (wpE (defs₀ (F := F)) 𝒱₀ c none) Set.univ (
  .op (.load accM (Rect.unit (s := S16x128x1024) (k0_off9 c) S2x128x512.size (k0_off9_inb c)).toLoadRect (View.loadsAt_vmem h_S2x128x512)) fun (v : Vec F S2x128x512 .bf16) =>
  .op (.load (Memref.whole cc0_scratch7 : Memref sig .tc .vmem _ .bf16) (Rect.unit (s := S2x128x512) ![0, 0, 0] S2x128x512.size inb_S2x128x512_S2x128x512_0_0_0).toLoadRect (View.loadsAt_vmem h_S2x128x512)) fun (w : Vec F S2x128x512 .bf16) =>
  .op (.load accM (Rect.unit (s := S16x128x1024) (k0_off9 c) S2x128x512.size (k0_off9_inb c)).toLoadRect (View.loadsAt_vmem h_S2x128x512)) fun (_ : Vec F S2x128x512 .bf16) =>
  .op (.store accM (Rect.unit (s := S16x128x1024) (k0_off9 c) S2x128x512.size (k0_off9_inb c)) (k0_pay131 v w) Finset.univ (View.stores_vmem h_S2x128x512 ((Memref.isWhole_whole _).storeExact_slice rfl _ (k0_off9_packedbf16 c)) (fun _ => rfl)) (.inl rfl)) fun _ =>
  k) Q) := by
  unfold half landed owns
  iintro ⟨HA, %g, %hg, HB⟩ Hk
  have hset : (accM.access (Rect.unit (s := S16x128x1024) (k0_off9 c) S2x128x512.size (k0_off9_inb c))).set = pc (rl .lo .b1 c) .lo :=
    (View.set_slice_whole _ _).trans (box_pc (addOff_lo_b1 c ▸ off_eq (fr .lo .b1 c) .lo .b1) rfl fun j => mem_sl)
  have hφ : ∀ j, (accM.access (Rect.unit (s := S16x128x1024) (k0_off9 c) S2x128x512.size (k0_off9_inb c))).emb j = emb (fr .lo .b1 c) .lo .b1 ((fun j => j) j) := fun j => emb_unit (addOff_lo_b1 c) j
  have hw : ∀ j, k0_pay131 ((accM.access (Rect.unit (s := S16x128x1024) (k0_off9 c) S2x128x512.size (k0_off9_inb c))).read (Elt F) (cont p0 .lo (idx .b1) c)) (((Memref.whole cc0_scratch7 : Memref sig .tc .vmem _ .bf16).access (Rect.unit (s := S2x128x512) ![0, 0, 0] S2x128x512.size inb_S2x128x512_S2x128x512_0_0_0)).read (Elt F) g) j
      = plus (cont p0 .lo (idx .b1) c ((accM.access (Rect.unit (s := S16x128x1024) (k0_off9 c) S2x128x512.size (k0_off9_inb c))).emb j)) (rd (fr .lo .b1 c) .lo .b1 (cont p0 .lo (idx .b1) (fr .lo .b1 c)) ((fun j => j) j)) := by
    intro j
    show shapeCast S2x128x512 (addf ((accM.access (Rect.unit (s := S16x128x1024) (k0_off9 c) S2x128x512.size (k0_off9_inb c))).read (Elt F) (cont p0 .lo (idx .b1) c)) (((Memref.whole cc0_scratch7 : Memref sig .tc .vmem _ .bf16).access (Rect.unit (s := S2x128x512) ![0, 0, 0] S2x128x512.size inb_S2x128x512_S2x128x512_0_0_0)).read (Elt F) g)) _ j = _; refine (congrFun (cast_same _ _) j).trans ?_; exact congrArg (plus _) ((congrFun (Memref.read_access_unit_zero (Elt F) cc0_scratch7 (by decide) inb_S2x128x512_S2x128x512_0_0_0 g) j).trans (congrFun hg j))
  have hsum : ∀ i ∈ pc (own .lo (idx .b1 + 1) c) .lo, (accM.access (Rect.unit (s := S16x128x1024) (k0_off9 c) S2x128x512.size (k0_off9_inb c))).write (Elt F) (cont p0 .lo (idx .b1) c)
      (k0_pay131 ((accM.access (Rect.unit (s := S16x128x1024) (k0_off9 c) S2x128x512.size (k0_off9_inb c))).read (Elt F) (cont p0 .lo (idx .b1) c)) (((Memref.whole cc0_scratch7 : Memref sig .tc .vmem _ .bf16).access (Rect.unit (s := S2x128x512) ![0, 0, 0] S2x128x512.size inb_S2x128x512_S2x128x512_0_0_0)).read (Elt F) g)) Finset.univ i
      = cont p0 .lo (idx .b1 + 1) c i := fun i hi =>
    (sum_write c .lo .b1 (R := (Rect.unit (s := S16x128x1024) (k0_off9 c) S2x128x512.size (k0_off9_inb c))) (φ := (fun j => j)) hset hφ (cont p0 .lo (idx .b1) c) (cont p0 .lo (idx .b1) (fr .lo .b1 c))
      (k0_pay131 ((accM.access (Rect.unit (s := S16x128x1024) (k0_off9 c) S2x128x512.size (k0_off9_inb c))).read (Elt F) (cont p0 .lo (idx .b1) c)) (((Memref.whole cc0_scratch7 : Memref sig .tc .vmem _ .bf16).access (Rect.unit (s := S2x128x512) ![0, 0, 0] S2x128x512.size inb_S2x128x512_S2x128x512_0_0_0)).read (Elt F) g)) hw i (mem_pc.mp hi).2).trans
      (cont_adds p0 .lo .b1 c rfl i).symm
  iapply (wp_seg c (R := (Rect.unit (s := S16x128x1024) (k0_off9 c) S2x128x512.size (k0_off9_inb c))) (B := (Memref.whole cc0_scratch7 : Memref sig .tc .vmem _ .bf16)) (r := (Rect.unit (s := S2x128x512) ![0, 0, 0] S2x128x512.size inb_S2x128x512_S2x128x512_0_0_0)) (pay := k0_pay131) (f := cont p0 .lo (idx .b1) c) (g := g)
      (S := pc (own .lo (idx .b1 + 1) c) .lo) (T := (dst (fr .lo .b1 c) .lo .b1).view.set)
      (hset ▸ pc_mono (rl_sub .lo .b1 c) .lo) (by rw [View.set_whole]; exact Finset.subset_univ _) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

theorem wp_half_hi_b1 (c : Dev nD) (k : Prog (TpuEff nD τ sig (Elt F) Λ₀ .tc) PUnit) (Q : PUnit → sProp 𝕄) :
    iprop(half p0 c .hi .b1 (idx .b1) ∗ landed p0 c .hi .b1)
      ⊢ iprop(((half p0 c .hi .b1 (idx .b1 + 1) ∗ landed p0 c .hi .b1) -∗ wp frame (wpE (defs₀ (F := F)) 𝒱₀ c none) Set.univ k Q)
          -∗ wp frame (wpE (defs₀ (F := F)) 𝒱₀ c none) Set.univ (
  .op (.load accM (Rect.unit (s := S16x128x1024) (k0_off10 c) S2x128x512.size (k0_off10_inb c)).toLoadRect (View.loadsAt_vmem h_S2x128x512)) fun (v : Vec F S2x128x512 .bf16) =>
  .op (.load (Memref.whole cc0_scratch8 : Memref sig .tc .vmem _ .bf16) (Rect.unit (s := S2x128x512) ![0, 0, 0] S2x128x512.size inb_S2x128x512_S2x128x512_0_0_0).toLoadRect (View.loadsAt_vmem h_S2x128x512)) fun (w : Vec F S2x128x512 .bf16) =>
  .op (.load accM (Rect.unit (s := S16x128x1024) (k0_off10 c) S2x128x512.size (k0_off10_inb c)).toLoadRect (View.loadsAt_vmem h_S2x128x512)) fun (_ : Vec F S2x128x512 .bf16) =>
  .op (.store accM (Rect.unit (s := S16x128x1024) (k0_off10 c) S2x128x512.size (k0_off10_inb c)) (k0_pay132 v w) Finset.univ (View.stores_vmem h_S2x128x512 ((Memref.isWhole_whole _).storeExact_slice rfl _ (k0_off10_packedbf16 c)) (fun _ => rfl)) (.inl rfl)) fun _ =>
  k) Q) := by
  unfold half landed owns
  iintro ⟨HA, %g, %hg, HB⟩ Hk
  have hset : (accM.access (Rect.unit (s := S16x128x1024) (k0_off10 c) S2x128x512.size (k0_off10_inb c))).set = pc (rl .hi .b1 c) .hi :=
    (View.set_slice_whole _ _).trans (box_pc (addOff_hi_b1 c ▸ off_eq (fr .hi .b1 c) .hi .b1) rfl fun j => mem_sl)
  have hφ : ∀ j, (accM.access (Rect.unit (s := S16x128x1024) (k0_off10 c) S2x128x512.size (k0_off10_inb c))).emb j = emb (fr .hi .b1 c) .hi .b1 ((fun j => j) j) := fun j => emb_unit (addOff_hi_b1 c) j
  have hw : ∀ j, k0_pay132 ((accM.access (Rect.unit (s := S16x128x1024) (k0_off10 c) S2x128x512.size (k0_off10_inb c))).read (Elt F) (cont p0 .hi (idx .b1) c)) (((Memref.whole cc0_scratch8 : Memref sig .tc .vmem _ .bf16).access (Rect.unit (s := S2x128x512) ![0, 0, 0] S2x128x512.size inb_S2x128x512_S2x128x512_0_0_0)).read (Elt F) g) j
      = plus (cont p0 .hi (idx .b1) c ((accM.access (Rect.unit (s := S16x128x1024) (k0_off10 c) S2x128x512.size (k0_off10_inb c))).emb j)) (rd (fr .hi .b1 c) .hi .b1 (cont p0 .hi (idx .b1) (fr .hi .b1 c)) ((fun j => j) j)) := by
    intro j
    show shapeCast S2x128x512 (addf ((accM.access (Rect.unit (s := S16x128x1024) (k0_off10 c) S2x128x512.size (k0_off10_inb c))).read (Elt F) (cont p0 .hi (idx .b1) c)) (((Memref.whole cc0_scratch8 : Memref sig .tc .vmem _ .bf16).access (Rect.unit (s := S2x128x512) ![0, 0, 0] S2x128x512.size inb_S2x128x512_S2x128x512_0_0_0)).read (Elt F) g)) _ j = _; refine (congrFun (cast_same _ _) j).trans ?_; exact congrArg (plus _) ((congrFun (Memref.read_access_unit_zero (Elt F) cc0_scratch8 (by decide) inb_S2x128x512_S2x128x512_0_0_0 g) j).trans (congrFun hg j))
  have hsum : ∀ i ∈ pc (own .hi (idx .b1 + 1) c) .hi, (accM.access (Rect.unit (s := S16x128x1024) (k0_off10 c) S2x128x512.size (k0_off10_inb c))).write (Elt F) (cont p0 .hi (idx .b1) c)
      (k0_pay132 ((accM.access (Rect.unit (s := S16x128x1024) (k0_off10 c) S2x128x512.size (k0_off10_inb c))).read (Elt F) (cont p0 .hi (idx .b1) c)) (((Memref.whole cc0_scratch8 : Memref sig .tc .vmem _ .bf16).access (Rect.unit (s := S2x128x512) ![0, 0, 0] S2x128x512.size inb_S2x128x512_S2x128x512_0_0_0)).read (Elt F) g)) Finset.univ i
      = cont p0 .hi (idx .b1 + 1) c i := fun i hi =>
    (sum_write c .hi .b1 (R := (Rect.unit (s := S16x128x1024) (k0_off10 c) S2x128x512.size (k0_off10_inb c))) (φ := (fun j => j)) hset hφ (cont p0 .hi (idx .b1) c) (cont p0 .hi (idx .b1) (fr .hi .b1 c))
      (k0_pay132 ((accM.access (Rect.unit (s := S16x128x1024) (k0_off10 c) S2x128x512.size (k0_off10_inb c))).read (Elt F) (cont p0 .hi (idx .b1) c)) (((Memref.whole cc0_scratch8 : Memref sig .tc .vmem _ .bf16).access (Rect.unit (s := S2x128x512) ![0, 0, 0] S2x128x512.size inb_S2x128x512_S2x128x512_0_0_0)).read (Elt F) g)) hw i (mem_pc.mp hi).2).trans
      (cont_adds p0 .hi .b1 c rfl i).symm
  iapply (wp_seg c (R := (Rect.unit (s := S16x128x1024) (k0_off10 c) S2x128x512.size (k0_off10_inb c))) (B := (Memref.whole cc0_scratch8 : Memref sig .tc .vmem _ .bf16)) (r := (Rect.unit (s := S2x128x512) ![0, 0, 0] S2x128x512.size inb_S2x128x512_S2x128x512_0_0_0)) (pay := k0_pay132) (f := cont p0 .hi (idx .b1) c) (g := g)
      (S := pc (own .hi (idx .b1 + 1) c) .hi) (T := (dst (fr .hi .b1 c) .hi .b1).view.set)
      (hset ▸ pc_mono (rl_sub .hi .b1 c) .hi) (by rw [View.set_whole]; exact Finset.subset_univ _) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

set_option maxHeartbeats 1600000 in
theorem wp_half_lo_b2 (c : Dev nD) (k : Prog (TpuEff nD τ sig (Elt F) Λ₀ .tc) PUnit) (Q : PUnit → sProp 𝕄) :
    iprop(half p0 c .lo .b2 (idx .b2) ∗ landed p0 c .lo .b2)
      ⊢ iprop(((half p0 c .lo .b2 (idx .b2 + 1) ∗ landed p0 c .lo .b2) -∗ wp frame (wpE (defs₀ (F := F)) 𝒱₀ c none) Set.univ k Q)
          -∗ wp frame (wpE (defs₀ (F := F)) 𝒱₀ c none) Set.univ (
  .op (.load accM (Rect.unit (s := S16x128x1024) (k0_off13 c) S1x128x512.size (k0_off13_inb c)).toLoadRect (View.loadsAt_vmem h_S1x128x512)) fun (v : Vec F S1x128x512 .bf16) =>
  .op (.load (Memref.whole cc0_scratch9 : Memref sig .tc .vmem _ .bf16) (Rect.unit (s := S128x512) ![0, 0] S128x512.size inb_S128x512_S128x512_0_0).toLoadRect (View.loadsAt_vmem h_S128x512)) fun (w : Vec F S128x512 .bf16) =>
  .op (.load accM (Rect.unit (s := S16x128x1024) (k0_off13 c) S1x128x512.size (k0_off13_inb c)).toLoadRect (View.loadsAt_vmem h_S1x128x512)) fun (_ : Vec F S1x128x512 .bf16) =>
  .op (.store accM (Rect.unit (s := S16x128x1024) (k0_off13 c) S1x128x512.size (k0_off13_inb c)) (k0_pay133 v w) Finset.univ (View.stores_vmem h_S1x128x512 ((Memref.isWhole_whole _).storeExact_slice rfl _ (k0_off13_packedbf16 c)) (fun _ => rfl)) (.inl rfl)) fun _ =>
  k) Q) := by
  unfold half landed owns
  iintro ⟨HA, %g, %hg, HB⟩ Hk
  have hset : (accM.access (Rect.unit (s := S16x128x1024) (k0_off13 c) S1x128x512.size (k0_off13_inb c))).set = pc (rl .lo .b2 c) .lo :=
    (View.set_slice_whole _ _).trans (box_pc (addOff_lo_b2 c ▸ off_eq (fr .lo .b2 c) .lo .b2) rfl fun j => mem_sl)
  have hφ : ∀ j, (accM.access (Rect.unit (s := S16x128x1024) (k0_off13 c) S1x128x512.size (k0_off13_inb c))).emb j = emb (fr .lo .b2 c) .lo .b2 ((fun j => Shape.reshapeEquiv (s := S128x512) (s' := S1x128x512) numel_1 j) j) := fun j => emb_b2 (fr .lo .b2 c) .lo (addOff_lo_b2 c) j
  have hw : ∀ j, k0_pay133 ((accM.access (Rect.unit (s := S16x128x1024) (k0_off13 c) S1x128x512.size (k0_off13_inb c))).read (Elt F) (cont p0 .lo (idx .b2) c)) (((Memref.whole cc0_scratch9 : Memref sig .tc .vmem _ .bf16).access (Rect.unit (s := S128x512) ![0, 0] S128x512.size inb_S128x512_S128x512_0_0)).read (Elt F) g) j
      = plus (cont p0 .lo (idx .b2) c ((accM.access (Rect.unit (s := S16x128x1024) (k0_off13 c) S1x128x512.size (k0_off13_inb c))).emb j)) (rd (fr .lo .b2 c) .lo .b2 (cont p0 .lo (idx .b2) (fr .lo .b2 c)) ((fun j => Shape.reshapeEquiv (s := S128x512) (s' := S1x128x512) numel_1 j) j)) := by
    intro j
    rw [pay133_apply]; exact congrArg (plus _) ((congrFun (Memref.read_access_unit_zero (Elt F) cc0_scratch9 (by decide) inb_S128x512_S128x512_0_0 g) (Shape.reshapeEquiv numel_1 j)).trans (congrFun hg (Shape.reshapeEquiv numel_1 j)))
  have hsum : ∀ i ∈ pc (own .lo (idx .b2 + 1) c) .lo, (accM.access (Rect.unit (s := S16x128x1024) (k0_off13 c) S1x128x512.size (k0_off13_inb c))).write (Elt F) (cont p0 .lo (idx .b2) c)
      (k0_pay133 ((accM.access (Rect.unit (s := S16x128x1024) (k0_off13 c) S1x128x512.size (k0_off13_inb c))).read (Elt F) (cont p0 .lo (idx .b2) c)) (((Memref.whole cc0_scratch9 : Memref sig .tc .vmem _ .bf16).access (Rect.unit (s := S128x512) ![0, 0] S128x512.size inb_S128x512_S128x512_0_0)).read (Elt F) g)) Finset.univ i
      = cont p0 .lo (idx .b2 + 1) c i := fun i hi =>
    (sum_write c .lo .b2 (R := (Rect.unit (s := S16x128x1024) (k0_off13 c) S1x128x512.size (k0_off13_inb c))) (φ := (fun j => Shape.reshapeEquiv (s := S128x512) (s' := S1x128x512) numel_1 j)) hset hφ (cont p0 .lo (idx .b2) c) (cont p0 .lo (idx .b2) (fr .lo .b2 c))
      (k0_pay133 ((accM.access (Rect.unit (s := S16x128x1024) (k0_off13 c) S1x128x512.size (k0_off13_inb c))).read (Elt F) (cont p0 .lo (idx .b2) c)) (((Memref.whole cc0_scratch9 : Memref sig .tc .vmem _ .bf16).access (Rect.unit (s := S128x512) ![0, 0] S128x512.size inb_S128x512_S128x512_0_0)).read (Elt F) g)) hw i (mem_pc.mp hi).2).trans
      (cont_adds p0 .lo .b2 c rfl i).symm
  iapply (wp_seg c (R := (Rect.unit (s := S16x128x1024) (k0_off13 c) S1x128x512.size (k0_off13_inb c))) (B := (Memref.whole cc0_scratch9 : Memref sig .tc .vmem _ .bf16)) (r := (Rect.unit (s := S128x512) ![0, 0] S128x512.size inb_S128x512_S128x512_0_0)) (pay := k0_pay133) (f := cont p0 .lo (idx .b2) c) (g := g)
      (S := pc (own .lo (idx .b2 + 1) c) .lo) (T := (dst (fr .lo .b2 c) .lo .b2).view.set)
      (hset ▸ pc_mono (rl_sub .lo .b2 c) .lo) (by rw [View.set_whole]; exact Finset.subset_univ _) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

set_option maxHeartbeats 1600000 in
theorem wp_half_hi_b2 (c : Dev nD) (k : Prog (TpuEff nD τ sig (Elt F) Λ₀ .tc) PUnit) (Q : PUnit → sProp 𝕄) :
    iprop(half p0 c .hi .b2 (idx .b2) ∗ landed p0 c .hi .b2)
      ⊢ iprop(((half p0 c .hi .b2 (idx .b2 + 1) ∗ landed p0 c .hi .b2) -∗ wp frame (wpE (defs₀ (F := F)) 𝒱₀ c none) Set.univ k Q)
          -∗ wp frame (wpE (defs₀ (F := F)) 𝒱₀ c none) Set.univ (
  .op (.load accM (Rect.unit (s := S16x128x1024) (k0_off14 c) S1x128x512.size (k0_off14_inb c)).toLoadRect (View.loadsAt_vmem h_S1x128x512)) fun (v : Vec F S1x128x512 .bf16) =>
  .op (.load (Memref.whole cc0_scratch10 : Memref sig .tc .vmem _ .bf16) (Rect.unit (s := S128x512) ![0, 0] S128x512.size inb_S128x512_S128x512_0_0).toLoadRect (View.loadsAt_vmem h_S128x512)) fun (w : Vec F S128x512 .bf16) =>
  .op (.load accM (Rect.unit (s := S16x128x1024) (k0_off14 c) S1x128x512.size (k0_off14_inb c)).toLoadRect (View.loadsAt_vmem h_S1x128x512)) fun (_ : Vec F S1x128x512 .bf16) =>
  .op (.store accM (Rect.unit (s := S16x128x1024) (k0_off14 c) S1x128x512.size (k0_off14_inb c)) (k0_pay134 v w) Finset.univ (View.stores_vmem h_S1x128x512 ((Memref.isWhole_whole _).storeExact_slice rfl _ (k0_off14_packedbf16 c)) (fun _ => rfl)) (.inl rfl)) fun _ =>
  k) Q) := by
  unfold half landed owns
  iintro ⟨HA, %g, %hg, HB⟩ Hk
  have hset : (accM.access (Rect.unit (s := S16x128x1024) (k0_off14 c) S1x128x512.size (k0_off14_inb c))).set = pc (rl .hi .b2 c) .hi :=
    (View.set_slice_whole _ _).trans (box_pc (addOff_hi_b2 c ▸ off_eq (fr .hi .b2 c) .hi .b2) rfl fun j => mem_sl)
  have hφ : ∀ j, (accM.access (Rect.unit (s := S16x128x1024) (k0_off14 c) S1x128x512.size (k0_off14_inb c))).emb j = emb (fr .hi .b2 c) .hi .b2 ((fun j => Shape.reshapeEquiv (s := S128x512) (s' := S1x128x512) numel_1 j) j) := fun j => emb_b2 (fr .hi .b2 c) .hi (addOff_hi_b2 c) j
  have hw : ∀ j, k0_pay134 ((accM.access (Rect.unit (s := S16x128x1024) (k0_off14 c) S1x128x512.size (k0_off14_inb c))).read (Elt F) (cont p0 .hi (idx .b2) c)) (((Memref.whole cc0_scratch10 : Memref sig .tc .vmem _ .bf16).access (Rect.unit (s := S128x512) ![0, 0] S128x512.size inb_S128x512_S128x512_0_0)).read (Elt F) g) j
      = plus (cont p0 .hi (idx .b2) c ((accM.access (Rect.unit (s := S16x128x1024) (k0_off14 c) S1x128x512.size (k0_off14_inb c))).emb j)) (rd (fr .hi .b2 c) .hi .b2 (cont p0 .hi (idx .b2) (fr .hi .b2 c)) ((fun j => Shape.reshapeEquiv (s := S128x512) (s' := S1x128x512) numel_1 j) j)) := by
    intro j
    rw [pay134_apply]; exact congrArg (plus _) ((congrFun (Memref.read_access_unit_zero (Elt F) cc0_scratch10 (by decide) inb_S128x512_S128x512_0_0 g) (Shape.reshapeEquiv numel_1 j)).trans (congrFun hg (Shape.reshapeEquiv numel_1 j)))
  have hsum : ∀ i ∈ pc (own .hi (idx .b2 + 1) c) .hi, (accM.access (Rect.unit (s := S16x128x1024) (k0_off14 c) S1x128x512.size (k0_off14_inb c))).write (Elt F) (cont p0 .hi (idx .b2) c)
      (k0_pay134 ((accM.access (Rect.unit (s := S16x128x1024) (k0_off14 c) S1x128x512.size (k0_off14_inb c))).read (Elt F) (cont p0 .hi (idx .b2) c)) (((Memref.whole cc0_scratch10 : Memref sig .tc .vmem _ .bf16).access (Rect.unit (s := S128x512) ![0, 0] S128x512.size inb_S128x512_S128x512_0_0)).read (Elt F) g)) Finset.univ i
      = cont p0 .hi (idx .b2 + 1) c i := fun i hi =>
    (sum_write c .hi .b2 (R := (Rect.unit (s := S16x128x1024) (k0_off14 c) S1x128x512.size (k0_off14_inb c))) (φ := (fun j => Shape.reshapeEquiv (s := S128x512) (s' := S1x128x512) numel_1 j)) hset hφ (cont p0 .hi (idx .b2) c) (cont p0 .hi (idx .b2) (fr .hi .b2 c))
      (k0_pay134 ((accM.access (Rect.unit (s := S16x128x1024) (k0_off14 c) S1x128x512.size (k0_off14_inb c))).read (Elt F) (cont p0 .hi (idx .b2) c)) (((Memref.whole cc0_scratch10 : Memref sig .tc .vmem _ .bf16).access (Rect.unit (s := S128x512) ![0, 0] S128x512.size inb_S128x512_S128x512_0_0)).read (Elt F) g)) hw i (mem_pc.mp hi).2).trans
      (cont_adds p0 .hi .b2 c rfl i).symm
  iapply (wp_seg c (R := (Rect.unit (s := S16x128x1024) (k0_off14 c) S1x128x512.size (k0_off14_inb c))) (B := (Memref.whole cc0_scratch10 : Memref sig .tc .vmem _ .bf16)) (r := (Rect.unit (s := S128x512) ![0, 0] S128x512.size inb_S128x512_S128x512_0_0)) (pay := k0_pay134) (f := cont p0 .hi (idx .b2) c) (g := g)
      (S := pc (own .hi (idx .b2 + 1) c) .hi) (T := (dst (fr .hi .b2 c) .hi .b2).view.set)
      (hset ▸ pc_mono (rl_sub .hi .b2 c) .hi) (by rw [View.set_whole]; exact Finset.subset_univ _) k Q) $$ [HA HB]
  · isplitl [HA]
    · iexact HA
    · iexact HB
  iintro ⟨HA, HB⟩
  iapply Hk
  isplitl [HA]
  · iapply (A_congr hsum)
    iexact HA
  · iexists g
    isplitr
    · ipureintro; exact hg
    · iexact HB

/-- The additions of step a0. -/
theorem wp_add_a0 (c : Dev nD) (k : Prog (TpuEff nD τ sig (Elt F) Λ₀ .tc) PUnit) (Q : PUnit → sProp 𝕄) :
    iprop((half p0 c .lo .a0 (idx .a0) ∗ landed p0 c .lo .a0) ∗ (half p0 c .hi .a0 (idx .a0) ∗ landed p0 c .hi .a0))
      ⊢ iprop((((half p0 c .lo .a0 (idx .a0 + 1) ∗ landed p0 c .lo .a0) ∗ (half p0 c .hi .a0 (idx .a0 + 1) ∗ landed p0 c .hi .a0))
            -∗ wp frame (wpE (defs₀ (F := F)) 𝒱₀ c none) Set.univ k Q)
          -∗ wp frame (wpE (defs₀ (F := F)) 𝒱₀ c none) Set.univ (add_a0 c k) Q) := by
  iintro ⟨HL, HH⟩ Hk
  iapply (wp_half_lo_a0 p0 c _ Q) $$ HL
  iintro HL
  iapply (wp_half_hi_a0 p0 c _ Q) $$ HH
  iintro HH
  iapply Hk
  isplitl [HL]
  · iexact HL
  · iexact HH

/-- The additions of step a1. -/
theorem wp_add_a1 (c : Dev nD) (k : Prog (TpuEff nD τ sig (Elt F) Λ₀ .tc) PUnit) (Q : PUnit → sProp 𝕄) :
    iprop((half p0 c .lo .a1 (idx .a1) ∗ landed p0 c .lo .a1) ∗ (half p0 c .hi .a1 (idx .a1) ∗ landed p0 c .hi .a1))
      ⊢ iprop((((half p0 c .lo .a1 (idx .a1 + 1) ∗ landed p0 c .lo .a1) ∗ (half p0 c .hi .a1 (idx .a1 + 1) ∗ landed p0 c .hi .a1))
            -∗ wp frame (wpE (defs₀ (F := F)) 𝒱₀ c none) Set.univ k Q)
          -∗ wp frame (wpE (defs₀ (F := F)) 𝒱₀ c none) Set.univ (add_a1 c k) Q) := by
  iintro ⟨HL, HH⟩ Hk
  iapply (wp_half_lo_a1 p0 c _ Q) $$ HL
  iintro HL
  iapply (wp_half_hi_a1 p0 c _ Q) $$ HH
  iintro HH
  iapply Hk
  isplitl [HL]
  · iexact HL
  · iexact HH

/-- The additions of step a2. -/
theorem wp_add_a2 (c : Dev nD) (k : Prog (TpuEff nD τ sig (Elt F) Λ₀ .tc) PUnit) (Q : PUnit → sProp 𝕄) :
    iprop((half p0 c .lo .a2 (idx .a2) ∗ landed p0 c .lo .a2) ∗ (half p0 c .hi .a2 (idx .a2) ∗ landed p0 c .hi .a2))
      ⊢ iprop((((half p0 c .lo .a2 (idx .a2 + 1) ∗ landed p0 c .lo .a2) ∗ (half p0 c .hi .a2 (idx .a2 + 1) ∗ landed p0 c .hi .a2))
            -∗ wp frame (wpE (defs₀ (F := F)) 𝒱₀ c none) Set.univ k Q)
          -∗ wp frame (wpE (defs₀ (F := F)) 𝒱₀ c none) Set.univ (add_a2 c k) Q) := by
  iintro ⟨HL, HH⟩ Hk
  iapply (wp_half_lo_a2 p0 c _ Q) $$ HL
  iintro HL
  iapply (wp_half_hi_a2 p0 c _ Q) $$ HH
  iintro HH
  iapply Hk
  isplitl [HL]
  · iexact HL
  · iexact HH

/-- The additions of step b1. -/
theorem wp_add_b1 (c : Dev nD) (k : Prog (TpuEff nD τ sig (Elt F) Λ₀ .tc) PUnit) (Q : PUnit → sProp 𝕄) :
    iprop((half p0 c .lo .b1 (idx .b1) ∗ landed p0 c .lo .b1) ∗ (half p0 c .hi .b1 (idx .b1) ∗ landed p0 c .hi .b1))
      ⊢ iprop((((half p0 c .lo .b1 (idx .b1 + 1) ∗ landed p0 c .lo .b1) ∗ (half p0 c .hi .b1 (idx .b1 + 1) ∗ landed p0 c .hi .b1))
            -∗ wp frame (wpE (defs₀ (F := F)) 𝒱₀ c none) Set.univ k Q)
          -∗ wp frame (wpE (defs₀ (F := F)) 𝒱₀ c none) Set.univ (add_b1 c k) Q) := by
  iintro ⟨HL, HH⟩ Hk
  iapply (wp_half_lo_b1 p0 c _ Q) $$ HL
  iintro HL
  iapply (wp_half_hi_b1 p0 c _ Q) $$ HH
  iintro HH
  iapply Hk
  isplitl [HL]
  · iexact HL
  · iexact HH

/-- The additions of step b2. -/
theorem wp_add_b2 (c : Dev nD) (k : Prog (TpuEff nD τ sig (Elt F) Λ₀ .tc) PUnit) (Q : PUnit → sProp 𝕄) :
    iprop((half p0 c .lo .b2 (idx .b2) ∗ landed p0 c .lo .b2) ∗ (half p0 c .hi .b2 (idx .b2) ∗ landed p0 c .hi .b2))
      ⊢ iprop((((half p0 c .lo .b2 (idx .b2 + 1) ∗ landed p0 c .lo .b2) ∗ (half p0 c .hi .b2 (idx .b2 + 1) ∗ landed p0 c .hi .b2))
            -∗ wp frame (wpE (defs₀ (F := F)) 𝒱₀ c none) Set.univ k Q)
          -∗ wp frame (wpE (defs₀ (F := F)) 𝒱₀ c none) Set.univ (add_b2 c k) Q) := by
  iintro ⟨HL, HH⟩ Hk
  iapply (wp_half_lo_b2 p0 c _ Q) $$ HL
  iintro HL
  iapply (wp_half_hi_b2 p0 c _ Q) $$ HH
  iintro HH
  iapply Hk
  isplitl [HL]
  · iexact HL
  · iexact HH

end Cert.KernelIdeal.Talk
-- ==== Proof.Attn.lean ====
module

public import proofs.«01_k».proof.Proof.Move
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The attention of a device -/

local notation "𝕄" => MT nD τ sig Unit (Elt F) ℕ UU ℕ

theorem i704_0 (h : Fin 8) : ∀ a, (![h.val, 0, 0] : Fin 3 → Nat) a + S1x704x128.size a ≤ S8x2048x128.size a := by revert h; decide
theorem i704_704 (h : Fin 8) : ∀ a, (![h.val, 704, 0] : Fin 3 → Nat) a + S1x704x128.size a ≤ S8x2048x128.size a := by revert h; decide
theorem i640_1408 (h : Fin 8) : ∀ a, (![h.val, 1408, 0] : Fin 3 → Nat) a + S1x640x128.size a ≤ S8x2048x128.size a := by revert h; decide
theorem i64_0 (h : Fin 8) : ∀ a, (![h.val, 0, 0] : Fin 3 → Nat) a + S1x64x128.size a ≤ S8x2048x128.size a := by revert h; decide
/-- A whole buffer held. -/
def held (c : Dev nD) {s : Shape} {e : EltTy} {sp : CoreSpace} (m : Memref sig .tc sp s e) (f : Buf (Elt F) (m.view.loc (c : Thread nD τ))) : sProp 𝕄 :=
  iprop((m.view.loc (c : Thread nD τ)) ↦{fullShare} f)

theorem wp_ld (c : Dev nD) {s : Shape} {e : EltTy} {sp : CoreSpace} (m : Memref sig .tc sp s e) (r : Rect s) (f : Buf (Elt F) (m.view.loc (c : Thread nD τ)))
    {h : m.view.LoadsAt r.toLoadRect} (k : (r.shape.Idx → Elt F e) → Prog (TpuEff nD τ sig (Elt F) Λ₀ .tc) PUnit) (Q : PUnit → sProp 𝕄) :
    (held c m f : sProp 𝕄) ⊢ iprop((held c m f -∗ wp frame (wpE (defs₀ (F := F)) 𝒱₀ c none) Set.univ (k ((m.access r).read (Elt F) f)) Q)
      -∗ wp frame (wpE (defs₀ (F := F)) 𝒱₀ c none) Set.univ (.op (.load m r.toLoadRect h) k) Q) := by
  unfold held
  exact wp_load_rect (defs := defs₀ (F := F)) 𝒱₀ (c : Thread nD τ) none Set.univ (m := m) (r := r) (S := Finset.univ) (q := fullShare) (f := f) (Finset.subset_univ _)

abbrev KV (F : FTy → Type) := S8x2048x128.Idx → Elt F .f32
abbrev WW (F : FTy → Type) := S1024x1024.Idx → Elt F .f32

/-- One head's addition, group 0, from the buffers' contents. -/
def stepH0 (q : FVec F S2048x1024 .f32) (K V : KV F) (W : WW F) (acc : FVec F S704x1024 .f32) (h : Fin 8) : FVec F S704x1024 .f32 :=
  upd0 q h acc ((kM.access (rk704 h 0 (i704_0 h))).read (Elt F) K) ((vM.access (rk704 h 0 (i704_0 h))).read (Elt F) V) ((woM.access (rw h)).read (Elt F) W)
/-- The sum over the heads, group 0. -/
def sum0 (q : FVec F S2048x1024 .f32) (K V : KV F) (W : WW F) : FVec F S704x1024 .f32 := hs8.foldl (stepH0 q K V W) zero0

theorem wp_heads0 (c : Dev nD) (q : FVec F S2048x1024 .f32) (K V : KV F) (W : WW F) (hs : List (Fin 8)) (acc : FVec F S704x1024 .f32)
    (k : FVec F S704x1024 .f32 → Prog (TpuEff nD τ sig (Elt F) Λ₀ .tc) PUnit) (Q : PUnit → sProp 𝕄) :
    iprop(held c kM K ∗ held c vM V ∗ held c woM W)
      ⊢ iprop(((held c kM K ∗ held c vM V ∗ held c woM W) -∗ wp frame (wpE (defs₀ (F := F)) 𝒱₀ c none) Set.univ (k (hs.foldl (stepH0 q K V W) acc)) Q)
          -∗ wp frame (wpE (defs₀ (F := F)) 𝒱₀ c none) Set.univ (heads0 q hs acc k) Q) := by
  induction hs generalizing acc with
  | nil =>
    iintro H Hk
    iapply Hk
    iexact H
  | cons h hs ih =>
    unfold heads0
    unfold held at ih ⊢
    iintro ⟨HK, HV, HW⟩ Hk
    iapply (wp_load_rect (defs := defs₀ (F := F)) 𝒱₀ (c : Thread nD τ) none Set.univ (m := kM) (r := (rk704 h 0 (i704_0 h))) (S := Finset.univ) (q := fullShare) (f := K) (Finset.subset_univ _)) $$ HK
    iintro HK
    iapply (wp_load_rect (defs := defs₀ (F := F)) 𝒱₀ (c : Thread nD τ) none Set.univ (m := vM) (r := (rk704 h 0 (i704_0 h))) (S := Finset.univ) (q := fullShare) (f := V) (Finset.subset_univ _)) $$ HV
    iintro HV
    iapply (wp_load_rect (defs := defs₀ (F := F)) 𝒱₀ (c : Thread nD τ) none Set.univ (m := woM) (r := (rw h)) (S := Finset.univ) (q := fullShare) (f := W) (Finset.subset_univ _)) $$ HW
    iintro HW
    iapply (ih (stepH0 q K V W acc h)) $$ [HK HV HW]
    · isplitl [HK]; · iexact HK
      isplitl [HV]; · iexact HV
      iexact HW
    iintro H
    iapply Hk
    iexact H

/-- One head's addition, group 1, from the buffers' contents. -/
def stepH1 (q : FVec F S2048x1024 .f32) (K V : KV F) (W : WW F) (acc : FVec F S704x1024 .f32) (h : Fin 8) : FVec F S704x1024 .f32 :=
  upd1 q h acc ((kM.access (rk640 h 1408 (i640_1408 h))).read (Elt F) K) ((kM.access (rk64 h 0 (i64_0 h))).read (Elt F) K) ((kM.access (rk704 h 704 (i704_704 h))).read (Elt F) K) ((vM.access (rk640 h 1408 (i640_1408 h))).read (Elt F) V) ((vM.access (rk64 h 0 (i64_0 h))).read (Elt F) V) ((vM.access (rk704 h 704 (i704_704 h))).read (Elt F) V) ((woM.access (rw h)).read (Elt F) W)
/-- The sum over the heads, group 1. -/
def sum1 (q : FVec F S2048x1024 .f32) (K V : KV F) (W : WW F) : FVec F S704x1024 .f32 := hs8.foldl (stepH1 q K V W) zero1

theorem wp_heads1 (c : Dev nD) (q : FVec F S2048x1024 .f32) (K V : KV F) (W : WW F) (hs : List (Fin 8)) (acc : FVec F S704x1024 .f32)
    (k : FVec F S704x1024 .f32 → Prog (TpuEff nD τ sig (Elt F) Λ₀ .tc) PUnit) (Q : PUnit → sProp 𝕄) :
    iprop(held c kM K ∗ held c vM V ∗ held c woM W)
      ⊢ iprop(((held c kM K ∗ held c vM V ∗ held c woM W) -∗ wp frame (wpE (defs₀ (F := F)) 𝒱₀ c none) Set.univ (k (hs.foldl (stepH1 q K V W) acc)) Q)
          -∗ wp frame (wpE (defs₀ (F := F)) 𝒱₀ c none) Set.univ (heads1 q hs acc k) Q) := by
  induction hs generalizing acc with
  | nil =>
    iintro H Hk
    iapply Hk
    iexact H
  | cons h hs ih =>
    unfold heads1
    unfold held at ih ⊢
    iintro ⟨HK, HV, HW⟩ Hk
    iapply (wp_load_rect (defs := defs₀ (F := F)) 𝒱₀ (c : Thread nD τ) none Set.univ (m := kM) (r := (rk640 h 1408 (i640_1408 h))) (S := Finset.univ) (q := fullShare) (f := K) (Finset.subset_univ _)) $$ HK
    iintro HK
    iapply (wp_load_rect (defs := defs₀ (F := F)) 𝒱₀ (c : Thread nD τ) none Set.univ (m := kM) (r := (rk64 h 0 (i64_0 h))) (S := Finset.univ) (q := fullShare) (f := K) (Finset.subset_univ _)) $$ HK
    iintro HK
    iapply (wp_load_rect (defs := defs₀ (F := F)) 𝒱₀ (c : Thread nD τ) none Set.univ (m := kM) (r := (rk704 h 704 (i704_704 h))) (S := Finset.univ) (q := fullShare) (f := K) (Finset.subset_univ _)) $$ HK
    iintro HK
    iapply (wp_load_rect (defs := defs₀ (F := F)) 𝒱₀ (c : Thread nD τ) none Set.univ (m := vM) (r := (rk640 h 1408 (i640_1408 h))) (S := Finset.univ) (q := fullShare) (f := V) (Finset.subset_univ _)) $$ HV
    iintro HV
    iapply (wp_load_rect (defs := defs₀ (F := F)) 𝒱₀ (c : Thread nD τ) none Set.univ (m := vM) (r := (rk64 h 0 (i64_0 h))) (S := Finset.univ) (q := fullShare) (f := V) (Finset.subset_univ _)) $$ HV
    iintro HV
    iapply (wp_load_rect (defs := defs₀ (F := F)) 𝒱₀ (c : Thread nD τ) none Set.univ (m := vM) (r := (rk704 h 704 (i704_704 h))) (S := Finset.univ) (q := fullShare) (f := V) (Finset.subset_univ _)) $$ HV
    iintro HV
    iapply (wp_load_rect (defs := defs₀ (F := F)) 𝒱₀ (c : Thread nD τ) none Set.univ (m := woM) (r := (rw h)) (S := Finset.univ) (q := fullShare) (f := W) (Finset.subset_univ _)) $$ HW
    iintro HW
    iapply (ih (stepH1 q K V W acc h)) $$ [HK HV HW]
    · isplitl [HK]; · iexact HK
      isplitl [HV]; · iexact HV
      iexact HW
    iintro H
    iapply Hk
    iexact H

/-- One head's addition, group 2, from the buffers' contents. -/
def stepH2 (q : FVec F S2048x1024 .f32) (K V : KV F) (W : WW F) (acc : FVec F S640x1024 .f32) (h : Fin 8) : FVec F S640x1024 .f32 :=
  upd2 q h acc ((kM.access (rk704 h 704 (i704_704 h))).read (Elt F) K) ((kM.access (rk64 h 0 (i64_0 h))).read (Elt F) K) ((kM.access (rk640 h 1408 (i640_1408 h))).read (Elt F) K) ((vM.access (rk704 h 704 (i704_704 h))).read (Elt F) V) ((vM.access (rk64 h 0 (i64_0 h))).read (Elt F) V) ((vM.access (rk640 h 1408 (i640_1408 h))).read (Elt F) V) ((woM.access (rw h)).read (Elt F) W)
/-- The sum over the heads, group 2. -/
def sum2 (q : FVec F S2048x1024 .f32) (K V : KV F) (W : WW F) : FVec F S640x1024 .f32 := hs8.foldl (stepH2 q K V W) zero2

theorem wp_heads2 (c : Dev nD) (q : FVec F S2048x1024 .f32) (K V : KV F) (W : WW F) (hs : List (Fin 8)) (acc : FVec F S640x1024 .f32)
    (k : FVec F S640x1024 .f32 → Prog (TpuEff nD τ sig (Elt F) Λ₀ .tc) PUnit) (Q : PUnit → sProp 𝕄) :
    iprop(held c kM K ∗ held c vM V ∗ held c woM W)
      ⊢ iprop(((held c kM K ∗ held c vM V ∗ held c woM W) -∗ wp frame (wpE (defs₀ (F := F)) 𝒱₀ c none) Set.univ (k (hs.foldl (stepH2 q K V W) acc)) Q)
          -∗ wp frame (wpE (defs₀ (F := F)) 𝒱₀ c none) Set.univ (heads2 q hs acc k) Q) := by
  induction hs generalizing acc with
  | nil =>
    iintro H Hk
    iapply Hk
    iexact H
  | cons h hs ih =>
    unfold heads2
    unfold held at ih ⊢
    iintro ⟨HK, HV, HW⟩ Hk
    iapply (wp_load_rect (defs := defs₀ (F := F)) 𝒱₀ (c : Thread nD τ) none Set.univ (m := kM) (r := (rk704 h 704 (i704_704 h))) (S := Finset.univ) (q := fullShare) (f := K) (Finset.subset_univ _)) $$ HK
    iintro HK
    iapply (wp_load_rect (defs := defs₀ (F := F)) 𝒱₀ (c : Thread nD τ) none Set.univ (m := kM) (r := (rk64 h 0 (i64_0 h))) (S := Finset.univ) (q := fullShare) (f := K) (Finset.subset_univ _)) $$ HK
    iintro HK
    iapply (wp_load_rect (defs := defs₀ (F := F)) 𝒱₀ (c : Thread nD τ) none Set.univ (m := kM) (r := (rk640 h 1408 (i640_1408 h))) (S := Finset.univ) (q := fullShare) (f := K) (Finset.subset_univ _)) $$ HK
    iintro HK
    iapply (wp_load_rect (defs := defs₀ (F := F)) 𝒱₀ (c : Thread nD τ) none Set.univ (m := vM) (r := (rk704 h 704 (i704_704 h))) (S := Finset.univ) (q := fullShare) (f := V) (Finset.subset_univ _)) $$ HV
    iintro HV
    iapply (wp_load_rect (defs := defs₀ (F := F)) 𝒱₀ (c : Thread nD τ) none Set.univ (m := vM) (r := (rk64 h 0 (i64_0 h))) (S := Finset.univ) (q := fullShare) (f := V) (Finset.subset_univ _)) $$ HV
    iintro HV
    iapply (wp_load_rect (defs := defs₀ (F := F)) 𝒱₀ (c : Thread nD τ) none Set.univ (m := vM) (r := (rk640 h 1408 (i640_1408 h))) (S := Finset.univ) (q := fullShare) (f := V) (Finset.subset_univ _)) $$ HV
    iintro HV
    iapply (wp_load_rect (defs := defs₀ (F := F)) 𝒱₀ (c : Thread nD τ) none Set.univ (m := woM) (r := (rw h)) (S := Finset.univ) (q := fullShare) (f := W) (Finset.subset_univ _)) $$ HW
    iintro HW
    iapply (ih (stepH2 q K V W acc h)) $$ [HK HV HW]
    · isplitl [HK]; · iexact HK
      isplitl [HV]; · iexact HV
      iexact HW
    iintro H
    iapply Hk
    iexact H

/-- The accumulator after a list of blocks is stored. -/
def put (f : AccC F) (t : Tile F) : AccC F :=
  (accM.access (Rect.unit (s := S16x128x1024) t.o S1x64x1024.size t.inb)).write (Elt F) f t.v Finset.univ
def writes : List (Tile F) → AccC F → AccC F
  | [], f => f
  | t :: ts, f => writes ts (put f t)

theorem wp_put (c : Dev nD) (R : Rect S16x128x1024) (v : R.shape.Idx → Elt F .bf16) (f : AccC F) {h1 : accM.view.LoadsAt R.toLoadRect}
    {hx : (accM.access R).Stores Finset.univ} {hm} (k : Prog (TpuEff nD τ sig (Elt F) Λ₀ .tc) PUnit) (Q : PUnit → sProp 𝕄) :
    (held c accM f : sProp 𝕄)
      ⊢ iprop((held c accM ((accM.access R).write (Elt F) f v Finset.univ) -∗ wp frame (wpE (defs₀ (F := F)) 𝒱₀ c none) Set.univ k Q)
          -∗ wp frame (wpE (defs₀ (F := F)) 𝒱₀ c none) Set.univ (.op (.load accM R.toLoadRect h1) fun _ => .op (.store accM R v Finset.univ hx hm) fun _ => k) Q) := by
  unfold held
  iintro H Hk
  iapply (wp_load_rect (defs := defs₀ (F := F)) 𝒱₀ (c : Thread nD τ) none Set.univ (m := accM) (r := R) (S := Finset.univ) (q := fullShare) (f := f) (Finset.subset_univ _)) $$ H
  iintro H
  iapply (wp_store (defs := defs₀ (F := F)) 𝒱₀ (c : Thread nD τ) none Set.univ (m := accM) (r := R) (S := Finset.univ) (f := f) (Finset.subset_univ _)) $$ H
  iintro H
  iapply Hk
  iexact H

theorem wp_storeTiles (c : Dev nD) (ts : List (Tile F)) (f : AccC F) (k : Prog (TpuEff nD τ sig (Elt F) Λ₀ .tc) PUnit) (Q : PUnit → sProp 𝕄) :
    (held c accM f : sProp 𝕄)
      ⊢ iprop((held c accM (writes ts f) -∗ wp frame (wpE (defs₀ (F := F)) 𝒱₀ c none) Set.univ k Q)
          -∗ wp frame (wpE (defs₀ (F := F)) 𝒱₀ c none) Set.univ (storeTiles ts k) Q) := by
  induction ts generalizing f with
  | nil =>
    iintro H Hk
    iapply Hk
    iexact H
  | cons t ts ih =>
    unfold storeTiles
    iintro H Hk
    iapply (wp_put c (Rect.unit (s := S16x128x1024) t.o S1x64x1024.size t.inb) t.v f) $$ H
    iintro H
    rw [writes]
    iapply (ih (put f t)) $$ [H]
    · unfold put
      iexact H
    iexact Hk

/-- The accumulator after the attention. -/
def partials (q : FVec F S2048x1024 .f32) (K V : KV F) (W : WW F) (f : AccC F) : AccC F :=
  writes (tiles2 (sum2 q K V W)) (writes (tiles1 (sum1 q K V W)) (writes (tiles0 (sum0 q K V W)) f))

theorem wp_groups (c : Dev nD) (q : FVec F S2048x1024 .f32) (K V : KV F) (W : WW F) (f : AccC F)
    (k : Prog (TpuEff nD τ sig (Elt F) Λ₀ .tc) PUnit) (Q : PUnit → sProp 𝕄) :
    iprop((held c kM K ∗ held c vM V ∗ held c woM W) ∗ held c accM f)
      ⊢ iprop((((held c kM K ∗ held c vM V ∗ held c woM W) ∗ held c accM (partials q K V W f)) -∗ wp frame (wpE (defs₀ (F := F)) 𝒱₀ c none) Set.univ k Q)
          -∗ wp frame (wpE (defs₀ (F := F)) 𝒱₀ c none) Set.univ (groups q k) Q) := by
  unfold groups
  iintro ⟨H, HA⟩ Hk
  iapply (wp_heads0 c q K V W hs8 zero0) $$ H
  iintro H
  iapply (wp_storeTiles c (tiles0 (sum0 q K V W)) f) $$ HA
  iintro HA
  iapply (wp_heads1 c q K V W hs8 zero1) $$ H
  iintro H
  iapply (wp_storeTiles c (tiles1 (sum1 q K V W))) $$ HA
  iintro HA
  iapply (wp_heads2 c q K V W hs8 zero2) $$ H
  iintro H
  iapply (wp_storeTiles c (tiles2 (sum2 q K V W))) $$ HA
  iintro HA
  iapply Hk
  isplitl [H]
  · iexact H
  · iexact HA

variable (p0 : Dev nD → AccC F)
variable (vQ : Dev nD → S1024x16384.Idx → Elt F .f32) (vO : Dev nD → S16384x1024.Idx → Elt F .f32)

/-- A device's share of a weight array in main memory. -/
def wqArg (c : Dev nD) : sProp 𝕄 := iprop((wqS c).view.loc (c : Thread nD τ) ↦[(wqS c).view.set]{fullShare} vQ c)
def woArg (c : Dev nD) : sProp 𝕄 := iprop((woS c).view.loc (c : Thread nD τ) ↦[(woS c).view.set]{fullShare} vO c)
/-- A fetch's cell before and after. -/
def lq0 (c : Dev nD) : sProp 𝕄 := iprop(atPos ER (qCell c) 0 ∅ 0 ∗ reached ER (qCell c) 0 ∗ dutyTok ER (qCell c) 0 0)
def lw0 (c : Dev nD) : sProp 𝕄 := iprop(atPos ER (oCell c) 0 ∅ 0 ∗ reached ER (oCell c) 0 ∗ dutyTok ER (oCell c) 0 0)
/-- The columns of the query weights and the rows of the output weights a device uses. -/
def wqOf (c : Dev nD) : WW F := (wqS c).view.read (Elt F) (vQ c)
def woOf (c : Dev nD) : WW F := (woS c).view.read (Elt F) (vO c)

theorem held_owns (c : Dev nD) (X : WW F) : (owns (c : Thread nD τ) wqM fullShare X : sProp 𝕄) ⊢ held c wqM X := by
  unfold owns held
  iintro ⟨%f, %h, H⟩
  rw [View.set_whole] at *
  have h' : f = X := h
  subst h'
  iexact H
theorem held_owns' (c : Dev nD) (X : WW F) : (owns (c : Thread nD τ) woM fullShare X : sProp 𝕄) ⊢ held c woM X := by
  unfold owns held
  iintro ⟨%f, %h, H⟩
  rw [View.set_whole] at *
  have h' : f = X := h
  subst h'
  iexact H

/-- The fetch of the weights and the attention. -/
theorem wp_attn (K₀ : GSem nD τ sig → ℕ) (c : Dev nD) (W₀ : Waits sig Unit) (x : S2048x1024.Idx → Elt F .f32) (K V : KV F) (f : AccC F) (fq fo : WW F)
    (k : Prog (TpuEff nD τ sig (Elt F) Λ₀ .tc) PUnit) (Q : PUnit → sProp 𝕄) :
    iprop(invs p0 vQ vO K₀ ∗ levAts L lv ∗ owes (c : Thread nD τ) (O₀ c) W₀ ∗ lq0 c ∗ lw0 c ∗ wqArg vQ c ∗ woArg vO c
        ∗ held c xM x ∗ held c kM K ∗ held c vM V ∗ held c wqM fq ∗ held c woM fo ∗ held c accM f)
      ⊢ iprop((((∃ W, owes (c : Thread nD τ) (O₀ c) W) ∗ atPos ER (qCell c) (0 + 1) ∅ 0 ∗ atPos ER (oCell c) (0 + 1) ∅ 0 ∗ wqArg vQ c ∗ woArg vO c
            ∗ held c xM x ∗ held c kM K ∗ held c vM V ∗ held c wqM (wqOf vQ c) ∗ held c woM (woOf vO c)
            ∗ held c accM (partials (proj x (wqOf vQ c)) K V (woOf vO c) f))
            -∗ wp frame (wpE (defs₀ (F := F)) 𝒱₀ c none) Set.univ k Q)
          -∗ wp frame (wpE (defs₀ (F := F)) 𝒱₀ c none) Set.univ (attn c k) Q) := by
  unfold attn lq0 lw0
  iintro ⟨#HI, #Hlev, HO, ⟨HaQ, #HrQ, HtQ⟩, ⟨HaO, #HrO, HtO⟩, HwQ, HwO, HX, HK, HV, HfQ, HfO, HA⟩ Hk
  ihave #HIq := (invs_at p0 vQ vO K₀ (c, .lq)) $$ HI
  ihave #HIo := (invs_at p0 vQ vO K₀ (c, .lw)) $$ HI
  iapply (Rounds.wp_copy_pointsTo 𝒱₀ ER (Sd p0 vQ vO) (c : Thread nD τ) none (src := wqS c) (dst := wqM) (sem := .dma cc0_scratch2.sem) (q := fullShare)
      (fs := vQ c) (fd := fq) (r := 0) (d := 0) (κ := K₀ (qCell c)) (by rw [duties_q]; exact Finset.mem_singleton_self _) () NW (NW_q _) (amount_q p0 vQ vO c 0)
      (by
        rw [payload_q]; unfold qPay owns
        iintro ⟨H1, H2⟩
        isplitl [H1]
        · iexists (wqM.view.write (Elt F) fq ((wqS c).view.read (Elt F) (vQ c)) Finset.univ)
          isplitr
          · ipureintro; exact View.read_write_univ _ _
          · iexact H1
        · iexact H2)) $$ [HwQ HfQ HtQ]
  · isplitr; · iexact HIq
    isplitl [HwQ]; · unfold wqArg; iexact HwQ
    isplitl [HfQ]; · unfold held; rw [View.set_whole]; iexact HfQ
    isplitl [HtQ]; · iexact HtQ
    iexact HrQ
  iintro HcQ
  iapply (Rounds.wp_copy_pointsTo 𝒱₀ ER (Sd p0 vQ vO) (c : Thread nD τ) none (src := woS c) (dst := woM) (sem := .dma cc0_scratch3.sem) (q := fullShare)
      (fs := vO c) (fd := fo) (r := 0) (d := 0) (κ := K₀ (oCell c)) (by rw [duties_o]; exact Finset.mem_singleton_self _) () NW (NW_o _) (amount_o p0 vQ vO c 0)
      (by
        rw [payload_o]; unfold oPay owns
        iintro ⟨H1, H2⟩
        isplitl [H1]
        · iexists (woM.view.write (Elt F) fo ((woS c).view.read (Elt F) (vO c)) Finset.univ)
          isplitr
          · ipureintro; exact View.read_write_univ _ _
          · iexact H1
        · iexact H2)) $$ [HwO HfO HtO]
  · isplitr; · iexact HIo
    isplitl [HwO]; · unfold woArg; iexact HwO
    isplitl [HfO]; · unfold held; rw [View.set_whole]; iexact HfO
    isplitl [HtO]; · iexact HtO
    iexact HrO
  iintro HcO
  iapply (Rounds.wp_wait_rest_token 𝒱₀ ER (Sd p0 vQ vO) (c : Thread nD τ) none (κ := K₀ (qCell c))
      (wpE_waitDma2_eq (src := wqS c) (dst := wqM) 𝒱₀ (c : Thread nD τ) none Set.univ) (Set.mem_univ _) () (O := O₀ c) (W := W₀) (R := 0) (m := 0) (T := ∅)
      ((Nat.zero_add _).trans ((show wqM.view.dmaCredit = NW from NW_q cc0_scratch2.sem).trans (expect_q p0 vQ vO c).symm))) $$ [HcQ HO HaQ]
  · isplitr; · iexact HIq
    isplitl [HcQ]; · rw [show wqM.view.dmaCredit = NW from NW_q cc0_scratch2.sem]; iexact HcQ
    isplitl [HO]; · iexact HO
    isplitr
    · iapply (mayWait_first (F := F) c (.dma cc0_scratch2.sem) (by dsimp only [lv]; rw [knd_q])); iexact Hlev
    iexact HaQ
  iintro ⟨HO, HaQ, -, Hpay⟩
  ihave Hp := (Entails.of_eq (rest_q p0 vQ vO c)) $$ Hpay
  icases (show qPay vQ c ⊢ iprop(held c wqM (wqOf vQ c) ∗ wqArg vQ c : sProp 𝕄) from by
    unfold qPay wqArg; iintro ⟨H1, H2⟩; isplitl [H1]
    · iapply (held_owns c); iexact H1
    · iexact H2) $$ Hp with ⟨HfQ, HwQ⟩
  iapply (wp_ld c xM (Rect.unit (s := S2048x1024) ![0, 0] S2048x1024.size inb_S2048x1024_S2048x1024_0_0) (x)) $$ HX
  iintro HX
  iapply (wp_ld c wqM (Rect.unit (s := S1024x1024) ![0, 0] S1024x1024.size inb_S1024x1024_S1024x1024_0_0) (wqOf vQ c)) $$ HfQ
  iintro HfQ
  iapply (Rounds.wp_wait_rest_token 𝒱₀ ER (Sd p0 vQ vO) (c : Thread nD τ) none (κ := K₀ (oCell c))
      (wpE_waitDma2_eq (src := woS c) (dst := woM) 𝒱₀ (c : Thread nD τ) none Set.univ) (Set.mem_univ _) () (O := O₀ c) (R := 0) (m := 0) (T := ∅)
      ((Nat.zero_add _).trans ((show woM.view.dmaCredit = NW from NW_o cc0_scratch3.sem).trans (expect_o p0 vQ vO c).symm))) $$ [HcO HO HaO]
  · isplitr; · iexact HIo
    isplitl [HcO]; · rw [show woM.view.dmaCredit = NW from NW_o cc0_scratch3.sem]; iexact HcO
    isplitl [HO]; · iexact HO
    isplitr
    · iapply (mayWait_first (F := F) c (.dma cc0_scratch3.sem) (by dsimp only [lv]; rw [knd_w])); iexact Hlev
    iexact HaO
  iintro ⟨HO, HaO, -, Hpay⟩
  ihave Hp := (Entails.of_eq (rest_o p0 vQ vO c)) $$ Hpay
  icases (show oPay vO c ⊢ iprop(held c woM (woOf vO c) ∗ woArg vO c : sProp 𝕄) from by
    unfold oPay woArg; iintro ⟨H1, H2⟩; isplitl [H1]
    · iapply (held_owns' c); iexact H1
    · iexact H2) $$ Hp with ⟨HfO, HwO⟩
  have h2 : (![0, 0] : Fin 2 → Nat) = fun _ => 0 := by decide
  have hx : (xM.access (Rect.unit (s := S2048x1024) ![0, 0] S2048x1024.size inb_S2048x1024_S2048x1024_0_0)).read (Elt F) x = x :=
    Memref.read_access_unit_zero (Elt F) cc0_stg0_0 h2 inb_S2048x1024_S2048x1024_0_0 x
  have hw : (wqM.access (Rect.unit (s := S1024x1024) ![0, 0] S1024x1024.size inb_S1024x1024_S1024x1024_0_0)).read (Elt F) (wqOf vQ c) = wqOf vQ c :=
    Memref.read_access_unit_zero (Elt F) cc0_scratch0 h2 inb_S1024x1024_S1024x1024_0_0 _
  rw [hx, hw]
  iapply (wp_groups c (proj x (wqOf vQ c)) K V (woOf vO c) f) $$ [HK HV HfO HA]
  · isplitl [HK HV HfO]
    · isplitl [HK]; · iexact HK
      isplitl [HV]; · iexact HV
      iexact HfO
    iexact HA
  iintro ⟨⟨HK, HV, HfO⟩, HA⟩
  iapply Hk
  isplitl [HO]; · iexists _; iexact HO
  isplitl [HaQ]; · iexact HaQ
  isplitl [HaO]; · iexact HaO
  isplitl [HwQ]; · iexact HwQ
  isplitl [HwO]; · iexact HwO
  isplitl [HX]; · iexact HX
  isplitl [HK]; · iexact HK
  isplitl [HV]; · iexact HV
  isplitl [HfQ]; · iexact HfQ
  isplitl [HfO]; · iexact HfO
  iexact HA

end Cert.KernelIdeal.Talk
-- ==== Proof.Flow.lean ====
module

public import proofs.«01_k».proof.Proof.Add
public import proofs.«01_k».proof.Proof.Attn
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The ten steps in sequence -/

local notation "𝕄" => MT nD τ sig Unit (Elt F) ℕ UU ℕ

/-- Cutting a step's block out of what is held. -/
theorem open_blk (c : Dev nD) (ln : Lane) (s : Stp) (f : AccC F) :
    (A c (pc (own ln (idx s) c) ln) f : sProp 𝕄)
      ⊢ iprop(owns (c : Thread nD τ) (src c ln s) fullShare (rd c ln s f) ∗ A c (pc (own ln (idx s) c \ sl ln s c) ln) f) := by
  iintro H
  ihave H' := (show (A c (pc (own ln (idx s) c) ln) f : sProp 𝕄) ⊢ iprop(A c (pc (sl ln s c) ln) f ∗ A c (pc (own ln (idx s) c \ sl ln s c) ln) f) from by
    rw [← pc_sdiff]; unfold A; exact (pointsTo_split_subset (pc_mono (sl_sub ln s c) ln)).1) $$ H
  icases H' with ⟨H1, H2⟩
  isplitl [H1]
  · iapply (owns_of_A c c ln s f); iexact H1
  · iexact H2

/-- Laying a block back beside the rest: contents that agree with both. -/
theorem A_join (c : Dev nD) (ln : Lane) (S T : Finset (Fin 16)) (h : Disjoint S T) (f g e : AccC F)
    (hf : ∀ i ∈ pc S ln, f i = e i) (hg : ∀ i ∈ pc T ln, g i = e i) :
    (iprop(A c (pc S ln) f ∗ A c (pc T ln) g) : sProp 𝕄) ⊢ A c (pc (S ∪ T) ln) e := by
  rw [← pc_union]
  unfold A
  exact (BI.sep_mono (Entails.of_eq (pointsTo_congr hf)) (Entails.of_eq (pointsTo_congr hg))).trans (pointsTo_union (pc_disjoint h ln)).2

/-- A block that reads as another contents does, held as that contents. -/
theorem A_of_owns_as (d c : Dev nD) (ln : Lane) (s : Stp) (g : AccC F) :
    (owns (d : Thread nD τ) (src c ln s) fullShare (rd c ln s g) : sProp 𝕄) ⊢ A d (pc (sl ln s c) ln) g := by
  iintro H
  ihave H' := (A_of_owns d c ln s (rd c ln s g)) $$ H
  icases H' with ⟨%f, %h, H'⟩
  iapply (A_congr (rd_inj c ln s h))
  iexact H'

variable (p0 : Dev nD → AccC F)
variable (vQ : Dev nD → S1024x16384.Idx → Elt F .f32) (vO : Dev nD → S16384x1024.Idx → Elt F .f32)

/-- What a device holds of a lane after `k` steps. -/
def hold (c : Dev nD) (ln : Lane) (k : ℕ) : sProp 𝕄 := A c (pc (own ln k c) ln) (cont p0 ln k c)
/-- The rest while a step's block is away. -/
def keep (c : Dev nD) (ln : Lane) (s : Stp) : sProp 𝕄 := A c (pc (own ln (idx s) c \ sl ln s c) ln) (cont p0 ln (idx s) c)

theorem hold_open (c : Dev nD) (ln : Lane) (s : Stp) :
    (hold p0 c ln (idx s) : sProp 𝕄) ⊢ iprop(owns (c : Thread nD τ) (src c ln s) fullShare (blk p0 ln s c) ∗ keep p0 c ln s) :=
  open_blk c ln s (cont p0 ln (idx s) c)
theorem keep_half (c : Dev nD) (ln : Lane) (s : Stp) (h : adds s = true) : (keep p0 c ln s : sProp 𝕄) ⊢ half p0 c ln s (idx s) := by
  unfold keep half; rw [own_adds ln s c h]
theorem half_hold (c : Dev nD) (ln : Lane) (s : Stp) : (half p0 c ln s (idx s + 1) : sProp 𝕄) ⊢ hold p0 c ln (idx s + 1) := by
  unfold half hold; exact .rfl
theorem keep_hold (c : Dev nD) (ln : Lane) (s : Stp) (h : adds s = false) :
    (iprop(keep p0 c ln s ∗ owns (c : Thread nD τ) (src c ln s) fullShare (blk p0 ln s c) ∗ owns (c : Thread nD τ) (dst (fr ln s c) ln s) fullShare (blk p0 ln s (fr ln s c))) : sProp 𝕄)
      ⊢ hold p0 c ln (idx s + 1) := by
  unfold keep hold blk
  rw [own_copies ln s c h, dst_src _ ln s h]
  iintro ⟨H1, H2, H3⟩
  ihave H2' := (A_of_owns_as c c ln s (cont p0 ln (idx s) c)) $$ H2
  ihave H3' := (A_of_owns_as c (fr ln s c) ln s (cont p0 ln (idx s) (fr ln s c))) $$ H3
  ihave H4 := (A_join c ln (own ln (idx s) c \ sl ln s c) (sl ln s c) Finset.sdiff_disjoint (cont p0 ln (idx s) c) (cont p0 ln (idx s) c) (cont p0 ln (idx s) c) (fun _ _ => rfl) (fun _ _ => rfl)) $$ [H1 H2']
  · isplitl [H1]; · iexact H1
    iexact H2'
  rw [Finset.sdiff_union_of_subset (sl_sub ln s c)]
  iapply (A_join c ln (own ln (idx s) c) (rl ln s c) (rl_disj ln s c h) (cont p0 ln (idx s) c) (cont p0 ln (idx s) (fr ln s c)) (cont p0 ln (idx s + 1) c)
    (fun i hi => by
      rw [cont_copies p0 ln s c h, if_neg]
      exact fun hr => Finset.disjoint_left.mp (rl_disj ln s c h) (mem_pc.mp hi).1 hr)
    (fun i hi => by rw [cont_copies p0 ln s c h, if_pos (mem_pc.mp hi).1]))
  isplitl [H4]; · iexact H4
  iexact H3'

/-- A lane before a step, and after. -/
def lin (c : Dev nD) (ln : Lane) (s : Stp) : sProp 𝕄 :=
  iprop(pk c ln s ∗ at_ c ln (idx s) ∗ hold p0 c ln (idx s) ∗ room (tg ln s c) c ln s ∗ fwd ln s c)
def spare (c : Dev nD) (ln : Lane) (s : Stp) : sProp 𝕄 := if adds s then room c c ln s else iprop(emp)
def lout (c : Dev nD) (ln : Lane) (s : Stp) : sProp 𝕄 :=
  iprop((atPos ER (rCell c ln s) (0 + 1) ∅ 0 ∗ spare c ln s) ∗ at_ c ln (idx s + 1) ∗ hold p0 c ln (idx s + 1) ∗ back ln s (fr ln s c) ∗ fwd ln s (fr ln s c))
theorem spare_landed (c : Dev nD) (ln : Lane) (s : Stp) (h : adds s = true) : (landed p0 c ln s : sProp 𝕄) ⊢ spare c ln s := by
  unfold spare landed room; rw [if_pos h, dst_dst _ c ln s h]
  iintro H; iexists _; iexact H

theorem lin_res (c : Dev nD) (ln : Lane) (s : Stp) :
    (lin p0 c ln s : sProp 𝕄) ⊢ iprop((pk c ln s ∗ at_ c ln (idx s) ∗ res p0 c ln s) ∗ keep p0 c ln s) := by
  unfold lin res
  iintro ⟨H1, H2, H3, H4, H5⟩
  ihave H3' := (hold_open p0 c ln s) $$ H3
  icases H3' with ⟨Ha, Hb⟩
  isplitr [Hb]
  · isplitl [H1]; · iexact H1
    isplitl [H2]; · iexact H2
    isplitl [Ha]; · iexact Ha
    isplitl [H4]; · iexact H4
    iexact H5
  · iexact Hb
theorem done_copies (c : Dev nD) (ln : Lane) (s : Stp) (h : adds s = false) :
    (iprop(done p0 c ln s ∗ keep p0 c ln s) : sProp 𝕄) ⊢ lout p0 c ln s := by
  unfold done lout sndPay rcvPay spare
  rw [h, if_neg Bool.false_ne_true, if_neg Bool.false_ne_true]
  iintro ⟨⟨Hat, Hr, HS, HR, HB, HF⟩, HK⟩
  isplitl [Hr]
  · isplitl [Hr]; · iexact Hr
    iempintro
  isplitl [Hat]; · iexact Hat
  isplitl [HS HR HK]
  · iapply (keep_hold p0 c ln s h)
    isplitl [HK]; · iexact HK
    isplitl [HS]; · iexact HS
    iexact HR
  isplitl [HB]; · iexact HB
  iexact HF
/-- What an adding step keeps aside during its additions. -/
def aside (c : Dev nD) (ln : Lane) (s : Stp) : sProp 𝕄 :=
  iprop(at_ c ln (idx s + 1) ∗ atPos ER (rCell c ln s) (0 + 1) ∅ 0 ∗ back ln s (fr ln s c) ∗ fwd ln s (fr ln s c))
theorem done_adds (c : Dev nD) (ln : Lane) (s : Stp) (h : adds s = true) :
    (iprop(done p0 c ln s ∗ keep p0 c ln s) : sProp 𝕄) ⊢ iprop((half p0 c ln s (idx s) ∗ landed p0 c ln s) ∗ aside c ln s) := by
  unfold done sndPay rcvPay aside landed
  rw [if_pos h]
  iintro ⟨⟨Hat, Hr, -, HR, HB, HF⟩, HK⟩
  isplitl [HK HR]
  · isplitl [HK]
    · iapply (keep_half p0 c ln s h); iexact HK
    iexact HR
  isplitl [Hat]; · iexact Hat
  isplitl [Hr]; · iexact Hr
  isplitl [HB]; · iexact HB
  iexact HF
theorem aside_lout (c : Dev nD) (ln : Lane) (s : Stp) (h : adds s = true) :
    (iprop((half p0 c ln s (idx s + 1) ∗ landed p0 c ln s) ∗ aside c ln s) : sProp 𝕄) ⊢ lout p0 c ln s := by
  unfold aside lout
  iintro ⟨⟨H1, H2⟩, Hat, Hr, HB, HF⟩
  isplitl [Hr H2]
  · isplitl [Hr]; · iexact Hr
    iapply (spare_landed p0 c ln s h); iexact H2
  isplitl [Hat]; · iexact Hat
  isplitl [H1]; · iapply (half_hold p0 c ln s); iexact H1
  isplitl [HB]; · iexact HB
  iexact HF

/-- What a device owes when the sends of a list remain. -/
def duty (c : Dev nD) (l : List (Lane × Stp)) : sProp 𝕄 := iprop(∃ W, owes (c : Thread nD τ) (owed c l) W)

/-- A copying step. -/
theorem wp_copyStep (K : GSem nD τ sig → ℕ) (c : Dev nD) (s : Stp) (h : adds s = false) (l : List (Lane × Stp)) (hl : ∀ p ∈ l, idx s < idx p.2)
    (k : Prog (TpuEff nD τ sig (Elt F) Λ₀ .tc) PUnit) (Q : PUnit → sProp 𝕄) :
    iprop(invs p0 vQ vO K ∗ levAts L lv ∗ duty c ((.lo, s) :: (.hi, s) :: l) ∗ lin p0 c .lo s ∗ lin p0 c .hi s)
      ⊢ iprop(((duty c l ∗ lout p0 c .lo s ∗ lout p0 c .hi s) -∗ wp frame (wpE (defs₀ (F := F)) 𝒱₀ c none) Set.univ k Q)
          -∗ wp frame (wpE (defs₀ (F := F)) 𝒱₀ c none) Set.univ (talkStep c s k) Q) := by
  unfold duty
  iintro ⟨#HI, #Hlev, HO, HL, HH⟩ Hk
  ihave HL' := (lin_res p0 c .lo s) $$ HL
  ihave HH' := (lin_res p0 c .hi s) $$ HH
  icases HL' with ⟨HL, HKL⟩
  icases HH' with ⟨HH, HKH⟩
  iapply (wp_talkStep p0 vQ vO K c s l hl k Q) $$ [HO HL HH]
  · isplitr; · iexact HI
    isplitr; · iexact Hlev
    isplitl [HO]; · iexact HO
    isplitl [HL]; · iexact HL
    iexact HH
  iintro ⟨HO, HL, HH⟩
  iapply Hk
  isplitl [HO]; · iexact HO
  isplitl [HL HKL]
  · iapply (done_copies p0 c .lo s h)
    isplitl [HL]; · iexact HL
    iexact HKL
  · iapply (done_copies p0 c .hi s h)
    isplitl [HH]; · iexact HH
    iexact HKH
/-- Step a0: an adding step. -/
theorem wp_step_a0 (K : GSem nD τ sig → ℕ) (c : Dev nD) (l : List (Lane × Stp)) (hl : ∀ p ∈ l, idx .a0 < idx p.2)
    (k : Prog (TpuEff nD τ sig (Elt F) Λ₀ .tc) PUnit) (Q : PUnit → sProp 𝕄) :
    iprop(invs p0 vQ vO K ∗ levAts L lv ∗ duty c ((.lo, .a0) :: (.hi, .a0) :: l) ∗ lin p0 c .lo .a0 ∗ lin p0 c .hi .a0)
      ⊢ iprop(((duty c l ∗ lout p0 c .lo .a0 ∗ lout p0 c .hi .a0) -∗ wp frame (wpE (defs₀ (F := F)) 𝒱₀ c none) Set.univ k Q)
          -∗ wp frame (wpE (defs₀ (F := F)) 𝒱₀ c none) Set.univ (talkStep c .a0 (add_a0 c k)) Q) := by
  unfold duty
  iintro ⟨#HI, #Hlev, HO, HL, HH⟩ Hk
  ihave HL' := (lin_res p0 c .lo .a0) $$ HL
  ihave HH' := (lin_res p0 c .hi .a0) $$ HH
  icases HL' with ⟨HL, HKL⟩
  icases HH' with ⟨HH, HKH⟩
  iapply (wp_talkStep p0 vQ vO K c .a0 l hl (add_a0 c k) Q) $$ [HO HL HH]
  · isplitr; · iexact HI
    isplitr; · iexact Hlev
    isplitl [HO]; · iexact HO
    isplitl [HL]; · iexact HL
    iexact HH
  iintro ⟨HO, HL, HH⟩
  ihave HL' := (done_adds p0 c .lo .a0 rfl) $$ [HL HKL]
  · isplitl [HL]; · iexact HL
    iexact HKL
  ihave HH' := (done_adds p0 c .hi .a0 rfl) $$ [HH HKH]
  · isplitl [HH]; · iexact HH
    iexact HKH
  icases HL' with ⟨HL, HaL⟩
  icases HH' with ⟨HH, HaH⟩
  iapply (wp_add_a0 p0 c k Q) $$ [HL HH]
  · isplitl [HL]; · iexact HL
    iexact HH
  iintro ⟨HL, HH⟩
  iapply Hk
  isplitl [HO]; · iexact HO
  isplitl [HL HaL]
  · iapply (aside_lout p0 c .lo .a0 rfl)
    isplitl [HL]; · iexact HL
    iexact HaL
  · iapply (aside_lout p0 c .hi .a0 rfl)
    isplitl [HH]; · iexact HH
    iexact HaH
/-- Step a1: an adding step. -/
theorem wp_step_a1 (K : GSem nD τ sig → ℕ) (c : Dev nD) (l : List (Lane × Stp)) (hl : ∀ p ∈ l, idx .a1 < idx p.2)
    (k : Prog (TpuEff nD τ sig (Elt F) Λ₀ .tc) PUnit) (Q : PUnit → sProp 𝕄) :
    iprop(invs p0 vQ vO K ∗ levAts L lv ∗ duty c ((.lo, .a1) :: (.hi, .a1) :: l) ∗ lin p0 c .lo .a1 ∗ lin p0 c .hi .a1)
      ⊢ iprop(((duty c l ∗ lout p0 c .lo .a1 ∗ lout p0 c .hi .a1) -∗ wp frame (wpE (defs₀ (F := F)) 𝒱₀ c none) Set.univ k Q)
          -∗ wp frame (wpE (defs₀ (F := F)) 𝒱₀ c none) Set.univ (talkStep c .a1 (add_a1 c k)) Q) := by
  unfold duty
  iintro ⟨#HI, #Hlev, HO, HL, HH⟩ Hk
  ihave HL' := (lin_res p0 c .lo .a1) $$ HL
  ihave HH' := (lin_res p0 c .hi .a1) $$ HH
  icases HL' with ⟨HL, HKL⟩
  icases HH' with ⟨HH, HKH⟩
  iapply (wp_talkStep p0 vQ vO K c .a1 l hl (add_a1 c k) Q) $$ [HO HL HH]
  · isplitr; · iexact HI
    isplitr; · iexact Hlev
    isplitl [HO]; · iexact HO
    isplitl [HL]; · iexact HL
    iexact HH
  iintro ⟨HO, HL, HH⟩
  ihave HL' := (done_adds p0 c .lo .a1 rfl) $$ [HL HKL]
  · isplitl [HL]; · iexact HL
    iexact HKL
  ihave HH' := (done_adds p0 c .hi .a1 rfl) $$ [HH HKH]
  · isplitl [HH]; · iexact HH
    iexact HKH
  icases HL' with ⟨HL, HaL⟩
  icases HH' with ⟨HH, HaH⟩
  iapply (wp_add_a1 p0 c k Q) $$ [HL HH]
  · isplitl [HL]; · iexact HL
    iexact HH
  iintro ⟨HL, HH⟩
  iapply Hk
  isplitl [HO]; · iexact HO
  isplitl [HL HaL]
  · iapply (aside_lout p0 c .lo .a1 rfl)
    isplitl [HL]; · iexact HL
    iexact HaL
  · iapply (aside_lout p0 c .hi .a1 rfl)
    isplitl [HH]; · iexact HH
    iexact HaH
/-- Step a2: an adding step. -/
theorem wp_step_a2 (K : GSem nD τ sig → ℕ) (c : Dev nD) (l : List (Lane × Stp)) (hl : ∀ p ∈ l, idx .a2 < idx p.2)
    (k : Prog (TpuEff nD τ sig (Elt F) Λ₀ .tc) PUnit) (Q : PUnit → sProp 𝕄) :
    iprop(invs p0 vQ vO K ∗ levAts L lv ∗ duty c ((.lo, .a2) :: (.hi, .a2) :: l) ∗ lin p0 c .lo .a2 ∗ lin p0 c .hi .a2)
      ⊢ iprop(((duty c l ∗ lout p0 c .lo .a2 ∗ lout p0 c .hi .a2) -∗ wp frame (wpE (defs₀ (F := F)) 𝒱₀ c none) Set.univ k Q)
          -∗ wp frame (wpE (defs₀ (F := F)) 𝒱₀ c none) Set.univ (talkStep c .a2 (add_a2 c k)) Q) := by
  unfold duty
  iintro ⟨#HI, #Hlev, HO, HL, HH⟩ Hk
  ihave HL' := (lin_res p0 c .lo .a2) $$ HL
  ihave HH' := (lin_res p0 c .hi .a2) $$ HH
  icases HL' with ⟨HL, HKL⟩
  icases HH' with ⟨HH, HKH⟩
  iapply (wp_talkStep p0 vQ vO K c .a2 l hl (add_a2 c k) Q) $$ [HO HL HH]
  · isplitr; · iexact HI
    isplitr; · iexact Hlev
    isplitl [HO]; · iexact HO
    isplitl [HL]; · iexact HL
    iexact HH
  iintro ⟨HO, HL, HH⟩
  ihave HL' := (done_adds p0 c .lo .a2 rfl) $$ [HL HKL]
  · isplitl [HL]; · iexact HL
    iexact HKL
  ihave HH' := (done_adds p0 c .hi .a2 rfl) $$ [HH HKH]
  · isplitl [HH]; · iexact HH
    iexact HKH
  icases HL' with ⟨HL, HaL⟩
  icases HH' with ⟨HH, HaH⟩
  iapply (wp_add_a2 p0 c k Q) $$ [HL HH]
  · isplitl [HL]; · iexact HL
    iexact HH
  iintro ⟨HL, HH⟩
  iapply Hk
  isplitl [HO]; · iexact HO
  isplitl [HL HaL]
  · iapply (aside_lout p0 c .lo .a2 rfl)
    isplitl [HL]; · iexact HL
    iexact HaL
  · iapply (aside_lout p0 c .hi .a2 rfl)
    isplitl [HH]; · iexact HH
    iexact HaH
/-- Step b1: an adding step. -/
theorem wp_step_b1 (K : GSem nD τ sig → ℕ) (c : Dev nD) (l : List (Lane × Stp)) (hl : ∀ p ∈ l, idx .b1 < idx p.2)
    (k : Prog (TpuEff nD τ sig (Elt F) Λ₀ .tc) PUnit) (Q : PUnit → sProp 𝕄) :
    iprop(invs p0 vQ vO K ∗ levAts L lv ∗ duty c ((.lo, .b1) :: (.hi, .b1) :: l) ∗ lin p0 c .lo .b1 ∗ lin p0 c .hi .b1)
      ⊢ iprop(((duty c l ∗ lout p0 c .lo .b1 ∗ lout p0 c .hi .b1) -∗ wp frame (wpE (defs₀ (F := F)) 𝒱₀ c none) Set.univ k Q)
          -∗ wp frame (wpE (defs₀ (F := F)) 𝒱₀ c none) Set.univ (talkStep c .b1 (add_b1 c k)) Q) := by
  unfold duty
  iintro ⟨#HI, #Hlev, HO, HL, HH⟩ Hk
  ihave HL' := (lin_res p0 c .lo .b1) $$ HL
  ihave HH' := (lin_res p0 c .hi .b1) $$ HH
  icases HL' with ⟨HL, HKL⟩
  icases HH' with ⟨HH, HKH⟩
  iapply (wp_talkStep p0 vQ vO K c .b1 l hl (add_b1 c k) Q) $$ [HO HL HH]
  · isplitr; · iexact HI
    isplitr; · iexact Hlev
    isplitl [HO]; · iexact HO
    isplitl [HL]; · iexact HL
    iexact HH
  iintro ⟨HO, HL, HH⟩
  ihave HL' := (done_adds p0 c .lo .b1 rfl) $$ [HL HKL]
  · isplitl [HL]; · iexact HL
    iexact HKL
  ihave HH' := (done_adds p0 c .hi .b1 rfl) $$ [HH HKH]
  · isplitl [HH]; · iexact HH
    iexact HKH
  icases HL' with ⟨HL, HaL⟩
  icases HH' with ⟨HH, HaH⟩
  iapply (wp_add_b1 p0 c k Q) $$ [HL HH]
  · isplitl [HL]; · iexact HL
    iexact HH
  iintro ⟨HL, HH⟩
  iapply Hk
  isplitl [HO]; · iexact HO
  isplitl [HL HaL]
  · iapply (aside_lout p0 c .lo .b1 rfl)
    isplitl [HL]; · iexact HL
    iexact HaL
  · iapply (aside_lout p0 c .hi .b1 rfl)
    isplitl [HH]; · iexact HH
    iexact HaH
/-- Step b2: an adding step. -/
theorem wp_step_b2 (K : GSem nD τ sig → ℕ) (c : Dev nD) (l : List (Lane × Stp)) (hl : ∀ p ∈ l, idx .b2 < idx p.2)
    (k : Prog (TpuEff nD τ sig (Elt F) Λ₀ .tc) PUnit) (Q : PUnit → sProp 𝕄) :
    iprop(invs p0 vQ vO K ∗ levAts L lv ∗ duty c ((.lo, .b2) :: (.hi, .b2) :: l) ∗ lin p0 c .lo .b2 ∗ lin p0 c .hi .b2)
      ⊢ iprop(((duty c l ∗ lout p0 c .lo .b2 ∗ lout p0 c .hi .b2) -∗ wp frame (wpE (defs₀ (F := F)) 𝒱₀ c none) Set.univ k Q)
          -∗ wp frame (wpE (defs₀ (F := F)) 𝒱₀ c none) Set.univ (talkStep c .b2 (add_b2 c k)) Q) := by
  unfold duty
  iintro ⟨#HI, #Hlev, HO, HL, HH⟩ Hk
  ihave HL' := (lin_res p0 c .lo .b2) $$ HL
  ihave HH' := (lin_res p0 c .hi .b2) $$ HH
  icases HL' with ⟨HL, HKL⟩
  icases HH' with ⟨HH, HKH⟩
  iapply (wp_talkStep p0 vQ vO K c .b2 l hl (add_b2 c k) Q) $$ [HO HL HH]
  · isplitr; · iexact HI
    isplitr; · iexact Hlev
    isplitl [HO]; · iexact HO
    isplitl [HL]; · iexact HL
    iexact HH
  iintro ⟨HO, HL, HH⟩
  ihave HL' := (done_adds p0 c .lo .b2 rfl) $$ [HL HKL]
  · isplitl [HL]; · iexact HL
    iexact HKL
  ihave HH' := (done_adds p0 c .hi .b2 rfl) $$ [HH HKH]
  · isplitl [HH]; · iexact HH
    iexact HKH
  icases HL' with ⟨HL, HaL⟩
  icases HH' with ⟨HH, HaH⟩
  iapply (wp_add_b2 p0 c k Q) $$ [HL HH]
  · isplitl [HL]; · iexact HL
    iexact HH
  iintro ⟨HL, HH⟩
  iapply Hk
  isplitl [HO]; · iexact HO
  isplitl [HL HaL]
  · iapply (aside_lout p0 c .lo .b2 rfl)
    isplitl [HL]; · iexact HL
    iexact HaL
  · iapply (aside_lout p0 c .hi .b2 rfl)
    isplitl [HH]; · iexact HH
    iexact HaH

/-! ## From one step to the next -/

/-- What a finished step leaves aside. -/
def left (c : Dev nD) (ln : Lane) (s : Stp) : sProp 𝕄 := iprop(atPos ER (rCell c ln s) (0 + 1) ∅ 0 ∗ spare c ln s)
/-- The places for the last three steps, once all have come round. -/
def ring (c : Dev nD) (ln : Lane) : sProp 𝕄 := iprop(room (tg ln .d0 c) c ln .d0 ∗ fwd ln .d0 c)

theorem link_a1 (c : Dev nD) (ln : Lane) :
    (iprop(lout p0 c ln .a0 ∗ pk c ln .a1 ∗ room (tg ln .a1 c) c ln .a1) : sProp 𝕄) ⊢ iprop(lin p0 c ln .a1 ∗ left c ln .a0) := by
  unfold lout lin left
  unfold back fwd
  rw [if_pos (show adds .a0 = true from rfl)]
  rw [show fr ln .a0 c = fr ln .a1 c from by cases ln <;> rfl]
  iintro ⟨⟨Hleft, Hat, Hh, HB, -⟩, Hpk, Hroom⟩
  isplitr [Hleft]
  · isplitl [Hpk]; · iexact Hpk
    isplitl [Hat]; · iexact Hat
    isplitl [Hh]; · iexact Hh
    isplitl [Hroom]; · iexact Hroom
    iexact HB
  iexact Hleft
theorem link_a2 (c : Dev nD) (ln : Lane) :
    (iprop(lout p0 c ln .a1 ∗ pk c ln .a2 ∗ room (tg ln .a2 c) c ln .a2) : sProp 𝕄) ⊢ iprop(lin p0 c ln .a2 ∗ left c ln .a1) := by
  unfold lout lin left
  unfold back fwd
  rw [if_pos (show adds .a1 = true from rfl)]
  iintro ⟨⟨Hleft, Hat, Hh, HB, HF⟩, Hpk, Hroom⟩
  isplitr [Hleft]
  · isplitl [Hpk]; · iexact Hpk
    isplitl [Hat]; · iexact Hat
    isplitl [Hh]; · iexact Hh
    isplitl [Hroom]; · iexact Hroom
    isplitl [HB]; · iexact HB
    iexact HF
  iexact Hleft
theorem fr3 (c : Dev nD) (ln : Lane) : sl ln .a0 (fr ln .a1 (fr ln .a1 (fr ln .a1 c))) = sl ln .d0 c := by
  cases ln <;> revert c <;> decide +kernel
theorem fr3' (c : Dev nD) (ln : Lane) : fr ln .a1 (fr ln .a1 (fr ln .a1 c)) = tg ln .d0 c := by
  cases ln <;> revert c <;> decide +kernel
theorem fr_d1 (c : Dev nD) (ln : Lane) : sl ln .a1 (tg ln .d0 c) = sl ln .d1 c := by
  cases ln <;> revert c <;> decide +kernel
theorem fr_d2 (c : Dev nD) (ln : Lane) : sl ln .a2 (tg ln .d0 c) = sl ln .d2 c := by
  cases ln <;> revert c <;> decide +kernel
theorem fr_c1 (c : Dev nD) (ln : Lane) : sl ln .b2 (tg ln .c1 c) = sl ln .c1 c := by
  cases ln <;> revert c <;> decide +kernel
theorem fr_c2 (c : Dev nD) (ln : Lane) : sl ln .b1 (tg ln .c2 c) = sl ln .c2 c := by
  cases ln <;> revert c <;> decide +kernel
theorem fr_b1 (c : Dev nD) (ln : Lane) : fr ln .b1 c = tg ln .c2 c := by
  cases ln <;> revert c <;> decide +kernel
theorem fr_b2 (c : Dev nD) (ln : Lane) : fr ln .b2 c = tg ln .c1 c := by
  cases ln <;> revert c <;> decide +kernel
theorem link_b1 (c : Dev nD) (ln : Lane) :
    (iprop(lout p0 c ln .a2 ∗ pk c ln .b1 ∗ room (tg ln .b1 c) c ln .b1) : sProp 𝕄) ⊢ iprop(lin p0 c ln .b1 ∗ left c ln .a2 ∗ ring c ln) := by
  unfold lout lin left
  unfold back fwd ring
  rw [if_pos (show adds .a2 = true from rfl)]
  rw [show fr ln .a2 c = fr ln .a1 c from by cases ln <;> rfl]
  iintro ⟨⟨Hleft, Hat, Hh, HB, HF1, HF2⟩, Hpk, Hroom⟩
  ihave Hr := (room_of_gone ln .a0 .d0 (fr ln .a1 (fr ln .a1 (fr ln .a1 c))) c (fr3 c ln) rfl) $$ [HF2]
  · iexact HF2
  isplitr [Hleft HB HF1 Hr]
  · isplitl [Hpk]; · iexact Hpk
    isplitl [Hat]; · iexact Hat
    isplitl [Hh]; · iexact Hh
    isplitl [Hroom]; · iexact Hroom
    iempintro
  isplitl [Hleft]; · iexact Hleft
  isplitl [Hr]
  · rw [← fr3' c ln]; iexact Hr
  unfold fwd
  isplitl [HB]; · iexact HB
  iexact HF1
theorem link_b2 (c : Dev nD) (ln : Lane) :
    (iprop(lout p0 c ln .b1 ∗ pk c ln .b2 ∗ room (tg ln .b2 c) c ln .b2) : sProp 𝕄) ⊢ iprop(lin p0 c ln .b2 ∗ left c ln .b1 ∗ room (tg ln .c2 c) c ln .c2) := by
  unfold lout lin left
  unfold back fwd
  rw [if_pos (show adds .b1 = true from rfl)]
  rw [fr_b1 c ln]
  iintro ⟨⟨Hleft, Hat, Hh, HB, -⟩, Hpk, Hroom⟩
  ihave Hr := (room_of_gone ln .b1 .c2 (tg ln .c2 c) c (fr_c2 c ln) rfl) $$ [HB]
  · iexact HB
  isplitr [Hleft Hr]
  · isplitl [Hpk]; · iexact Hpk
    isplitl [Hat]; · iexact Hat
    isplitl [Hh]; · iexact Hh
    isplitl [Hroom]; · iexact Hroom
    iempintro
  isplitl [Hleft]; · iexact Hleft
  iexact Hr
theorem link_c1 (c : Dev nD) (ln : Lane) :
    (iprop(lout p0 c ln .b2 ∗ pk c ln .c1) : sProp 𝕄) ⊢ iprop(lin p0 c ln .c1 ∗ left c ln .b2) := by
  unfold lout lin left
  unfold back fwd
  rw [if_pos (show adds .b2 = true from rfl)]
  rw [fr_b2 c ln]
  iintro ⟨⟨Hleft, Hat, Hh, HB, -⟩, Hpk⟩
  ihave Hroom := (room_of_gone ln .b2 .c1 (tg ln .c1 c) c (fr_c1 c ln) rfl) $$ [HB]
  · iexact HB
  isplitr [Hleft]
  · isplitl [Hpk]; · iexact Hpk
    isplitl [Hat]; · iexact Hat
    isplitl [Hh]; · iexact Hh
    isplitl [Hroom]; · iexact Hroom
    iempintro
  iexact Hleft
theorem link_c2 (c : Dev nD) (ln : Lane) :
    (iprop(lout p0 c ln .c1 ∗ pk c ln .c2 ∗ room (tg ln .c2 c) c ln .c2) : sProp 𝕄) ⊢ iprop(lin p0 c ln .c2 ∗ left c ln .c1) := by
  unfold lout lin left
  unfold fwd
  iintro ⟨⟨Hleft, Hat, Hh, -, -⟩, Hpk, Hroom⟩
  isplitr [Hleft]
  · isplitl [Hpk]; · iexact Hpk
    isplitl [Hat]; · iexact Hat
    isplitl [Hh]; · iexact Hh
    isplitl [Hroom]; · iexact Hroom
    iempintro
  iexact Hleft
theorem link_d0 (c : Dev nD) (ln : Lane) :
    (iprop(lout p0 c ln .c2 ∗ pk c ln .d0 ∗ ring c ln) : sProp 𝕄) ⊢ iprop(lin p0 c ln .d0 ∗ left c ln .c2) := by
  unfold lout lin left
  unfold ring
  iintro ⟨⟨Hleft, Hat, Hh, -, -⟩, Hpk, Hroom, HF⟩
  isplitr [Hleft]
  · isplitl [Hpk]; · iexact Hpk
    isplitl [Hat]; · iexact Hat
    isplitl [Hh]; · iexact Hh
    isplitl [Hroom]; · iexact Hroom
    iexact HF
  iexact Hleft
theorem link_d1 (c : Dev nD) (ln : Lane) :
    (iprop(lout p0 c ln .d0 ∗ pk c ln .d1) : sProp 𝕄) ⊢ iprop(lin p0 c ln .d1 ∗ left c ln .d0) := by
  unfold lout lin left
  unfold fwd
  iintro ⟨⟨Hleft, Hat, Hh, -, HF1, HF2⟩, Hpk⟩
  ihave Hroom := (room_of_gone ln .a1 .d1 (fr ln .a1 (fr ln .a1 (fr ln .a1 c))) c (by rw [fr3']; exact fr_d1 c ln) rfl) $$ [HF2]
  · iexact HF2
  rw [fr3' c ln]
  isplitr [Hleft]
  · isplitl [Hpk]; · iexact Hpk
    isplitl [Hat]; · iexact Hat
    isplitl [Hh]; · iexact Hh
    isplitl [Hroom]; · iexact Hroom
    iexact HF1
  iexact Hleft
theorem link_d2 (c : Dev nD) (ln : Lane) :
    (iprop(lout p0 c ln .d1 ∗ pk c ln .d2) : sProp 𝕄) ⊢ iprop(lin p0 c ln .d2 ∗ left c ln .d1) := by
  unfold lout lin left
  unfold fwd
  iintro ⟨⟨Hleft, Hat, Hh, -, HF⟩, Hpk⟩
  ihave Hroom := (room_of_gone ln .a2 .d2 (fr ln .a1 (fr ln .a1 (fr ln .a1 c))) c (by rw [fr3']; exact fr_d2 c ln) rfl) $$ [HF]
  · iexact HF
  rw [fr3' c ln]
  isplitr [Hleft]
  · isplitl [Hpk]; · iexact Hpk
    isplitl [Hat]; · iexact Hat
    isplitl [Hh]; · iexact Hh
    isplitl [Hroom]; · iexact Hroom
    iempintro
  iexact Hleft

/-- What a lane brings to the exchange. -/
def lane0 (c : Dev nD) (ln : Lane) : sProp 𝕄 :=
  iprop(at_ c ln 0 ∗ A c (pc Finset.univ ln) (p0 c) ∗ (pk c ln .a0 ∗ pk c ln .a1 ∗ pk c ln .a2 ∗ pk c ln .b1 ∗ pk c ln .b2 ∗ pk c ln .c1 ∗ pk c ln .c2 ∗ pk c ln .d0 ∗ pk c ln .d1 ∗ pk c ln .d2)
    ∗ (room (tg ln .a0 c) c ln .a0 ∗ room (tg ln .a1 c) c ln .a1 ∗ room (tg ln .a2 c) c ln .a2 ∗ room (tg ln .b1 c) c ln .b1 ∗ room (tg ln .b2 c) c ln .b2))
/-- What a lane has after it. -/
def lane1 (c : Dev nD) (ln : Lane) : sProp 𝕄 :=
  iprop(at_ c ln 10 ∗ A c (pc Finset.univ ln) (cont p0 ln 10 c) ∗ (left c ln .a0 ∗ left c ln .a1 ∗ left c ln .a2 ∗ left c ln .b1 ∗ left c ln .b2 ∗ left c ln .c1 ∗ left c ln .c2 ∗ left c ln .d0 ∗ left c ln .d1 ∗ left c ln .d2))

set_option maxHeartbeats 1000000 in
/-- The exchange. -/
theorem wp_exchange (K : GSem nD τ sig → ℕ) (c : Dev nD) (k : Prog (TpuEff nD τ sig (Elt F) Λ₀ .tc) PUnit) (Q : PUnit → sProp 𝕄) :
    iprop(invs p0 vQ vO K ∗ levAts L lv ∗ duty c allSends ∗ lane0 p0 c .lo ∗ lane0 p0 c .hi)
      ⊢ iprop(((duty c [] ∗ lane1 p0 c .lo ∗ lane1 p0 c .hi) -∗ wp frame (wpE (defs₀ (F := F)) 𝒱₀ c none) Set.univ k Q)
          -∗ wp frame (wpE (defs₀ (F := F)) 𝒱₀ c none) Set.univ (exchange c k) Q) := by
  unfold exchange lane0 allSends
  iintro ⟨#HI, #Hlev, HO, ⟨HatL, HhL, ⟨Pa0L, Pa1L, Pa2L, Pb1L, Pb2L, Pc1L, Pc2L, Pd0L, Pd1L, Pd2L⟩, Ra0L, Ra1L, Ra2L, Rb1L, Rb2L⟩, ⟨HatH, HhH, ⟨Pa0H, Pa1H, Pa2H, Pb1H, Pb2H, Pc1H, Pc2H, Pd0H, Pd1H, Pd2H⟩, Ra0H, Ra1H, Ra2H, Rb1H, Rb2H⟩⟩ Hk
  ihave XL := (show iprop(at_ c .lo 0 ∗ A c (pc Finset.univ .lo) (p0 c) ∗ pk c .lo .a0 ∗ room (tg .lo .a0 c) c .lo .a0) ⊢ (lin p0 c .lo .a0 : sProp 𝕄) from by
    unfold lin fwd
    iintro ⟨H1, H2, H3, H4⟩
    isplitl [H3]; · iexact H3
    isplitl [H1]; · iexact H1
    isplitl [H2]; · unfold hold; iexact H2
    isplitl [H4]; · iexact H4
    iempintro) $$ [HatL HhL Pa0L Ra0L]
  · isplitl [HatL]; · iexact HatL
    isplitl [HhL]; · iexact HhL
    isplitl [Pa0L]; · iexact Pa0L
    iexact Ra0L
  ihave XH := (show iprop(at_ c .hi 0 ∗ A c (pc Finset.univ .hi) (p0 c) ∗ pk c .hi .a0 ∗ room (tg .hi .a0 c) c .hi .a0) ⊢ (lin p0 c .hi .a0 : sProp 𝕄) from by
    unfold lin fwd
    iintro ⟨H1, H2, H3, H4⟩
    isplitl [H3]; · iexact H3
    isplitl [H1]; · iexact H1
    isplitl [H2]; · unfold hold; iexact H2
    isplitl [H4]; · iexact H4
    iempintro) $$ [HatH HhH Pa0H Ra0H]
  · isplitl [HatH]; · iexact HatH
    isplitl [HhH]; · iexact HhH
    isplitl [Pa0H]; · iexact Pa0H
    iexact Ra0H
  iapply (wp_step_a0 p0 vQ vO K c [(.lo, .a1), (.hi, .a1), (.lo, .a2), (.hi, .a2), (.lo, .b1), (.hi, .b1), (.lo, .b2), (.hi, .b2), (.lo, .c1), (.hi, .c1), (.lo, .c2), (.hi, .c2), (.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_a1 p0 c .lo) $$ [XL Pa1L Ra1L]
  · isplitl [XL]; · iexact XL
    isplitl [Pa1L]; · iexact Pa1L
    iexact Ra1L
  icases XL with ⟨XL, Fa0L⟩
  ihave XH := (link_a1 p0 c .hi) $$ [XH Pa1H Ra1H]
  · isplitl [XH]; · iexact XH
    isplitl [Pa1H]; · iexact Pa1H
    iexact Ra1H
  icases XH with ⟨XH, Fa0H⟩
  iapply (wp_step_a1 p0 vQ vO K c [(.lo, .a2), (.hi, .a2), (.lo, .b1), (.hi, .b1), (.lo, .b2), (.hi, .b2), (.lo, .c1), (.hi, .c1), (.lo, .c2), (.hi, .c2), (.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_a2 p0 c .lo) $$ [XL Pa2L Ra2L]
  · isplitl [XL]; · iexact XL
    isplitl [Pa2L]; · iexact Pa2L
    iexact Ra2L
  icases XL with ⟨XL, Fa1L⟩
  ihave XH := (link_a2 p0 c .hi) $$ [XH Pa2H Ra2H]
  · isplitl [XH]; · iexact XH
    isplitl [Pa2H]; · iexact Pa2H
    iexact Ra2H
  icases XH with ⟨XH, Fa1H⟩
  iapply (wp_step_a2 p0 vQ vO K c [(.lo, .b1), (.hi, .b1), (.lo, .b2), (.hi, .b2), (.lo, .c1), (.hi, .c1), (.lo, .c2), (.hi, .c2), (.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_b1 p0 c .lo) $$ [XL Pb1L Rb1L]
  · isplitl [XL]; · iexact XL
    isplitl [Pb1L]; · iexact Pb1L
    iexact Rb1L
  icases XL with ⟨XL, Fa2L, GL⟩
  ihave XH := (link_b1 p0 c .hi) $$ [XH Pb1H Rb1H]
  · isplitl [XH]; · iexact XH
    isplitl [Pb1H]; · iexact Pb1H
    iexact Rb1H
  icases XH with ⟨XH, Fa2H, GH⟩
  iapply (wp_step_b1 p0 vQ vO K c [(.lo, .b2), (.hi, .b2), (.lo, .c1), (.hi, .c1), (.lo, .c2), (.hi, .c2), (.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_b2 p0 c .lo) $$ [XL Pb2L Rb2L]
  · isplitl [XL]; · iexact XL
    isplitl [Pb2L]; · iexact Pb2L
    iexact Rb2L
  icases XL with ⟨XL, Fb1L, CL⟩
  ihave XH := (link_b2 p0 c .hi) $$ [XH Pb2H Rb2H]
  · isplitl [XH]; · iexact XH
    isplitl [Pb2H]; · iexact Pb2H
    iexact Rb2H
  icases XH with ⟨XH, Fb1H, CH⟩
  iapply (wp_step_b2 p0 vQ vO K c [(.lo, .c1), (.hi, .c1), (.lo, .c2), (.hi, .c2), (.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_c1 p0 c .lo) $$ [XL Pc1L]
  · isplitl [XL]; · iexact XL
    iexact Pc1L
  icases XL with ⟨XL, Fb2L⟩
  ihave XH := (link_c1 p0 c .hi) $$ [XH Pc1H]
  · isplitl [XH]; · iexact XH
    iexact Pc1H
  icases XH with ⟨XH, Fb2H⟩
  iapply (wp_copyStep p0 vQ vO K c .c1 rfl [(.lo, .c2), (.hi, .c2), (.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_c2 p0 c .lo) $$ [XL Pc2L CL]
  · isplitl [XL]; · iexact XL
    isplitl [Pc2L]; · iexact Pc2L
    iexact CL
  icases XL with ⟨XL, Fc1L⟩
  ihave XH := (link_c2 p0 c .hi) $$ [XH Pc2H CH]
  · isplitl [XH]; · iexact XH
    isplitl [Pc2H]; · iexact Pc2H
    iexact CH
  icases XH with ⟨XH, Fc1H⟩
  iapply (wp_copyStep p0 vQ vO K c .c2 rfl [(.lo, .d0), (.hi, .d0), (.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_d0 p0 c .lo) $$ [XL Pd0L GL]
  · isplitl [XL]; · iexact XL
    isplitl [Pd0L]; · iexact Pd0L
    iexact GL
  icases XL with ⟨XL, Fc2L⟩
  ihave XH := (link_d0 p0 c .hi) $$ [XH Pd0H GH]
  · isplitl [XH]; · iexact XH
    isplitl [Pd0H]; · iexact Pd0H
    iexact GH
  icases XH with ⟨XH, Fc2H⟩
  iapply (wp_copyStep p0 vQ vO K c .d0 rfl [(.lo, .d1), (.hi, .d1), (.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_d1 p0 c .lo) $$ [XL Pd1L]
  · isplitl [XL]; · iexact XL
    iexact Pd1L
  icases XL with ⟨XL, Fd0L⟩
  ihave XH := (link_d1 p0 c .hi) $$ [XH Pd1H]
  · isplitl [XH]; · iexact XH
    iexact Pd1H
  icases XH with ⟨XH, Fd0H⟩
  iapply (wp_copyStep p0 vQ vO K c .d1 rfl [(.lo, .d2), (.hi, .d2)] (by decide) _ Q) $$ [HO XL XH]
  · isplitr; · iexact HI
    isplitr; · iexact Hlev
    isplitl [HO]; · iexact HO
    isplitl [XL]; · iexact XL
    iexact XH
  iintro ⟨HO, XL, XH⟩
  ihave XL := (link_d2 p0 c .lo) $$ [XL Pd2L]
  · isplitl [XL]; · iexact XL
    iexact Pd2L
  icases XL with ⟨XL, Fd1L⟩
  ihave XH := (link_d2 p0 c .hi) $$ [XH Pd2H]
  · isplitl [XH]; · iexact XH
    iexact Pd2H
  icases XH with ⟨XH, Fd1H⟩
  iapply (wp_copyStep p0 vQ vO K c .d2 rfl [] (by decide) _ Q) $$ [HO XL XH]
  · isplitr; · iexact HI
    isplitr; · iexact Hlev
    isplitl [HO]; · iexact HO
    isplitl [XL]; · iexact XL
    iexact XH
  iintro ⟨HO, XL, XH⟩
  iapply Hk
  unfold lane1
  isplitl [HO]; · iexact HO
  ihave XL := (show (lout p0 c .lo .d2 : sProp 𝕄) ⊢ iprop(at_ c .lo 10 ∗ A c (pc Finset.univ .lo) (cont p0 .lo 10 c) ∗ left c .lo .d2) from by
    unfold lout left hold
    iintro ⟨H1, H2, H3, -, -⟩
    isplitl [H2]; · iexact H2
    isplitl [H3]; · rw [← own_last .lo c]; iexact H3
    iexact H1) $$ XL
  icases XL with ⟨YL, ZL, Fd2L⟩
  ihave XH := (show (lout p0 c .hi .d2 : sProp 𝕄) ⊢ iprop(at_ c .hi 10 ∗ A c (pc Finset.univ .hi) (cont p0 .hi 10 c) ∗ left c .hi .d2) from by
    unfold lout left hold
    iintro ⟨H1, H2, H3, -, -⟩
    isplitl [H2]; · iexact H2
    isplitl [H3]; · rw [← own_last .hi c]; iexact H3
    iexact H1) $$ XH
  icases XH with ⟨YH, ZH, Fd2H⟩
  isplitl [YL ZL Fa0L Fa1L Fa2L Fb1L Fb2L Fc1L Fc2L Fd0L Fd1L Fd2L]
  · isplitl [YL]; · iexact YL
    isplitl [ZL]; · iexact ZL
    isplitl [Fa0L]; · iexact Fa0L
    isplitl [Fa1L]; · iexact Fa1L
    isplitl [Fa2L]; · iexact Fa2L
    isplitl [Fb1L]; · iexact Fb1L
    isplitl [Fb2L]; · iexact Fb2L
    isplitl [Fc1L]; · iexact Fc1L
    isplitl [Fc2L]; · iexact Fc2L
    isplitl [Fd0L]; · iexact Fd0L
    isplitl [Fd1L]; · iexact Fd1L
    iexact Fd2L
  · isplitl [YH]; · iexact YH
    isplitl [ZH]; · iexact ZH
    isplitl [Fa0H]; · iexact Fa0H
    isplitl [Fa1H]; · iexact Fa1H
    isplitl [Fa2H]; · iexact Fa2H
    isplitl [Fb1H]; · iexact Fb1H
    isplitl [Fb2H]; · iexact Fb2H
    isplitl [Fc1H]; · iexact Fc1H
    isplitl [Fc2H]; · iexact Fc2H
    isplitl [Fd0H]; · iexact Fd0H
    isplitl [Fd1H]; · iexact Fd1H
    iexact Fd2H

end Cert.KernelIdeal.Talk
-- ==== Proof.Part.lean ====
module

public import proofs.«01_k».proof.Proof.Attn
public import Idealize.ShloMosaic.Lib.ValueLayout
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # What the attention leaves in the accumulator -/

open Idealize.ShloMosaic.ValueIdx

/-- Rounding to the accumulator's elements. -/
@[reducible] def down (x : Elt F .f32) : Elt F .bf16 := FloatOps.truncf (F := F) (φ := .f32) .bf16 bitsLt_bf16_f32 x

/-- A block of a contents, at the place a tile has. -/
def Fits (G : AccC F) (t : Tile F) : Prop := ∀ j, t.v j = G ((accM.access (Rect.unit (s := S16x128x1024) t.o S1x64x1024.size t.inb)).emb j)

theorem put_fits (G f : AccC F) (t : Tile F) (h : Fits G t) (i : AccIdx) :
    (put f t i = G i ∨ (put f t i = f i ∧ i ∉ (accM.access (Rect.unit (s := S16x128x1024) t.o S1x64x1024.size t.inb)).set)) := by
  by_cases hi : i ∈ (accM.access (Rect.unit (s := S16x128x1024) t.o S1x64x1024.size t.inb)).set
  · left
    obtain ⟨j, -, rfl⟩ := Finset.mem_map.mp hi
    exact (View.write_emb_of_mem _ _ (Finset.mem_univ j)).trans (h j)
  · right
    exact ⟨View.write_of_not_mem _ _ _ (fun hh => hi hh), hi⟩

/-- After blocks of one contents are stored, an element is the contents' if it was or if a block covers it. -/
theorem writes_fits (G : AccC F) : ∀ (ts : List (Tile F)) (f : AccC F), (∀ t ∈ ts, Fits G t) → ∀ i : AccIdx,
    (f i = G i ∨ ∃ t ∈ ts, i ∈ (accM.access (Rect.unit (s := S16x128x1024) t.o S1x64x1024.size t.inb)).set) → writes ts f i = G i
  | [], f, _, i, h => by
    rcases h with h | ⟨t, ht, -⟩
    · exact h
    · exact absurd ht List.not_mem_nil
  | t :: ts, f, hf, i, h => by
    refine writes_fits G ts (put f t) (fun u hu => hf u (List.mem_cons_of_mem _ hu)) i ?_
    rcases put_fits G f t (hf t List.mem_cons_self) i with e | ⟨e, hn⟩
    · exact .inl e
    · rcases h with h | ⟨u, hu, hi⟩
      · exact .inl (e.trans h)
      · rcases List.mem_cons.mp hu with rfl | hu
        · exact absurd hi hn
        · exact .inr ⟨u, hu, hi⟩

/-- Which block of rows an element of the accumulator is in. -/
def rowBlk (i : AccIdx) : ℕ := 2 * (i 0).val + (i 1).val / 64
/-- The row of its group's sum. -/
def rowIn (i : AccIdx) : ℕ := 64 * (rowBlk i / 3) + (i 1).val % 64

theorem rowBlk_lt (i : AccIdx) : rowBlk i < 32 := by
  have h0 : (i 0).val < 16 := (i 0).isLt
  have h1 : (i 1).val < 128 := (i 1).isLt
  unfold rowBlk; omega
theorem rowIn_lt (i : AccIdx) : rowIn i < 704 := by
  have := rowBlk_lt i; unfold rowIn; omega
theorem rowIn_lt2 (i : AccIdx) (h : rowBlk i % 3 = 2) : rowIn i < 640 := by
  have := rowBlk_lt i; unfold rowIn; omega

/-- The three sums laid out block after block. -/
def layOut (a0 a1 : FVec F S704x1024 .f32) (a2 : FVec F S640x1024 .f32) : AccC F := fun i =>
  down (F := F)
    (if rowBlk i % 3 = 0 then a0 (ix2 ⟨rowIn i, rowIn_lt i⟩ (i 2))
    else if rowBlk i % 3 = 1 then a1 (ix2 ⟨rowIn i, rowIn_lt i⟩ (i 2))
    else if h : rowBlk i % 3 = 2 then a2 (ix2 ⟨rowIn i, rowIn_lt2 i h⟩ (i 2)) else a0 (ix2 ⟨rowIn i, rowIn_lt i⟩ (i 2)))

theorem emb_val (o : Fin 3 → ℕ) (inb : ∀ a, o a + S1x64x1024.size a ≤ S16x128x1024.size a) (j : S1x64x1024.Idx) (a : Fin 3) :
    (((accM.access (Rect.unit (s := S16x128x1024) o S1x64x1024.size inb)).emb j) a).val = o a + (j a).val := by
  show o a + 1 * (j a).val = _
  rw [Nat.one_mul]

theorem mem_tile (o : Fin 3 → ℕ) (inb : ∀ a, o a + S1x64x1024.size a ≤ S16x128x1024.size a) (i : AccIdx)
    (h0 : (i 0).val = o 0) (h1 : o 1 ≤ (i 1).val) (h1' : (i 1).val < o 1 + 64) (h2 : o 2 = 0) :
    i ∈ (accM.access (Rect.unit (s := S16x128x1024) o S1x64x1024.size inb)).set := by
  have hi2 : (i 2).val < 1024 := (i 2).isLt
  refine Finset.mem_map.mpr ⟨ix3 ⟨0, Nat.one_pos⟩ ⟨(i 1).val - o 1, by omega⟩ ⟨(i 2).val, hi2⟩, Finset.mem_univ _, ?_⟩
  funext a
  apply Fin.ext
  rw [emb_val]
  match a with
  | 0 => show o 0 + 0 = _; omega
  | 1 => show o 1 + ((i 1).val - o 1) = _; omega
  | 2 => show o 2 + (i 2).val = _; omega

theorem tile0_apply (a : FVec F S704x1024 .f32) (b : Fin 11) (j : S1x64x1024.Idx) :
    tile0 a b j = down (a (ix2 ⟨64 * b.val + (j 1).val, by have h : (j 1).val < 64 := (j 1).isLt; omega⟩ (j 2))) := by
  obtain ⟨x, y, z, rfl⟩ : ∃ x y z, j = ix3 x y z := ⟨_, _, _, eq_ix3 j⟩
  unfold tile0
  refine (shapeCast_ab_1ab_apply _ _ x y z).trans ?_
  refine congrArg down (extractStridedSlice_apply (s := S704x1024) (t := S64x1024) _ a _ _ _ ?_)
  intro d
  match d with
  | 0 => rfl
  | 1 => exact (Nat.zero_add _).symm
theorem fits0 (a0 a1 : FVec F S704x1024 .f32) (a2 : FVec F S640x1024 .f32) (o : Fin 3 → ℕ) (inb pk) (b : Fin 11)
    (ho : 2 * o 0 + o 1 / 64 = 0 + 3 * b.val) (h1 : o 1 % 64 = 0) (h2 : o 2 = 0) : Fits (layOut a0 a1 a2) ⟨o, inb, pk, tile0 a0 b⟩ := by
  intro j
  refine (tile0_apply a0 b j).trans ?_
  have e0 := emb_val o inb j 0
  have e1 := emb_val o inb j 1
  have e2 := emb_val o inb j 2
  generalize (accM.access (Rect.unit (s := S16x128x1024) o S1x64x1024.size inb)).emb j = i at e0 e1 e2
  have hj0 : (j 0).val < 1 := (j 0).isLt
  have hj1 : (j 1).val < 64 := (j 1).isLt
  have hb : rowBlk i = 0 + 3 * b.val := by unfold rowBlk; rw [e0, e1]; omega
  have hr : rowIn i = 64 * b.val + (j 1).val := by unfold rowIn; rw [hb, e1]; omega
  unfold layOut
  refine congrArg down ?_
  have hm : rowBlk i % 3 = 0 := by omega
  rw [if_pos hm]
  refine congrArg a0 ?_
  funext d
  match d with
  | 0 => exact Fin.ext hr.symm
  | 1 => exact Fin.ext (by show (j 2).val = (i 2).val; omega)

theorem tile1_apply (a : FVec F S704x1024 .f32) (b : Fin 11) (j : S1x64x1024.Idx) :
    tile1 a b j = down (a (ix2 ⟨64 * b.val + (j 1).val, by have h : (j 1).val < 64 := (j 1).isLt; omega⟩ (j 2))) := by
  obtain ⟨x, y, z, rfl⟩ : ∃ x y z, j = ix3 x y z := ⟨_, _, _, eq_ix3 j⟩
  unfold tile1
  refine (shapeCast_ab_1ab_apply _ _ x y z).trans ?_
  refine congrArg down (extractStridedSlice_apply (s := S704x1024) (t := S64x1024) _ a _ _ _ ?_)
  intro d
  match d with
  | 0 => rfl
  | 1 => exact (Nat.zero_add _).symm
theorem fits1 (a0 a1 : FVec F S704x1024 .f32) (a2 : FVec F S640x1024 .f32) (o : Fin 3 → ℕ) (inb pk) (b : Fin 11)
    (ho : 2 * o 0 + o 1 / 64 = 1 + 3 * b.val) (h1 : o 1 % 64 = 0) (h2 : o 2 = 0) : Fits (layOut a0 a1 a2) ⟨o, inb, pk, tile1 a1 b⟩ := by
  intro j
  refine (tile1_apply a1 b j).trans ?_
  have e0 := emb_val o inb j 0
  have e1 := emb_val o inb j 1
  have e2 := emb_val o inb j 2
  generalize (accM.access (Rect.unit (s := S16x128x1024) o S1x64x1024.size inb)).emb j = i at e0 e1 e2
  have hj0 : (j 0).val < 1 := (j 0).isLt
  have hj1 : (j 1).val < 64 := (j 1).isLt
  have hb : rowBlk i = 1 + 3 * b.val := by unfold rowBlk; rw [e0, e1]; omega
  have hr : rowIn i = 64 * b.val + (j 1).val := by unfold rowIn; rw [hb, e1]; omega
  unfold layOut
  refine congrArg down ?_
  have hm : rowBlk i % 3 = 1 := by omega
  rw [if_neg (by omega), if_pos hm]
  refine congrArg a1 ?_
  funext d
  match d with
  | 0 => exact Fin.ext hr.symm
  | 1 => exact Fin.ext (by show (j 2).val = (i 2).val; omega)

theorem tile2_apply (a : FVec F S640x1024 .f32) (b : Fin 10) (j : S1x64x1024.Idx) :
    tile2 a b j = down (a (ix2 ⟨64 * b.val + (j 1).val, by have h : (j 1).val < 64 := (j 1).isLt; omega⟩ (j 2))) := by
  obtain ⟨x, y, z, rfl⟩ : ∃ x y z, j = ix3 x y z := ⟨_, _, _, eq_ix3 j⟩
  unfold tile2
  refine (shapeCast_ab_1ab_apply _ _ x y z).trans ?_
  refine congrArg down (extractStridedSlice_apply (s := S640x1024) (t := S64x1024) _ a _ _ _ ?_)
  intro d
  match d with
  | 0 => rfl
  | 1 => exact (Nat.zero_add _).symm
theorem fits2 (a0 a1 : FVec F S704x1024 .f32) (a2 : FVec F S640x1024 .f32) (o : Fin 3 → ℕ) (inb pk) (b : Fin 10)
    (ho : 2 * o 0 + o 1 / 64 = 2 + 3 * b.val) (h1 : o 1 % 64 = 0) (h2 : o 2 = 0) : Fits (layOut a0 a1 a2) ⟨o, inb, pk, tile2 a2 b⟩ := by
  intro j
  refine (tile2_apply a2 b j).trans ?_
  have e0 := emb_val o inb j 0
  have e1 := emb_val o inb j 1
  have e2 := emb_val o inb j 2
  generalize (accM.access (Rect.unit (s := S16x128x1024) o S1x64x1024.size inb)).emb j = i at e0 e1 e2
  have hj0 : (j 0).val < 1 := (j 0).isLt
  have hj1 : (j 1).val < 64 := (j 1).isLt
  have hb : rowBlk i = 2 + 3 * b.val := by unfold rowBlk; rw [e0, e1]; omega
  have hr : rowIn i = 64 * b.val + (j 1).val := by unfold rowIn; rw [hb, e1]; omega
  unfold layOut
  refine congrArg down ?_
  have hm : rowBlk i % 3 = 2 := by omega
  rw [if_neg (by omega), if_neg (by omega), dif_pos hm]
  refine congrArg a2 ?_
  funext d
  match d with
  | 0 => exact Fin.ext hr.symm
  | 1 => exact Fin.ext (by show (j 2).val = (i 2).val; omega)
theorem fits_tiles0 (a0 a1 : FVec F S704x1024 .f32) (a2 : FVec F S640x1024 .f32) : ∀ t ∈ tiles0 a0, Fits (layOut a0 a1 a2) t := by
  intro t ht
  simp only [tiles0, List.mem_cons, List.not_mem_nil, or_false] at ht
  rcases ht with rfl | rfl | rfl | rfl | rfl | rfl | rfl | rfl | rfl | rfl | rfl
  · exact fits0 a0 a1 a2 _ _ _ 0 rfl rfl rfl
  · exact fits0 a0 a1 a2 _ _ _ 1 rfl rfl rfl
  · exact fits0 a0 a1 a2 _ _ _ 2 rfl rfl rfl
  · exact fits0 a0 a1 a2 _ _ _ 3 rfl rfl rfl
  · exact fits0 a0 a1 a2 _ _ _ 4 rfl rfl rfl
  · exact fits0 a0 a1 a2 _ _ _ 5 rfl rfl rfl
  · exact fits0 a0 a1 a2 _ _ _ 6 rfl rfl rfl
  · exact fits0 a0 a1 a2 _ _ _ 7 rfl rfl rfl
  · exact fits0 a0 a1 a2 _ _ _ 8 rfl rfl rfl
  · exact fits0 a0 a1 a2 _ _ _ 9 rfl rfl rfl
  · exact fits0 a0 a1 a2 _ _ _ 10 rfl rfl rfl
theorem cover0 (a : FVec F S704x1024 .f32) (i : AccIdx) (h : rowBlk i % 3 = 0) :
    ∃ t ∈ tiles0 a, i ∈ (accM.access (Rect.unit (s := S16x128x1024) t.o S1x64x1024.size t.inb)).set := by
  have hb := rowBlk_lt i
  have h0 : (i 0).val < 16 := (i 0).isLt
  have h1 : (i 1).val < 128 := (i 1).isLt
  obtain ⟨b, hb'⟩ : ∃ b : Fin 11, rowBlk i = 0 + 3 * b.val := ⟨⟨rowBlk i / 3, by omega⟩, by show rowBlk i = 0 + 3 * (rowBlk i / 3); omega⟩
  unfold rowBlk at hb'
  match b with
  | ⟨0, _⟩ =>
    have e : 2 * (i 0).val + (i 1).val / 64 = 0 := hb'
    exact ⟨⟨![0, 0, 0], inb_S16x128x1024_S1x64x1024_0_0_0, packedbf16_S16x128x1024_S1x64x1024_0_0_0, tile0 a 0⟩, .head _, mem_tile ![0, 0, 0] _ i (show (i 0).val = 0 by omega) (show 0 ≤ (i 1).val by omega) (show (i 1).val < 0 + 64 by omega) rfl⟩
  | ⟨1, _⟩ =>
    have e : 2 * (i 0).val + (i 1).val / 64 = 3 := hb'
    exact ⟨⟨![1, 64, 0], inb_S16x128x1024_S1x64x1024_1_64_0, packedbf16_S16x128x1024_S1x64x1024_1_64_0, tile0 a 1⟩, .tail _ (.head _), mem_tile ![1, 64, 0] _ i (show (i 0).val = 1 by omega) (show 64 ≤ (i 1).val by omega) (show (i 1).val < 64 + 64 by omega) rfl⟩
  | ⟨2, _⟩ =>
    have e : 2 * (i 0).val + (i 1).val / 64 = 6 := hb'
    exact ⟨⟨![3, 0, 0], inb_S16x128x1024_S1x64x1024_3_0_0, packedbf16_S16x128x1024_S1x64x1024_3_0_0, tile0 a 2⟩, .tail _ (.tail _ (.head _)), mem_tile ![3, 0, 0] _ i (show (i 0).val = 3 by omega) (show 0 ≤ (i 1).val by omega) (show (i 1).val < 0 + 64 by omega) rfl⟩
  | ⟨3, _⟩ =>
    have e : 2 * (i 0).val + (i 1).val / 64 = 9 := hb'
    exact ⟨⟨![4, 64, 0], inb_S16x128x1024_S1x64x1024_4_64_0, packedbf16_S16x128x1024_S1x64x1024_4_64_0, tile0 a 3⟩, .tail _ (.tail _ (.tail _ (.head _))), mem_tile ![4, 64, 0] _ i (show (i 0).val = 4 by omega) (show 64 ≤ (i 1).val by omega) (show (i 1).val < 64 + 64 by omega) rfl⟩
  | ⟨4, _⟩ =>
    have e : 2 * (i 0).val + (i 1).val / 64 = 12 := hb'
    exact ⟨⟨![6, 0, 0], inb_S16x128x1024_S1x64x1024_6_0_0, packedbf16_S16x128x1024_S1x64x1024_6_0_0, tile0 a 4⟩, .tail _ (.tail _ (.tail _ (.tail _ (.head _)))), mem_tile ![6, 0, 0] _ i (show (i 0).val = 6 by omega) (show 0 ≤ (i 1).val by omega) (show (i 1).val < 0 + 64 by omega) rfl⟩
  | ⟨5, _⟩ =>
    have e : 2 * (i 0).val + (i 1).val / 64 = 15 := hb'
    exact ⟨⟨![7, 64, 0], inb_S16x128x1024_S1x64x1024_7_64_0, packedbf16_S16x128x1024_S1x64x1024_7_64_0, tile0 a 5⟩, .tail _ (.tail _ (.tail _ (.tail _ (.tail _ (.head _))))), mem_tile ![7, 64, 0] _ i (show (i 0).val = 7 by omega) (show 64 ≤ (i 1).val by omega) (show (i 1).val < 64 + 64 by omega) rfl⟩
  | ⟨6, _⟩ =>
    have e : 2 * (i 0).val + (i 1).val / 64 = 18 := hb'
    exact ⟨⟨![9, 0, 0], inb_S16x128x1024_S1x64x1024_9_0_0, packedbf16_S16x128x1024_S1x64x1024_9_0_0, tile0 a 6⟩, .tail _ (.tail _ (.tail _ (.tail _ (.tail _ (.tail _ (.head _)))))), mem_tile ![9, 0, 0] _ i (show (i 0).val = 9 by omega) (show 0 ≤ (i 1).val by omega) (show (i 1).val < 0 + 64 by omega) rfl⟩
  | ⟨7, _⟩ =>
    have e : 2 * (i 0).val + (i 1).val / 64 = 21 := hb'
    exact ⟨⟨![10, 64, 0], inb_S16x128x1024_S1x64x1024_10_64_0, packedbf16_S16x128x1024_S1x64x1024_10_64_0, tile0 a 7⟩, .tail _ (.tail _ (.tail _ (.tail _ (.tail _ (.tail _ (.tail _ (.head _))))))), mem_tile ![10, 64, 0] _ i (show (i 0).val = 10 by omega) (show 64 ≤ (i 1).val by omega) (show (i 1).val < 64 + 64 by omega) rfl⟩
  | ⟨8, _⟩ =>
    have e : 2 * (i 0).val + (i 1).val / 64 = 24 := hb'
    exact ⟨⟨![12, 0, 0], inb_S16x128x1024_S1x64x1024_12_0_0, packedbf16_S16x128x1024_S1x64x1024_12_0_0, tile0 a 8⟩, .tail _ (.tail _ (.tail _ (.tail _ (.tail _ (.tail _ (.tail _ (.tail _ (.head _)))))))), mem_tile ![12, 0, 0] _ i (show (i 0).val = 12 by omega) (show 0 ≤ (i 1).val by omega) (show (i 1).val < 0 + 64 by omega) rfl⟩
  | ⟨9, _⟩ =>
    have e : 2 * (i 0).val + (i 1).val / 64 = 27 := hb'
    exact ⟨⟨![13, 64, 0], inb_S16x128x1024_S1x64x1024_13_64_0, packedbf16_S16x128x1024_S1x64x1024_13_64_0, tile0 a 9⟩, .tail _ (.tail _ (.tail _ (.tail _ (.tail _ (.tail _ (.tail _ (.tail _ (.tail _ (.head _))))))))), mem_tile ![13, 64, 0] _ i (show (i 0).val = 13 by omega) (show 64 ≤ (i 1).val by omega) (show (i 1).val < 64 + 64 by omega) rfl⟩
  | ⟨10, _⟩ =>
    have e : 2 * (i 0).val + (i 1).val / 64 = 30 := hb'
    exact ⟨⟨![15, 0, 0], inb_S16x128x1024_S1x64x1024_15_0_0, packedbf16_S16x128x1024_S1x64x1024_15_0_0, tile0 a 10⟩, .tail _ (.tail _ (.tail _ (.tail _ (.tail _ (.tail _ (.tail _ (.tail _ (.tail _ (.tail _ (.head _)))))))))), mem_tile ![15, 0, 0] _ i (show (i 0).val = 15 by omega) (show 0 ≤ (i 1).val by omega) (show (i 1).val < 0 + 64 by omega) rfl⟩
theorem fits_tiles1 (a0 a1 : FVec F S704x1024 .f32) (a2 : FVec F S640x1024 .f32) : ∀ t ∈ tiles1 a1, Fits (layOut a0 a1 a2) t := by
  intro t ht
  simp only [tiles1, List.mem_cons, List.not_mem_nil, or_false] at ht
  rcases ht with rfl | rfl | rfl | rfl | rfl | rfl | rfl | rfl | rfl | rfl | rfl
  · exact fits1 a0 a1 a2 _ _ _ 0 rfl rfl rfl
  · exact fits1 a0 a1 a2 _ _ _ 1 rfl rfl rfl
  · exact fits1 a0 a1 a2 _ _ _ 2 rfl rfl rfl
  · exact fits1 a0 a1 a2 _ _ _ 3 rfl rfl rfl
  · exact fits1 a0 a1 a2 _ _ _ 4 rfl rfl rfl
  · exact fits1 a0 a1 a2 _ _ _ 5 rfl rfl rfl
  · exact fits1 a0 a1 a2 _ _ _ 6 rfl rfl rfl
  · exact fits1 a0 a1 a2 _ _ _ 7 rfl rfl rfl
  · exact fits1 a0 a1 a2 _ _ _ 8 rfl rfl rfl
  · exact fits1 a0 a1 a2 _ _ _ 9 rfl rfl rfl
  · exact fits1 a0 a1 a2 _ _ _ 10 rfl rfl rfl
theorem cover1 (a : FVec F S704x1024 .f32) (i : AccIdx) (h : rowBlk i % 3 = 1) :
    ∃ t ∈ tiles1 a, i ∈ (accM.access (Rect.unit (s := S16x128x1024) t.o S1x64x1024.size t.inb)).set := by
  have hb := rowBlk_lt i
  have h0 : (i 0).val < 16 := (i 0).isLt
  have h1 : (i 1).val < 128 := (i 1).isLt
  obtain ⟨b, hb'⟩ : ∃ b : Fin 11, rowBlk i = 1 + 3 * b.val := ⟨⟨rowBlk i / 3, by omega⟩, by show rowBlk i = 1 + 3 * (rowBlk i / 3); omega⟩
  unfold rowBlk at hb'
  match b with
  | ⟨0, _⟩ =>
    have e : 2 * (i 0).val + (i 1).val / 64 = 1 := hb'
    exact ⟨⟨![0, 64, 0], inb_S16x128x1024_S1x64x1024_0_64_0, packedbf16_S16x128x1024_S1x64x1024_0_64_0, tile1 a 0⟩, .head _, mem_tile ![0, 64, 0] _ i (show (i 0).val = 0 by omega) (show 64 ≤ (i 1).val by omega) (show (i 1).val < 64 + 64 by omega) rfl⟩
  | ⟨1, _⟩ =>
    have e : 2 * (i 0).val + (i 1).val / 64 = 4 := hb'
    exact ⟨⟨![2, 0, 0], inb_S16x128x1024_S1x64x1024_2_0_0, packedbf16_S16x128x1024_S1x64x1024_2_0_0, tile1 a 1⟩, .tail _ (.head _), mem_tile ![2, 0, 0] _ i (show (i 0).val = 2 by omega) (show 0 ≤ (i 1).val by omega) (show (i 1).val < 0 + 64 by omega) rfl⟩
  | ⟨2, _⟩ =>
    have e : 2 * (i 0).val + (i 1).val / 64 = 7 := hb'
    exact ⟨⟨![3, 64, 0], inb_S16x128x1024_S1x64x1024_3_64_0, packedbf16_S16x128x1024_S1x64x1024_3_64_0, tile1 a 2⟩, .tail _ (.tail _ (.head _)), mem_tile ![3, 64, 0] _ i (show (i 0).val = 3 by omega) (show 64 ≤ (i 1).val by omega) (show (i 1).val < 64 + 64 by omega) rfl⟩
  | ⟨3, _⟩ =>
    have e : 2 * (i 0).val + (i 1).val / 64 = 10 := hb'
    exact ⟨⟨![5, 0, 0], inb_S16x128x1024_S1x64x1024_5_0_0, packedbf16_S16x128x1024_S1x64x1024_5_0_0, tile1 a 3⟩, .tail _ (.tail _ (.tail _ (.head _))), mem_tile ![5, 0, 0] _ i (show (i 0).val = 5 by omega) (show 0 ≤ (i 1).val by omega) (show (i 1).val < 0 + 64 by omega) rfl⟩
  | ⟨4, _⟩ =>
    have e : 2 * (i 0).val + (i 1).val / 64 = 13 := hb'
    exact ⟨⟨![6, 64, 0], inb_S16x128x1024_S1x64x1024_6_64_0, packedbf16_S16x128x1024_S1x64x1024_6_64_0, tile1 a 4⟩, .tail _ (.tail _ (.tail _ (.tail _ (.head _)))), mem_tile ![6, 64, 0] _ i (show (i 0).val = 6 by omega) (show 64 ≤ (i 1).val by omega) (show (i 1).val < 64 + 64 by omega) rfl⟩
  | ⟨5, _⟩ =>
    have e : 2 * (i 0).val + (i 1).val / 64 = 16 := hb'
    exact ⟨⟨![8, 0, 0], inb_S16x128x1024_S1x64x1024_8_0_0, packedbf16_S16x128x1024_S1x64x1024_8_0_0, tile1 a 5⟩, .tail _ (.tail _ (.tail _ (.tail _ (.tail _ (.head _))))), mem_tile ![8, 0, 0] _ i (show (i 0).val = 8 by omega) (show 0 ≤ (i 1).val by omega) (show (i 1).val < 0 + 64 by omega) rfl⟩
  | ⟨6, _⟩ =>
    have e : 2 * (i 0).val + (i 1).val / 64 = 19 := hb'
    exact ⟨⟨![9, 64, 0], inb_S16x128x1024_S1x64x1024_9_64_0, packedbf16_S16x128x1024_S1x64x1024_9_64_0, tile1 a 6⟩, .tail _ (.tail _ (.tail _ (.tail _ (.tail _ (.tail _ (.head _)))))), mem_tile ![9, 64, 0] _ i (show (i 0).val = 9 by omega) (show 64 ≤ (i 1).val by omega) (show (i 1).val < 64 + 64 by omega) rfl⟩
  | ⟨7, _⟩ =>
    have e : 2 * (i 0).val + (i 1).val / 64 = 22 := hb'
    exact ⟨⟨![11, 0, 0], inb_S16x128x1024_S1x64x1024_11_0_0, packedbf16_S16x128x1024_S1x64x1024_11_0_0, tile1 a 7⟩, .tail _ (.tail _ (.tail _ (.tail _ (.tail _ (.tail _ (.tail _ (.head _))))))), mem_tile ![11, 0, 0] _ i (show (i 0).val = 11 by omega) (show 0 ≤ (i 1).val by omega) (show (i 1).val < 0 + 64 by omega) rfl⟩
  | ⟨8, _⟩ =>
    have e : 2 * (i 0).val + (i 1).val / 64 = 25 := hb'
    exact ⟨⟨![12, 64, 0], inb_S16x128x1024_S1x64x1024_12_64_0, packedbf16_S16x128x1024_S1x64x1024_12_64_0, tile1 a 8⟩, .tail _ (.tail _ (.tail _ (.tail _ (.tail _ (.tail _ (.tail _ (.tail _ (.head _)))))))), mem_tile ![12, 64, 0] _ i (show (i 0).val = 12 by omega) (show 64 ≤ (i 1).val by omega) (show (i 1).val < 64 + 64 by omega) rfl⟩
  | ⟨9, _⟩ =>
    have e : 2 * (i 0).val + (i 1).val / 64 = 28 := hb'
    exact ⟨⟨![14, 0, 0], inb_S16x128x1024_S1x64x1024_14_0_0, packedbf16_S16x128x1024_S1x64x1024_14_0_0, tile1 a 9⟩, .tail _ (.tail _ (.tail _ (.tail _ (.tail _ (.tail _ (.tail _ (.tail _ (.tail _ (.head _))))))))), mem_tile ![14, 0, 0] _ i (show (i 0).val = 14 by omega) (show 0 ≤ (i 1).val by omega) (show (i 1).val < 0 + 64 by omega) rfl⟩
  | ⟨10, _⟩ =>
    have e : 2 * (i 0).val + (i 1).val / 64 = 31 := hb'
    exact ⟨⟨![15, 64, 0], inb_S16x128x1024_S1x64x1024_15_64_0, packedbf16_S16x128x1024_S1x64x1024_15_64_0, tile1 a 10⟩, .tail _ (.tail _ (.tail _ (.tail _ (.tail _ (.tail _ (.tail _ (.tail _ (.tail _ (.tail _ (.head _)))))))))), mem_tile ![15, 64, 0] _ i (show (i 0).val = 15 by omega) (show 64 ≤ (i 1).val by omega) (show (i 1).val < 64 + 64 by omega) rfl⟩
theorem fits_tiles2 (a0 a1 : FVec F S704x1024 .f32) (a2 : FVec F S640x1024 .f32) : ∀ t ∈ tiles2 a2, Fits (layOut a0 a1 a2) t := by
  intro t ht
  simp only [tiles2, List.mem_cons, List.not_mem_nil, or_false] at ht
  rcases ht with rfl | rfl | rfl | rfl | rfl | rfl | rfl | rfl | rfl | rfl
  · exact fits2 a0 a1 a2 _ _ _ 0 rfl rfl rfl
  · exact fits2 a0 a1 a2 _ _ _ 1 rfl rfl rfl
  · exact fits2 a0 a1 a2 _ _ _ 2 rfl rfl rfl
  · exact fits2 a0 a1 a2 _ _ _ 3 rfl rfl rfl
  · exact fits2 a0 a1 a2 _ _ _ 4 rfl rfl rfl
  · exact fits2 a0 a1 a2 _ _ _ 5 rfl rfl rfl
  · exact fits2 a0 a1 a2 _ _ _ 6 rfl rfl rfl
  · exact fits2 a0 a1 a2 _ _ _ 7 rfl rfl rfl
  · exact fits2 a0 a1 a2 _ _ _ 8 rfl rfl rfl
  · exact fits2 a0 a1 a2 _ _ _ 9 rfl rfl rfl
theorem cover2 (a : FVec F S640x1024 .f32) (i : AccIdx) (h : rowBlk i % 3 = 2) :
    ∃ t ∈ tiles2 a, i ∈ (accM.access (Rect.unit (s := S16x128x1024) t.o S1x64x1024.size t.inb)).set := by
  have hb := rowBlk_lt i
  have h0 : (i 0).val < 16 := (i 0).isLt
  have h1 : (i 1).val < 128 := (i 1).isLt
  obtain ⟨b, hb'⟩ : ∃ b : Fin 10, rowBlk i = 2 + 3 * b.val := ⟨⟨rowBlk i / 3, by omega⟩, by show rowBlk i = 2 + 3 * (rowBlk i / 3); omega⟩
  unfold rowBlk at hb'
  match b with
  | ⟨0, _⟩ =>
    have e : 2 * (i 0).val + (i 1).val / 64 = 2 := hb'
    exact ⟨⟨![1, 0, 0], inb_S16x128x1024_S1x64x1024_1_0_0, packedbf16_S16x128x1024_S1x64x1024_1_0_0, tile2 a 0⟩, .head _, mem_tile ![1, 0, 0] _ i (show (i 0).val = 1 by omega) (show 0 ≤ (i 1).val by omega) (show (i 1).val < 0 + 64 by omega) rfl⟩
  | ⟨1, _⟩ =>
    have e : 2 * (i 0).val + (i 1).val / 64 = 5 := hb'
    exact ⟨⟨![2, 64, 0], inb_S16x128x1024_S1x64x1024_2_64_0, packedbf16_S16x128x1024_S1x64x1024_2_64_0, tile2 a 1⟩, .tail _ (.head _), mem_tile ![2, 64, 0] _ i (show (i 0).val = 2 by omega) (show 64 ≤ (i 1).val by omega) (show (i 1).val < 64 + 64 by omega) rfl⟩
  | ⟨2, _⟩ =>
    have e : 2 * (i 0).val + (i 1).val / 64 = 8 := hb'
    exact ⟨⟨![4, 0, 0], inb_S16x128x1024_S1x64x1024_4_0_0, packedbf16_S16x128x1024_S1x64x1024_4_0_0, tile2 a 2⟩, .tail _ (.tail _ (.head _)), mem_tile ![4, 0, 0] _ i (show (i 0).val = 4 by omega) (show 0 ≤ (i 1).val by omega) (show (i 1).val < 0 + 64 by omega) rfl⟩
  | ⟨3, _⟩ =>
    have e : 2 * (i 0).val + (i 1).val / 64 = 11 := hb'
    exact ⟨⟨![5, 64, 0], inb_S16x128x1024_S1x64x1024_5_64_0, packedbf16_S16x128x1024_S1x64x1024_5_64_0, tile2 a 3⟩, .tail _ (.tail _ (.tail _ (.head _))), mem_tile ![5, 64, 0] _ i (show (i 0).val = 5 by omega) (show 64 ≤ (i 1).val by omega) (show (i 1).val < 64 + 64 by omega) rfl⟩
  | ⟨4, _⟩ =>
    have e : 2 * (i 0).val + (i 1).val / 64 = 14 := hb'
    exact ⟨⟨![7, 0, 0], inb_S16x128x1024_S1x64x1024_7_0_0, packedbf16_S16x128x1024_S1x64x1024_7_0_0, tile2 a 4⟩, .tail _ (.tail _ (.tail _ (.tail _ (.head _)))), mem_tile ![7, 0, 0] _ i (show (i 0).val = 7 by omega) (show 0 ≤ (i 1).val by omega) (show (i 1).val < 0 + 64 by omega) rfl⟩
  | ⟨5, _⟩ =>
    have e : 2 * (i 0).val + (i 1).val / 64 = 17 := hb'
    exact ⟨⟨![8, 64, 0], inb_S16x128x1024_S1x64x1024_8_64_0, packedbf16_S16x128x1024_S1x64x1024_8_64_0, tile2 a 5⟩, .tail _ (.tail _ (.tail _ (.tail _ (.tail _ (.head _))))), mem_tile ![8, 64, 0] _ i (show (i 0).val = 8 by omega) (show 64 ≤ (i 1).val by omega) (show (i 1).val < 64 + 64 by omega) rfl⟩
  | ⟨6, _⟩ =>
    have e : 2 * (i 0).val + (i 1).val / 64 = 20 := hb'
    exact ⟨⟨![10, 0, 0], inb_S16x128x1024_S1x64x1024_10_0_0, packedbf16_S16x128x1024_S1x64x1024_10_0_0, tile2 a 6⟩, .tail _ (.tail _ (.tail _ (.tail _ (.tail _ (.tail _ (.head _)))))), mem_tile ![10, 0, 0] _ i (show (i 0).val = 10 by omega) (show 0 ≤ (i 1).val by omega) (show (i 1).val < 0 + 64 by omega) rfl⟩
  | ⟨7, _⟩ =>
    have e : 2 * (i 0).val + (i 1).val / 64 = 23 := hb'
    exact ⟨⟨![11, 64, 0], inb_S16x128x1024_S1x64x1024_11_64_0, packedbf16_S16x128x1024_S1x64x1024_11_64_0, tile2 a 7⟩, .tail _ (.tail _ (.tail _ (.tail _ (.tail _ (.tail _ (.tail _ (.head _))))))), mem_tile ![11, 64, 0] _ i (show (i 0).val = 11 by omega) (show 64 ≤ (i 1).val by omega) (show (i 1).val < 64 + 64 by omega) rfl⟩
  | ⟨8, _⟩ =>
    have e : 2 * (i 0).val + (i 1).val / 64 = 26 := hb'
    exact ⟨⟨![13, 0, 0], inb_S16x128x1024_S1x64x1024_13_0_0, packedbf16_S16x128x1024_S1x64x1024_13_0_0, tile2 a 8⟩, .tail _ (.tail _ (.tail _ (.tail _ (.tail _ (.tail _ (.tail _ (.tail _ (.head _)))))))), mem_tile ![13, 0, 0] _ i (show (i 0).val = 13 by omega) (show 0 ≤ (i 1).val by omega) (show (i 1).val < 0 + 64 by omega) rfl⟩
  | ⟨9, _⟩ =>
    have e : 2 * (i 0).val + (i 1).val / 64 = 29 := hb'
    exact ⟨⟨![14, 64, 0], inb_S16x128x1024_S1x64x1024_14_64_0, packedbf16_S16x128x1024_S1x64x1024_14_64_0, tile2 a 9⟩, .tail _ (.tail _ (.tail _ (.tail _ (.tail _ (.tail _ (.tail _ (.tail _ (.tail _ (.head _))))))))), mem_tile ![14, 64, 0] _ i (show (i 0).val = 14 by omega) (show 64 ≤ (i 1).val by omega) (show (i 1).val < 64 + 64 by omega) rfl⟩

/-- The accumulator after the attention, whatever it held before. -/
theorem partials_eq (q : FVec F S2048x1024 .f32) (K V : KV F) (W : WW F) (f : AccC F) :
    partials q K V W f = layOut (sum0 q K V W) (sum1 q K V W) (sum2 q K V W) := by
  unfold partials
  generalize sum0 q K V W = a0
  generalize sum1 q K V W = a1
  generalize sum2 q K V W = a2
  funext i
  apply writes_fits _ _ _ (fits_tiles2 a0 a1 a2)
  by_cases h2 : rowBlk i % 3 = 2
  · exact .inr (cover2 a2 i h2)
  left
  apply writes_fits _ _ _ (fits_tiles1 a0 a1 a2)
  by_cases h1 : rowBlk i % 3 = 1
  · exact .inr (cover1 a1 i h1)
  left
  apply writes_fits _ _ _ (fits_tiles0 a0 a1 a2)
  exact .inr (cover0 a0 i (by omega))

end Cert.KernelIdeal.Talk
-- ==== Proof.Bar.lean ====
module

public import proofs.«01_k».proof.Proof.Flow
public import proofs.«01_k».proof.Proof.Part
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The barrier, and the body from end to end -/

local notation "𝕄" => MT nD τ sig Unit (Elt F) ℕ UU ℕ

theorem dev1_eq (c : Dev nD) : (⟨k0_dev1 c, k0_dev1_lt c⟩ : Dev nD) = bp 0 c := by revert c; decide
theorem dev2_eq (c : Dev nD) : (⟨k0_dev2 c, k0_dev2_lt c⟩ : Dev nD) = bp 1 c := by revert c; decide
theorem dev3_eq (c : Dev nD) : (⟨k0_dev3 c, k0_dev3_lt c⟩ : Dev nD) = bp 2 c := by revert c; decide
theorem dev4_eq (c : Dev nD) : (⟨k0_dev4 c, k0_dev4_lt c⟩ : Dev nD) = bp 3 c := by revert c; decide

/-- A device's own landing places. -/
def myRooms (c : Dev nD) (ln : Lane) : sProp 𝕄 :=
  iprop(room c c ln .a0 ∗ room c c ln .a1 ∗ room c c ln .a2 ∗ room c c ln .b1 ∗ room c c ln .b2)
/-- Its receive cells are open. -/
def opened (c : Dev nD) : sProp 𝕄 := bigSep Finset.univ fun p : Lane × Stp => reached ER (rCell c p.1 p.2) 0
instance opened_persistent (c : Dev nD) : BI.Persistent (opened (F := F) c) := by unfold opened; infer_instance
theorem opened_at (c : Dev nD) (ln : Lane) (s : Stp) : (opened c : sProp 𝕄) ⊢ reached ER (rCell c ln s) 0 := by
  unfold opened; exact BI.bigSep_elim (Φ := fun p : Lane × Stp => reached ER (rCell c p.1 p.2) 0) (Finset.mem_univ (ln, s))
/-- The duties a device pays at the barrier. -/
def barToks (c : Dev nD) : sProp 𝕄 :=
  iprop((dutyTok ER (barCell (bp 0 c)) 0 0 ∗ dutyTok ER (barCell (bp 1 c)) 0 1 ∗ dutyTok ER (barCell (bp 2 c)) 0 2 ∗ dutyTok ER (barCell (bp 3 c)) 0 3)
    ∗ (reached ER (barCell (bp 0 c)) 0 ∗ reached ER (barCell (bp 1 c)) 0 ∗ reached ER (barCell (bp 2 c)) 0 ∗ reached ER (barCell (bp 3 c)) 0)
    ∗ cred (tallyAt (barCell c) () 4) ∗ atPos ER (barCell c) 0 ∅ 0)

theorem give_adds (d b : Dev nD) (ln : Lane) (s : Stp) (h : adds s = true) (e : tg ln s b = d) :
    (iprop(opened d ∗ room d d ln s) : sProp 𝕄) ⊢ give ln s b := by
  subst e
  unfold give
  rw [if_pos h]
  iintro ⟨#HO, HR⟩
  isplitl [HR]
  · unfold room; rw [dst_dst b (tg ln s b) ln s h]; iexact HR
  · iapply (opened_at (F := F) (tg ln s b) ln s); iexact HO
theorem give_copies (d b : Dev nD) (ln : Lane) (s : Stp) (h : adds s = false) (e : tg ln s b = d) :
    (opened d : sProp 𝕄) ⊢ give ln s b := by
  subst e
  unfold give
  rw [h, if_neg Bool.false_ne_true]
  exact opened_at (F := F) (tg ln s b) ln s
theorem pay0 (c : Dev nD) : (iprop(opened c ∗ room c c .lo .a0 ∗ room c c .lo .a1 ∗ room c c .lo .a2) : sProp 𝕄) ⊢ barPay (bp 0 c) 0 := by
  unfold barPay
  iintro ⟨#HO, Rloa0, Rloa1, Rloa2⟩
  isplitl [Rloa0]
  · iapply (give_adds c (bp 0 c) .lo .a0 rfl (by revert c; decide))
    isplitr; · iexact HO
    iexact Rloa0
  isplitl [Rloa1]
  · iapply (give_adds c (bp 0 c) .lo .a1 rfl (by revert c; decide))
    isplitr; · iexact HO
    iexact Rloa1
  isplitl [Rloa2]
  · iapply (give_adds c (bp 0 c) .lo .a2 rfl (by revert c; decide))
    isplitr; · iexact HO
    iexact Rloa2
  isplitr
  · iapply (give_copies (F := F) c (bp 0 c) .lo .d0 rfl (by revert c; decide))
    iexact HO
  isplitr
  · iapply (give_copies (F := F) c (bp 0 c) .lo .d1 rfl (by revert c; decide))
    iexact HO
  iapply (give_copies (F := F) c (bp 0 c) .lo .d2 rfl (by revert c; decide))
  iexact HO
theorem pay1 (c : Dev nD) : (iprop(opened c ∗ room c c .hi .a0 ∗ room c c .hi .a1 ∗ room c c .hi .a2) : sProp 𝕄) ⊢ barPay (bp 1 c) 1 := by
  unfold barPay
  iintro ⟨#HO, Rhia0, Rhia1, Rhia2⟩
  isplitl [Rhia0]
  · iapply (give_adds c (bp 1 c) .hi .a0 rfl (by revert c; decide))
    isplitr; · iexact HO
    iexact Rhia0
  isplitl [Rhia1]
  · iapply (give_adds c (bp 1 c) .hi .a1 rfl (by revert c; decide))
    isplitr; · iexact HO
    iexact Rhia1
  isplitl [Rhia2]
  · iapply (give_adds c (bp 1 c) .hi .a2 rfl (by revert c; decide))
    isplitr; · iexact HO
    iexact Rhia2
  isplitr
  · iapply (give_copies (F := F) c (bp 1 c) .hi .d0 rfl (by revert c; decide))
    iexact HO
  isplitr
  · iapply (give_copies (F := F) c (bp 1 c) .hi .d1 rfl (by revert c; decide))
    iexact HO
  iapply (give_copies (F := F) c (bp 1 c) .hi .d2 rfl (by revert c; decide))
  iexact HO
theorem pay2 (c : Dev nD) : (iprop(opened c ∗ room c c .lo .b2 ∗ room c c .hi .b2) : sProp 𝕄) ⊢ barPay (bp 2 c) 2 := by
  unfold barPay
  iintro ⟨#HO, Rlob2, Rhib2⟩
  isplitl [Rlob2]
  · iapply (give_adds c (bp 2 c) .lo .b2 rfl (by revert c; decide))
    isplitr; · iexact HO
    iexact Rlob2
  isplitl [Rhib2]
  · iapply (give_adds c (bp 2 c) .hi .b2 rfl (by revert c; decide))
    isplitr; · iexact HO
    iexact Rhib2
  isplitr
  · iapply (give_copies (F := F) c (bp 2 c) .lo .c1 rfl (by revert c; decide))
    iexact HO
  iapply (give_copies (F := F) c (bp 2 c) .hi .c1 rfl (by revert c; decide))
  iexact HO
theorem pay3 (c : Dev nD) : (iprop(opened c ∗ room c c .lo .b1 ∗ room c c .hi .b1) : sProp 𝕄) ⊢ barPay (bp 3 c) 3 := by
  unfold barPay
  iintro ⟨#HO, Rlob1, Rhib1⟩
  isplitl [Rlob1]
  · iapply (give_adds c (bp 3 c) .lo .b1 rfl (by revert c; decide))
    isplitr; · iexact HO
    iexact Rlob1
  isplitl [Rhib1]
  · iapply (give_adds c (bp 3 c) .hi .b1 rfl (by revert c; decide))
    isplitr; · iexact HO
    iexact Rhib1
  isplitr
  · iapply (give_copies (F := F) c (bp 3 c) .lo .c2 rfl (by revert c; decide))
    iexact HO
  iapply (give_copies (F := F) c (bp 3 c) .hi .c2 rfl (by revert c; decide))
  iexact HO

variable (p0 : Dev nD → AccC F)
variable (vQ : Dev nD → S1024x16384.Idx → Elt F .f32) (vO : Dev nD → S16384x1024.Idx → Elt F .f32)

theorem bar_four (c : Dev nD) : bigSep Finset.univ (fun i : Fin 4 => (barPay c i : sProp 𝕄)) = iprop(barPay c 0 ∗ barPay c 1 ∗ barPay c 2 ∗ barPay c 3) :=
  bigSep_univ_eq_bigSepL [0, 1, 2, 3] (by decide) (by decide) (fun i => barPay c i)

/-- The four signals and the wait. -/
theorem wp_bar (K : GSem nD τ sig → ℕ) (c : Dev nD) (k : Prog (TpuEff nD τ sig (Elt F) Λ₀ .tc) PUnit) (Q : PUnit → sProp 𝕄) :
    iprop(invs p0 vQ vO K ∗ levAts L lv ∗ (∃ W, owes (c : Thread nD τ) (O₀ c) W) ∗ opened c ∗ barToks c ∗ myRooms c .lo ∗ myRooms c .hi)
      ⊢ iprop(((duty c allSends ∗ atPos ER (barCell c) (0 + 1) ∅ 0 ∗ barPay c 0 ∗ barPay c 1 ∗ barPay c 2 ∗ barPay c 3)
            -∗ wp frame (wpE (defs₀ (F := F)) 𝒱₀ c none) Set.univ k Q)
          -∗ wp frame (wpE (defs₀ (F := F)) 𝒱₀ c none) Set.univ (bar c k) Q) := by
  unfold bar barToks myRooms duty
  rw [dev1_eq c, dev2_eq c, dev3_eq c, dev4_eq c]
  iintro ⟨#HI, #Hlev, ⟨%W, HO⟩, #Hop, ⟨⟨T0, T1, T2, T3⟩, ⟨#E0, #E1, #E2, #E3⟩, Hc, Hat⟩, ⟨Loa0, Loa1, Loa2, Lob1, Lob2⟩, ⟨Hia0, Hia1, Hia2, Hib1, Hib2⟩⟩ Hk
  ihave #HIb := (invs_at p0 vQ vO K (bp 0 c, .bar)) $$ HI
  ihave Hp := (pay0 (F := F) c) $$ [Loa0 Loa1 Loa2]
  · isplitr; · iexact Hop
    isplitl [Loa0]; · iexact Loa0
    isplitl [Loa1]; · iexact Loa1
    iexact Loa2
  iapply (Rounds.wp_signal 𝒱₀ ER (Sd p0 vQ vO) (c : Thread nD τ) none (dst := (bp 0 c : Thread nD τ)) (κ := K (barCell (bp 0 c)))
      (d := 0) (by rw [duties_bar]; exact Finset.mem_univ _) ((amount_bar p0 vQ vO (bp 0 c) 0).trans (by decide)) () (owed c allSends + tallyAt (barCell (bp 3 c)) () 1 + tallyAt (barCell (bp 2 c)) () 1 + tallyAt (barCell (bp 1 c)) () 1) rfl)
    $$ [HO T0 Hp]
  · isplitr; · iexact HIb
    isplitl [HO]; · iexact HO
    isplitl [T0]; · iexact T0
    isplitl [Hp]
    · rw [payload_bar]; iexact Hp
    · iexact E0
  iclear HIb
  iintro HO
  ihave #HIb := (invs_at p0 vQ vO K (bp 1 c, .bar)) $$ HI
  ihave Hp := (pay1 (F := F) c) $$ [Hia0 Hia1 Hia2]
  · isplitr; · iexact Hop
    isplitl [Hia0]; · iexact Hia0
    isplitl [Hia1]; · iexact Hia1
    iexact Hia2
  iapply (Rounds.wp_signal 𝒱₀ ER (Sd p0 vQ vO) (c : Thread nD τ) none (dst := (bp 1 c : Thread nD τ)) (κ := K (barCell (bp 1 c)))
      (d := 1) (by rw [duties_bar]; exact Finset.mem_univ _) ((amount_bar p0 vQ vO (bp 1 c) 1).trans (by decide)) () (owed c allSends + tallyAt (barCell (bp 3 c)) () 1 + tallyAt (barCell (bp 2 c)) () 1) rfl)
    $$ [HO T1 Hp]
  · isplitr; · iexact HIb
    isplitl [HO]; · iexact HO
    isplitl [T1]; · iexact T1
    isplitl [Hp]
    · rw [payload_bar]; iexact Hp
    · iexact E1
  iclear HIb
  iintro HO
  ihave #HIb := (invs_at p0 vQ vO K (bp 2 c, .bar)) $$ HI
  ihave Hp := (pay2 (F := F) c) $$ [Lob2 Hib2]
  · isplitr; · iexact Hop
    isplitl [Lob2]; · iexact Lob2
    iexact Hib2
  iapply (Rounds.wp_signal 𝒱₀ ER (Sd p0 vQ vO) (c : Thread nD τ) none (dst := (bp 2 c : Thread nD τ)) (κ := K (barCell (bp 2 c)))
      (d := 2) (by rw [duties_bar]; exact Finset.mem_univ _) ((amount_bar p0 vQ vO (bp 2 c) 2).trans (by decide)) () (owed c allSends + tallyAt (barCell (bp 3 c)) () 1) rfl)
    $$ [HO T2 Hp]
  · isplitr; · iexact HIb
    isplitl [HO]; · iexact HO
    isplitl [T2]; · iexact T2
    isplitl [Hp]
    · rw [payload_bar]; iexact Hp
    · iexact E2
  iclear HIb
  iintro HO
  ihave #HIb := (invs_at p0 vQ vO K (bp 3 c, .bar)) $$ HI
  ihave Hp := (pay3 (F := F) c) $$ [Lob1 Hib1]
  · isplitr; · iexact Hop
    isplitl [Lob1]; · iexact Lob1
    iexact Hib1
  iapply (Rounds.wp_signal 𝒱₀ ER (Sd p0 vQ vO) (c : Thread nD τ) none (dst := (bp 3 c : Thread nD τ)) (κ := K (barCell (bp 3 c)))
      (d := 3) (by rw [duties_bar]; exact Finset.mem_univ _) ((amount_bar p0 vQ vO (bp 3 c) 3).trans (by decide)) () (owed c allSends) rfl)
    $$ [HO T3 Hp]
  · isplitr; · iexact HIb
    isplitl [HO]; · iexact HO
    isplitl [T3]; · iexact T3
    isplitl [Hp]
    · rw [payload_bar]; iexact Hp
    · iexact E3
  iclear HIb
  iintro HO
  ihave #HIb := (invs_at p0 vQ vO K (c, .bar)) $$ HI
  iapply (Rounds.wp_wait_rest_token 𝒱₀ ER (Sd p0 vQ vO) (c : Thread nD τ) none (κ := K (barCell c))
      (wpE_semWait_eq 𝒱₀ (c : Thread nD τ) none Set.univ) (Set.mem_univ _) () (O := owed c allSends) (W := W) (R := 0) (m := 0) (T := ∅)
      ((Nat.zero_add _).trans ((show _ = 4 from by decide).trans (expect_bar p0 vQ vO c).symm))) $$ [Hc HO Hat]
  · isplitr; · iexact HIb
    isplitl [Hc]; · iexact Hc
    isplitl [HO]; · iexact HO
    isplitr
    · iapply (mayWait_owed (F := F) c (.reg barSem) allSends (fun p _ => by rw [lv_bar]; omega)); iexact Hlev
    iexact Hat
  iintro ⟨HO, Hat, -, Hpay⟩
  ihave Hp := (Entails.of_eq ((rest_bar p0 vQ vO c).trans (bar_four c))) $$ Hpay
  icases Hp with ⟨P0, P1, P2, P3⟩
  iapply Hk
  isplitl [HO]; · iexists _; iexact HO
  isplitl [Hat]; · iexact Hat
  isplitl [P0]; · iexact P0
  isplitl [P1]; · iexact P1
  isplitl [P2]; · iexact P2
  iexact P3

/-- A step's tokens before the partner has opened. -/
def pk0 (c : Dev nD) (ln : Lane) (s : Stp) : sProp 𝕄 :=
  iprop(dutyTok ER (sCell c ln) (idx s) 0 ∗ dutyTok ER (rCell (tg ln s c) ln s) 0 0 ∗ cred (tallyAt (rCell c ln s) () (N s)) ∗ atPos ER (rCell c ln s) 0 ∅ 0)
theorem pk_adds (c : Dev nD) (ln : Lane) (s : Stp) (h : adds s = true) :
    (iprop(pk0 c ln s ∗ give ln s c) : sProp 𝕄) ⊢ iprop(pk c ln s ∗ room (tg ln s c) c ln s) := by
  unfold pk0 pk give
  rw [if_pos h]
  iintro ⟨⟨H1, H2, H3, H4⟩, HR, #HE⟩
  isplitr [HR]
  · isplitl [H1]; · iexact H1
    isplitl [H2]; · iexact H2
    isplitl [H3]; · iexact H3
    isplitl [H4]; · iexact H4
    iexact HE
  · iexact HR
theorem pk_copies (c : Dev nD) (ln : Lane) (s : Stp) (h : adds s = false) :
    (iprop(pk0 c ln s ∗ give ln s c) : sProp 𝕄) ⊢ pk c ln s := by
  unfold pk0 pk give
  rw [h, if_neg Bool.false_ne_true]
  iintro ⟨⟨H1, H2, H3, H4⟩, #HE⟩
  isplitl [H1]; · iexact H1
  isplitl [H2]; · iexact H2
  isplitl [H3]; · iexact H3
  isplitl [H4]; · iexact H4
  iexact HE
/-- A lane's tokens. -/
def pks (c : Dev nD) (ln : Lane) : sProp 𝕄 := iprop(pk0 c ln .a0 ∗ pk0 c ln .a1 ∗ pk0 c ln .a2 ∗ pk0 c ln .b1 ∗ pk0 c ln .b2 ∗ pk0 c ln .c1 ∗ pk0 c ln .c2 ∗ pk0 c ln .d0 ∗ pk0 c ln .d1 ∗ pk0 c ln .d2)
def takes (c : Dev nD) (ln : Lane) : sProp 𝕄 := iprop(give ln .a0 c ∗ give ln .a1 c ∗ give ln .a2 c ∗ give ln .b1 c ∗ give ln .b2 c ∗ give ln .c1 c ∗ give ln .c2 c ∗ give ln .d0 c ∗ give ln .d1 c ∗ give ln .d2 c)
theorem lane0_intro (c : Dev nD) (ln : Lane) :
    (iprop(at_ c ln 0 ∗ A c (pc Finset.univ ln) (p0 c) ∗ pks c ln ∗ takes c ln) : sProp 𝕄) ⊢ lane0 p0 c ln := by
  unfold pks takes lane0
  iintro ⟨Hat, HA, ⟨Pa0, Pa1, Pa2, Pb1, Pb2, Pc1, Pc2, Pd0, Pd1, Pd2⟩, Ga0, Ga1, Ga2, Gb1, Gb2, Gc1, Gc2, Gd0, Gd1, Gd2⟩
  ihave Xa0 := (pk_adds (F := F) c ln .a0 rfl) $$ [Pa0 Ga0]
  · isplitl [Pa0]; · iexact Pa0
    iexact Ga0
  icases Xa0 with ⟨Xa0, Ra0⟩
  ihave Xa1 := (pk_adds (F := F) c ln .a1 rfl) $$ [Pa1 Ga1]
  · isplitl [Pa1]; · iexact Pa1
    iexact Ga1
  icases Xa1 with ⟨Xa1, Ra1⟩
  ihave Xa2 := (pk_adds (F := F) c ln .a2 rfl) $$ [Pa2 Ga2]
  · isplitl [Pa2]; · iexact Pa2
    iexact Ga2
  icases Xa2 with ⟨Xa2, Ra2⟩
  ihave Xb1 := (pk_adds (F := F) c ln .b1 rfl) $$ [Pb1 Gb1]
  · isplitl [Pb1]; · iexact Pb1
    iexact Gb1
  icases Xb1 with ⟨Xb1, Rb1⟩
  ihave Xb2 := (pk_adds (F := F) c ln .b2 rfl) $$ [Pb2 Gb2]
  · isplitl [Pb2]; · iexact Pb2
    iexact Gb2
  icases Xb2 with ⟨Xb2, Rb2⟩
  ihave Xc1 := (pk_copies (F := F) c ln .c1 rfl) $$ [Pc1 Gc1]
  · isplitl [Pc1]; · iexact Pc1
    iexact Gc1
  ihave Xc2 := (pk_copies (F := F) c ln .c2 rfl) $$ [Pc2 Gc2]
  · isplitl [Pc2]; · iexact Pc2
    iexact Gc2
  ihave Xd0 := (pk_copies (F := F) c ln .d0 rfl) $$ [Pd0 Gd0]
  · isplitl [Pd0]; · iexact Pd0
    iexact Gd0
  ihave Xd1 := (pk_copies (F := F) c ln .d1 rfl) $$ [Pd1 Gd1]
  · isplitl [Pd1]; · iexact Pd1
    iexact Gd1
  ihave Xd2 := (pk_copies (F := F) c ln .d2 rfl) $$ [Pd2 Gd2]
  · isplitl [Pd2]; · iexact Pd2
    iexact Gd2
  isplitl [Hat]; · iexact Hat
  isplitl [HA]; · iexact HA
  isplitl [Xa0 Xa1 Xa2 Xb1 Xb2 Xc1 Xc2 Xd0 Xd1 Xd2]
  · isplitl [Xa0]; · iexact Xa0
    isplitl [Xa1]; · iexact Xa1
    isplitl [Xa2]; · iexact Xa2
    isplitl [Xb1]; · iexact Xb1
    isplitl [Xb2]; · iexact Xb2
    isplitl [Xc1]; · iexact Xc1
    isplitl [Xc2]; · iexact Xc2
    isplitl [Xd0]; · iexact Xd0
    isplitl [Xd1]; · iexact Xd1
    iexact Xd2
  isplitl [Ra0]; · iexact Ra0
  isplitl [Ra1]; · iexact Ra1
  isplitl [Ra2]; · iexact Ra2
  isplitl [Rb1]; · iexact Rb1
  iexact Rb2
theorem takes_intro (c : Dev nD) : (iprop(barPay c 0 ∗ barPay c 1 ∗ barPay c 2 ∗ barPay c 3) : sProp 𝕄) ⊢ iprop(takes c .lo ∗ takes c .hi) := by
  unfold barPay takes
  iintro ⟨⟨La0, La1, La2, Ld0, Ld1, Ld2⟩, ⟨Ha0, Ha1, Ha2, Hd0, Hd1, Hd2⟩, ⟨Lb2, Hb2, Lc1, Hc1⟩, ⟨Lb1, Hb1, Lc2, Hc2⟩⟩
  isplitl [La0 La1 La2 Lb1 Lb2 Lc1 Lc2 Ld0 Ld1 Ld2]
  · isplitl [La0]; · iexact La0
    isplitl [La1]; · iexact La1
    isplitl [La2]; · iexact La2
    isplitl [Lb1]; · iexact Lb1
    isplitl [Lb2]; · iexact Lb2
    isplitl [Lc1]; · iexact Lc1
    isplitl [Lc2]; · iexact Lc2
    isplitl [Ld0]; · iexact Ld0
    isplitl [Ld1]; · iexact Ld1
    iexact Ld2
  isplitl [Ha0]; · iexact Ha0
  isplitl [Ha1]; · iexact Ha1
  isplitl [Ha2]; · iexact Ha2
  isplitl [Hb1]; · iexact Hb1
  isplitl [Hb2]; · iexact Hb2
  isplitl [Hc1]; · iexact Hc1
  isplitl [Hc2]; · iexact Hc2
  isplitl [Hd0]; · iexact Hd0
  isplitl [Hd1]; · iexact Hd1
  iexact Hd2

/-! ## The end -/

theorem split_acc (c : Dev nD) (f : AccC F) : (held c accM f : sProp 𝕄) ⊢ iprop(A c (pc Finset.univ .lo) f ∗ A c (pc Finset.univ .hi) f) := by
  unfold held A
  show ((c : Thread nD τ).loc cc0_scratch4 ↦[Finset.univ]{fullShare} f : sProp 𝕄) ⊢ _
  rw [← pc_lanes_union]
  exact (pointsTo_union (pc_lanes_disjoint _ _)).1
theorem join_acc (c : Dev nD) : (iprop(A c (pc Finset.univ .lo) (cont p0 .lo 10 c) ∗ A c (pc Finset.univ .hi) (cont p0 .hi 10 c)) : sProp 𝕄) ⊢ held c accM (final p0 c) := by
  unfold held A
  show _ ⊢ ((c : Thread nD τ).loc cc0_scratch4 ↦[Finset.univ]{fullShare} final p0 c : sProp 𝕄)
  rw [← pc_lanes_union]
  refine BI.Entails.trans ?_ (pointsTo_union (pc_lanes_disjoint _ _)).2
  refine BI.sep_mono (Entails.of_eq (pointsTo_congr fun i hi => ?_)) (Entails.of_eq (pointsTo_congr fun i hi => ?_))
  · have h := (mem_pc.mp hi).2.2
    simp only [lane] at h
    unfold final; rw [if_pos (by omega)]
  · have h := (mem_pc.mp hi).2.1
    simp only [lane] at h
    unfold final; rw [if_neg (by omega)]

/-- The result: the accumulator widened. -/
def outOf (c : Dev nD) : S16x128x1024.Idx → Elt F .f32 := extf .f32 (final p0 c) bitsLt_bf16_f32

theorem wp_fin (c : Dev nD) (g : S16x128x1024.Idx → Elt F .f32) (k : Prog (TpuEff nD τ sig (Elt F) Λ₀ .tc) PUnit) (Q : PUnit → sProp 𝕄) :
    (iprop(held c accM (final p0 c) ∗ held c oM g) : sProp 𝕄)
      ⊢ iprop(((held c accM (final p0 c) ∗ held c oM (outOf p0 c)) -∗ wp frame (wpE (defs₀ (F := F)) 𝒱₀ c none) Set.univ k Q)
          -∗ wp frame (wpE (defs₀ (F := F)) 𝒱₀ c none) Set.univ (fin k) Q) := by
  unfold fin
  iintro ⟨HA, HG⟩ Hk
  iapply (wp_ld c accM (Rect.unit (s := S16x128x1024) ![0, 0, 0] S16x128x1024.size inb_S16x128x1024_S16x128x1024_0_0_0) (final p0 c)) $$ HA
  iintro HA
  iapply (wp_ld c oM (Rect.unit (s := S16x128x1024) ![0, 0, 0] S16x128x1024.size inb_S16x128x1024_S16x128x1024_0_0_0) g) $$ HG
  iintro HG
  unfold held
  iapply (wp_store (defs := defs₀ (F := F)) 𝒱₀ (c : Thread nD τ) none Set.univ (m := oM) (r := (Rect.unit (s := S16x128x1024) ![0, 0, 0] S16x128x1024.size inb_S16x128x1024_S16x128x1024_0_0_0)) (S := Finset.univ) (f := g) (Finset.subset_univ _)) $$ HG
  iintro HG
  iapply Hk
  isplitl [HA]; · iexact HA
  rw [show ((oM.access (Rect.unit (s := S16x128x1024) ![0, 0, 0] S16x128x1024.size inb_S16x128x1024_S16x128x1024_0_0_0)).write (Elt F) g
      (extf .f32 ((accM.access (Rect.unit (s := S16x128x1024) ![0, 0, 0] S16x128x1024.size inb_S16x128x1024_S16x128x1024_0_0_0)).read (Elt F) (final p0 c)) bitsLt_bf16_f32) Finset.univ) = outOf p0 c from ?_]
  · iexact HG
  · refine (congrArg (fun v => (oM.access (Rect.unit (s := S16x128x1024) ![0, 0, 0] S16x128x1024.size inb_S16x128x1024_S16x128x1024_0_0_0)).write (Elt F) g
      (extf .f32 v bitsLt_bf16_f32) Finset.univ) (Memref.read_access_unit_zero (Elt F) cc0_scratch4 (by decide) inb_S16x128x1024_S16x128x1024_0_0_0 (final p0 c))).trans ?_
    exact Memref.write_access_unit_zero_univ (Elt F) cc0_stg3_0 (by decide) inb_S16x128x1024_S16x128x1024_0_0_0 g _

end Cert.KernelIdeal.Talk
-- ==== Proof.Body.lean ====
module

public import proofs.«01_k».proof.Proof.Bar
public import Idealize.ShloMosaic.Lib.Memref
public import Idealize.ShloMosaic.Lib.Rounds
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # The body from end to end -/

local notation "𝕄" => MT nD τ sig Unit (Elt F) ℕ UU ℕ

/-! ## The scoped cells -/

/-- The scoped cells of a device: the two fetches', the two lanes' sends', and each step's arrivals'. -/
abbrev Sk := Lane ⊕ (Lane ⊕ (Lane × Stp))
def ck : Sk → Ck
  | .inl .lo => .lq
  | .inl .hi => .lw
  | .inr (.inl ln) => .snd ln
  | .inr (.inr p) => .rcv p.1 p.2
theorem ck_inj {a b : Sk} (h : ck a = ck b) : a = b := by revert a b; decide
theorem ck_ne (a : Sk) : ck a ≠ .bar := by revert a; decide

theorem lane_all (Φ : Lane → sProp 𝕄) : bigSep Finset.univ Φ = iprop(Φ .lo ∗ Φ .hi) :=
  bigSep_univ_eq_bigSepL [Lane.lo, Lane.hi] (by decide) (by decide) Φ
theorem stp_all (Φ : Stp → sProp 𝕄) : bigSep Finset.univ Φ = iprop(Φ .a0 ∗ Φ .a1 ∗ Φ .a2 ∗ Φ .b1 ∗ Φ .b2 ∗ Φ .c1 ∗ Φ .c2 ∗ Φ .d0 ∗ Φ .d1 ∗ Φ .d2) :=
  bigSep_univ_eq_bigSepL [Stp.a0, Stp.a1, Stp.a2, Stp.b1, Stp.b2, Stp.c1, Stp.c2, Stp.d0, Stp.d1, Stp.d2] (by decide) (by decide) Φ
theorem lanes_all (Φ : Lane × Stp → sProp 𝕄) : bigSep Finset.univ Φ
    = iprop((Φ (.lo, .a0) ∗ Φ (.lo, .a1) ∗ Φ (.lo, .a2) ∗ Φ (.lo, .b1) ∗ Φ (.lo, .b2) ∗ Φ (.lo, .c1) ∗ Φ (.lo, .c2) ∗ Φ (.lo, .d0) ∗ Φ (.lo, .d1) ∗ Φ (.lo, .d2)) ∗ (Φ (.hi, .a0) ∗ Φ (.hi, .a1) ∗ Φ (.hi, .a2) ∗ Φ (.hi, .b1) ∗ Φ (.hi, .b2) ∗ Φ (.hi, .c1) ∗ Φ (.hi, .c2) ∗ Φ (.hi, .d0) ∗ Φ (.hi, .d1) ∗ Φ (.hi, .d2))) := by
  rw [bigSep_univ_prod, lane_all, stp_all, stp_all]
theorem sk_all (Φ : Sk → sProp 𝕄) : bigSep Finset.univ Φ
    = iprop((Φ (.inl .lo) ∗ Φ (.inl .hi)) ∗ (Φ (.inr (.inl .lo)) ∗ Φ (.inr (.inl .hi))) ∗ bigSep Finset.univ fun p => Φ (.inr (.inr p))) := by
  rw [bigSep_univ_sum, bigSep_univ_sum, lane_all, lane_all]
  rfl

variable (p0 : Dev nD → AccC F)
variable (vQ : Dev nD → S1024x16384.Idx → Elt F .f32) (vO : Dev nD → S16384x1024.Idx → Elt F .f32)

/-- The round a cell ends in. -/
def lastR : Ck → ℕ
  | .snd _ => 10
  | _ => 0 + 1
theorem later_ck (c : Dev nD) (k : Ck) : ∀ r, lastR k ≤ r → (Sd p0 vQ vO).duties (cellAt (c, k)) r = ∅ := by
  have h : ∀ k : Ck, (∀ ln, ckknd k ≠ .snd ln) → ∀ r, 0 + 1 ≤ r → (Sd p0 vQ vO).duties (cellAt (c, k)) r = ∅ := fun k hk =>
    duties_later1 p0 vQ vO _ fun ln e => hk ln ((knd_ck k).symm.trans e)
  cases k with
  | snd ln => exact duties_later p0 vQ vO _
  | bar => exact h .bar (fun ln e => by cases e)
  | rcv l s => exact h (.rcv l s) (fun ln e => by cases e)
  | lq => exact h .lq (fun ln e => by cases e)
  | lw => exact h .lw (fun ln e => by cases e)
theorem close_at (K : GSem nD τ sig → ℕ) (c : Dev nD) (k : Ck) :
    iprop(invs p0 vQ vO K ∗ atPos ER (cellAt (c, k)) (lastR k) ∅ 0) ⊢ iprop(|={Set.univ}=> semVal (cellAt (c, k)) 0 : sProp 𝕄) := by
  iintro ⟨#HI, Hat⟩
  ihave #HIc := (invs_at p0 vQ vO K (c, k)) $$ HI
  iapply (Rounds.cell_close ER (Sd p0 vQ vO) (g := cellAt (c, k)) (R := lastR k) (Set.mem_univ (K (cellAt (c, k)))) id (later_ck p0 vQ vO c k))
  isplitr; · iexact HIc
  iexact Hat
theorem close_all (K : GSem nD τ sig → ℕ) (c : Dev nD) :
    iprop(invs p0 vQ vO K ∗ bigSep Finset.univ fun k : Sk => atPos ER (cellAt (c, ck k)) (lastR (ck k)) ∅ 0)
      ⊢ iprop(|={Set.univ}=> bigSep Finset.univ fun k : Sk => semVal (cellAt (c, ck k)) 0 : sProp 𝕄) :=
  (bigSep_with_persistent (R := invs p0 vQ vO K) (Φ := fun k : Sk => atPos ER (cellAt (c, ck k)) (lastR (ck k)) ∅ 0)
    fun k _ => close_at p0 vQ vO K c (ck k)).trans (bigSep_fupd Finset.univ fun k : Sk => semVal (cellAt (c, ck k)) 0)

/-! ## What a device holds when its scoped cells are open -/

/-- The duties of a device's own transfers and the credits for those it receives. -/
def toks (c : Dev nD) : sProp 𝕄 :=
  iprop((dutyTok ER (qCell c) 0 0 ∗ dutyTok ER (oCell c) 0 0)
    ∗ bigSep Finset.univ fun p : Lane × Stp => iprop(dutyTok ER (sCell c p.1) (idx p.2) 0 ∗ dutyTok ER (rCell (tg p.1 p.2 c) p.1 p.2) 0 0
      ∗ cred (tallyAt (rCell c p.1 p.2) () (N p.2))))
def start (c : Dev nD) : sProp 𝕄 :=
  iprop(barToks c ∗ (bigSep Finset.univ fun k : Sk => iprop(atPos ER (cellAt (c, ck k)) 0 ∅ 0 ∗ reached ER (cellAt (c, ck k)) 0)) ∗ toks c)
theorem start_open (c : Dev nD) : (start c : sProp 𝕄)
    ⊢ iprop(barToks c ∗ lq0 c ∗ lw0 c ∗ at_ c .lo 0 ∗ at_ c .hi 0 ∗ opened c ∗ pks c .lo ∗ pks c .hi) := by
  unfold start toks
  rw [sk_all]
  iintro ⟨HB, ⟨⟨⟨Hq, Hq'⟩, ⟨Hw, Hw'⟩⟩, ⟨Hl, Hh⟩, HR⟩, ⟨Tq, Tw⟩, HT⟩
  ihave HR := (show (bigSep Finset.univ fun p : Lane × Stp => iprop(atPos ER (cellAt (c, ck (.inr (.inr p)))) 0 ∅ 0 ∗ reached ER (cellAt (c, ck (.inr (.inr p)))) 0) : sProp 𝕄)
      ⊢ iprop((bigSep Finset.univ fun p : Lane × Stp => atPos ER (rCell c p.1 p.2) 0 ∅ 0) ∗ opened c) from by
    unfold opened; rw [← bigSep_sep']; exact BI.Entails.refl _) $$ HR
  icases HR with ⟨HR, HO⟩
  ihave HP := (show iprop((bigSep Finset.univ fun p : Lane × Stp => iprop(dutyTok ER (sCell c p.1) (idx p.2) 0 ∗ dutyTok ER (rCell (tg p.1 p.2 c) p.1 p.2) 0 0
      ∗ cred (tallyAt (rCell c p.1 p.2) () (N p.2)))) ∗ bigSep Finset.univ fun p : Lane × Stp => atPos ER (rCell c p.1 p.2) 0 ∅ 0)
        ⊢ (bigSep Finset.univ fun p : Lane × Stp => pk0 c p.1 p.2 : sProp 𝕄) from by
    rw [← bigSep_sep']
    refine bigSep_mono fun p _ => ?_
    show iprop((dutyTok ER (sCell c p.1) (idx p.2) 0 ∗ dutyTok ER (rCell (tg p.1 p.2 c) p.1 p.2) 0 0 ∗ cred (tallyAt (rCell c p.1 p.2) () (N p.2))) ∗ atPos ER (rCell c p.1 p.2) 0 ∅ 0) ⊢ pk0 c p.1 p.2
    unfold pk0
    iintro ⟨⟨H1, H2, H3⟩, H4⟩
    isplitl [H1]; · iexact H1
    isplitl [H2]; · iexact H2
    isplitl [H3]; · iexact H3
    iexact H4) $$ [HT HR]
  · isplitl [HT]; · iexact HT
    iexact HR
  ihave HP := (Entails.of_eq (lanes_all fun p : Lane × Stp => (pk0 c p.1 p.2 : sProp 𝕄))) $$ HP
  icases HP with ⟨HPl, HPh⟩
  isplitl [HB]; · iexact HB
  isplitl [Hq Hq' Tq]
  · unfold lq0
    isplitl [Hq]; · iexact Hq
    isplitl [Hq']; · iexact Hq'
    iexact Tq
  isplitl [Hw Hw' Tw]
  · unfold lw0
    isplitl [Hw]; · iexact Hw
    isplitl [Hw']; · iexact Hw'
    iexact Tw
  isplitl [Hl]; · unfold at_; iexact Hl
  isplitl [Hh]; · unfold at_; iexact Hh
  isplitl [HO]; · iexact HO
  isplitl [HPl]; · unfold pks; iexact HPl
  unfold pks; iexact HPh

/-! ## The landing places -/

/-- One third of a ring's landing buffer. -/
def third (k : ℕ) : Finset S3x4x128x512.Idx := Finset.univ.filter fun i => (i 0).val = k
theorem third_disj : Disjoint (third 0 ∪ third 1) (third 2) ∧ Disjoint (third 0) (third 1) := by
  constructor <;> (rw [Finset.disjoint_left]; intro i h h'; simp only [third, Finset.mem_union, Finset.mem_filter, Finset.mem_univ, true_and] at h h'; omega)
theorem third_cover : third 0 ∪ third 1 ∪ third 2 = Finset.univ := by
  ext i; have := (i 0).isLt
  simp only [third, Finset.mem_union, Finset.mem_filter, Finset.mem_univ, true_and, iff_true]
  have h : (i 0).val < 3 := this
  omega
theorem third_rect (o : Fin 4 → ℕ) (k : ℕ) (ho : o = ![k, 0, 0, 0]) (inb : ∀ a, o a + S1x4x128x512.size a ≤ S3x4x128x512.size a) :
    (Rect.unit (s := S3x4x128x512) o S1x4x128x512.size inb).set = third k := by
  subst ho
  ext i
  rw [Rect.mem_set_unit]
  simp only [third, Finset.mem_filter, Finset.mem_univ, true_and]
  have h1 : (i 1).val < 4 := (i 1).isLt
  have h2 : (i 2).val < 128 := (i 2).isLt
  have h3 : (i 3).val < 512 := (i 3).isLt
  constructor
  · intro h
    have h0 := h 0
    have e0 : k ≤ (i 0).val ∧ (i 0).val < k + 1 := h0
    omega
  · intro h a
    match a with
    | 0 => exact (show k ≤ (i 0).val ∧ (i 0).val < k + 1 from by omega)
    | 1 => exact (show 0 ≤ (i 1).val ∧ (i 1).val < 0 + 4 from by omega)
    | 2 => exact (show 0 ≤ (i 2).val ∧ (i 2).val < 0 + 128 from by omega)
    | 3 => exact (show 0 ≤ (i 3).val ∧ (i 3).val < 0 + 512 from by omega)

theorem room_intro (d c : Dev nD) (ln : Lane) (s : Stp) (f : Buf (Elt F) ((dst c ln s).view.loc (d : Thread nD τ))) :
    (((dst c ln s).view.loc (d : Thread nD τ)) ↦[(dst c ln s).view.set]{fullShare} f : sProp 𝕄) ⊢ room d c ln s := by
  unfold room owns
  iintro H
  iexists (dst c ln s).view.read (Elt F) f, f
  isplitr; · ipureintro; rfl
  iexact H
theorem room_elim (d c : Dev nD) (ln : Lane) (s : Stp) : (room d c ln s : sProp 𝕄)
    ⊢ iprop(∃ f : Buf (Elt F) ((dst c ln s).view.loc (d : Thread nD τ)), ((dst c ln s).view.loc (d : Thread nD τ)) ↦[(dst c ln s).view.set]{fullShare} f) := by
  unfold room owns
  iintro ⟨%X, %f, -, H⟩
  iexists f
  iexact H
theorem set_lo0 (c : Dev nD) : (dst c .lo .a0).view.set = third 0 :=
  (View.set_reshape _ _).trans ((View.set_slice_whole _ _).trans (third_rect _ 0 rfl _))
theorem set_lo1 (c : Dev nD) : (dst c .lo .a1).view.set = third 1 :=
  (View.set_reshape _ _).trans ((View.set_slice_whole _ _).trans (third_rect _ 1 rfl _))
theorem set_lo2 (c : Dev nD) : (dst c .lo .a2).view.set = third 2 :=
  (View.set_reshape _ _).trans ((View.set_slice_whole _ _).trans (third_rect _ 2 rfl _))
/-- The lane's three landing buffers, whole. -/
def wholes_lo (c : Dev nD) : sProp 𝕄 :=
  iprop((∃ f : Buf (Elt F) ((c : Thread nD τ).loc cc0_scratch5), ((c : Thread nD τ).loc cc0_scratch5) ↦{fullShare} f)
    ∗ (∃ f : Buf (Elt F) ((c : Thread nD τ).loc cc0_scratch7), ((c : Thread nD τ).loc cc0_scratch7) ↦{fullShare} f)
    ∗ (∃ f : Buf (Elt F) ((c : Thread nD τ).loc cc0_scratch9), ((c : Thread nD τ).loc cc0_scratch9) ↦{fullShare} f))
theorem rooms_lo (c : Dev nD) : (wholes_lo c : sProp 𝕄) ⊢ myRooms c .lo := by
  unfold wholes_lo myRooms
  iintro ⟨⟨%f, H⟩, ⟨%f1, H1⟩, ⟨%f2, H2⟩⟩
  rw [← third_cover]
  ihave H := (pointsTo_union third_disj.1).1 $$ H
  icases H with ⟨H, Hc⟩
  ihave H := (pointsTo_union third_disj.2).1 $$ H
  icases H with ⟨Ha, Hb⟩
  isplitl [Ha]; · iapply (room_intro c c .lo .a0 f); rw [set_lo0]; iexact Ha
  isplitl [Hb]; · iapply (room_intro c c .lo .a1 f); rw [set_lo1]; iexact Hb
  isplitl [Hc]; · iapply (room_intro c c .lo .a2 f); rw [set_lo2]; iexact Hc
  isplitl [H1]; · iapply (room_intro c c .lo .b1 f1); rw [show (dst c .lo .b1).view.set = Finset.univ from View.set_whole _]; iexact H1
  iapply (room_intro c c .lo .b2 f2); rw [show (dst c .lo .b2).view.set = Finset.univ from View.set_whole _]; iexact H2
theorem unroom_lo (c : Dev nD) : (myRooms c .lo : sProp 𝕄) ⊢ wholes_lo c := by
  unfold wholes_lo myRooms
  iintro ⟨Ha, Hb, Hc, H1, H2⟩
  ihave Ha := (room_elim c c .lo .a0) $$ Ha
  ihave Hb := (room_elim c c .lo .a1) $$ Hb
  ihave Hc := (room_elim c c .lo .a2) $$ Hc
  ihave H1 := (room_elim c c .lo .b1) $$ H1
  ihave H2 := (room_elim c c .lo .b2) $$ H2
  rw [set_lo0, set_lo1, set_lo2, show (dst c .lo .b1).view.set = Finset.univ from View.set_whole _, show (dst c .lo .b2).view.set = Finset.univ from View.set_whole _]
  icases Ha with ⟨%fa, Ha⟩
  icases Hb with ⟨%fb, Hb⟩
  icases Hc with ⟨%fc, Hc⟩
  icases H1 with ⟨%f1, H1⟩
  icases H2 with ⟨%f2, H2⟩
  isplitl [Ha Hb Hc]
  · ihave H := (pointsTo_join (ℓ := (c : Thread nD τ).loc cc0_scratch5) (q := fullShare) (f := fa) (g := fb) third_disj.2) $$ [Ha Hb]
    · isplitl [Ha]; · iexact Ha
      iexact Hb
    ihave H := (pointsTo_join (ℓ := (c : Thread nD τ).loc cc0_scratch5) (q := fullShare) (f := (third 1).piecewise fb fa) (g := fc) third_disj.1) $$ [H Hc]
    · isplitl [H]; · iexact H
      iexact Hc
    rw [third_cover]
    iexists _; iexact H
  isplitl [H1]; · iexists f1; iexact H1
  iexists f2; iexact H2
theorem set_hi0 (c : Dev nD) : (dst c .hi .a0).view.set = third 0 :=
  (View.set_reshape _ _).trans ((View.set_slice_whole _ _).trans (third_rect _ 0 rfl _))
theorem set_hi1 (c : Dev nD) : (dst c .hi .a1).view.set = third 1 :=
  (View.set_reshape _ _).trans ((View.set_slice_whole _ _).trans (third_rect _ 1 rfl _))
theorem set_hi2 (c : Dev nD) : (dst c .hi .a2).view.set = third 2 :=
  (View.set_reshape _ _).trans ((View.set_slice_whole _ _).trans (third_rect _ 2 rfl _))
/-- The lane's three landing buffers, whole. -/
def wholes_hi (c : Dev nD) : sProp 𝕄 :=
  iprop((∃ f : Buf (Elt F) ((c : Thread nD τ).loc cc0_scratch6), ((c : Thread nD τ).loc cc0_scratch6) ↦{fullShare} f)
    ∗ (∃ f : Buf (Elt F) ((c : Thread nD τ).loc cc0_scratch8), ((c : Thread nD τ).loc cc0_scratch8) ↦{fullShare} f)
    ∗ (∃ f : Buf (Elt F) ((c : Thread nD τ).loc cc0_scratch10), ((c : Thread nD τ).loc cc0_scratch10) ↦{fullShare} f))
theorem rooms_hi (c : Dev nD) : (wholes_hi c : sProp 𝕄) ⊢ myRooms c .hi := by
  unfold wholes_hi myRooms
  iintro ⟨⟨%f, H⟩, ⟨%f1, H1⟩, ⟨%f2, H2⟩⟩
  rw [← third_cover]
  ihave H := (pointsTo_union third_disj.1).1 $$ H
  icases H with ⟨H, Hc⟩
  ihave H := (pointsTo_union third_disj.2).1 $$ H
  icases H with ⟨Ha, Hb⟩
  isplitl [Ha]; · iapply (room_intro c c .hi .a0 f); rw [set_hi0]; iexact Ha
  isplitl [Hb]; · iapply (room_intro c c .hi .a1 f); rw [set_hi1]; iexact Hb
  isplitl [Hc]; · iapply (room_intro c c .hi .a2 f); rw [set_hi2]; iexact Hc
  isplitl [H1]; · iapply (room_intro c c .hi .b1 f1); rw [show (dst c .hi .b1).view.set = Finset.univ from View.set_whole _]; iexact H1
  iapply (room_intro c c .hi .b2 f2); rw [show (dst c .hi .b2).view.set = Finset.univ from View.set_whole _]; iexact H2
theorem unroom_hi (c : Dev nD) : (myRooms c .hi : sProp 𝕄) ⊢ wholes_hi c := by
  unfold wholes_hi myRooms
  iintro ⟨Ha, Hb, Hc, H1, H2⟩
  ihave Ha := (room_elim c c .hi .a0) $$ Ha
  ihave Hb := (room_elim c c .hi .a1) $$ Hb
  ihave Hc := (room_elim c c .hi .a2) $$ Hc
  ihave H1 := (room_elim c c .hi .b1) $$ H1
  ihave H2 := (room_elim c c .hi .b2) $$ H2
  rw [set_hi0, set_hi1, set_hi2, show (dst c .hi .b1).view.set = Finset.univ from View.set_whole _, show (dst c .hi .b2).view.set = Finset.univ from View.set_whole _]
  icases Ha with ⟨%fa, Ha⟩
  icases Hb with ⟨%fb, Hb⟩
  icases Hc with ⟨%fc, Hc⟩
  icases H1 with ⟨%f1, H1⟩
  icases H2 with ⟨%f2, H2⟩
  isplitl [Ha Hb Hc]
  · ihave H := (pointsTo_join (ℓ := (c : Thread nD τ).loc cc0_scratch6) (q := fullShare) (f := fa) (g := fb) third_disj.2) $$ [Ha Hb]
    · isplitl [Ha]; · iexact Ha
      iexact Hb
    ihave H := (pointsTo_join (ℓ := (c : Thread nD τ).loc cc0_scratch6) (q := fullShare) (f := (third 1).piecewise fb fa) (g := fc) third_disj.1) $$ [H Hc]
    · isplitl [H]; · iexact H
      iexact Hc
    rw [third_cover]
    iexists _; iexact H
  isplitl [H1]; · iexists f1; iexact H1
  iexists f2; iexact H2

theorem spare_eq (c : Dev nD) (ln : Lane) (s : Stp) (h : adds s = true) : (spare c ln s : sProp 𝕄) = room c c ln s := if_pos h
/-- What a lane leaves: its arrivals' cells at their last round, and its landing places. -/
theorem lane1_elim (c : Dev nD) (ln : Lane) : (lane1 p0 c ln : sProp 𝕄)
    ⊢ iprop(atPos ER (sCell c ln) 10 ∅ 0 ∗ A c (pc Finset.univ ln) (cont p0 ln 10 c) ∗ (bigSep Finset.univ fun s : Stp => atPos ER (rCell c ln s) (0 + 1) ∅ 0) ∗ myRooms c ln) := by
  unfold lane1 at_ left myRooms
  rw [stp_all, spare_eq c ln .a0 rfl, spare_eq c ln .a1 rfl, spare_eq c ln .a2 rfl, spare_eq c ln .b1 rfl, spare_eq c ln .b2 rfl]
  iintro ⟨⟨Hs, -⟩, HA, ⟨La0, Ra0⟩, ⟨La1, Ra1⟩, ⟨La2, Ra2⟩, ⟨Lb1, Rb1⟩, ⟨Lb2, Rb2⟩, ⟨Lc1, Rc1⟩, ⟨Lc2, Rc2⟩, ⟨Ld0, Rd0⟩, ⟨Ld1, Rd1⟩, ⟨Ld2, Rd2⟩⟩
  isplitl [Hs]; · iexact Hs
  isplitl [HA]; · iexact HA
  isplitr [Ra0 Ra1 Ra2 Rb1 Rb2 Rc1 Rc2 Rd0 Rd1 Rd2]
  · isplitl [La0]; · iexact La0
    isplitl [La1]; · iexact La1
    isplitl [La2]; · iexact La2
    isplitl [Lb1]; · iexact Lb1
    isplitl [Lb2]; · iexact Lb2
    isplitl [Lc1]; · iexact Lc1
    isplitl [Lc2]; · iexact Lc2
    isplitl [Ld0]; · iexact Ld0
    isplitl [Ld1]; · iexact Ld1
    iexact Ld2
  iclear Rc1 Rc2 Rd0 Rd1 Rd2
  isplitl [Ra0]; · iexact Ra0
  isplitl [Ra1]; · iexact Ra1
  isplitl [Ra2]; · iexact Ra2
  isplitl [Rb1]; · iexact Rb1
  iexact Rb2

/-! ## The body -/

/-- The kernel's scratch buffers. -/
def bufs (c : Dev nD) : sProp 𝕄 :=
  iprop((∃ f, held c wqM f) ∗ (∃ f, held c woM f) ∗ (∃ f, held c accM f) ∗ wholes_lo c ∗ wholes_hi c)
theorem bufs_eq (c : Dev nD) : (Pipeline.scopedRest (Ix := Unit) (Name := ℕ) (U := UU) (Lvl := ℕ) (Val := Elt F) spec0 c : sProp 𝕄) ⊣⊢ bufs c := by
  rw [scopedRest0_eq]
  unfold bufs wholes_lo wholes_hi held
  constructor
  · iintro ⟨H0, H1, H4, H5, H6, H7, H8, H9, H10⟩
    isplitl [H0]; · iexact H0
    isplitl [H1]; · iexact H1
    isplitl [H4]; · iexact H4
    isplitl [H5 H7 H9]
    · isplitl [H5]; · iexact H5
      isplitl [H7]; · iexact H7
      iexact H9
    isplitl [H6]; · iexact H6
    isplitl [H8]; · iexact H8
    iexact H10
  · iintro ⟨H0, H1, H4, ⟨H5, H7, H9⟩, ⟨H6, H8, H10⟩⟩
    isplitl [H0]; · iexact H0
    isplitl [H1]; · iexact H1
    isplitl [H4]; · iexact H4
    isplitl [H5]; · iexact H5
    isplitl [H6]; · iexact H6
    isplitl [H7]; · iexact H7
    isplitl [H8]; · iexact H8
    isplitl [H9]; · iexact H9
    iexact H10

/-- A device's part of the sum, from its arguments. -/
def partOf (x : Dev nD → S2048x1024.Idx → Elt F .f32) (K V : Dev nD → KV F) (c : Dev nD) : AccC F :=
  layOut (sum0 (proj (x c) (wqOf vQ c)) (K c) (V c) (woOf vO c)) (sum1 (proj (x c) (wqOf vQ c)) (K c) (V c) (woOf vO c)) (sum2 (proj (x c) (wqOf vQ c)) (K c) (V c) (woOf vO c))

/-- All of a device's cells at zero. -/
def zeros (c : Dev nD) : sProp 𝕄 := iprop(bigSep Finset.univ fun k : Sk => semVal (cellAt (c, ck k)) 0)

theorem wp_body (x : Dev nD → S2048x1024.Idx → Elt F .f32) (Kk V : Dev nD → KV F) (K : GSem nD τ sig → ℕ) (c : Dev nD) (W₀ : Waits sig Unit) (g : S16x128x1024.Idx → Elt F .f32) :
    iprop(invs (partOf vQ vO x Kk V) vQ vO K ∗ levAts L lv ∗ owes (c : Thread nD τ) (O₀ c) W₀ ∗ start c ∗ wqArg vQ c ∗ woArg vO c
        ∗ held c xM (x c) ∗ held c kM (Kk c) ∗ held c vM (V c) ∗ held c oM g ∗ bufs c)
      ⊢ wp frame (wpE (defs₀ (F := F)) 𝒱₀ c none) Set.univ bodyP (fun _ =>
        iprop((∃ W, owes (c : Thread nD τ) 0 W) ∗ zeros c ∗ semVal (barCell c) 0 ∗ wqArg vQ c ∗ woArg vO c
          ∗ held c xM (x c) ∗ held c kM (Kk c) ∗ held c vM (V c) ∗ held c oM (outOf (partOf vQ vO x Kk V) c) ∗ bufs c) : PUnit → sProp 𝕄) := by
  unfold bodyP bufs
  iintro ⟨#HI, #Hlev, HO, HS, Hwq, Hwo, Hx, HK, HV, Hg, ⟨⟨%fq, Hq⟩, ⟨%fo, Ho⟩, ⟨%f, HA⟩, HL, HH⟩⟩
  rw [wp_deviceId]
  ihave HS := (start_open (F := F) c) $$ HS
  icases HS with ⟨HB, Hlq, Hlw, Hal, Hah, #Hop, HPl, HPh⟩
  iapply (wp_attn (partOf vQ vO x Kk V) vQ vO K c W₀ (x c) (Kk c) (V c) f fq fo _ _) $$ [HO Hlq Hlw Hwq Hwo Hx HK HV Hq Ho HA]
  · isplitr; · iexact HI
    isplitr; · iexact Hlev
    isplitl [HO]; · iexact HO
    isplitl [Hlq]; · iexact Hlq
    isplitl [Hlw]; · iexact Hlw
    isplitl [Hwq]; · iexact Hwq
    isplitl [Hwo]; · iexact Hwo
    isplitl [Hx]; · iexact Hx
    isplitl [HK]; · iexact HK
    isplitl [HV]; · iexact HV
    isplitl [Hq]; · iexact Hq
    isplitl [Ho]; · iexact Ho
    iexact HA
  iintro ⟨HO, Cq, Co, Hwq, Hwo, Hx, HK, HV, Hq, Ho, HA⟩
  rw [partials_eq]
  ihave HRl := (rooms_lo (F := F) c) $$ HL
  ihave HRh := (rooms_hi (F := F) c) $$ HH
  iapply (wp_bar (partOf vQ vO x Kk V) vQ vO K c _ _) $$ [HO HB HRl HRh]
  · isplitr; · iexact HI
    isplitr; · iexact Hlev
    isplitl [HO]; · iexact HO
    isplitr; · iexact Hop
    isplitl [HB]; · iexact HB
    isplitl [HRl]; · iexact HRl
    iexact HRh
  iintro ⟨HO, Cb, P0, P1, P2, P3⟩
  ihave HG := (takes_intro (F := F) c) $$ [P0 P1 P2 P3]
  · isplitl [P0]; · iexact P0
    isplitl [P1]; · iexact P1
    isplitl [P2]; · iexact P2
    iexact P3
  icases HG with ⟨HGl, HGh⟩
  ihave HA := (split_acc (F := F) c (partOf vQ vO x Kk V c)) $$ [HA]
  · unfold partOf; iexact HA
  icases HA with ⟨HAl, HAh⟩
  iapply (wp_exchange (partOf vQ vO x Kk V) vQ vO K c _ _) $$ [HO Hal Hah HPl HPh HGl HGh HAl HAh]
  · isplitr; · iexact HI
    isplitr; · iexact Hlev
    isplitl [HO]; · iexact HO
    isplitl [Hal HAl HPl HGl]
    · iapply (lane0_intro (partOf vQ vO x Kk V) c .lo)
      isplitl [Hal]; · iexact Hal
      isplitl [HAl]; · iexact HAl
      isplitl [HPl]; · iexact HPl
      iexact HGl
    · iapply (lane0_intro (partOf vQ vO x Kk V) c .hi)
      isplitl [Hah]; · iexact Hah
      isplitl [HAh]; · iexact HAh
      isplitl [HPh]; · iexact HPh
      iexact HGh
  iintro ⟨HO, HL, HH⟩
  ihave HL := (lane1_elim (partOf vQ vO x Kk V) c .lo) $$ HL
  ihave HH := (lane1_elim (partOf vQ vO x Kk V) c .hi) $$ HH
  icases HL with ⟨Csl, HAl, Crl, HL⟩
  icases HH with ⟨Csh, HAh, Crh, HH⟩
  ihave HA := (join_acc (partOf vQ vO x Kk V) c) $$ [HAl HAh]
  · isplitl [HAl]; · iexact HAl
    iexact HAh
  iapply (wp_fin (partOf vQ vO x Kk V) c g _ _) $$ [HA Hg]
  · isplitl [HA]; · iexact HA
    iexact Hg
  iintro ⟨HA, Hg⟩
  rw [wp_ret]
  imod (close_at (partOf vQ vO x Kk V) vQ vO K c .bar) $$ [Cb] with Hb
  · isplitr; · iexact HI
    iexact Cb
  imod (close_all (partOf vQ vO x Kk V) vQ vO K c) $$ [Cq Co Csl Csh Crl Crh] with HZ
  · isplitr; · iexact HI
    rw [sk_all, bigSep_univ_prod, lane_all]
    isplitl [Cq Co]
    · isplitl [Cq]; · iexact Cq
      iexact Co
    isplitl [Csl Csh]
    · isplitl [Csl]; · iexact Csl
      iexact Csh
    isplitl [Crl]; · iexact Crl
    iexact Crh
  imodintro
  isplitl [HO]; · unfold duty; iexact HO
  isplitl [HZ]; · unfold zeros; iexact HZ
  isplitl [Hb]; · iexact Hb
  isplitl [Hwq]; · iexact Hwq
  isplitl [Hwo]; · iexact Hwo
  isplitl [Hx]; · iexact Hx
  isplitl [HK]; · iexact HK
  isplitl [HV]; · iexact HV
  isplitl [Hg]; · iexact Hg
  isplitl [Hq]; · iexists _; iexact Hq
  isplitl [Ho]; · iexists _; iexact Ho
  isplitl [HA]; · iexists _; iexact HA
  isplitl [HL]
  · iapply (unroom_lo (F := F) c); iexact HL
  · iapply (unroom_hi (F := F) c); iexact HH

end Cert.KernelIdeal.Talk
-- ==== Proof.Deal.lean ====
module

public import proofs.«01_k».proof.Proof.Body
public import Idealize.ShloMosaic.Lib.Rounds
public import Idealize.ShloMosaic.Lib.Pipeline.Launch
public import Idealize.ShloMosaic.Lib.Pipeline.Kit
public import Idealize.ShloMosaic.Lib.Tactic
public import Idealize.ShloMosaic.Lib.Pipeline.Regions
public import Idealize.ShloMosaic.Lib.Pipeline.RegionTalk
public import proofs.«01_k».proof.Proof.Gen.KernelIdeal.Launch

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # Dealing out the launch's resources

At launch every cell's invariant is allocated, the scoped cells' unopened. The tokens of the duties are minted by cell and
handed to the devices that pay them, and the credit each cell is owed goes to its owner.
-/

local notation "𝕄" => MT nD τ sig Unit (Elt F) ℕ UU ℕ

/-! ## The cells and the tokens -/

theorem cell_inj : Function.Injective (cellAt : Dev nD × Ck → GSem nD τ sig) := fun _ _ h => cellAt_inj h
def barEmb : Dev nD ↪ GSem nD τ sig := ⟨fun c => barCell c, fun _ _ h => congrArg (fun g : GSem nD τ sig => g.1.1) h⟩
def scEmb : Dev nD × Sk ↪ GSem nD τ sig := ⟨fun p => cellAt (p.1, ck p.2), fun p q h => by
  have e := cellAt_inj (show cellAt (p.1, ck p.2) = cellAt (q.1, ck q.2) from h)
  exact Prod.ext (Prod.ext_iff.mp e).1 (ck_inj (Prod.ext_iff.mp e).2)⟩
abbrev barCells : Finset (GSem nD τ sig) := Finset.univ.map barEmb
abbrev scCells : Finset (GSem nD τ sig) := Finset.univ.map scEmb
theorem cells_disjoint : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact ck_ne p.2 (congrArg Prod.snd (cellAt_inj (show cellAt (p.1, ck p.2) = cellAt (c, .bar) from h)))
theorem cell_mem (p : Dev nD × Ck) : cellAt p ∈ (barCells ∪ scCells : Finset (GSem nD τ sig)) := by
  obtain ⟨c, k⟩ := p
  have hs : ∀ s : Sk, cellAt (c, ck s) ∈ (barCells ∪ scCells : Finset (GSem nD τ sig)) := fun s =>
    Finset.mem_union_right _ (Finset.mem_map_of_mem scEmb (Finset.mem_univ (c, s)))
  cases k with
  | bar => exact Finset.mem_union_left _ (Finset.mem_map_of_mem barEmb (Finset.mem_univ c))
  | snd ln => exact hs (.inr (.inl ln))
  | rcv ln s => exact hs (.inr (.inr (ln, s)))
  | lq => exact hs (.inl .lo)
  | lw => exact hs (.inl .hi)

/-- The duties of a device's cells: the barrier's four, the two fetches', and each step's of its send and receive cells. -/
abbrev Tn := Fin 4 ⊕ (Lane ⊕ (Lane × Stp ⊕ Lane × Stp))
def tk : Tn → Ck × ℕ × Fin 4
  | .inl i => (.bar, 0, i)
  | .inr (.inl .lo) => (.lq, 0, 0)
  | .inr (.inl .hi) => (.lw, 0, 0)
  | .inr (.inr (.inl p)) => (.snd p.1, idx p.2, 0)
  | .inr (.inr (.inr p)) => (.rcv p.1 p.2, 0, 0)
theorem idx_inj {a b : Stp} (h : idx a = idx b) : a = b := by rw [← stp_idx a, ← stp_idx b, h]
theorem tk_inj {a b : Tn} (h : tk a = tk b) : a = b := by
  have h1 := congrArg Prod.fst h
  have h2 := congrArg (fun x => x.2.1) h
  have h3 := congrArg (fun x => x.2.2) h
  rcases a with i | l | p | p <;> rcases b with j | l' | q | q
  · exact congrArg _ h3
  · cases l' <;> cases h1
  · cases h1
  · cases h1
  · cases l <;> cases h1
  · cases l <;> cases l' <;> first | rfl | cases h1
  · cases l <;> cases h1
  · cases l <;> cases h1
  · cases h1
  · cases l' <;> cases h1
  · have e : p = q := Prod.ext (Ck.snd.inj h1) (idx_inj h2)
    rw [e]
  · cases h1
  · cases h1
  · cases l' <;> cases h1
  · cases h1
  · have e : p = q := Prod.ext (Ck.rcv.inj h1).1 (Ck.rcv.inj h1).2
    rw [e]
def tokOf (p : Dev nD × Tn) : GSem nD τ sig × ℕ × Fin 4 := (cellAt (p.1, (tk p.2).1), (tk p.2).2)
theorem tokOf_inj : Function.Injective tokOf := fun p q h => by
  have h' := Prod.ext_iff.mp h
  have e := cellAt_inj (show cellAt (p.1, (tk p.2).1) = cellAt (q.1, (tk q.2).1) from h'.1)
  exact Prod.ext (Prod.ext_iff.mp e).1 (tk_inj (Prod.ext (Prod.ext_iff.mp e).2 h'.2))
def talkToks : Finset (GSem nD τ sig × ℕ × Fin 4) := Finset.univ.map ⟨tokOf, tokOf_inj⟩

/-! ## The tokens handed round -/

/-- The device that signals `c` with duty `i`. -/
def pb (i : Fin 4) (c : Dev nD) : Dev nD := match i with | 0 => rt c | 1 => lf c | 2 => z1 c | 3 => z2 c
theorem pb_bp (i : Fin 4) (c : Dev nD) : pb i (bp i c) = c := by revert i c; decide +kernel
theorem bp_pb (i : Fin 4) (c : Dev nD) : bp i (pb i c) = c := by revert i c; decide +kernel
def bpE : Dev nD × Fin 4 ≃ Dev nD × Fin 4 where
  toFun p := (bp p.2 p.1, p.2)
  invFun p := (pb p.2 p.1, p.2)
  left_inv p := Prod.ext (pb_bp p.2 p.1) rfl
  right_inv p := Prod.ext (bp_pb p.2 p.1) rfl
def tgE : Dev nD × (Lane × Stp) ≃ Dev nD × (Lane × Stp) where
  toFun p := (tg p.2.1 p.2.2 p.1, p.2)
  invFun p := (fr p.2.1 p.2.2 p.1, p.2)
  left_inv p := Prod.ext (fr_tg p.2.1 p.2.2 p.1) rfl
  right_inv p := Prod.ext (tg_fr p.2.1 p.2.2 p.1) rfl

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem round_bar : (bigSep Finset.univ fun c : Dev nD => bigSep Finset.univ fun i : Fin 4 => (dutyTok ER (barCell c) 0 i : sProp 𝕄))
    = bigSep Finset.univ fun c : Dev nD => bigSep Finset.univ fun i : Fin 4 => dutyTok ER (barCell (bp i c)) 0 i := by
  rw [← bigSep_univ_prod (fun p : Dev nD × Fin 4 => (dutyTok ER (barCell p.1) 0 p.2 : sProp 𝕄)), bigSep_univ_equiv bpE, bigSep_univ_prod]
  rfl
theorem round_rcv : (bigSep Finset.univ fun c : Dev nD => bigSep Finset.univ fun p : Lane × Stp => (dutyTok ER (rCell c p.1 p.2) 0 0 : sProp 𝕄))
    = bigSep Finset.univ fun c : Dev nD => bigSep Finset.univ fun p : Lane × Stp => dutyTok ER (rCell (tg p.1 p.2 c) p.1 p.2) 0 0 := by
  rw [← bigSep_univ_prod (fun p : Dev nD × (Lane × Stp) => (dutyTok ER (rCell p.1 p.2.1 p.2.2) 0 0 : sProp 𝕄)), bigSep_univ_equiv tgE, bigSep_univ_prod]
  rfl

/-- The tokens of the duties a device pays. -/
def pays (c : Dev nD) : sProp 𝕄 :=
  iprop((bigSep Finset.univ fun i : Fin 4 => dutyTok ER (barCell (bp i c)) 0 i)
    ∗ (dutyTok ER (qCell c) 0 0 ∗ dutyTok ER (oCell c) 0 0)
    ∗ (bigSep Finset.univ fun p : Lane × Stp => dutyTok ER (sCell c p.1) (idx p.2) 0)
    ∗ (bigSep Finset.univ fun p : Lane × Stp => dutyTok ER (rCell (tg p.1 p.2 c) p.1 p.2) 0 0))
/-- The tokens of the duties of a device's cells. -/
def pays' (c : Dev nD) : sProp 𝕄 :=
  iprop((bigSep Finset.univ fun i : Fin 4 => dutyTok ER (barCell c) 0 i)
    ∗ (dutyTok ER (qCell c) 0 0 ∗ dutyTok ER (oCell c) 0 0)
    ∗ (bigSep Finset.univ fun p : Lane × Stp => dutyTok ER (sCell c p.1) (idx p.2) 0)
    ∗ (bigSep Finset.univ fun p : Lane × Stp => dutyTok ER (rCell c p.1 p.2) 0 0))
theorem toks_round : bigSep talkToks (fun x => (dutyTok ER x.1 x.2.1 x.2.2 : sProp 𝕄)) = bigSep Finset.univ fun c : Dev nD => pays c := by
  have hp : (bigSep Finset.univ fun c : Dev nD => (pays c : sProp 𝕄)) = bigSep Finset.univ fun c : Dev nD => pays' c := by
    unfold pays pays'
    rw [bigSep_sep' Finset.univ, bigSep_sep' Finset.univ (Φ := fun c : Dev nD => iprop(dutyTok ER (qCell c) 0 0 ∗ dutyTok ER (oCell c) 0 0)),
      bigSep_sep' Finset.univ (Ψ := fun c : Dev nD => bigSep Finset.univ fun p : Lane × Stp => (dutyTok ER (rCell (tg p.1 p.2 c) p.1 p.2) 0 0 : sProp 𝕄)),
      ← round_bar, ← round_rcv, ← bigSep_sep', ← bigSep_sep', ← bigSep_sep']
  rw [hp]
  unfold talkToks pays'
  rw [BI.bigSep_map, bigSep_univ_prod]
  exact bigSep_congr fun c _ => by
    rw [bigSep_univ_sum, bigSep_univ_sum, bigSep_univ_sum, lane_all]
    rfl

/-! ## The launch credit -/

theorem rCell_inj {c d : Dev nD} {ln ln' : Lane} {s s' : Stp} (h : rCell c ln s = rCell d ln' s') : c = d ∧ ln = ln' ∧ s = s' := by
  have e := cellAt_inj (show cellAt (c, .rcv ln s) = cellAt (d, .rcv ln' s') from h)
  have e2 := Ck.rcv.inj (congrArg Prod.snd e)
  exact ⟨congrArg Prod.fst e, e2.1, e2.2⟩
theorem bar_ne_r {c d : Dev nD} {ln : Lane} {s : Stp} : barCell c ≠ rCell d ln s := fun h => by
  have e := cellAt_inj (show cellAt (c, .bar) = cellAt (d, .rcv ln s) from h)
  cases congrArg Prod.snd e

theorem owed_at_bar (d c : Dev nD) (l : List (Lane × Stp)) : owed d l (barCell c) () = 0 := by
  induction l with
  | nil => rfl
  | cons p l ih =>
    show owed d l (barCell c) () + tallyAt (rCell (tg p.1 p.2 d) p.1 p.2) () (N p.2) (barCell c) () = 0
    rw [ih, tallyAt_apply, if_neg fun h => bar_ne_r h.1]
theorem owed_at_r (d c : Dev nD) (ln : Lane) (s : Stp) (l : List (Lane × Stp)) (hl : l.Nodup) :
    owed d l (rCell c ln s) () = if (ln, s) ∈ l ∧ d = fr ln s c then N s else 0 := by
  induction l with
  | nil => exact (if_neg fun h => absurd h.1 List.not_mem_nil).symm
  | cons p l ih =>
    have hp := List.nodup_cons.mp hl
    show owed d l (rCell c ln s) () + tallyAt (rCell (tg p.1 p.2 d) p.1 p.2) () (N p.2) (rCell c ln s) () = _
    rw [ih hp.2, tallyAt_apply]
    by_cases e : p = (ln, s)
    · subst e
      rw [if_neg fun h => hp.1 h.1, Nat.zero_add]
      by_cases hd : d = fr ln s c
      · subst hd
        rw [if_pos ⟨by rw [tg_fr], rfl⟩, if_pos ⟨List.mem_cons_self, rfl⟩]
      · rw [if_neg fun h => hd (by rw [(rCell_inj h.1).1, fr_tg]), if_neg fun h => hd h.2]
    · rw [if_neg (c := rCell c ln s = rCell (tg p.1 p.2 d) p.1 p.2 ∧ () = ()) fun h => e (Prod.ext (rCell_inj h.1).2.1.symm (rCell_inj h.1).2.2.symm), Nat.add_zero]
      by_cases hm : (ln, s) ∈ l ∧ d = fr ln s c
      · rw [if_pos hm, if_pos ⟨List.mem_cons_of_mem _ hm.1, hm.2⟩]
      · rw [if_neg hm, if_neg fun h => hm ⟨(List.mem_cons.mp h.1).resolve_left fun x => e x.symm, h.2⟩]

theorem O_bar (d c : Dev nD) : O₀ d (barCell c) () = (if d = pb 3 c then 1 else 0) + (if d = pb 2 c then 1 else 0) + (if d = pb 1 c then 1 else 0) + (if d = pb 0 c then 1 else 0) := by
  have h : ∀ i, tallyAt (nD := nD) (τ := τ) (sig := sig) (barCell (bp i d)) () 1 (barCell c) () = if d = pb i c then 1 else 0 := fun i => by
    rw [tallyAt_apply]
    by_cases e : d = pb i c
    · subst e; rw [bp_pb, if_pos ⟨rfl, rfl⟩, if_pos rfl]
    · rw [if_neg fun x => e (by rw [show c = bp i d from congrArg (fun g : GSem nD τ sig => g.1.1) x.1, pb_bp]), if_neg e]
  show owed d allSends (barCell c) () + tallyAt (barCell (bp 3 d)) () 1 (barCell c) () + tallyAt (barCell (bp 2 d)) () 1 (barCell c) ()
    + tallyAt (barCell (bp 1 d)) () 1 (barCell c) () + tallyAt (barCell (bp 0 d)) () 1 (barCell c) () = _
  rw [owed_at_bar, h, h, h, h, Nat.zero_add]
theorem all_nodup : allSends.Nodup := by decide
theorem mem_all (p : Lane × Stp) : p ∈ allSends := by revert p; decide
theorem O_r (d c : Dev nD) (ln : Lane) (s : Stp) : O₀ d (rCell c ln s) () = if d = fr ln s c then N s else 0 := by
  have h : ∀ i, tallyAt (nD := nD) (τ := τ) (sig := sig) (barCell (bp i d)) () 1 (rCell c ln s) () = 0 := fun i => by
    rw [tallyAt_apply, if_neg fun x => bar_ne_r x.1.symm]
  show owed d allSends (rCell c ln s) () + tallyAt (barCell (bp 3 d)) () 1 (rCell c ln s) () + tallyAt (barCell (bp 2 d)) () 1 (rCell c ln s) ()
    + tallyAt (barCell (bp 1 d)) () 1 (rCell c ln s) () + tallyAt (barCell (bp 0 d)) () 1 (rCell c ln s) () = _
  rw [h, h, h, h, owed_at_r d c ln s _ all_nodup]
  by_cases e : d = fr ln s c
  · rw [if_pos ⟨mem_all _, e⟩, if_pos e]; rfl
  · rw [if_neg fun x => e x.2, if_neg e]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => O_bar d c]
  have h : ∀ i, (∑ d : Dev nD, if d = pb i c then 1 else 0) = 1 := fun i => by
    rw [Finset.sum_ite_eq' Finset.univ (pb i c) fun _ => 1, if_pos (Finset.mem_univ _)]
  rw [Finset.sum_add_distrib, Finset.sum_add_distrib, Finset.sum_add_distrib, h, h, h, h]
theorem launch_r (c : Dev nD) (ln : Lane) (s : Stp) :
    tallyOn (rCell c ln s) (launchCredit (Pipeline.owing O₀) 0 (rCell c ln s)) = (tallyAt (rCell c ln s) () (N s) : CellTallies nD τ sig Unit) := by
  unfold tallyAt; refine congrArg _ (Finsupp.ext fun u => ?_); cases u
  rw [Pipeline.launchCredit_owing, Finsupp.single_eq_same, Finset.sum_congr rfl fun d _ => O_r d c ln s,
    Finset.sum_ite_eq' Finset.univ (fr ln s c) fun _ => N s, if_pos (Finset.mem_univ _)]

def rEmb : Lane × Stp ↪ SemLoc sig := ⟨fun p => .dma (rsem p.1 p.2), fun p q h => by
  have e : Knd.rcv p.1 p.2 = Knd.rcv q.1 q.2 := (knd_r _ _).symm.trans ((congrArg knd (show SemLoc.dma (rsem p.1 p.2) = SemLoc.dma (rsem q.1 q.2) from h)).trans (knd_r _ _))
  exact Prod.ext (Knd.rcv.inj e).1 (Knd.rcv.inj e).2⟩
theorem creds (c : Dev nD) : (Pipeline.launchCred O₀ c : sProp 𝕄)
    ⊢ iprop(cred (tallyAt (barCell c) () 4) ∗ bigSep Finset.univ fun p : Lane × Stp => cred (tallyAt (rCell c p.1 p.2) () (N p.2))) := by
  unfold Pipeline.launchCred
  rw [bigSep_univ_at _ (SemLoc.reg barSem), launch_bar]
  refine BI.sep_mono (BI.Entails.refl _) ?_
  refine (BI.bigSep_subset (t := Finset.univ.map rEmb) ?_).trans ?_
  · intro x hx
    obtain ⟨p, -, rfl⟩ := Finset.mem_map.mp hx
    exact Finset.mem_erase.mpr ⟨(fun h => by cases h), Finset.mem_univ _⟩
  · rw [BI.bigSep_map]
    exact Entails.of_eq (bigSep_congr fun p _ => congrArg _ (launch_r c p.1 p.2))

/-! ## What a device starts with -/

variable (p0 : Dev nD → AccC F)
variable (vQ : Dev nD → S1024x16384.Idx → Elt F .f32) (vO : Dev nD → S16384x1024.Idx → Elt F .f32)

theorem invs_intro (K : GSem nD τ sig → ℕ) : (bigSep (barCells ∪ scCells) fun g => (cellInv ER (Sd p0 vQ vO) (K g) g : sProp 𝕄)) ⊢ invs p0 vQ vO K := by
  refine (BI.bigSep_subset (t := Finset.univ.map ⟨cellAt, cell_inj⟩) ?_).trans ?_
  · intro x hx
    obtain ⟨p, -, rfl⟩ := Finset.mem_map.mp hx
    exact cell_mem p
  · rw [BI.bigSep_map]; unfold invs; exact BI.Entails.refl _

/-- What the launch leaves for the kernel on a device, its scoped cells still to be opened. -/
def kept (c : Dev nD) : sProp 𝕄 :=
  iprop((∃ K, invs p0 vQ vO K) ∗ (bigSep Finset.univ fun k : Sk => openTok ER (cellAt (c, ck k))) ∗ barToks c ∗ toks c)
/-- The same once they are open. -/
def ready (c : Dev nD) : sProp 𝕄 := iprop((∃ K, invs p0 vQ vO K) ∗ levAts L lv ∗ start c)

theorem open_at (K : GSem nD τ sig → ℕ) (c : Dev nD) (k : Ck) :
    iprop(invs p0 vQ vO K ∗ (openTok ER (cellAt (c, k)) ∗ semVal (cellAt (c, k)) 0))
      ⊢ iprop(|={Set.univ}=> (atPos ER (cellAt (c, k)) 0 ∅ 0 ∗ reached ER (cellAt (c, k)) 0) : sProp 𝕄) := by
  iintro ⟨#HI, Ho, Hv⟩
  ihave #HIc := (invs_at p0 vQ vO K (c, k)) $$ HI
  iapply (Rounds.cell_open ER (Sd p0 vQ vO) (g := cellAt (c, k)) (Set.mem_univ (K (cellAt (c, k)))))
  isplitr; · iexact HIc
  isplitl [Ho]; · iexact Ho
  iexact Hv
theorem open_all (c : Dev nD) : iprop(kept p0 vQ vO c ∗ zeros c ∗ levAts L lv) ⊢ (|={Set.univ}=> ready p0 vQ vO c : sProp 𝕄) := by
  unfold kept ready zeros start
  iintro ⟨⟨⟨%K, #HI⟩, Ho, HB, HT⟩, Hz, #Hlev⟩
  imod (show iprop(invs p0 vQ vO K ∗ bigSep Finset.univ fun k : Sk => iprop(openTok ER (cellAt (c, ck k)) ∗ semVal (cellAt (c, ck k)) 0))
      ⊢ iprop(|={Set.univ}=> bigSep Finset.univ fun k : Sk => iprop(atPos ER (cellAt (c, ck k)) 0 ∅ 0 ∗ reached ER (cellAt (c, ck k)) 0) : sProp 𝕄) from
    (bigSep_with_persistent (R := invs p0 vQ vO K) (Φ := fun k : Sk => iprop(openTok ER (cellAt (c, ck k)) ∗ semVal (cellAt (c, ck k)) 0))
      fun k _ => open_at p0 vQ vO K c (ck k)).trans (bigSep_fupd Finset.univ fun k : Sk => iprop(atPos ER (cellAt (c, ck k)) 0 ∅ 0 ∗ reached ER (cellAt (c, ck k)) 0))) $$ [Ho Hz] with HA
  · isplitr; · iexact HI
    iapply (Entails.of_eq (bigSep_sep' Finset.univ _ _).symm)
    isplitl [Ho]; · iexact Ho
    iexact Hz
  imodintro
  isplitr; · iexists K; iexact HI
  isplitr; · iexact Hlev
  isplitl [HB]; · iexact HB
  isplitl [HA]; · iexact HA
  iexact HT

/-- A resource given to one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have h : bigSep (Finset.univ.erase c₀) (onDev c₀ X) = (BI.emp : sProp 𝕄) :=
    (bigSep_congr fun c hc => if_neg (Finset.ne_of_mem_erase hc)).trans (BI.bigSep_emp_const _)
  rw [bigSep_univ_at _ c₀, h]
  exact (BI.equiv_iff.mp sep_emp).trans (if_pos rfl)

/-- The protocol's launch element, whole on device 0 until it is dealt. -/
def G : Dev nD → sProp 𝕄 := onDev 0 (BI.own (ER (launchOf barCells scCells talkToks)))

/-- What the launch gives a device apart from buffers. -/
def given (ρ : Dev nD → PrngReg) (c : Dev nD) : sProp 𝕄 :=
  iprop(semVal (barCell c) 0 ∗ owes (c : Thread nD τ) (O₀ c) ∅ ∗ Pipeline.launchCred O₀ c ∗ prngReg c (ρ c) ∗ G c)
/-- What rides with the buffers until the kernel. -/
def rides (c : Dev nD) : sProp 𝕄 :=
  iprop(kept p0 vQ vO c ∗ (∃ W, owes (c : Thread nD τ) (O₀ c) W) ∗ ∃ r, prngReg c r)

/-- A device's own share when all is dealt. -/
def mine (c : Dev nD) : sProp 𝕄 :=
  iprop(atPos ER (barCell c) 0 ∅ 0 ∗ (bigSep Finset.univ fun k : Sk => openTok ER (cellAt (c, ck k))) ∗ pays c
    ∗ Pipeline.launchCred O₀ c ∗ owes (c : Thread nD τ) (O₀ c) ∅ ∗ ∃ r, prngReg c r)
def known (K : GSem nD τ sig → ℕ) : sProp 𝕄 := iprop(invs p0 vQ vO K ∗ bigSep Finset.univ fun c : Dev nD => reached ER (barCell c) 0)
instance known_persistent (K : GSem nD τ sig → ℕ) : BI.Persistent (known p0 vQ vO K) := by unfold known; infer_instance
theorem reached_bar (c : Dev nD) : (bigSep Finset.univ fun c : Dev nD => (reached ER (barCell c) 0 : sProp 𝕄)) ⊢ reached ER (barCell c) 0 :=
  BI.bigSep_elim (Φ := fun c : Dev nD => (reached ER (barCell c) 0 : sProp 𝕄)) (Finset.mem_univ c)
theorem rides_intro (K : GSem nD τ sig → ℕ) (c : Dev nD) : iprop(known p0 vQ vO K ∗ mine c) ⊢ rides p0 vQ vO c := by
  unfold known mine rides kept
  iintro ⟨⟨#HI, #HR⟩, Hat, Ho, HP, Hcr, HO, Hr⟩
  ihave Hc := (creds (F := F) c) $$ Hcr
  icases Hc with ⟨Hcb, Hcr⟩
  unfold pays
  rw [four]
  icases HP with ⟨⟨T0, T1, T2, T3⟩, HF, HS, HV⟩
  ihave #E0 := (reached_bar (F := F) (bp 0 c)) $$ HR
  ihave #E1 := (reached_bar (F := F) (bp 1 c)) $$ HR
  ihave #E2 := (reached_bar (F := F) (bp 2 c)) $$ HR
  ihave #E3 := (reached_bar (F := F) (bp 3 c)) $$ HR
  isplitr [HO Hr]
  · isplitr; · iexists K; iexact HI
    isplitl [Ho]; · iexact Ho
    isplitl [T0 T1 T2 T3 Hcb Hat]
    · unfold barToks
      isplitl [T0 T1 T2 T3]
      · isplitl [T0]; · iexact T0
        isplitl [T1]; · iexact T1
        isplitl [T2]; · iexact T2
        iexact T3
      isplitr
      · isplitr; · iexact E0
        isplitr; · iexact E1
        isplitr; · iexact E2
        iexact E3
      isplitl [Hcb]; · iexact Hcb
      iexact Hat
    unfold toks
    isplitl [HF]; · iexact HF
    rw [bigSep_sep', bigSep_sep']
    isplitl [HS]; · iexact HS
    isplitl [HV]; · iexact HV
    iexact Hcr
  isplitl [HO]; · iexists ∅; iexact HO
  iexact Hr

theorem deal (ρ : Dev nD → PrngReg) : bigSep Finset.univ (given (F := F) ρ) ⊢ (|={Set.univ}=> bigSep Finset.univ (rides p0 vQ vO) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (BI.bigSep_map (s := Finset.univ) barEmb (Φ := fun g : GSem nD τ sig => (reached ER g 0 : sProp 𝕄)))
  have hop : bigSep scCells (fun g => (openTok ER g : sProp 𝕄))
      ⊢ bigSep Finset.univ (fun c : Dev nD => bigSep Finset.univ fun k : Sk => (openTok ER (cellAt (c, ck k)) : sProp 𝕄)) :=
    Entails.of_eq (by rw [BI.bigSep_map, bigSep_univ_prod]; rfl)
  unfold given
  rw [bigSep_sep', bigSep_sep', bigSep_sep', bigSep_sep']
  unfold G
  rw [bigSep_onDev]
  iintro ⟨Hv, HO, Hcr, Hp, Hu⟩
  imod (Rounds.fund_launch ER (Sd p0 vQ vO) cells_disjoint (fun g _ h => h) talkToks) $$ [Hv Hu] with ⟨%κ, -, #Hinv, #Hr, Hat, Hopen, Htok⟩
  · isplitl [Hv]
    · iapply hv $$ Hv
    · iexact Hu
  imodintro
  iapply (bigSep_with_persistent (R := known p0 vQ vO κ) (Φ := fun c => mine c) fun c _ => rides_intro p0 vQ vO κ c)
  isplitr
  · unfold known
    isplitr; · iapply (invs_intro p0 vQ vO κ); iexact Hinv
    iapply hre; iexact Hr
  unfold mine
  iapply (Entails.of_eq (bigSep_sep' Finset.univ _ _).symm); isplitl [Hat]; · iapply hat $$ Hat
  iapply (Entails.of_eq (bigSep_sep' Finset.univ _ _).symm); isplitl [Hopen]; · iapply hop $$ Hopen
  iapply (Entails.of_eq (bigSep_sep' Finset.univ _ _).symm); isplitl [Htok]; · iapply (Entails.of_eq (toks_round (F := F))) $$ Htok
  iapply (Entails.of_eq (bigSep_sep' Finset.univ _ _).symm); isplitl [Hcr]; · iexact Hcr
  iapply (Entails.of_eq (bigSep_sep' Finset.univ _ _).symm); isplitl [HO]; · iexact HO
  iapply (show bigSep Finset.univ (fun c : Dev nD => (prngReg c (ρ c) : sProp 𝕄)) ⊢ bigSep Finset.univ fun c : Dev nD => iprop(∃ r, prngReg c r) from
    bigSep_mono fun c _ => by
      show (prngReg c (ρ c) : sProp 𝕄) ⊢ iprop(∃ r, prngReg c r)
      iintro H; iexists (ρ c); iexact H)
  iexact Hp

end Cert.KernelIdeal.Talk
-- ==== Proof.Launch.lean ====
module

public import proofs.«01_k».proof.Proof.Deal
public import Idealize.ShloMosaic.Lib.Rounds
public import Idealize.ShloMosaic.Lib.Pipeline.Launch
public import Idealize.ShloMosaic.Lib.Pipeline.Kit
public import Idealize.ShloMosaic.Lib.Tactic
public import Idealize.ShloMosaic.Lib.Pipeline.Regions
public import Idealize.ShloMosaic.Lib.Pipeline.RegionTalk
public import proofs.«01_k».proof.Proof.Gen.KernelIdeal.Launch
public import proofs.«01_k».proof.Proof.Gen.KernelIdeal.Points
public import proofs.«01_k».proof.Proof.Gen.KernelIdeal.Regions

@[expose] public section

set_option maxRecDepth 65536

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

/-! # The run

The kernel's region between two host stretches: entered with the arguments' buffers whole and the protocol's share, left with
the result's buffer at the sum of the devices' partial blocks.
-/

local notation "𝕄" => MT nD τ sig Unit (Elt F) ℕ UU ℕ

variable (m : (ℓ : Loc nD τ sig) → Buf (Elt F) ℓ) (ρ : Dev nD → PrngReg)

/-! ## The contents -/

/-- The weights as launched, and the kernel's inputs as the host stretch leaves them. -/
def wQ (c : Dev nD) : S1024x16384.Idx → Elt F .f32 := m ((c : Thread nD τ).loc main_arg1)
def wO (c : Dev nD) : S16384x1024.Idx → Elt F .f32 := m ((c : Thread nD τ).loc main_arg4)
def xIn (c : Dev nD) : S2048x1024.Idx → Elt F .f32 := V1 m c main_v10
def kIn (c : Dev nD) : KV F := V1 m c main_v18
def vIn (c : Dev nD) : KV F := V1 m c main_v26
/-- The devices' partial blocks. -/
def part : Dev nD → AccC F := partOf (wQ m) (wO m) (xIn m) (kIn m) (vIn m)
/-- What the kernel leaves in the result's buffer. -/
def outsOf : Outs (F := F) := fun _ r c => Function.update (V0 m c) main_v27 (outOf (part m) c) (Proc.devRef .tc r)
theorem V2_out (c : Dev nD) : V2 m (outsOf m) c main_v27 = outOf (part m) c := by
  show Function.update (V1 m c) (Proc.devRef .tc main_v27) _ (Proc.devRef .tc main_v27) = _
  rw [Function.update_self]
  unfold outsOf
  rw [Function.update_self]
theorem V1_q (c : Dev nD) : V1 m c main_arg1 = wQ m c := V1_of m c main_arg1 (by decide)
theorem V1_o (c : Dev nD) : V1 m c main_arg4 = wO m c := V1_of m c main_arg4 (by decide)

/-! ## The proof data -/

def qPts (c : Dev nD) : sProp 𝕄 := iprop(((c : Thread nD τ).loc main_arg1) ↦{fullShare} wQ m c)
def oPts (c : Dev nD) : sProp 𝕄 := iprop(((c : Thread nD τ).loc main_arg4) ↦{fullShare} wO m c)

def first (c : Dev nD) : sProp 𝕄 := iprop(ready (part m) (wQ m) (wO m) c ∗ qPts m c ∗ oPts m c ∗ bufs c ∗ ∃ r, prngReg c r)
def last (c : Dev nD) : sProp 𝕄 := iprop(zeros c ∗ semVal (barCell c) 0 ∗ qPts m c ∗ oPts m c ∗ bufs c ∗ ∃ r, prngReg c r)

def pdats (_ : Fin 1) (c : Dev nD) : Dat τ (Elt F) Unit ℕ UU ℕ cfg0 c where
  A w := V1 m c (Proc.devRef .tc (Pipeline.arrRef spec0 w))
  after w _ := match w with
    | ⟨0, _⟩ => xIn m c
    | ⟨1, _⟩ => kIn m c
    | ⟨2, _⟩ => vIn m c
    | ⟨3, _⟩ => outOf (part m) c
  Φ t := match t with
    | ⟨0, _⟩ => first m c
    | ⟨_ + 1, _⟩ => last m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem read_blk0 (c : Dev nD) (f : Buf (Elt F) ((c : Thread nD τ).loc main_v10)) : (win0_0.blk t0_0).view.read (Elt F) f = f :=
  Memref.read_access_unit_zero (Elt F) main_v10
    (show (fun a => (win0_0.index t0_0) a * main_v10.ty.shape.size a) = fun _ => 0 from
      funext fun a => by fin_cases a <;> decide) (fun a => by fin_cases a <;> decide) f
theorem read_blk1 (c : Dev nD) (f : Buf (Elt F) ((c : Thread nD τ).loc main_v18)) : (win0_1.blk t0_0).view.read (Elt F) f = f :=
  Memref.read_access_unit_zero (Elt F) main_v18
    (show (fun a => (win0_1.index t0_0) a * main_v18.ty.shape.size a) = fun _ => 0 from
      funext fun a => by fin_cases a <;> decide) (fun a => by fin_cases a <;> decide) f
theorem read_blk2 (c : Dev nD) (f : Buf (Elt F) ((c : Thread nD τ).loc main_v26)) : (win0_2.blk t0_0).view.read (Elt F) f = f :=
  Memref.read_access_unit_zero (Elt F) main_v26
    (show (fun a => (win0_2.index t0_0) a * main_v26.ty.shape.size a) = fun _ => 0 from
      funext fun a => by fin_cases a <;> decide) (fun a => by fin_cases a <;> decide) f
theorem read_blk3 (c : Dev nD) (f : Buf (Elt F) ((c : Thread nD τ).loc main_v27)) : (win0_3.blk t0_0).view.read (Elt F) f = f :=
  Memref.read_access_unit_zero (Elt F) main_v27
    (show (fun a => (win0_3.index t0_0) a * main_v27.ty.shape.size a) = fun _ => 0 from
      funext fun a => by fin_cases a <;> decide) (fun a => by fin_cases a <;> decide) f

theorem before0 (c : Dev nD) (d) : (pdats m 0 c).before (0 : Fin 4) t0_0 d = xIn m c := by
  unfold Dat.before; rw [if_pos (fetch0_0 t0_0)]
  exact read_blk0 c (V1 m c main_v10)
theorem before1 (c : Dev nD) (d) : (pdats m 0 c).before (1 : Fin 4) t0_0 d = kIn m c := by
  unfold Dat.before; rw [if_pos (fetch0_1 t0_0)]
  exact read_blk1 c (V1 m c main_v18)
theorem before2 (c : Dev nD) (d) : (pdats m 0 c).before (2 : Fin 4) t0_0 d = vIn m c := by
  unfold Dat.before; rw [if_pos (fetch0_2 t0_0)]
  exact read_blk2 c (V1 m c main_v26)

/-! ## The body -/

theorem owes_in (c : Dev nD) (t : Fin (cfg0.N + 1)) (O : CellTallies nD τ sig Unit) (h : (pdats m 0 c).owed t = O) (W : Waits sig Unit) :
    (owes (c : Thread nD τ) O W : sProp 𝕄) ⊢ (pdats m 0 c).owesAt () t := by
  unfold Dat.owesAt Pipeline.owesWithin Dat.bound; rw [h, show (pdats m 0 c).recorded t = Set.univ from rfl]
  iintro HO; iexists W
  isplitr; · ipureintro; exact fun _ _ => Or.inl trivial
  iexact HO
theorem owes_out (c : Dev nD) (t : Fin (cfg0.N + 1)) (O : CellTallies nD τ sig Unit) (h : (pdats m 0 c).owed t = O) :
    (pdats m 0 c).owesAt () t ⊢ (iprop(∃ W, owes (c : Thread nD τ) O W) : sProp 𝕄) := by
  unfold Dat.owesAt Pipeline.owesWithin; rw [h]
  iintro ⟨%W, -, HO⟩; iexists W; iexact HO

/-- An argument's buffer is a device's slice of it and the rest. -/
def qRest (c : Dev nD) : sProp 𝕄 := iprop((c : Thread nD τ).loc main_arg1 ↦[Finset.univ \ (wqS c).view.set]{fullShare} wQ m c)
def oRest (c : Dev nD) : sProp 𝕄 := iprop((c : Thread nD τ).loc main_arg4 ↦[Finset.univ \ (woS c).view.set]{fullShare} wO m c)
theorem q_split (c : Dev nD) : (qPts m c : sProp 𝕄) ⊣⊢ iprop(wqArg (wQ m) c ∗ qRest m c) :=
  pointsTo_split_subset (Finset.subset_univ (wqS c).view.set)
theorem o_split (c : Dev nD) : (oPts m c : sProp 𝕄) ⊣⊢ iprop(woArg (wO m) c ∗ oRest m c) :=
  pointsTo_split_subset (Finset.subset_univ (woS c).view.set)

theorem at_x (c : Dev nD) (f : S2048x1024.Idx → Elt F .f32) : (((c : Thread nD τ).loc cc0_stg0_0) ↦{fullShare} f : sProp 𝕄) = held c xM f := rfl
theorem at_k (c : Dev nD) (f : KV F) : (((c : Thread nD τ).loc cc0_stg1_0) ↦{fullShare} f : sProp 𝕄) = held c kM f := rfl
theorem at_v (c : Dev nD) (f : KV F) : (((c : Thread nD τ).loc cc0_stg2_0) ↦{fullShare} f : sProp 𝕄) = held c vM f := rfl
theorem at_o (c : Dev nD) (f : S16x128x1024.Idx → Elt F .f32) : (((c : Thread nD τ).loc cc0_stg3_0) ↦{fullShare} f : sProp 𝕄) = held c oM f := rfl

def bodyIn (c : Dev nD) : sProp 𝕄 :=
  iprop(first m c ∗ (pdats m 0 c).owesAt () t0_0.castSucc
    ∗ (∃ d, stg c cc0_stg0_0 ((pdats m 0 c).before (0 : Fin 4) t0_0 d))
    ∗ (∃ d, stg c cc0_stg1_0 ((pdats m 0 c).before (1 : Fin 4) t0_0 d))
    ∗ (∃ d, stg c cc0_stg2_0 ((pdats m 0 c).before (2 : Fin 4) t0_0 d))
    ∗ (∃ d, stg c cc0_stg3_0 ((pdats m 0 c).before (3 : Fin 4) t0_0 d)))
def bodyOut (c : Dev nD) : sProp 𝕄 :=
  iprop(last m c ∗ (pdats m 0 c).owesAt () t0_0.succ
    ∗ stg c cc0_stg0_0 (xIn m c) ∗ stg c cc0_stg1_0 (kIn m c) ∗ stg c cc0_stg2_0 (vIn m c) ∗ stg c cc0_stg3_0 (outOf (part m) c))

theorem body_run (c : Dev nD) : bodyIn m c ⊢ (wp frame (wpE (defs₀ (F := F)) 𝒱₀ c none) Set.univ bodyP (fun _ => bodyOut m c) : sProp 𝕄) := by
  unfold bodyIn first ready stg
  simp only [before0, before1, before2]
  iintro ⟨⟨⟨⟨%K, #HI⟩, #Hlev, HS⟩, Hq, Ho, Hb, Hr⟩, HO, ⟨%d0, %f0, %e0, Hx⟩, ⟨%d1, %f1, %e1, Hk⟩, ⟨%d2, %f2, %e2, Hv⟩, ⟨%d3, %f3, -, Hg⟩⟩
  ihave HO := (owes_out m c _ (O₀ c) rfl) $$ HO
  icases HO with ⟨%W, HO⟩
  ihave Hq := (q_split m c).1 $$ Hq
  icases Hq with ⟨Hq, Hqr⟩
  ihave Ho := (o_split m c).1 $$ Ho
  icases Ho with ⟨Ho, Hor⟩
  rw [e0, e1, e2]
  ihave HW := (wp_body (wQ m) (wO m) (xIn m) (kIn m) (vIn m) K c W f3) $$ [HO HS Hq Ho Hx Hk Hv Hg Hb]
  · isplitr; · iexact HI
    isplitr; · iexact Hlev
    isplitl [HO]; · iexact HO
    isplitl [HS]; · iexact HS
    isplitl [Hq]; · iexact Hq
    isplitl [Ho]; · iexact Ho
    isplitl [Hx]; · iapply (Entails.of_eq (at_x c _)) $$ Hx
    isplitl [Hk]; · iapply (Entails.of_eq (at_k c _)) $$ Hk
    isplitl [Hv]; · iapply (Entails.of_eq (at_v c _)) $$ Hv
    isplitl [Hg]; · iapply (Entails.of_eq (at_o c _)) $$ Hg
    iexact Hb
  iapply (wp_wand_r frame (wpE (defs₀ (F := F)) 𝒱₀ c none) Set.univ)
  isplitl [HW]; · iexact HW
  iintro %u ⟨⟨%W', HO⟩, Hz, Hbar, Hq, Ho, Hx, Hk, Hv, Hg, Hb⟩
  unfold bodyOut last stg
  isplitr [HO Hx Hk Hv Hg]
  · isplitl [Hz]; · iexact Hz
    isplitl [Hbar]; · iexact Hbar
    isplitl [Hq Hqr]
    · iapply (q_split m c).2
      isplitl [Hq]; · iexact Hq
      iexact Hqr
    isplitl [Ho Hor]
    · iapply (o_split m c).2
      isplitl [Ho]; · iexact Ho
      iexact Hor
    isplitl [Hb]; · iexact Hb
    iexact Hr
  isplitl [HO]
  · iapply (owes_in m c t0_0.succ 0 rfl W'); iexact HO
  isplitl [Hx]
  · iexists (xIn m c); isplitr; · (ipureintro; rfl)
    iapply (Entails.of_eq (at_x c _).symm) $$ Hx
  isplitl [Hk]
  · iexists (kIn m c); isplitr; · (ipureintro; rfl)
    iapply (Entails.of_eq (at_k c _).symm) $$ Hk
  isplitl [Hv]
  · iexists (vIn m c); isplitr; · (ipureintro; rfl)
    iapply (Entails.of_eq (at_v c _).symm) $$ Hv
  iexists (outOf (part m) c); isplitr; · (ipureintro; rfl)
  iapply (Entails.of_eq (at_o c _).symm) $$ Hg

theorem body_at (c : Dev nD) : BodyObligation (pdats (F := F) m 0 c) (defs₀ (F := F)) 𝒱₀ () Set.univ := fun t => by
  rw [fin_N0 t]
  rw [bigSep_W0, bigSep_W0]
  simp only [owns_whole_eq]
  have h := body_run m c
  rw [← body_eq] at h
  exact h

/-! ## The region -/

def osem (k : Sk) : SemLoc sig := cksem (ck k)
theorem osem_facts : Pipeline.OwnSemFacts spec0 osem := by decide
theorem share_eq (c : Dev nD) (w : Fin cfg0.W) : (pdats m 0 c).share w = fullShare := by unfold Dat.share; split <;> rfl
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O_pos (c : Dev nD) (g : GSem nD τ sig) (u : Unit) (hg : 0 < O₀ c g u) : L g = {()} ∧ 0 < lv g u := by
  have hg' : 0 < owed c allSends g u + tallyAt (barCell (bp 3 c)) () 1 g u + tallyAt (barCell (bp 2 c)) () 1 g u
      + tallyAt (barCell (bp 1 c)) () 1 g u + tallyAt (barCell (bp 0 c)) () 1 g u := hg
  have hb : ∀ i, 0 < tallyAt (barCell (bp i c)) () 1 g u → L g = {()} ∧ 0 < lv g u := fun i hi => by
    rw [tallyAt_apply] at hi
    by_cases hh : g = barCell (bp i c) ∧ u = ()
    · rw [hh.1, hh.2]; exact ⟨L_tc _ _, by rw [lv_bar]; decide⟩
    · rw [if_neg hh] at hi; exact absurd hi (Nat.lt_irrefl 0)
  by_cases h0 : 0 < owed c allSends g u
  · obtain ⟨p, -, rfl⟩ := owed_pos c _ g u h0
    exact ⟨L_tc _ _, by cases u; rw [lv_r]; omega⟩
  by_cases h1 : 0 < tallyAt (barCell (bp 3 c)) () 1 g u
  · exact hb 3 h1
  by_cases h2 : 0 < tallyAt (barCell (bp 2 c)) () 1 g u
  · exact hb 2 h2
  by_cases h3 : 0 < tallyAt (barCell (bp 1 c)) () 1 g u
  · exact hb 1 h3
  exact hb 0 (by omega)

theorem cut (c : Dev nD) (t : Fin (cfg0.N + 1)) (g : GSem nD τ sig) (i : Unit) (h : 0 < (pdats m 0 c).owed t g i) : i ∈ L g ∧ (0 : ℕ) < lv g i := by
  match t, h with
  | ⟨0, _⟩, h =>
    have e := O_pos c g i h
    exact ⟨by rw [e.1]; exact Finset.mem_singleton_self _, e.2⟩
  | ⟨_ + 1, _⟩, h => exact absurd h (Nat.lt_irrefl 0)

/-- The buffers the region's record keeps: the two the body addresses itself, among those no window stages. -/
def Hs : Finset (DevRef τ sig) := {Proc.devRef .tc main_arg1, Proc.devRef .tc main_arg4}
abbrev Ars : Finset (DevRef τ sig) := Pipeline.arrRefs (τ := τ) (pcfgs (F := F) 0).spec
abbrev Sr : Finset (DevRef τ sig) := Pipeline.ucRefs τ sig \ Ars (F := F)
theorem Ars_sub : Ars (F := F) ⊆ Pipeline.ucRefs τ sig := by
  show Pipeline.arrRefs (τ := τ) spec0 ⊆ _
  decide
theorem Hs_sub : Hs ⊆ Sr (F := F) := by
  show Hs ⊆ Pipeline.ucRefs τ sig \ Pipeline.arrRefs (τ := τ) spec0
  decide
theorem held_Hs (c : Dev nD) (W : Valuation τ sig (Elt F)) (hq : W main_arg1 = wQ m c) (ho : W main_arg4 = wO m c) :
    (StableHlo.held (c : Thread nD τ) Hs W : sProp 𝕄) = iprop(qPts m c ∗ oPts m c) := by
  unfold StableHlo.held Hs qPts oPts
  rw [BI.bigSep_insert (by decide), BI.bigSep_singleton, hq, ho]
  rfl

theorem V2_off (c : Dev nD) (b : DevRef τ sig) (h : b ∈ Sr (F := F)) : V2 m (outsOf m) c b = V1 m c b := by
  refine Function.update_of_ne ?_ _ _
  rintro rfl
  exact (show (Proc.devRef .tc main_v27 : DevRef τ sig) ∉ Pipeline.ucRefs τ sig \ Pipeline.arrRefs (τ := τ) spec0 from by decide) h

theorem zeros_eq (c : Dev nD) : (Pipeline.ownSems0 osem c : sProp 𝕄) = zeros c := rfl

theorem open_in (c : Dev nD) : iprop(kept (part m) (wQ m) (wO m) c ∗ Pipeline.ownSems0 osem c ∗ levAts L lv)
    ⊢ (|={Set.univ}=> ready (part m) (wQ m) (wO m) c : sProp 𝕄) := open_all _ _ _ c
theorem region_in (c : Dev nD) : iprop(Pipeline.scopedRest (Pipeline.pin (pcfgs (F := F)) adm 0).spec c ∗ (∃ r, prngReg c r)
      ∗ StableHlo.held (c.tc : Thread nD τ) Hs (V1 m c) ∗ ready (part m) (wQ m) (wO m) c) ⊢ (pdats m 0 c).Φ 0 := by
  rw [held_Hs m c (V1 m c) (V1_q m c) (V1_o m c)]
  show _ ⊢ first m c
  unfold first
  iintro ⟨Hs, Hp, ⟨Hq, Ho⟩, HR⟩
  isplitl [HR]; · iexact HR
  isplitl [Hq]; · iexact Hq
  isplitl [Ho]; · iexact Ho
  isplitl [Hs]; · iapply (bufs_eq (F := F) c).1; iexact Hs
  iexact Hp
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V2 m (outsOf m) c) ∗ Pipeline.ownSems0 osem c ∗ semVal (barCell c) 0) := by
  rw [held_Hs m c (V2 m (outsOf m) c) ((V2_of m _ c main_arg1 (by decide)).trans (V1_q m c)) ((V2_of m _ c main_arg4 (by decide)).trans (V1_o m c)), zeros_eq]
  show last m c ⊢ _
  unfold last
  iintro ⟨Hz, Hb0, Hq, Ho, Hs, Hp⟩
  isplitl [Hs]; · iapply (bufs_eq (F := F) c).2; iexact Hs
  isplitl [Hp]; · iexact Hp
  isplitl [Hq Ho]; · isplitl [Hq] <;> iassumption
  isplitl [Hz] <;> iassumption

theorem arr_out (c : Dev nD) : (pdats m 0 c).arrAt (3 : Fin 4) cfg0.N = outOf (part m) c := by
  have hw : ((cfg0.win 3).blk t0_0).view.read (Elt F) ((pdats m 0 c).arrAt (3 : Fin 4) cfg0.N) = (pdats m 0 c).flushed (3 : Fin 4) t0_0 := by
    rw [show cfg0.N = t0_0.val + 1 from rfl, (pdats m 0 c).arrAt_succ (3 : Fin 4) t0_0, flush0_3, if_pos rfl]
    exact View.read_write_univ _ _
  exact (read_blk3 c _).symm.trans (hw.trans (funext fun _ => rfl))
theorem arr_end (c : Dev nD) (w : Fin 4) : (pdats m 0 c).arrAt w cfg0.N = V2 m (outsOf m) c (Proc.devRef .tc (Pipeline.arrRef spec0 w)) := by
  match w with
  | 0 => exact ((pdats m 0 c).arrAt_in (0 : Fin 4) rfl _).trans (V2_of m _ c main_v10 (by decide)).symm
  | 1 => exact ((pdats m 0 c).arrAt_in (1 : Fin 4) rfl _).trans (V2_of m _ c main_v18 (by decide)).symm
  | 2 => exact ((pdats m 0 c).arrAt_in (2 : Fin 4) rfl _).trans (V2_of m _ c main_v26 (by decide)).symm
  | 3 => exact (arr_out m c).trans (V2_out m c).symm

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts Hs (Sr (F := F)) Hs_sub kitP rfl
    (fun c => (body_at m c).loose) (fun _ => 0) O₀ (fun c => (zero_add (O₀ c)).symm) (fun c => rfl) (fun _ => rfl) (share_eq m)
    (V1 m) (V2 m (outsOf m)) (fun c b hb => V2_off m c b (Finset.mem_sdiff.mp hb).1)
    (kept (part m) (wQ m) (wO m)) (fun c => semVal (barCell c) 0) (ready (part m) (wQ m) (wO m)) (fun c => semVal (barCell c) 0)
    (open_in m) (region_in m) (region_out m) (fun c => by iintro H; imodintro; iexact H)
    (fun _ => 0)
    ⟨fun c w s => by rw [L_tc]; exact Finset.mem_singleton_self _, fun c w s => Nat.le_of_eq (by revert s; fin_cases w <;> exact fun s => rfl), fun c t g i h => cut m c t g i h⟩
    (fun _ => iprop(emp))
    (fun c w => rfl) (arr_end m)

/-- What rides with the buffers between the items. -/
def rest (i : Fin 2) (c : Dev nD) : sProp 𝕄 := match i with
  | 0 => rides (part m) (wQ m) (wO m) c
  | 1 => iprop(semVal (barCell c) 0 ∗ ∃ W, owes (c : Thread nD τ) 0 W)

theorem region_pre (c : Dev nD) : iprop(StableHlo.held (c : Thread nD τ) (Pipeline.ucRefs τ sig) (V1 m c) ∗ rest m 0 c) ⊢ (region m).pre c := by
  show _ ⊢ iprop(StableHlo.held (c.tc : Thread nD τ) (Ars (F := F)) (V1 m c) ∗ (∃ r, prngReg c r)
    ∗ (StableHlo.held (c.tc : Thread nD τ) (Sr (F := F)) (V1 m c) ∗ emp) ∗ kept (part m) (wQ m) (wO m) c ∗ ∃ Wd, owes (c : Thread nD τ) (0 + O₀ c) Wd)
  rw [zero_add, StableHlo.held_sub_split (c : Thread nD τ) (Ars_sub (F := F)) (V1 m c)]
  show iprop(_ ∗ rides (part m) (wQ m) (wO m) c) ⊢ _
  unfold rides
  iintro ⟨⟨Ha, Hh⟩, HK, HO, Hp⟩
  isplitl [Ha]; · iexact Ha
  isplitl [Hp]; · iexact Hp
  isplitl [Hh]
  · isplitl [Hh]; · iexact Hh
    iempintro
  isplitl [HK]; · iexact HK
  iexact HO
theorem region_post (c : Dev nD) : (region m).post c ⊢ iprop(StableHlo.held (c : Thread nD τ) (Pipeline.ucRefs τ sig) (V2 m (outsOf m) c) ∗ rest m 1 c) := by
  show iprop(StableHlo.held (c.tc : Thread nD τ) (Ars (F := F)) (V2 m (outsOf m) c) ∗ (∃ r, prngReg c r)
    ∗ (StableHlo.held (c.tc : Thread nD τ) (Sr (F := F)) (V2 m (outsOf m) c) ∗ emp) ∗ semVal (barCell c) 0 ∗ ∃ Wd, owes (c : Thread nD τ) 0 Wd) ⊢ _
  rw [StableHlo.held_sub_split (c : Thread nD τ) (Ars_sub (F := F)) (V2 m (outsOf m) c)]
  show _ ⊢ iprop(_ ∗ (semVal (barCell c) 0 ∗ ∃ W, owes (c : Thread nD τ) 0 W))
  iintro ⟨Ha, -, ⟨Hh, -⟩, Hb, HO⟩
  isplitl [Ha Hh]; · isplitl [Ha] <;> iassumption
  isplitl [Hb] <;> iassumption

/-! ## The launch -/

def u₀ : UU :=
  (initOf (Pipeline.cells (Pipeline.pin (pcfgs (F := F)) adm) cellOf_inj) (Pipeline.launchToks (Pipeline.pin (pcfgs (F := F)) adm) cellOf_inj),
    launchOf barCells scCells talkToks)
theorem unscoped_one : ∀ sm : SemLoc sig, sm.isScoped .tc = false → sm = .reg barSem := by decide
theorem unscoped_eq (c : Dev nD) : (unscopedSems0 c : sProp 𝕄) = semVal (barCell c) 0 := by
  unfold unscopedSems0
  rw [show (Finset.univ.filter fun sm : SemLoc sig => ¬ sm.isScoped .tc) = {SemLoc.reg barSem} from by decide, BI.bigSep_singleton]

abbrev T₀ (c : Dev nD) : sProp 𝕄 := iprop(StableHlo.held (c : Thread nD τ) (Pipeline.ucRefs τ sig) (V0 m c) ∗ rest m 0 c)
abbrev Tₙ (c : Dev nD) : sProp 𝕄 := iprop(StableHlo.held (c : Thread nD τ) (Pipeline.ucRefs τ sig) (V3 m (outsOf m) c) ∗ semVal (barCell c) 0)

theorem start_all : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  have hcore : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c)) ∗ bigSep Finset.univ (given ρ)) : sProp 𝕄) := by
    rw [← bigSep_sep']
    refine bigSep_mono fun c _ => ?_
    rw [← Pipeline.unscopedBufs_held (Ix := Unit) (Name := ℕ) (U := UU) (Lvl := ℕ) c (V0 m c), unscoped_eq]
    exact BI.Entails.refl _
  iintro ⟨H, -⟩
  ihave H := hcore $$ H
  icases H with ⟨Hh, Hg⟩
  imod (deal (part m) (wQ m) (wO m) ρ) $$ Hg with Hr
  imodintro
  rw [bigSep_sep']
  isplitl [Hh]; · iexact Hh
  iexact Hr

/-- What the run leaves: the arguments as launched, and the result's buffer at its last contents. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v28) = V3 m (outsOf m) c main_v28

set_option backward.isDefEq.respectTransparency.types false in
/-- Every execution ends, with the arguments as launched, the result the sum of the partial blocks and every counter at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m (outsOf m) 𝒱₀ L lv (rest m) () (pdats m) (region m))
    (fun c Q => by
      rewrite [main_chain c, Seg.run_eq_chain,
        show (segs m (outsOf m) 𝒱₀ L lv (rest m) () (pdats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, region_pre m c, region_post m c, by
      show iprop(StableHlo.held (c : Thread nD τ) (Pipeline.ucRefs τ sig) (V3 m (outsOf m) c) ∗ (semVal (barCell c) 0 ∗ ∃ W, owes (c : Thread nD τ) 0 W))
        ⊢ iprop(Tₙ m c ∗ ∃ W, owes (c : Thread nD τ) (0 : CellTallies nD τ sig Unit) W)
      iintro ⟨Hh, Hb, HO⟩
      isplitr [HO]
      · isplitl [Hh] <;> iassumption
      · iexact HO⟩)
    (hinit := start_all m ρ)
    (QY := fun c s => Ends m c s ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (V3 m (outsOf m) c) s') $$ [Hh HSI]
      · isplitl [Hh] <;> iassumption
      icases Hr with ⟨%h, HSI⟩
      imodintro
      isplitr
      · ipureintro
        exact ⟨⟨⟨(h (Proc.devRef .tc main_arg0) (Finset.mem_filter.mpr ⟨StableHlo.devRef_mem_tcRefs main_arg0, by decide⟩)).trans (V3_main_arg0 m (outsOf m) c),
          (h (Proc.devRef .tc main_arg1) (Finset.mem_filter.mpr ⟨StableHlo.devRef_mem_tcRefs main_arg1, by decide⟩)).trans (V3_main_arg1 m (outsOf m) c),
          (h (Proc.devRef .tc main_arg2) (Finset.mem_filter.mpr ⟨StableHlo.devRef_mem_tcRefs main_arg2, by decide⟩)).trans (V3_main_arg2 m (outsOf m) c),
          (h (Proc.devRef .tc main_arg3) (Finset.mem_filter.mpr ⟨StableHlo.devRef_mem_tcRefs main_arg3, by decide⟩)).trans (V3_main_arg3 m (outsOf m) c),
          (h (Proc.devRef .tc main_arg4) (Finset.mem_filter.mpr ⟨StableHlo.devRef_mem_tcRefs main_arg4, by decide⟩)).trans (V3_main_arg4 m (outsOf m) c)⟩,
          h (Proc.devRef .tc main_v28) (Finset.mem_filter.mpr ⟨StableHlo.devRef_mem_tcRefs main_v28, by decide⟩)⟩, by simpa using hb⟩
      · iexact HSI)
    (hQ := fun s h hs => ⟨fun c => (h c).1, sem_eq_zero hs fun c sm hsm => by
      obtain rfl := unscoped_one sm hsm
      exact (h c).2⟩)

end Cert.KernelIdeal.Talk
-- ==== Proof.Same.lean ====
module

public import proofs.«01_k».proof.Kernel
public import proofs.«01_k».proof.KernelIdeal

/-! # The two printed programs are one

`Kernel` and `KernelIdeal` are printed from one text, so they are one program, read at any float instance. -/

@[expose] public section

set_option maxRecDepth 100000

namespace Cert
open Idealize.ShloMosaic
variable {F : FTy → Type} [FloatOps F] [hK : Cert.Kernel.Facts] [hI : Cert.KernelIdeal.Facts]

theorem defs₀_same : (Cert.Kernel.defs₀ (F := F)) = (Cert.KernelIdeal.defs₀ (F := F)) :=
  congrArg Defs.onTc (funext fun l => funext fun a => match l, a with
    | 0, (t, s) => rfl
    | ⟨_ + 1, h⟩, _ => absurd h (Nat.not_lt.2 (Nat.le_add_left _ _)))
theorem defs_same : (Cert.Kernel.defs (F := F)) = (Cert.KernelIdeal.defs (F := F)) :=
  congrArg (Pipeline.defs (Cert.KernelIdeal.pcfgs (F := F))) defs₀_same
theorem main_same : (Cert.Kernel.main (F := F)) = (Cert.KernelIdeal.main (F := F)) := rfl
end Cert
-- ==== Proof.Total.lean ====
module

public import proofs.«01_k».proof.Proof.Bar
public import Idealize.ShloMosaic.PureOps.Ideal.Laws

@[expose] public section

set_option maxRecDepth 65536

noncomputable section

namespace Cert.KernelIdeal.Talk

open Cert.KernelIdeal Cert.KernelIdeal.Gen
open Idealize.ShloMosaic

/-! # The exchange adds every device's part once

Over the extended reals addition is commutative and associative, so what an element holds after the exchange is told by
the devices whose parts it has taken in: a list followed step by step.
-/

/-- Whether a step brings a slot to a device. -/
def gets (ln : Lane) (s : Stp) (c : Dev nD) (j : ℕ) : Bool := Nat.ble (so ln s (fr ln s c)) j && Nat.blt j (so ln s (fr ln s c) + cnt s)

theorem gets_iff (ln : Lane) (s : Stp) (c : Dev nD) (j : Fin 16) : j ∈ rl ln s c ↔ gets ln s c j.val = true := by
  unfold rl gets
  rw [mem_sl]
  simp

/-- The devices whose parts a slot holds before step `k`. -/
def taken (ln : Lane) : ℕ → Dev nD → ℕ → List (Dev nD)
  | 0, c, _ => [c]
  | k + 1, c, j => if gets ln (stp k) c j then
      (if adds (stp k) then taken ln k c j ++ taken ln k (fr ln (stp k) c) j else taken ln k (fr ln (stp k) c) j)
      else taken ln k c j

theorem cont_taken (p0 : Dev nD → AccC Ideal) (ln : Lane) (k : ℕ) (c : Dev nD) (i : AccIdx) :
    cont p0 ln k c i = ((taken ln k c (slot i).val).map fun d => (p0 d i : EReal)).sum := by
  induction k generalizing c with
  | zero => simp [cont, taken]
  | succ k ih =>
    rw [cont, taken]
    dsimp only
    by_cases h : slot i ∈ rl ln (stp k) c
    · rw [if_pos h, if_pos ((gets_iff ln (stp k) c (slot i)).mp h)]
      by_cases ha : adds (stp k) = true
      · rw [if_pos ha, if_pos ha, List.map_append, List.sum_append, ← ih, ← ih]; rfl
      · rw [if_neg ha, if_neg ha, ← ih]
    · rw [if_neg h, if_neg (fun hh => h ((gets_iff ln (stp k) c (slot i)).mpr hh)), ← ih]

set_option maxHeartbeats 4000000 in
theorem taken_lo : ∀ c : Dev nD, ∀ j : Fin 16, (taken .lo 10 c j.val).isPerm (List.finRange 16) = true := by decide +kernel
set_option maxHeartbeats 4000000 in
theorem taken_hi : ∀ c : Dev nD, ∀ j : Fin 16, (taken .hi 10 c j.val).isPerm (List.finRange 16) = true := by decide +kernel

/-- After the exchange each element is the sum over the devices of their parts. -/
theorem final_sum (p0 : Dev nD → AccC Ideal) (c : Dev nD) (i : AccIdx) : final p0 c i = (∑ d : Fin 16, (p0 d i : EReal)) := by
  have key : ∀ l : List (Dev nD), l.isPerm (List.finRange 16) = true → (l.map fun d => (p0 d i : EReal)).sum = ∑ d : Fin 16, (p0 d i : EReal) := by
    intro l hl
    rw [((List.isPerm_iff.mp hl).map _).sum_eq, ← List.ofFn_eq_map, List.sum_ofFn]
  unfold final
  split
  · rw [cont_taken]; exact key _ (taken_lo c (slot i))
  · rw [cont_taken]; exact key _ (taken_hi c (slot i))

end Cert.KernelIdeal.Talk
-- ==== Proof.Order.lean ====
module

public import proofs.«01_k».proof.Proof.Launch
public import proofs.«01_k».proof.Proof.Total
public import Idealize.ShloMosaic.Lib.Pointwise

@[expose] public section

set_option maxRecDepth 65536

noncomputable section

/-! The host's two stretches: queries, keys and values sorted by block residue, and the result reshaped. -/

namespace Cert.KernelIdeal.Talk

open Cert.KernelIdeal Cert.KernelIdeal.Gen
open Idealize.ShloMosaic Idealize.SL.Sem

/-- The rows in blocks, the blocks sorted by their residue. -/
def sortX (y : FVec Ideal S32x64x1024 .f32) : FVec Ideal S32x64x1024 .f32 :=
  concatenate S32x64x1024 0
    [⟨S11x64x1024, Host.slice S11x64x1024 ![0, 0, 0] ![3, 1, 1] y slicesBy_S32x64x1024_S11x64x1024_0s3_0s1_0s1⟩,
     ⟨S11x64x1024, Host.slice S11x64x1024 ![1, 0, 0] ![3, 1, 1] y slicesBy_S32x64x1024_S11x64x1024_1s3_0s1_0s1⟩,
     ⟨S10x64x1024, Host.slice S10x64x1024 ![2, 0, 0] ![3, 1, 1] y slicesBy_S32x64x1024_S10x64x1024_2s3_0s1_0s1⟩]
    concatenates_S11x64x1024_S11x64x1024_S10x64x1024_S32x64x1024_d0

/-- The sorted query input. -/
def ordX (x : FVec Ideal S1x2048x1024 .f32) : FVec Ideal S2048x1024 .f32 :=
  shapeCast _ (sortX (shapeCast _ x shapeCasts_S1x2048x1024_S32x64x1024)) shapeCasts_S32x64x1024_S2048x1024

theorem xIn_eq (m : (ℓ : Loc nD τ sig) → Buf (Elt Ideal) ℓ) (c : Dev nD) :
    xIn m c = ordX (m ((c.tc : Thread nD τ).loc main_arg0)) := by
  unfold xIn V1 hostOps0
  after_results_simp
  rfl

/-- Keys or values in blocks, the blocks sorted by their residue. -/
def sortK (y : FVec Ideal S8x32x64x128 .f32) : FVec Ideal S8x32x64x128 .f32 :=
  concatenate S8x32x64x128 1
    [⟨S8x11x64x128, Host.slice S8x11x64x128 ![0, 0, 0, 0] ![1, 3, 1, 1] y slicesBy_S8x32x64x128_S8x11x64x128_0s1_0s3_0s1_0s1⟩,
     ⟨S8x11x64x128, Host.slice S8x11x64x128 ![0, 1, 0, 0] ![1, 3, 1, 1] y slicesBy_S8x32x64x128_S8x11x64x128_0s1_1s3_0s1_0s1⟩,
     ⟨S8x10x64x128, Host.slice S8x10x64x128 ![0, 2, 0, 0] ![1, 3, 1, 1] y slicesBy_S8x32x64x128_S8x10x64x128_0s1_2s3_0s1_0s1⟩]
    concatenates_S8x11x64x128_S8x11x64x128_S8x10x64x128_S8x32x64x128_d1

/-- The sorted keys or values. -/
def ordK (x : FVec Ideal S1x2048x8x128 .f32) : FVec Ideal S8x2048x128 .f32 :=
  shapeCast _ (sortK (shapeCast _ (transpose S8x2048x128 [1, 0, 2] (shapeCast _ x shapeCasts_S1x2048x8x128_S2048x8x128)
    transposes_S2048x8x128_S8x2048x128_1_0_2) shapeCasts_S8x2048x128_S8x32x64x128)) shapeCasts_S8x32x64x128_S8x2048x128

theorem kIn_eq (m : (ℓ : Loc nD τ sig) → Buf (Elt Ideal) ℓ) (c : Dev nD) :
    kIn m c = ordK (m ((c.tc : Thread nD τ).loc main_arg2)) := by
  unfold kIn V1 hostOps0
  after_results_simp
  rfl

theorem vIn_eq (m : (ℓ : Loc nD τ sig) → Buf (Elt Ideal) ℓ) (c : Dev nD) :
    vIn m c = ordK (m ((c.tc : Thread nD τ).loc main_arg3)) := by
  unfold vIn V1 hostOps0
  after_results_simp
  rfl

/-- The block that lies at a place of the sorted order. -/
def ob (p : ℕ) : ℕ := if p < 11 then 3 * p else if p - 11 < 11 then 1 + 3 * (p - 11) else 2 + 3 * (p - 11 - 11)
/-- The row that lies at a place of the sorted order. -/
def org (r : ℕ) : ℕ := ob (r / 64) * 64 + r % 64

theorem ob_lt (p : ℕ) (h : p < 32) : ob p < 32 := by unfold ob; split_ifs <;> omega
theorem org_lt (r : ℕ) (h : r < 2048) : org r < 2048 := by
  have := ob_lt (r / 64) (by omega)
  unfold org; omega

theorem sortX_at (y : FVec Ideal S32x64x1024 .f32) (b : Fin 32) (t : Fin 64) (d : Fin 1024) :
    sortX y (ix3 b t d) = y (ix3 ⟨ob b, ob_lt b b.2⟩ t d) := by
  pointwise [sortX]
  split_ifs <;> (congr 2; apply Fin.ext; simp only [ob]; split_ifs <;> omega)

theorem sortK_at (y : FVec Ideal S8x32x64x128 .f32) (h : Fin 8) (b : Fin 32) (t : Fin 64) (d : Fin 128) :
    sortK y (ix4 h b t d) = y (ix4 h ⟨ob b, ob_lt b b.2⟩ t d) := by
  pointwise [sortK]
  split_ifs <;> (congr 2; apply Fin.ext; simp only [ob]; split_ifs <;> omega)

theorem ordX_at (x : FVec Ideal S1x2048x1024 .f32) (r : Fin 2048) (d : Fin 1024) :
    ordX x (ix2 r d) = x (ix3 0 ⟨org r, org_lt r r.2⟩ d) := by
  pointwise [ordX]
  rw [sortX_at]
  pointwise
  rfl

theorem ordK_at (x : FVec Ideal S1x2048x8x128 .f32) (h : Fin 8) (r : Fin 2048) (d : Fin 128) :
    ordK x (ix3 h r d) = x (ix4 0 ⟨org r, org_lt r r.2⟩ h d) := by
  pointwise [ordK]
  rw [sortK_at]
  pointwise
  rfl

/-- The result's buffer at the end. -/
def endOf (m : (ℓ : Loc nD τ sig) → Buf (Elt Ideal) ℓ) (c : Dev nD) : FVec Ideal S1x2048x1024 .f32 :=
  V3 m (outsOf m) c (Proc.devRef .tc main_v28)

theorem end_at (m : (ℓ : Loc nD τ sig) → Buf (Elt Ideal) ℓ) (c : Dev nD) (r : Fin 2048) (n : Fin 1024) :
    endOf m c (ix3 0 r n) = ∑ d : Fin 16, (part m d : FVec Ideal S16x128x1024 .bf16) (ix3 ⟨r / 128, by omega⟩ ⟨r % 128, by omega⟩ n) := by
  have h : endOf m c = shapeCast S1x2048x1024 (outOf (part m) c) shapeCasts_S16x128x1024_S1x2048x1024 := by
    unfold endOf V3 hostOps1
    after_results_simp
    rw [← V2_out]
    rfl
  rw [h]
  pointwise
  exact final_sum (part m) c _

end Cert.KernelIdeal.Talk
-- ==== Proof.Soft.lean ====
module

public import Idealize.ShloMosaic.Lib.Pointwise

@[expose] public section

noncomputable section

/-! A softmax-weighted sum over the selected keys alone is the one over all keys with the others at ⊥. -/

namespace Cert.Soft

open Idealize.ShloMosaic

/-- The greatest of a row's scores. -/
def top {n : ℕ} (s : Fin n → EReal) : EReal := Finset.univ.fold max ⊥ s
/-- A score's exponential, less the greatest. -/
def ex {n : ℕ} (s : Fin n → EReal) (j : Fin n) : EReal := Ideal.exp (s j - top s)
/-- A score's weight. -/
def wgt {n : ℕ} (s : Fin n → EReal) (j : Fin n) : EReal := Ideal.div (ex s j) (∑ k, ex s k)
/-- The weighted sum. -/
def att {n : ℕ} (s v : Fin n → EReal) : EReal := ∑ j, wgt s j * v j

theorem top_eq_sup {n : ℕ} (s : Fin n → EReal) : top s = Finset.univ.sup s := rfl

theorem exp_nonneg (x : EReal) : 0 ≤ Ideal.exp x := by
  induction x using EReal.rec with
  | bot => simp
  | top => simp
  | coe r =>
    show (0 : EReal) ≤ ((Real.exp r : ℝ) : EReal)
    exact_mod_cast (Real.exp_pos r).le

section
variable {n m : ℕ} (M : Fin m → Prop) [DecidablePred M] (e : Fin n → Fin m) (he : Function.Injective e)
  (hM : ∀ j, M j ↔ ∃ t, e t = j) (s : Fin m → EReal) (hs : ∀ j, ∃ r : ℝ, s j = r) (hn : 0 < n)

include hM in
theorem top_sel : top (fun j => if M j then s j else ⊥) = top (fun t => s (e t)) := by
  rw [top_eq_sup, top_eq_sup]
  apply le_antisymm
  · refine Finset.sup_le fun j _ => ?_
    by_cases h : M j
    · obtain ⟨t, rfl⟩ := (hM j).1 h
      rw [if_pos h]
      exact Finset.le_sup (f := fun t => s (e t)) (Finset.mem_univ t)
    · rw [if_neg h]; exact bot_le
  · refine Finset.sup_le fun t _ => ?_
    have h : M (e t) := (hM _).2 ⟨t, rfl⟩
    refine le_trans (le_of_eq ?_) (Finset.le_sup (f := fun j => if M j then s j else ⊥) (Finset.mem_univ (e t)))
    rw [if_pos h]

theorem ex_sum_ne {n : ℕ} (s : Fin n → EReal) (hs : ∀ j, ∃ r : ℝ, s j = r) (hn : 0 < n) :
    (∃ r : ℝ, top s = r) ∧ (∑ k, ex s k) ≠ 0 := by
  have : Nonempty (Fin n) := ⟨⟨0, hn⟩⟩
  obtain ⟨t, -, ht⟩ := Finset.exists_mem_eq_sup Finset.univ Finset.univ_nonempty s
  obtain ⟨r, hr⟩ := hs t
  have htop : top s = r := by rw [top_eq_sup, ht, hr]
  refine ⟨⟨r, htop⟩, ?_⟩
  have h1 : ex s t = 1 := by
    unfold ex
    rw [htop, hr, ← EReal.coe_sub, sub_self]
    show ((Real.exp 0 : ℝ) : EReal) = 1
    simp
  have h2 : ex s t ≤ ∑ k, ex s k := Finset.single_le_sum (f := ex s) (fun i _ => exp_nonneg _) (Finset.mem_univ t)
  rw [h1] at h2
  intro h0
  rw [h0] at h2
  exact absurd h2 (by simp)

include he hM hs hn in
theorem att_sel (v : Fin m → EReal) :
    att (fun j => if M j then s j else ⊥) v = att (fun t => s (e t)) (fun t => v (e t)) := by
  obtain ⟨⟨r, hr⟩, hz⟩ := ex_sum_ne (fun t => s (e t)) (fun t => hs (e t)) hn
  have htop := top_sel M e hM s
  have hsel (t) : ex (fun j => if M j then s j else ⊥) (e t) = ex (fun t => s (e t)) t := by
    have h : M (e t) := (hM _).2 ⟨t, rfl⟩
    unfold ex
    rw [htop]
    dsimp only
    rw [if_pos h]
  have hout (j) (h : j ∉ Set.range e) : ex (fun j => if M j then s j else ⊥) j = 0 := by
    have h' : ¬ M j := fun h' => h ((hM j).1 h')
    unfold ex
    rw [htop, hr]
    dsimp only
    rw [if_neg h']
    show Ideal.exp (⊥ - (r : EReal)) = 0
    simp
  have hsum : ∑ k, ex (fun j => if M j then s j else ⊥) k = ∑ t, ex (fun t => s (e t)) t :=
    (Fintype.sum_of_injective e he _ _ hout fun t => (hsel t).symm).symm
  unfold att
  refine (Fintype.sum_of_injective e he _ _ ?_ ?_).symm
  · intro j hj
    unfold wgt
    rw [hsum, hout j hj]
    unfold Ideal.div
    rw [if_neg hz, zero_mul, zero_mul]
  · intro t
    unfold wgt
    rw [hsum, hsel]

end

end Cert.Soft
-- ==== Proof.Read.lean ====
module

public import proofs.«01_k».proof.Proof.Order
public import proofs.«01_k».proof.Proof.Soft

@[expose] public section

set_option maxRecDepth 65536

noncomputable section

/-! The kernel's values read at an index. -/

namespace Cert.KernelIdeal.Talk

open Cert.KernelIdeal Cert.KernelIdeal.Gen
open Idealize.ShloMosaic Idealize.SL.Sem

/-- The scale of the scores. -/
abbrev scl : EReal := Ideal.ofBits .f32 1035273459#32

theorem bits_bot : Ideal.ofBits .f32 4286578688#32 = ⊥ := by simp [Ideal.ofBits, Ideal.ieee]

/-! ## A head's softmax -/

theorem sm0_at (s : FVec Ideal S704x704 .f32) (r j : Fin 704) : sm0 s (ix2 r j) = Soft.wgt (fun j : Fin 704 => s (ix2 r j)) j := by
  pointwise [sm0]
  rw [bits_bot]
  rfl
theorem sm1_at (s : FVec Ideal S704x768 .f32) (r : Fin 704) (j : Fin 768) : sm1 s (ix2 r j) = Soft.wgt (fun j : Fin 768 => s (ix2 r j)) j := by
  pointwise [sm1]
  rw [bits_bot]
  rfl
theorem sm2_at (s : FVec Ideal S640x832 .f32) (r : Fin 640) (j : Fin 832) : sm2 s (ix2 r j) = Soft.wgt (fun j : Fin 832 => s (ix2 r j)) j := by
  pointwise [sm2]
  rw [bits_bot]
  rfl

/-! ## The buffers' parts -/

theorem rdK (o : Fin 3 → ℕ) (n : Fin 3 → ℕ) (inb : ∀ a, o a + n a ≤ S8x2048x128.size a) (K : KV Ideal) (i : (Rect.unit (s := S8x2048x128) o n inb).shape.Idx)
    (h : Fin 8) (j : Fin 2048) (d : Fin 128) (h0 : o 0 + (i 0).val = h) (h1 : o 1 + (i 1).val = j) (h2 : o 2 + (i 2).val = d) :
    (kM.access (Rect.unit (s := S8x2048x128) o n inb)).read (Elt Ideal) K i = K (ix3 h j d) := by
  refine congrArg K (funext fun a => Fin.ext ?_)
  match a with
  | 0 => exact ((congrArg (o 0 + ·) (Nat.one_mul _)).trans h0)
  | 1 => exact ((congrArg (o 1 + ·) (Nat.one_mul _)).trans h1)
  | 2 => exact ((congrArg (o 2 + ·) (Nat.one_mul _)).trans h2)
theorem rdV (o : Fin 3 → ℕ) (n : Fin 3 → ℕ) (inb : ∀ a, o a + n a ≤ S8x2048x128.size a) (K : KV Ideal) (i : (Rect.unit (s := S8x2048x128) o n inb).shape.Idx)
    (h : Fin 8) (j : Fin 2048) (d : Fin 128) (h0 : o 0 + (i 0).val = h) (h1 : o 1 + (i 1).val = j) (h2 : o 2 + (i 2).val = d) :
    (vM.access (Rect.unit (s := S8x2048x128) o n inb)).read (Elt Ideal) K i = K (ix3 h j d) := by
  refine congrArg K (funext fun a => Fin.ext ?_)
  match a with
  | 0 => exact ((congrArg (o 0 + ·) (Nat.one_mul _)).trans h0)
  | 1 => exact ((congrArg (o 1 + ·) (Nat.one_mul _)).trans h1)
  | 2 => exact ((congrArg (o 2 + ·) (Nat.one_mul _)).trans h2)
theorem rdW (h : Fin 8) (W : WW Ideal) (d : Fin 128) (n : Fin 1024) :
    (woM.access (rw h)).read (Elt Ideal) W (ix2 d n) = W (ix2 ⟨128 * h + d, by omega⟩ n) := by
  refine congrArg W (funext fun a => Fin.ext ?_)
  match a with
  | 0 => exact congrArg (128 * h.val + ·) (Nat.one_mul _)
  | 1 => exact (congrArg (0 + ·) (Nat.one_mul _)).trans (Nat.zero_add _)

theorem off1_at (c : Dev nD) (a : Fin 2) : k0_off1 c a = (![0, c.val * 1024] : Fin 2 → ℕ) a := by revert c a; decide
theorem off2_at (c : Dev nD) (a : Fin 2) : k0_off2 c a = (![c.val * 1024, 0] : Fin 2 → ℕ) a := by revert c a; decide

theorem wqOf_at (vQ : Dev nD → S1024x16384.Idx → Elt Ideal .f32) (c : Dev nD) (t : Fin 1024) (f : Fin 1024) :
    wqOf vQ c (ix2 t f) = vQ c (ix2 t ⟨c.val * 1024 + f, by have : c.val < 16 := c.isLt; omega⟩) := by
  refine congrArg (vQ c) (funext fun a => Fin.ext ?_)
  match a with
  | 0 =>
    show k0_off1 c 0 + 1 * t.val = t.val
    rw [off1_at]; exact (Nat.zero_add _).trans (Nat.one_mul _)
  | 1 =>
    show k0_off1 c 1 + 1 * f.val = c.val * 1024 + f.val
    rw [off1_at, Nat.one_mul]; rfl
theorem woOf_at (vO : Dev nD → S16384x1024.Idx → Elt Ideal .f32) (c : Dev nD) (f : Fin 1024) (n : Fin 1024) :
    woOf vO c (ix2 f n) = vO c (ix2 ⟨c.val * 1024 + f, by have : c.val < 16 := c.isLt; omega⟩ n) := by
  refine congrArg (vO c) (funext fun a => Fin.ext ?_)
  match a with
  | 0 =>
    show k0_off2 c 0 + 1 * f.val = c.val * 1024 + f.val
    rw [off2_at, Nat.one_mul]; rfl
  | 1 =>
    show k0_off2 c 1 + 1 * n.val = n.val
    rw [off2_at]; exact (Nat.zero_add _).trans (Nat.one_mul _)

theorem proj_at (x : Vec Ideal S2048x1024 .f32) (w : Vec Ideal S1024x1024 .f32) (r : Fin 2048) (f : Fin 1024) :
    proj x w (ix2 r f) = ∑ t : Fin 1024, x (ix2 r t) * w (ix2 t f) := by
  pointwise [proj]

/-! ## A head's context, group by group: rows and keys by their places in the sorted order -/

/-- The score of a row against a key of a head, both by their places. -/
def sS (q : FVec Ideal S2048x1024 .f32) (K : KV Ideal) (h : Fin 8) (r j : Fin 2048) : EReal :=
  (∑ d : Fin 128, q (ix2 r ⟨128 * h + d, by omega⟩) * K (ix3 h j d)) * scl

/-- The places of the keys of a row of each group. -/
def kp0 (j : Fin 704) : Fin 2048 := ⟨j, by omega⟩
def kp1 (r : Fin 704) (j : Fin 768) : Fin 2048 :=
  ⟨if j.val < 640 then 1408 + j else if j.val - 640 < 64 then j - 640 else 704 + (r / 64 * 64 + (j - 640 - 64)), by split_ifs <;> omega⟩
def kp2 (r : Fin 640) (j : Fin 832) : Fin 2048 :=
  ⟨if j.val < 704 then 704 + j else if j.val - 704 < 64 then j - 704 else 1408 + (r / 64 * 64 + (j - 704 - 64)), by split_ifs <;> omega⟩

theorem sum3 (a b c : ℕ) (f : Fin (a + b + c) → EReal) :
    ∑ j, f j = ((∑ x : Fin a, f ⟨x, by omega⟩) + ∑ x : Fin b, f ⟨a + x, by omega⟩) + ∑ x : Fin c, f ⟨a + b + x, by omega⟩ := by
  rw [Fin.sum_univ_add, Fin.sum_univ_add]
  rfl

theorem qs0_at (q : FVec Ideal S2048x1024 .f32) (h : Fin 8) (r : Fin 704) (d : Fin 128) :
    qs0 q h (ix2 r d) = q (ix2 ⟨r, by omega⟩ ⟨128 * h + d, by omega⟩) := by
  pointwise [qs0]

theorem sc0_at (q : FVec Ideal S2048x1024 .f32) (K : KV Ideal) (h : Fin 8) (r : Fin 704) (j : Fin 704) :
    sc0 (qs0 q h) ((kM.access (rk704 h 0 (i704_0 h))).read (Elt Ideal) K) (ix2 r j) = sS q K h ⟨r, by omega⟩ (kp0 j) := by
  pointwise [sc0]
  unfold sS
  refine congrArg (· * scl) (Finset.sum_congr rfl fun d _ => ?_)
  rw [qs0_at, rdK _ _ _ K _ h (kp0 j) d rfl (Nat.zero_add _) (Nat.zero_add _)]

theorem ctx0_at (q : FVec Ideal S2048x1024 .f32) (K V : KV Ideal) (h : Fin 8) (r : Fin 704) (d : Fin 128) :
    ctx0 (qs0 q h) ((kM.access (rk704 h 0 (i704_0 h))).read (Elt Ideal) K) ((vM.access (rk704 h 0 (i704_0 h))).read (Elt Ideal) V) (ix2 r d)
      = Soft.att (fun j : Fin 704 => sS q K h ⟨r, by omega⟩ (kp0 j)) (fun j : Fin 704 => V (ix3 h (kp0 j) d)) := by
  unfold ctx0
  pointwise
  unfold Soft.att
  refine Finset.sum_congr rfl fun j _ => ?_
  rw [sm0_at, rdV _ _ _ V _ h (kp0 j) d rfl (Nat.zero_add _) (Nat.zero_add _)]
  simp only [sc0_at]

theorem stepH0_at (q : FVec Ideal S2048x1024 .f32) (K V : KV Ideal) (W : WW Ideal) (acc : FVec Ideal S704x1024 .f32) (h : Fin 8) (r : Fin 704) (n : Fin 1024) :
    stepH0 q K V W acc h (ix2 r n) = acc (ix2 r n) + ∑ d : Fin 128,
      Soft.att (fun j : Fin 704 => sS q K h ⟨r, by omega⟩ (kp0 j)) (fun j : Fin 704 => V (ix3 h (kp0 j) d)) * W (ix2 ⟨128 * h + d, by omega⟩ n) := by
  unfold stepH0 upd0
  pointwise
  refine congrArg (acc (ix2 r n) + ·) (Finset.sum_congr rfl fun d _ => ?_)
  rw [rdW, ctx0_at]

theorem sum0_at (q : FVec Ideal S2048x1024 .f32) (K V : KV Ideal) (W : WW Ideal) (r : Fin 704) (n : Fin 1024) :
    sum0 q K V W (ix2 r n) = ∑ h : Fin 8, ∑ d : Fin 128,
      Soft.att (fun j : Fin 704 => sS q K h ⟨r, by omega⟩ (kp0 j)) (fun j : Fin 704 => V (ix3 h (kp0 j) d)) * W (ix2 ⟨128 * h + d, by omega⟩ n) := by
  rw [Fin.sum_univ_eight]
  unfold sum0 hs8
  simp only [List.foldl_cons, List.foldl_nil, stepH0_at]
  rw [show zero0 (F := Ideal) (ix2 r n) = 0 from Ideal.ofBits_zero_f32, zero_add]

theorem qs1_at (q : FVec Ideal S2048x1024 .f32) (h : Fin 8) (r : Fin 704) (d : Fin 128) :
    qs1 q h (ix2 r d) = q (ix2 ⟨704 + r, by omega⟩ ⟨128 * h + d, by omega⟩) := by
  pointwise [qs1]

theorem sc1_at (q : FVec Ideal S2048x1024 .f32) (K : KV Ideal) (h : Fin 8) (r : Fin 704) (j : Fin 768) :
    sc1 (qs1 q h) ((kM.access (rk640 h 1408 (i640_1408 h))).read (Elt Ideal) K) ((kM.access (rk64 h 0 (i64_0 h))).read (Elt Ideal) K) ((kM.access (rk704 h 704 (i704_704 h))).read (Elt Ideal) K) (ix2 r j) = sS q K h ⟨704 + r, by omega⟩ (kp1 r j) := by
  pointwise [sc1]
  unfold sS
  split_ifs <;> (refine congrArg (· * scl) (Finset.sum_congr rfl fun d _ => ?_)
                 rw [qs1_at, rdK _ _ _ K _ h (kp1 r j) d rfl (by simp only [kp1]; split_ifs <;> first | rfl | exact Nat.zero_add _ | omega) (Nat.zero_add _)])

theorem ctx1_at (q : FVec Ideal S2048x1024 .f32) (K V : KV Ideal) (h : Fin 8) (r : Fin 704) (d : Fin 128) :
    ctx1 (qs1 q h) ((kM.access (rk640 h 1408 (i640_1408 h))).read (Elt Ideal) K) ((kM.access (rk64 h 0 (i64_0 h))).read (Elt Ideal) K) ((kM.access (rk704 h 704 (i704_704 h))).read (Elt Ideal) K) ((vM.access (rk640 h 1408 (i640_1408 h))).read (Elt Ideal) V) ((vM.access (rk64 h 0 (i64_0 h))).read (Elt Ideal) V) ((vM.access (rk704 h 704 (i704_704 h))).read (Elt Ideal) V) (ix2 r d)
      = Soft.att (fun j : Fin 768 => sS q K h ⟨704 + r, by omega⟩ (kp1 r j)) (fun j : Fin 768 => V (ix3 h (kp1 r j) d)) := by
  unfold ctx1
  pointwise [wv1]
  unfold Soft.att
  refine Eq.trans ?_ (sum3 640 64 64 _).symm
  simp only [sm1_at, sc1_at]
  refine congrArg₂ (· + ·) (congrArg₂ (· + ·) ?_ ?_) ?_
  · refine Finset.sum_congr rfl fun j _ => congrArg₂ (· * ·) rfl (rdV _ _ _ V _ h _ d rfl ?_ (Nat.zero_add _))
    simp only [kp1]
    show 1408 + j.val = _
    split_ifs <;> omega
  · refine Finset.sum_congr rfl fun j _ => congrArg₂ (· * ·) rfl (rdV _ _ _ V _ h _ d rfl ?_ (Nat.zero_add _))
    simp only [kp1]
    show 0 + j.val = _
    split_ifs <;> omega
  · refine Finset.sum_congr rfl fun j _ => congrArg₂ (· * ·) rfl (rdV _ _ _ V _ h _ d rfl ?_ (Nat.zero_add _))
    simp only [kp1]
    show 704 + (r.val / 64 * 64 + j.val) = _
    split_ifs <;> omega

theorem stepH1_at (q : FVec Ideal S2048x1024 .f32) (K V : KV Ideal) (W : WW Ideal) (acc : FVec Ideal S704x1024 .f32) (h : Fin 8) (r : Fin 704) (n : Fin 1024) :
    stepH1 q K V W acc h (ix2 r n) = acc (ix2 r n) + ∑ d : Fin 128,
      Soft.att (fun j : Fin 768 => sS q K h ⟨704 + r, by omega⟩ (kp1 r j)) (fun j : Fin 768 => V (ix3 h (kp1 r j) d)) * W (ix2 ⟨128 * h + d, by omega⟩ n) := by
  unfold stepH1 upd1
  pointwise
  refine congrArg (acc (ix2 r n) + ·) (Finset.sum_congr rfl fun d _ => ?_)
  rw [rdW, ctx1_at]

theorem sum1_at (q : FVec Ideal S2048x1024 .f32) (K V : KV Ideal) (W : WW Ideal) (r : Fin 704) (n : Fin 1024) :
    sum1 q K V W (ix2 r n) = ∑ h : Fin 8, ∑ d : Fin 128,
      Soft.att (fun j : Fin 768 => sS q K h ⟨704 + r, by omega⟩ (kp1 r j)) (fun j : Fin 768 => V (ix3 h (kp1 r j) d)) * W (ix2 ⟨128 * h + d, by omega⟩ n) := by
  rw [Fin.sum_univ_eight]
  unfold sum1 hs8
  simp only [List.foldl_cons, List.foldl_nil, stepH1_at]
  rw [show zero1 (F := Ideal) (ix2 r n) = 0 from Ideal.ofBits_zero_f32, zero_add]

theorem qs2_at (q : FVec Ideal S2048x1024 .f32) (h : Fin 8) (r : Fin 640) (d : Fin 128) :
    qs2 q h (ix2 r d) = q (ix2 ⟨1408 + r, by omega⟩ ⟨128 * h + d, by omega⟩) := by
  pointwise [qs2]

theorem sc2_at (q : FVec Ideal S2048x1024 .f32) (K : KV Ideal) (h : Fin 8) (r : Fin 640) (j : Fin 832) :
    sc2 (qs2 q h) ((kM.access (rk704 h 704 (i704_704 h))).read (Elt Ideal) K) ((kM.access (rk64 h 0 (i64_0 h))).read (Elt Ideal) K) ((kM.access (rk640 h 1408 (i640_1408 h))).read (Elt Ideal) K) (ix2 r j) = sS q K h ⟨1408 + r, by omega⟩ (kp2 r j) := by
  pointwise [sc2]
  unfold sS
  split_ifs <;> (refine congrArg (· * scl) (Finset.sum_congr rfl fun d _ => ?_)
                 rw [qs2_at, rdK _ _ _ K _ h (kp2 r j) d rfl (by simp only [kp2]; split_ifs <;> first | rfl | exact Nat.zero_add _ | omega) (Nat.zero_add _)])

theorem ctx2_at (q : FVec Ideal S2048x1024 .f32) (K V : KV Ideal) (h : Fin 8) (r : Fin 640) (d : Fin 128) :
    ctx2 (qs2 q h) ((kM.access (rk704 h 704 (i704_704 h))).read (Elt Ideal) K) ((kM.access (rk64 h 0 (i64_0 h))).read (Elt Ideal) K) ((kM.access (rk640 h 1408 (i640_1408 h))).read (Elt Ideal) K) ((vM.access (rk704 h 704 (i704_704 h))).read (Elt Ideal) V) ((vM.access (rk64 h 0 (i64_0 h))).read (Elt Ideal) V) ((vM.access (rk640 h 1408 (i640_1408 h))).read (Elt Ideal) V) (ix2 r d)
      = Soft.att (fun j : Fin 832 => sS q K h ⟨1408 + r, by omega⟩ (kp2 r j)) (fun j : Fin 832 => V (ix3 h (kp2 r j) d)) := by
  unfold ctx2
  pointwise [wv2]
  unfold Soft.att
  refine Eq.trans ?_ (sum3 704 64 64 _).symm
  simp only [sm2_at, sc2_at]
  refine congrArg₂ (· + ·) (congrArg₂ (· + ·) ?_ ?_) ?_
  · refine Finset.sum_congr rfl fun j _ => congrArg₂ (· * ·) rfl (rdV _ _ _ V _ h _ d rfl ?_ (Nat.zero_add _))
    simp only [kp2]
    show 704 + j.val = _
    split_ifs <;> omega
  · refine Finset.sum_congr rfl fun j _ => congrArg₂ (· * ·) rfl (rdV _ _ _ V _ h _ d rfl ?_ (Nat.zero_add _))
    simp only [kp2]
    show 0 + j.val = _
    split_ifs <;> omega
  · refine Finset.sum_congr rfl fun j _ => congrArg₂ (· * ·) rfl (rdV _ _ _ V _ h _ d rfl ?_ (Nat.zero_add _))
    simp only [kp2]
    show 1408 + (r.val / 64 * 64 + j.val) = _
    split_ifs <;> omega

theorem stepH2_at (q : FVec Ideal S2048x1024 .f32) (K V : KV Ideal) (W : WW Ideal) (acc : FVec Ideal S640x1024 .f32) (h : Fin 8) (r : Fin 640) (n : Fin 1024) :
    stepH2 q K V W acc h (ix2 r n) = acc (ix2 r n) + ∑ d : Fin 128,
      Soft.att (fun j : Fin 832 => sS q K h ⟨1408 + r, by omega⟩ (kp2 r j)) (fun j : Fin 832 => V (ix3 h (kp2 r j) d)) * W (ix2 ⟨128 * h + d, by omega⟩ n) := by
  unfold stepH2 upd2
  pointwise
  refine congrArg (acc (ix2 r n) + ·) (Finset.sum_congr rfl fun d _ => ?_)
  rw [rdW, ctx2_at]

theorem sum2_at (q : FVec Ideal S2048x1024 .f32) (K V : KV Ideal) (W : WW Ideal) (r : Fin 640) (n : Fin 1024) :
    sum2 q K V W (ix2 r n) = ∑ h : Fin 8, ∑ d : Fin 128,
      Soft.att (fun j : Fin 832 => sS q K h ⟨1408 + r, by omega⟩ (kp2 r j)) (fun j : Fin 832 => V (ix3 h (kp2 r j) d)) * W (ix2 ⟨128 * h + d, by omega⟩ n) := by
  rw [Fin.sum_univ_eight]
  unfold sum2 hs8
  simp only [List.foldl_cons, List.foldl_nil, stepH2_at]
  rw [show zero2 (F := Ideal) (ix2 r n) = 0 from Ideal.ofBits_zero_f32, zero_add]

end Cert.KernelIdeal.Talk
-- ==== Proof.Named.lean ====
module

public import proofs.«01_k».proof.Proof.Gen.ReferenceIdeal.Run
public import Idealize.ShloMosaic.Lib.Pointwise

@[expose] public section

set_option maxRecDepth 65536

noncomputable section

/-! The reference's result, in named steps. -/

namespace Cert.ReferenceIdeal.Named

open Cert.ReferenceIdeal Cert.ReferenceIdeal.Gen
open Idealize.ShloMosaic Idealize.SL.Sem

/-- The block each position lies in. -/
def blk : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- Which block pairs see each other: the remainder by three. -/
def rem3 (bk : IVec S2048 32) : IVec S2048x2048 32 :=
  select (andi (cmpi .ne (cmpi .slt (Host.remsi (addi (broadcastInDim S2048x2048 ![0, 1] bcast_S2048x1_S2048x2048_0_1 (broadcastInDim S2048x1 ![0] bcast_S2048_S2048x1_0 bk)) (broadcastInDim S2048x2048 ![0, 1] bcast_S1x2048_S2048x2048_0_1 (broadcastInDim S1x2048 ![1] bcast_S2048_S1x2048_1 bk))) (broadcastInDim S2048x2048 ![] bcast_S_S2048x2048 (select (cmpi .eq (id (constantI S_ 32 3#32)) (constantI S_ 32 0#32)) (constantI S_ 32 1#32) (id (constantI S_ 32 3#32))))) (broadcastInDim S2048x2048 ![] bcast_S_S2048x2048 (constantI S_ 32 0#32))) (broadcastInDim S2048x2048 ![] bcast_S_S2048x2048 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S2048x2048 ![0, 1] bcast_S2048x1_S2048x2048_0_1 (broadcastInDim S2048x1 ![0] bcast_S2048_S2048x1_0 bk)) (broadcastInDim S2048x2048 ![0, 1] bcast_S1x2048_S2048x2048_0_1 (broadcastInDim S1x2048 ![1] bcast_S2048_S1x2048_1 bk))) (broadcastInDim S2048x2048 ![] bcast_S_S2048x2048 (select (cmpi .eq (id (constantI S_ 32 3#32)) (constantI S_ 32 0#32)) (constantI S_ 32 1#32) (id (constantI S_ 32 3#32))))) (broadcastInDim S2048x2048 ![] bcast_S_S2048x2048 (constantI S_ 32 0#32)))) (addi (Host.remsi (addi (broadcastInDim S2048x2048 ![0, 1] bcast_S2048x1_S2048x2048_0_1 (broadcastInDim S2048x1 ![0] bcast_S2048_S2048x1_0 bk)) (broadcastInDim S2048x2048 ![0, 1] bcast_S1x2048_S2048x2048_0_1 (broadcastInDim S1x2048 ![1] bcast_S2048_S1x2048_1 bk))) (broadcastInDim S2048x2048 ![] bcast_S_S2048x2048 (select (cmpi .eq (id (constantI S_ 32 3#32)) (constantI S_ 32 0#32)) (constantI S_ 32 1#32) (id (constantI S_ 32 3#32))))) (broadcastInDim S2048x2048 ![] bcast_S_S2048x2048 (select (cmpi .eq (id (constantI S_ 32 3#32)) (constantI S_ 32 0#32)) (constantI S_ 32 1#32) (id (constantI S_ 32 3#32))))) (Host.remsi (addi (broadcastInDim S2048x2048 ![0, 1] bcast_S2048x1_S2048x2048_0_1 (broadcastInDim S2048x1 ![0] bcast_S2048_S2048x1_0 bk)) (broadcastInDim S2048x2048 ![0, 1] bcast_S1x2048_S2048x2048_0_1 (broadcastInDim S1x2048 ![1] bcast_S2048_S1x2048_1 bk))) (broadcastInDim S2048x2048 ![] bcast_S_S2048x2048 (select (cmpi .eq (id (constantI S_ 32 3#32)) (constantI S_ 32 0#32)) (constantI S_ 32 1#32) (id (constantI S_ 32 3#32)))))

/-- Which key each query sees. -/
def maskOf (bk : IVec S2048 32) (r3 : IVec S2048x2048 32) : IVec S2048x2048 1 :=
  ori (ori (cmpi .eq (broadcastInDim S2048x2048 ![0, 1] bcast_S2048x1_S2048x2048_0_1 (broadcastInDim S2048x1 ![0] bcast_S2048_S2048x1_0 bk)) (broadcastInDim S2048x2048 ![0, 1] bcast_S1x2048_S2048x2048_0_1 (broadcastInDim S1x2048 ![1] bcast_S2048_S1x2048_1 bk))) (broadcastInDim S2048x2048 ![0, 1] bcast_S1x2048_S2048x2048_0_1 (cmpi .eq (broadcastInDim S1x2048 ![1] bcast_S2048_S1x2048_1 bk) (broadcastInDim S1x2048 ![] bcast_S_S1x2048 (constantI S_ 32 0#32))))) (cmpi .eq r3 (broadcastInDim S2048x2048 ![] bcast_S_S2048x2048 (constantI S_ 32 0#32)))

/-- The reference's mask. -/
def mask : IVec S2048x2048 1 := maskOf blk (rem3 blk)

/-- Whether a query sees any key. -/
def keepOf (mk : IVec S2048x2048 1) : IVec S2048 1 :=
  Host.reduce IntOp.ori mk (constantI S_ 1 0#1) reducesTo_S2048x2048_S2048_d1 h_S_

/-- Whether a query sees any key of the reference's mask. -/
def keep : IVec S2048 1 := keepOf mask

/-- The queries. -/
def qry (x : FVec Ideal S1x2048x1024 .f32) (wq : FVec Ideal S1024x16384 .f32) : FVec Ideal S1x2048x128x128 .f32 :=
  shapeCast _ (Host.dotGeneral dot_S1x2048x1024_S1024x16384_S1x2048x16384_2_0_01_1_n_n none x wq) shapeCasts_S1x2048x16384_S1x2048x128x128

/-- The masked scores. -/
def sco (mk : IVec S2048x2048 1) (q : FVec Ideal S1x2048x128x128 .f32) (k : FVec Ideal S1x2048x128x128 .f32) : FVec Ideal S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 mk)) (mulf (Host.dotGeneral dot_S1x2048x128x128_S1x2048x128x128_S1x128x2048x2048_3_3_1_1_02_02 none q k) (broadcastInDim S1x128x2048x2048 ![] bcast_S_S1x128x2048x2048 (constant S_ .f32 0x3DB504F3#32))) (broadcastInDim S1x128x2048x2048 ![] bcast_S_S1x128x2048x2048 (id (constant S_ .f32 0xFF800000#32)))

/-- A row's greatest score. -/
def top (s : FVec Ideal S1x128x2048x2048 .f32) : FVec Ideal S1x128x2048 .f32 :=
  Host.reduce FloatOps.maximumf s (constant S_ .f32 0xFF800000#32) reducesTo_S1x128x2048x2048_S1x128x2048_d3 h_S_

/-- The exponentials of the scores less the row's greatest. -/
def ex (t : FVec Ideal S1x128x2048 .f32) (s : FVec Ideal S1x128x2048x2048 .f32) : FVec Ideal S1x128x2048x2048 .f32 :=
  Host.exp (subf s (broadcastInDim S1x128x2048x2048 ![0, 1, 2, 3] bcast_S1x128x2048x1_S1x128x2048x2048_0_1_2_3 (broadcastInDim S1x128x2048x1 ![0, 1, 2] bcast_S1x128x2048_S1x128x2048x1_0_1_2 t)))

/-- A row's sum. -/
def tot (e : FVec Ideal S1x128x2048x2048 .f32) : FVec Ideal S1x128x2048 .f32 :=
  Host.reduceAdd e (constant S_ .f32 0x00000000#32) reducesTo_S1x128x2048x2048_S1x128x2048_d3 h_S_

/-- The weights. -/
def wt (kp : IVec S2048 1) (z : FVec Ideal S1x128x2048 .f32) (e : FVec Ideal S1x128x2048x2048 .f32) : FVec Ideal S1x128x2048x2048 .f32 :=
  select (broadcastInDim S1x128x2048x2048 ![0, 1, 2, 3] bcast_S1x1x2048x1_S1x128x2048x2048_0_1_2_3 (broadcastInDim S1x1x2048x1 ![2] bcast_S2048_S1x1x2048x1_2 kp)) (Host.divf e (broadcastInDim S1x128x2048x2048 ![0, 1, 2, 3] bcast_S1x128x2048x1_S1x128x2048x2048_0_1_2_3 (select (broadcastInDim S1x128x2048x1 ![0, 1, 2, 3] bcast_S1x1x2048x1_S1x128x2048x1_0_1_2_3 (broadcastInDim S1x1x2048x1 ![2] bcast_S2048_S1x1x2048x1_2 kp)) (broadcastInDim S1x128x2048x1 ![0, 1, 2] bcast_S1x128x2048_S1x128x2048x1_0_1_2 z) (broadcastInDim S1x128x2048x1 ![] bcast_S_S1x128x2048x1 (id (constant S_ .f32 0x3F800000#32)))))) (broadcastInDim S1x128x2048x2048 ![] bcast_S_S1x128x2048x2048 (id (constant S_ .f32 0x00000000#32)))

/-- The weighted values, heads side by side. -/
def cx (v : FVec Ideal S1x2048x128x128 .f32) (w : FVec Ideal S1x128x2048x2048 .f32) : FVec Ideal S1x2048x16384 .f32 :=
  shapeCast _ (transpose S1x2048x128x128 [0, 3, 1, 2] (Host.dotGeneral dot_S1x2048x128x128_S1x128x2048x2048_S1x128x128x2048_1_3_3_2_02_01 none v w) transposes_S1x128x128x2048_S1x2048x128x128_0_3_1_2) shapeCasts_S1x2048x128x128_S1x2048x16384

/-- The projected output. -/
def outp (c : FVec Ideal S1x2048x16384 .f32) (wo : FVec Ideal S16384x1024 .f32) : FVec Ideal S1x2048x1024 .f32 :=
  Host.dotGeneral dot_S1x2048x16384_S16384x1024_S1x2048x1024_2_0_01_1_n_n none c wo

/-- The whole result. -/
def whole (x : FVec Ideal S1x2048x1024 .f32) (wq : FVec Ideal S1024x16384 .f32) (k v : FVec Ideal S1x2048x128x128 .f32)
    (wo : FVec Ideal S16384x1024 .f32) : FVec Ideal S1x2048x1024 .f32 :=
  outp (cx v (wt keep (tot (ex (top (sco mask (qry x wq) k)) (sco mask (qry x wq) k))) (ex (top (sco mask (qry x wq) k)) (sco mask (qry x wq) k)))) wo

theorem res_named (m : (ℓ : Loc nD τ sig) → Buf (Elt Ideal) ℓ) (c : Dev nD) :
    Value.res_main_v44 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.ReferenceIdeal.Named
-- ==== Proof.RefAt.lean ====
module

public import proofs.«01_k».proof.Proof.Named
public import proofs.«01_k».proof.Proof.Soft

@[expose] public section

set_option maxRecDepth 65536

noncomputable section

/-! The reference's steps read at an index. -/

namespace Cert.ReferenceIdeal.Named

open Cert.ReferenceIdeal Cert.ReferenceIdeal.Gen
open Idealize.ShloMosaic Idealize.SL.Sem

theorem outp_at (c : FVec Ideal S1x2048x16384 .f32) (wo : FVec Ideal S16384x1024 .f32) (i : Fin 2048) (n : Fin 1024) :
    outp c wo (ix3 0 i n) = ∑ f : Fin 16384, c (ix3 0 i f) * wo (ix2 f n) := by
  pointwise [outp]

theorem cx_at (v : FVec Ideal S1x2048x128x128 .f32) (w : FVec Ideal S1x128x2048x2048 .f32) (i : Fin 2048) (f : Fin 16384) :
    cx v w (ix3 0 i f) = ∑ j : Fin 2048, v (ix4 0 j ⟨f / 128, by omega⟩ ⟨f % 128, by omega⟩) * w (ix4 0 ⟨f / 128, by omega⟩ i j) := by
  pointwise [cx]

theorem ofBits_bot : Ideal.ofBits .f32 4286578688#32 = ⊥ := by simp [Ideal.ofBits, Ideal.ieee]

/-- The scale of the scores is a real number. -/
theorem scale_real : ∃ r : ℝ, Ideal.ofBits .f32 1035273459#32 = r := by
  simp only [Ideal.ofBits, Ideal.ieee]
  rw [if_neg (by decide), if_neg (by decide)]
  exact ⟨_, rfl⟩

theorem wt_at (kp : IVec S2048 1) (z : FVec Ideal S1x128x2048 .f32) (e : FVec Ideal S1x128x2048x2048 .f32)
    (h : Fin 128) (i j : Fin 2048) (hk : kp (ix1 i) = 1#1) :
    wt kp z e (ix4 0 h i j) = Ideal.div (e (ix4 0 h i j)) (z (ix3 0 h i)) := by
  pointwise [wt]
  rw [hk]
  rfl

theorem tot_at (e : FVec Ideal S1x128x2048x2048 .f32) (h : Fin 128) (i : Fin 2048) :
    tot e (ix3 0 h i) = ∑ j : Fin 2048, e (ix4 0 h i j) := by
  pointwise [tot]

theorem top_at (s : FVec Ideal S1x128x2048x2048 .f32) (h : Fin 128) (i : Fin 2048) :
    top s (ix3 0 h i) = Soft.top fun j : Fin 2048 => s (ix4 0 h i j) := by
  pointwise [top]
  rw [ofBits_bot]
  rfl

theorem ex_at (t : FVec Ideal S1x128x2048 .f32) (s : FVec Ideal S1x128x2048x2048 .f32) (h : Fin 128) (i j : Fin 2048) :
    ex t s (ix4 0 h i j) = Ideal.exp (s (ix4 0 h i j) - t (ix3 0 h i)) := by
  pointwise [ex]

theorem sco_at (mk : IVec S2048x2048 1) (q k : FVec Ideal S1x2048x128x128 .f32) (h : Fin 128) (i j : Fin 2048) :
    sco mk q k (ix4 0 h i j)
      = Scalar.select (mk (ix2 i j)) ((∑ d : Fin 128, q (ix4 0 i h d) * k (ix4 0 j h d)) * Ideal.ofBits .f32 1035273459#32) ⊥ := by
  pointwise [sco]
  rw [← ofBits_bot]
  rfl

theorem qry_at (x : FVec Ideal S1x2048x1024 .f32) (wq : FVec Ideal S1024x16384 .f32) (i : Fin 2048) (h d : Fin 128) :
    qry x wq (ix4 0 i h d) = ∑ t : Fin 1024, x (ix3 0 i t) * wq (ix2 t ⟨h * 128 + d, by omega⟩) := by
  pointwise [qry]

theorem blk_at (i : Fin 2048) : blk (ix1 i) = BitVec.ofNat 32 (i / 64) := by
  pointwise [blk, id]
  revert i
  decide +kernel

theorem rem3_at (bk : IVec S2048 32) (i j : Fin 2048) (a b : Fin 32) (ha : bk (ix1 i) = BitVec.ofNat 32 a)
    (hb : bk (ix1 j) = BitVec.ofNat 32 b) : rem3 bk (ix2 i j) = BitVec.ofNat 32 ((a + b) % 3) := by
  pointwise [rem3, id]
  rw [ha, hb]
  clear ha hb
  revert a b
  decide +kernel

theorem maskOf_at (bk : IVec S2048 32) (r3 : IVec S2048x2048 32) (i j : Fin 2048) (a b : Fin 32) (ha : bk (ix1 i) = BitVec.ofNat 32 a)
    (hb : bk (ix1 j) = BitVec.ofNat 32 b) (hr : r3 (ix2 i j) = BitVec.ofNat 32 ((a + b) % 3)) :
    maskOf bk r3 (ix2 i j) = if (a : ℕ) = b ∨ (b : ℕ) = 0 ∨ (a + b : ℕ) % 3 = 0 then 1#1 else 0#1 := by
  pointwise [maskOf]
  rw [ha, hb, hr]
  clear ha hb hr
  revert a b
  decide +kernel

/-- Whether the query at `i` sees the key at `j`. -/
def sees (i j : ℕ) : Prop := i / 64 = j / 64 ∨ j / 64 = 0 ∨ (i / 64 + j / 64) % 3 = 0

instance (i j : ℕ) : Decidable (sees i j) := by unfold sees; infer_instance

theorem mask_at (i j : Fin 2048) : mask (ix2 i j) = if sees i j then 1#1 else 0#1 :=
  maskOf_at _ _ i j ⟨i / 64, by omega⟩ ⟨j / 64, by omega⟩ (blk_at i) (blk_at j)
    (rem3_at _ i j ⟨i / 64, by omega⟩ ⟨j / 64, by omega⟩ (blk_at i) (blk_at j))

theorem ori_one (y : BitVec 1) : IntOp.ori 1#1 y = 1#1 := by revert y; decide

theorem keepOf_at (mk : IVec S2048x2048 1) (i : Fin 2048) (j : Fin 2048) (h : mk (ix2 i j) = 1#1) : keepOf mk (ix1 i) = 1#1 := by
  pointwise [keepOf]
  rw [← Finset.insert_erase (Finset.mem_univ j), Finset.fold_insert (Finset.notMem_erase _ _), h]
  exact ori_one _

theorem keep_at (i : Fin 2048) : keep (ix1 i) = 1#1 :=
  keepOf_at _ i 0 (by rw [mask_at, if_pos]; exact Or.inr (Or.inl rfl))

/-- The score of a query against a key, at a head. -/
def score (x : FVec Ideal S1x2048x1024 .f32) (wq : FVec Ideal S1024x16384 .f32) (k : FVec Ideal S1x2048x128x128 .f32)
    (h : Fin 128) (i j : Fin 2048) : EReal :=
  (∑ d : Fin 128, (∑ t : Fin 1024, x (ix3 0 i t) * wq (ix2 t ⟨h * 128 + d, by omega⟩) : EReal) * k (ix4 0 j h d))
    * Ideal.ofBits .f32 1035273459#32

theorem masked_at (x : FVec Ideal S1x2048x1024 .f32) (wq : FVec Ideal S1024x16384 .f32) (k : FVec Ideal S1x2048x128x128 .f32)
    (h : Fin 128) (i j : Fin 2048) :
    sco mask (qry x wq) k (ix4 0 h i j) = if sees i j then score x wq k h i j else ⊥ := by
  rw [sco_at, mask_at]
  simp only [qry_at]
  by_cases hs : sees i j
  · rw [if_pos hs, if_pos hs]; rfl
  · rw [if_neg hs, if_neg hs]; rfl

theorem weight_at (s : FVec Ideal S1x128x2048x2048 .f32) (h : Fin 128) (i j : Fin 2048) :
    wt keep (tot (ex (top s) s)) (ex (top s) s) (ix4 0 h i j) = Soft.wgt (fun j : Fin 2048 => s (ix4 0 h i j)) j := by
  rw [wt_at _ _ _ _ _ _ (keep_at i), tot_at]
  simp only [ex_at, top_at]
  rfl

theorem whole_at (x : FVec Ideal S1x2048x1024 .f32) (wq : FVec Ideal S1024x16384 .f32) (k v : FVec Ideal S1x2048x128x128 .f32)
    (wo : FVec Ideal S16384x1024 .f32) (i : Fin 2048) (n : Fin 1024) :
    whole x wq k v wo (ix3 0 i n)
      = ∑ f : Fin 16384, Soft.att (fun j : Fin 2048 => if sees i j then score x wq k ⟨f / 128, by omega⟩ i j else ⊥)
          (fun j : Fin 2048 => v (ix4 0 j ⟨f / 128, by omega⟩ ⟨f % 128, by omega⟩)) * wo (ix2 f n) := by
  unfold whole
  rw [outp_at]
  refine Finset.sum_congr rfl fun f _ => ?_
  rw [cx_at]
  congr 1
  unfold Soft.att
  refine Finset.sum_congr rfl fun j _ => ?_
  rw [weight_at, mul_comm]
  simp only [masked_at]

end Cert.ReferenceIdeal.Named
-- ==== Proof.Keys.lean ====
module

public import proofs.«01_k».proof.Proof.Read
public import proofs.«01_k».proof.Proof.RefAt

@[expose] public section

noncomputable section

/-! The keys each group's rows look at are those the mask selects. -/

namespace Cert.KernelIdeal.Talk

open Cert.KernelIdeal Cert.KernelIdeal.Gen
open Cert.ReferenceIdeal.Named (sees)
open Idealize.ShloMosaic

theorem org_lo (j : ℕ) (h : j < 704) : org j = 3 * (j / 64) * 64 + j % 64 := by
  unfold org ob; split_ifs <;> omega
theorem org_mid (j : ℕ) (h : j < 704) : org (704 + j) = (1 + 3 * (j / 64)) * 64 + j % 64 := by
  unfold org ob; split_ifs <;> omega
theorem org_hi (j : ℕ) (h : j < 640) : org (1408 + j) = (2 + 3 * (j / 64)) * 64 + j % 64 := by
  unfold org ob; split_ifs <;> omega

/-- The row at a place. -/
def orgF (r : Fin 2048) : Fin 2048 := ⟨org r, org_lt r r.2⟩

theorem keys0_inj : Function.Injective fun j : Fin 704 => orgF (kp0 j) := by
  intro a b h
  have h' : org a.val = org b.val := congrArg Fin.val h
  rw [org_lo _ a.2, org_lo _ b.2] at h'
  exact Fin.ext (by omega)

theorem keys0 (r : Fin 704) (y : Fin 2048) : sees (org r) y ↔ ∃ j : Fin 704, orgF (kp0 j) = y := by
  unfold sees
  rw [org_lo _ r.2]
  constructor
  · intro h
    refine ⟨⟨y / 64 / 3 * 64 + y % 64, by omega⟩, Fin.ext ?_⟩
    show org (y.val / 64 / 3 * 64 + y.val % 64) = y.val
    rw [org_lo _ (by omega)]
    omega
  · rintro ⟨j, rfl⟩
    show _ ∨ org j.val / 64 = 0 ∨ (_ + org j.val / 64) % 3 = 0
    rw [org_lo _ j.2]
    omega

theorem kv1 (r : Fin 704) (j : Fin 768) : (orgF (kp1 r j)).val
    = if j.val < 640 then (2 + 3 * (j.val / 64)) * 64 + j.val % 64 else if j.val - 640 < 64 then j.val - 640 else (1 + 3 * (r.val / 64)) * 64 + (j.val - 704) := by
  show org (kp1 r j).val = _
  simp only [kp1]
  split_ifs with h1 h2
  · rw [org_hi _ h1]
  · rw [org_lo _ (by omega)]; omega
  · rw [org_mid _ (by omega)]; omega

theorem kv2 (r : Fin 640) (j : Fin 832) : (orgF (kp2 r j)).val
    = if j.val < 704 then (1 + 3 * (j.val / 64)) * 64 + j.val % 64 else if j.val - 704 < 64 then j.val - 704 else (2 + 3 * (r.val / 64)) * 64 + (j.val - 768) := by
  show org (kp2 r j).val = _
  simp only [kp2]
  split_ifs with h1 h2
  · rw [org_mid _ h1]
  · rw [org_lo _ (by omega)]; omega
  · rw [org_hi _ (by omega)]; omega

theorem keys1_inj (r : Fin 704) : Function.Injective fun j : Fin 768 => orgF (kp1 r j) := by
  intro a b h
  have h' : (orgF (kp1 r a)).val = (orgF (kp1 r b)).val := congrArg Fin.val h
  rw [kv1, kv1] at h'
  apply Fin.ext
  split_ifs at h' <;> omega

theorem keys2_inj (r : Fin 640) : Function.Injective fun j : Fin 832 => orgF (kp2 r j) := by
  intro a b h
  have h' : (orgF (kp2 r a)).val = (orgF (kp2 r b)).val := congrArg Fin.val h
  rw [kv2, kv2] at h'
  apply Fin.ext
  split_ifs at h' <;> omega

theorem keys1 (r : Fin 704) (y : Fin 2048) : sees (org (704 + r)) y ↔ ∃ j : Fin 768, orgF (kp1 r j) = y := by
  unfold sees
  rw [org_mid _ r.2]
  constructor
  · intro h
    by_cases h2 : y.val / 64 % 3 = 2
    · refine ⟨⟨y / 64 / 3 * 64 + y % 64, by omega⟩, Fin.ext ?_⟩
      rw [kv1]
      dsimp only
      split_ifs <;> omega
    · by_cases h0 : y.val / 64 = 0
      · refine ⟨⟨640 + y, by omega⟩, Fin.ext ?_⟩
        rw [kv1]
        dsimp only
        split_ifs <;> omega
      · refine ⟨⟨704 + y % 64, by omega⟩, Fin.ext ?_⟩
        rw [kv1]
        dsimp only
        split_ifs <;> omega
  · rintro ⟨j, rfl⟩
    rw [kv1]
    split_ifs <;> omega

theorem keys2 (r : Fin 640) (y : Fin 2048) : sees (org (1408 + r)) y ↔ ∃ j : Fin 832, orgF (kp2 r j) = y := by
  unfold sees
  rw [org_hi _ r.2]
  constructor
  · intro h
    by_cases h2 : y.val / 64 % 3 = 1
    · refine ⟨⟨y / 64 / 3 * 64 + y % 64, by omega⟩, Fin.ext ?_⟩
      rw [kv2]
      dsimp only
      split_ifs <;> omega
    · by_cases h0 : y.val / 64 = 0
      · refine ⟨⟨704 + y, by omega⟩, Fin.ext ?_⟩
        rw [kv2]
        dsimp only
        split_ifs <;> omega
      · refine ⟨⟨768 + y % 64, by omega⟩, Fin.ext ?_⟩
        rw [kv2]
        dsimp only
        split_ifs <;> omega
  · rintro ⟨j, rfl⟩
    rw [kv2]
    split_ifs <;> omega

end Cert.KernelIdeal.Talk
-- ==== Proof.Equal.lean ====
module

public import proofs.«01_k».proof.Proof.Keys
public import Idealize.ShloMosaic.Lib.Layout

@[expose] public section

set_option maxRecDepth 65536

noncomputable section

/-! The kernel's result is the reference's. -/

namespace Cert.KernelIdeal.Talk

open Cert.KernelIdeal Cert.KernelIdeal.Gen
open Cert.ReferenceIdeal.Named (sees score whole whole_at scale_real)
open Idealize.ShloMosaic Idealize.SL.Sem

/-- The head of a device. -/
def hd (c : Dev nD) (h : Fin 8) : Fin 128 := ⟨c.val * 8 + h, by have : c.val < 16 := c.isLt; omega⟩

theorem block_at (k : FVec Ideal ⟨4, ![1, 2048, 128, 128]⟩ .f32) (c : Dev nD) (j : Fin 2048) (h : Fin 8) (d : Fin 128) :
    Layout.block ⟨4, ![1, 2048, 8, 128]⟩ ⟨4, ![1, 2048, 128, 128]⟩ 2 16 c k (by decide) (ix4 0 j h d) = k (ix4 0 j (hd c h) d) := by
  refine congrArg k (funext fun a => Fin.ext ?_)
  match a with
  | 0 => rfl
  | 1 => rfl
  | 2 => rfl
  | 3 => rfl

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_sum {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, hr⟩ := ih
    obtain ⟨t, ht⟩ := h a
    exact ⟨t + r, by rw [Finset.sum_insert ha, hr, ht, EReal.coe_add]⟩

section
variable (a0 : FVec Ideal ⟨2, ![704, 1024]⟩ .f32) (a1 : FVec Ideal ⟨2, ![704, 1024]⟩ .f32) (a2 : FVec Ideal ⟨2, ![640, 1024]⟩ .f32) (i : AccIdx)

theorem lay0 (r : Fin 704) (n : Fin 1024) (h : rowBlk i % 3 = 0) (hr : rowIn i = r.val) (hn : i 2 = n) : layOut a0 a1 a2 i = a0 (ix2 r n) := by
  obtain ⟨r, hl⟩ := r
  subst hn
  simp only [] at hr
  subst hr
  unfold layOut
  rw [if_pos h]
  rfl
theorem lay1 (r : Fin 704) (n : Fin 1024) (h : rowBlk i % 3 = 1) (hr : rowIn i = r.val) (hn : i 2 = n) : layOut a0 a1 a2 i = a1 (ix2 r n) := by
  obtain ⟨r, hl⟩ := r
  subst hn
  simp only [] at hr
  subst hr
  unfold layOut
  rw [if_neg (by omega), if_pos h]
  rfl
theorem lay2 (r : Fin 640) (n : Fin 1024) (h : rowBlk i % 3 = 2) (hr : rowIn i = r.val) (hn : i 2 = n) : layOut a0 a1 a2 i = a2 (ix2 r n) := by
  obtain ⟨r, hl⟩ := r
  subst hn
  simp only [] at hr
  subst hr
  unfold layOut
  rw [if_neg (by omega), if_neg (by omega), dif_pos h]
  rfl
end

theorem sum_heads (g : Fin 16384 → EReal) :
    ∑ f, g f = ∑ c : Fin 16, ∑ h : Fin 8, ∑ d : Fin 128, g ⟨c.val * 1024 + (128 * h.val + d.val), by omega⟩ := by
  rw [← (finProdFinEquiv (m := 16) (n := 1024)).sum_comp g, Fintype.sum_prod_type]
  refine Finset.sum_congr rfl fun c _ => ?_
  rw [← (finProdFinEquiv (m := 8) (n := 128)).sum_comp, Fintype.sum_prod_type]
  refine Finset.sum_congr rfl fun h _ => Finset.sum_congr rfl fun d _ => congrArg g (Fin.ext ?_)
  show (d.val + 128 * h.val) + 1024 * c.val = c.val * 1024 + (128 * h.val + d.val)
  omega

section
variable (x : FVec Ideal S1x2048x1024 .f32) (wq : FVec Ideal S1024x16384 .f32) (k v : FVec Ideal ⟨4, ![1, 2048, 128, 128]⟩ .f32)
  (wo : FVec Ideal S16384x1024 .f32)
  (m : (ℓ : Loc nD τ sig) → Buf (Elt Ideal) ℓ)
  (hx : ∀ c : Dev nD, m ((c.tc : Thread nD τ).loc main_arg0) = x)
  (hq : ∀ c : Dev nD, m ((c.tc : Thread nD τ).loc main_arg1) = wq)
  (hk : ∀ c : Dev nD, m ((c.tc : Thread nD τ).loc main_arg2) = Layout.block ⟨4, ![1, 2048, 8, 128]⟩ ⟨4, ![1, 2048, 128, 128]⟩ 2 16 c k (by decide))
  (hv : ∀ c : Dev nD, m ((c.tc : Thread nD τ).loc main_arg3) = Layout.block ⟨4, ![1, 2048, 8, 128]⟩ ⟨4, ![1, 2048, 128, 128]⟩ 2 16 c v (by decide))
  (ho : ∀ c : Dev nD, m ((c.tc : Thread nD τ).loc main_arg4) = wo)

include hx hq in
theorem q_at (c : Dev nD) (r : Fin 2048) (f : Fin 1024) :
    proj (xIn m c) (wqOf (wQ m) c) (ix2 r f)
      = ∑ t : Fin 1024, x (ix3 0 (orgF r) t) * wq (ix2 t ⟨c.val * 1024 + f, by have : c.val < 16 := c.isLt; omega⟩) := by
  rw [proj_at]
  refine Finset.sum_congr rfl fun t _ => ?_
  rw [xIn_eq, hx, ordX_at, wqOf_at]
  unfold wQ
  rw [hq]
  rfl

include hk in
theorem k_at (c : Dev nD) (h : Fin 8) (j : Fin 2048) (d : Fin 128) : kIn m c (ix3 h j d) = k (ix4 0 (orgF j) (hd c h) d) := by
  rw [kIn_eq, hk, ordK_at]
  exact block_at k c (orgF j) h d
include hv in
theorem v_at (c : Dev nD) (h : Fin 8) (j : Fin 2048) (d : Fin 128) : vIn m c (ix3 h j d) = v (ix4 0 (orgF j) (hd c h) d) := by
  rw [vIn_eq, hv, ordK_at]
  exact block_at v c (orgF j) h d

include hx hq hk in
theorem sS_at (c : Dev nD) (h : Fin 8) (r j : Fin 2048) :
    sS (proj (xIn m c) (wqOf (wQ m) c)) (kIn m c) h r j = score x wq k (hd c h) (orgF r) (orgF j) := by
  unfold sS score
  refine congrArg (· * scl) (Finset.sum_congr rfl fun d _ => ?_)
  rw [q_at x wq m hx hq, k_at k m hk]
  refine congrArg (· * k (ix4 0 (orgF j) (hd c h) d)) (Finset.sum_congr rfl fun t _ => ?_)
  congr 3
  apply Fin.ext
  show c.val * 1024 + (128 * h.val + d.val) = (c.val * 8 + h.val) * 128 + d.val
  omega

include ho in
theorem w_at (c : Dev nD) (f n : Fin 1024) :
    woOf (wO m) c (ix2 f n) = wo (ix2 ⟨c.val * 1024 + f, by have : c.val < 16 := c.isLt; omega⟩ n) := by
  rw [woOf_at]
  unfold wO
  rw [ho]

variable (hxr : ∀ (i : Fin 2048) (t : Fin 1024), ∃ r : ℝ, (x (ix3 0 i t) : EReal) = r)
  (hqr : ∀ (t : Fin 1024) (f : Fin 16384), ∃ r : ℝ, (wq (ix2 t f) : EReal) = r)
  (hkr : ∀ (j : Fin 2048) (e d : Fin 128), ∃ r : ℝ, (k (ix4 0 j e d) : EReal) = r)

include hxr hqr hkr in
theorem score_real (e : Fin 128) (i j : Fin 2048) : ∃ r : ℝ, score x wq k e i j = r :=
  real_mul (real_sum _ _ fun d => real_mul (real_sum _ _ fun t => real_mul (hxr i t) (hqr t _)) (hkr j e d)) scale_real

/-- The reference's context at a row. -/
def refCtx (e : Fin 128) (i : Fin 2048) (d : Fin 128) : EReal :=
  Soft.att (fun j : Fin 2048 => if sees i j then score x wq k e i j else ⊥) (fun j : Fin 2048 => v (ix4 0 j e d))

include hx hq hk hv hxr hqr hkr in
theorem ctx_eq {n : ℕ} (hn : 0 < n) (c : Dev nD) (h : Fin 8) (r : Fin 2048) (d : Fin 128) (kp : Fin n → Fin 2048)
    (hi : Function.Injective fun j => orgF (kp j)) (hs : ∀ y : Fin 2048, sees (org r) y ↔ ∃ j, orgF (kp j) = y) :
    Soft.att (fun j => sS (proj (xIn m c) (wqOf (wQ m) c)) (kIn m c) h r (kp j)) (fun j => vIn m c (ix3 h (kp j) d))
      = refCtx x wq k v (hd c h) (orgF r) d := by
  simp only [sS_at x wq k m hx hq hk, v_at v m hv]
  exact (Soft.att_sel (fun y : Fin 2048 => sees (org r) y) (fun j => orgF (kp j)) hi hs
    (fun y => score x wq k (hd c h) (orgF r) y) (fun y => score_real x wq k hxr hqr hkr _ _ y) hn
    (fun y => v (ix4 0 y (hd c h) d))).symm

/-- A device's part of the result. -/
def refPart (c : Dev nD) (i : Fin 2048) (n : Fin 1024) : EReal :=
  ∑ h : Fin 8, ∑ d : Fin 128, refCtx x wq k v (hd c h) i d * wo (ix2 ⟨c.val * 1024 + (128 * h + d), by have : c.val < 16 := c.isLt; omega⟩ n)

include hx hq hk hv ho hxr hqr hkr in
theorem group0_at (c : Dev nD) (r : Fin 704) (n : Fin 1024) :
    sum0 (proj (xIn m c) (wqOf (wQ m) c)) (kIn m c) (vIn m c) (woOf (wO m) c) (ix2 r n) = refPart x wq k v wo c (orgF ⟨r, by omega⟩) n := by
  rw [sum0_at]
  unfold refPart
  refine Finset.sum_congr rfl fun h _ => Finset.sum_congr rfl fun d _ => ?_
  have hc := ctx_eq x wq k v m hx hq hk hv hxr hqr hkr (by decide) c h ⟨r, by omega⟩ d (kp0) keys0_inj (keys0 r)
  have hw := w_at wo m ho c ⟨128 * h + d, by omega⟩ n
  exact congrArg₂ (· * ·) hc hw

include hx hq hk hv ho hxr hqr hkr in
theorem group1_at (c : Dev nD) (r : Fin 704) (n : Fin 1024) :
    sum1 (proj (xIn m c) (wqOf (wQ m) c)) (kIn m c) (vIn m c) (woOf (wO m) c) (ix2 r n) = refPart x wq k v wo c (orgF ⟨704 + r, by omega⟩) n := by
  rw [sum1_at]
  unfold refPart
  refine Finset.sum_congr rfl fun h _ => Finset.sum_congr rfl fun d _ => ?_
  have hc := ctx_eq x wq k v m hx hq hk hv hxr hqr hkr (by decide) c h ⟨704 + r, by omega⟩ d (kp1 r) (keys1_inj r) (keys1 r)
  have hw := w_at wo m ho c ⟨128 * h + d, by omega⟩ n
  exact congrArg₂ (· * ·) hc hw

include hx hq hk hv ho hxr hqr hkr in
theorem group2_at (c : Dev nD) (r : Fin 640) (n : Fin 1024) :
    sum2 (proj (xIn m c) (wqOf (wQ m) c)) (kIn m c) (vIn m c) (woOf (wO m) c) (ix2 r n) = refPart x wq k v wo c (orgF ⟨1408 + r, by omega⟩) n := by
  rw [sum2_at]
  unfold refPart
  refine Finset.sum_congr rfl fun h _ => Finset.sum_congr rfl fun d _ => ?_
  have hc := ctx_eq x wq k v m hx hq hk hv hxr hqr hkr (by decide) c h ⟨1408 + r, by omega⟩ d (kp2 r) (keys2_inj r) (keys2 r)
  have hw := w_at wo m ho c ⟨128 * h + d, by omega⟩ n
  exact congrArg₂ (· * ·) hc hw

include hx hq hk hv ho hxr hqr hkr in
theorem part_at (c : Dev nD) (i : Fin 2048) (n : Fin 1024) :
    (part m c : FVec Ideal S16x128x1024 .bf16) (ix3 ⟨i / 128, by omega⟩ ⟨i % 128, by omega⟩ n) = refPart x wq k v wo c i n := by
  have hb : rowBlk (ix3 ⟨i / 128, by omega⟩ ⟨i % 128, by omega⟩ n : AccIdx) = i.val / 64 := by
    show 2 * (i.val / 128) + (i.val % 128) / 64 = _
    omega
  have hr : rowIn (ix3 ⟨i / 128, by omega⟩ ⟨i % 128, by omega⟩ n : AccIdx) = 64 * (i.val / 64 / 3) + i.val % 64 := by
    unfold rowIn
    rw [hb]
    show _ + (i.val % 128) % 64 = _
    omega
  have hi : i.val < 2048 := i.2
  unfold part partOf
  rcases (by omega : i.val / 64 % 3 = 0 ∨ i.val / 64 % 3 = 1 ∨ i.val / 64 % 3 = 2) with h0 | h0 | h0
  · have hl : 64 * (i.val / 64 / 3) + i.val % 64 < 704 := by omega
    refine (lay0 _ _ _ _ ⟨_, hl⟩ n (by rw [hb]; exact h0) hr rfl).trans ?_
    have hg : orgF ⟨64 * (i.val / 64 / 3) + i.val % 64, by omega⟩ = i := by
      apply Fin.ext
      show org _ = _
      rw [org_lo _ hl]
      omega
    rw [group0_at x wq k v wo m hx hq hk hv ho hxr hqr hkr]
    exact congrArg (refPart x wq k v wo c · n) hg
  · have hl : 64 * (i.val / 64 / 3) + i.val % 64 < 704 := by omega
    refine (lay1 _ _ _ _ ⟨_, hl⟩ n (by rw [hb]; exact h0) hr rfl).trans ?_
    have hg : orgF ⟨704 + (64 * (i.val / 64 / 3) + i.val % 64), by omega⟩ = i := by
      apply Fin.ext
      show org _ = _
      rw [org_mid _ hl]
      omega
    rw [group1_at x wq k v wo m hx hq hk hv ho hxr hqr hkr]
    exact congrArg (refPart x wq k v wo c · n) hg
  · have hl : 64 * (i.val / 64 / 3) + i.val % 64 < 640 := by omega
    refine (lay2 _ _ _ _ ⟨_, hl⟩ n (by rw [hb]; exact h0) hr rfl).trans ?_
    have hg : orgF ⟨1408 + (64 * (i.val / 64 / 3) + i.val % 64), by omega⟩ = i := by
      apply Fin.ext
      show org _ = _
      rw [org_hi _ hl]
      omega
    rw [group2_at x wq k v wo m hx hq hk hv ho hxr hqr hkr]
    exact congrArg (refPart x wq k v wo c · n) hg

include hx hq hk hv ho hxr hqr hkr in
/-- The result is the reference's. -/
theorem end_eq (c : Dev nD) : endOf m c = whole x wq k v wo := by
  funext p
  obtain ⟨i, n, rfl⟩ : ∃ (i : Fin 2048) (n : Fin 1024), p = ix3 0 i n :=
    ⟨p 1, p 2, funext fun a => by
      match a with
      | 0 => exact Fin.ext (by have : (p 0).val < 1 := (p 0).isLt; show (p 0).val = 0; omega)
      | 1 => rfl
      | 2 => rfl⟩
  rw [end_at, whole_at, sum_heads]
  refine Finset.sum_congr rfl fun d _ => ?_
  rw [part_at x wq k v wo m hx hq hk hv ho hxr hqr hkr d i n]
  unfold refPart refCtx
  refine Finset.sum_congr rfl fun h _ => Finset.sum_congr rfl fun e _ => ?_
  have h1 : (⟨(d.val * 1024 + (128 * h.val + e.val)) / 128, by omega⟩ : Fin 128) = hd d h := by
    apply Fin.ext
    show _ = d.val * 8 + h.val
    simp only []
    omega
  have h2 : (⟨(d.val * 1024 + (128 * h.val + e.val)) % 128, by omega⟩ : Fin 128) = e := by
    apply Fin.ext
    simp only []
    omega
  simp only [h1, h2]

end

end Cert.KernelIdeal.Talk
-- ==== Proof.Finite.lean ====
module

public import proofs.«01_k».proof.Defs
public import Idealize.ShloMosaic.Lib.Pointwise

@[expose] public section

set_option maxRecDepth 65536

noncomputable section

/-! What the precondition says of an entry: it is a real number. -/

namespace Cert.Pre_finite_KernelIdeal

open Idealize.ShloMosaic

theorem facts : Facts where
  bcast_S_S1x2048x1024 := by decide
  reducesTo_S1x2048x1024_S_d0_1_2 := by decide
  h_S_ := by decide
  bcast_S_S1024x16384 := by decide
  reducesTo_S1024x16384_S_d0_1 := by decide
  bcast_S_S1x2048x8x128 := by decide
  reducesTo_S1x2048x8x128_S_d0_1_2_3 := by decide

variable [Facts]
open Facts

theorem and_one (a b : BitVec 1) : IntOp.andi a b = 1#1 → a = 1#1 ∧ b = 1#1 := by revert a b; decide

theorem fold_and {ι : Type} [DecidableEq ι] (f : ι → BitVec 1) (s : Finset ι) (h : Finset.fold IntOp.andi 1#1 f s = 1#1) : ∀ k ∈ s, f k = 1#1 := by
  induction s using Finset.induction_on with
  | empty => simp
  | insert a s ha ih =>
    rw [Finset.fold_insert ha] at h
    obtain ⟨h1, h2⟩ := and_one _ _ h
    intro k hk
    rcases Finset.mem_insert.mp hk with rfl | hk
    · exact h1
    · exact ih h2 k hk

theorem ofBits_top : Ideal.ofBits .f32 2139095040#32 = ⊤ := by simp [Ideal.ofBits, Ideal.ieee]

theorem real_of (y : Ideal .f32) (h : BitVec.ofBool (decide (FloatOps.absf y < Ideal.ofBits .f32 2139095040#32)) = 1#1) : ∃ r : ℝ, (y : EReal) = r := by
  have h' : FloatOps.absf y < Ideal.ofBits .f32 2139095040#32 := by
    by_contra hn
    rw [decide_eq_false hn] at h
    exact absurd h (by decide)
  rw [ofBits_top] at h'
  revert h'
  show max (y : EReal) (-(y : EReal)) < ⊤ → _
  induction (y : EReal) using EReal.rec with
  | bot => intro h; simp at h
  | top => intro h; simp at h
  | coe r => exact fun _ => ⟨r, rfl⟩

theorem reals (a0 : FVec Ideal S1x2048x1024 .f32) (a1 : FVec Ideal S1024x16384 .f32) (a2 a3 : FVec Ideal S1x2048x8x128 .f32) (a4 : FVec Ideal S16384x1024 .f32)
    (h : fn (F := Ideal) a0 a1 a2 a3 a4 = fun _ => 1#1) :
    (∀ (i : Fin 2048) (t : Fin 1024), ∃ r : ℝ, (a0 (ix3 0 i t) : EReal) = r) ∧ (∀ (t : Fin 1024) (f : Fin 16384), ∃ r : ℝ, (a1 (ix2 t f) : EReal) = r)
      ∧ ∀ (j : Fin 2048) (e : Fin 8) (d : Fin 128), ∃ r : ℝ, (a2 (ix4 0 j e d) : EReal) = r := by
  replace h := congrFun h ix0
  unfold fn at h
  pointwise at h
  obtain ⟨h01, h2⟩ := and_one _ _ h
  obtain ⟨h0, h1⟩ := and_one _ _ h01
  classical
  refine ⟨fun i t => real_of _ (fold_and _ _ h0 (0, i, t) (Finset.mem_univ _)), fun t f => real_of _ (fold_and _ _ h1 (t, f) (Finset.mem_univ _)),
    fun j e d => real_of _ (fold_and _ _ h2 (ix4 0 j e d) (Finset.mem_filter.mpr ⟨Finset.mem_univ _, ?_⟩))⟩
  exact funext fun a => a.elim0

end Cert.Pre_finite_KernelIdeal

namespace Cert.Pre_finite_ReferenceIdeal

theorem facts : Facts where
  bcast_S_S1x2048x1024 := by decide
  reducesTo_S1x2048x1024_S_d0_1_2 := by decide
  h_S_ := by decide
  bcast_S_S1024x16384 := by decide
  reducesTo_S1024x16384_S_d0_1 := by decide
  bcast_S_S1x2048x128x128 := by decide
  reducesTo_S1x2048x128x128_S_d0_1_2_3 := by decide

end Cert.Pre_finite_ReferenceIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_KernelIdeal.Facts := Cert.Pre_finite_KernelIdeal.facts
local instance : Cert.Pre_finite_ReferenceIdeal.Facts := Cert.Pre_finite_ReferenceIdeal.facts

/-- The kernel over the extended reals terminates, leaves its arguments as they were and every counter at zero. -/
theorem frame_kernelIdeal : Cert.quiescent_KernelIdeal := fun m g _ =>
  (θ_run _ _ _).mono (fun _ h => ⟨fun c => (h.1 c).1, h.2⟩) (Cert.KernelIdeal.Talk.run_main m g)

/-- The kernel over machine words: the same program, so the same run. -/
theorem frame_kernel : Cert.quiescent_Kernel := fun m g _ => by
  have h := Cert.KernelIdeal.Talk.run_main (F := Bits) m g
  rw [← Cert.defs_same, ← Cert.main_same] at h
  exact (θ_run _ _ _).mono (fun _ h => ⟨fun c => (h.1 c).1, h.2⟩) h

/-- The reference has no counter; its arguments are written by no operation. -/
theorem frame_reference : Cert.quiescent_ReferenceIdeal := fun m g _ =>
  (θ_run _ _ _).mono (fun _ h => ⟨fun c => (h c).2, funext fun k => nomatch k.2⟩) (Cert.ReferenceIdeal.Value.run (F := Ideal) m g)

theorem frame_kernelIdeal_pre : Cert.quiescent_KernelIdeal_pre_finite_KernelIdeal := fun m g _ => frame_kernelIdeal m g trivial
theorem frame_reference_pre : Cert.quiescent_ReferenceIdeal_pre_finite_ReferenceIdeal := fun m g _ => frame_reference m g trivial

/-- A head is its place on its device. -/
theorem hd_split (e : Fin 128) (c : Dev Cert.KernelIdeal.nD) (h : Fin 8) (he : e.val = c.val * 8 + h.val) : Cert.KernelIdeal.Talk.hd c h = e :=
  Fin.ext he.symm

/-- The keys of the whole array are numbers, as each device's are. -/
theorem key_real (k : FVec Ideal ⟨4, ![1, 2048, 128, 128]⟩ .f32)
    (m : (ℓ : Loc Cert.KernelIdeal.nD Cert.KernelIdeal.τ Cert.KernelIdeal.sig) → Buf (Elt Ideal) ℓ) (hp : Cert.Pre_KernelIdeal_finite_KernelIdeal m)
    (hk : ∀ c : Dev Cert.KernelIdeal.nD, m ((c.tc : Thread Cert.KernelIdeal.nD Cert.KernelIdeal.τ).loc Cert.KernelIdeal.main_arg2)
      = Layout.block ⟨4, ![1, 2048, 8, 128]⟩ ⟨4, ![1, 2048, 128, 128]⟩ 2 16 c k)
    (j : Fin 2048) (e d : Fin 128) : ∃ r : ℝ, (k (ix4 0 j e d) : EReal) = r := by
  have h := (Cert.Pre_finite_KernelIdeal.reals _ _ _ _ _ (hp (⟨e.val / 8, by omega⟩ : Fin 16))).2.2 j ⟨e.val % 8, by omega⟩ d
  rw [hk, Cert.KernelIdeal.Talk.block_at, hd_split e _ _ (by simp only []; omega)] at h
  exact h

/-- Every device's result is the reference's. -/
theorem algebraic : Cert.algebraic_KernelIdeal_ReferenceIdeal_pre_finite_KernelIdeal := fun m g m' g' hp ha => by
  have hr := fun c => Cert.Pre_finite_KernelIdeal.reals _ _ _ _ _ (hp c)
  have hq0 := (hr 0).2.1
  have hx0 := (hr 0).1
  rw [(ha 0).1] at hx0
  rw [(ha 0).2.1] at hq0
  have hk0 := key_real _ m hp fun c => (ha c).2.2.1
  have hend := Cert.KernelIdeal.Talk.end_eq _ _ _ _ _ m (fun c => (ha c).1) (fun c => (ha c).2.1) (fun c => (ha c).2.2.1)
    (fun c => (ha c).2.2.2.1) (fun c => (ha c).2.2.2.2) hx0 hq0 hk0
  refine ⟨Cert.ReferenceIdeal.Value.res_main_v44 (F := Ideal) m' 0, ?_, ?_⟩
  · refine (θ_run _ _ _).mono (fun _ h c => ⟨?_, (h.1 c).1⟩) (Cert.KernelIdeal.Talk.run_main m g)
    refine (h.1 c).2.trans ((hend c).trans ?_)
    exact (Cert.ReferenceIdeal.Named.res_named m' 0).symm
  · exact (θ_run _ _ _).mono (fun _ h => h 0) (Cert.ReferenceIdeal.Value.run (F := Ideal) m' g')

/-- Every claim. -/
theorem claim : Cert.Claim :=
  ⟨Cert.Kernel.Gen.facts, Cert.KernelIdeal.Gen.facts, Cert.ReferenceIdeal.Gen.facts, Cert.Pre_finite_KernelIdeal.facts,
    Cert.Pre_finite_ReferenceIdeal.facts, frame_kernel, frame_kernelIdeal, frame_kernelIdeal_pre, frame_reference, frame_reference_pre,
    trivial, algebraic⟩

end Cert.Proof

end
